-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojIdeal_in_range [hPre_in_range : Cert.Pre_in_range.Facts] (m : (ℓ : Loc Cert.OprojIdeal.nD Cert.OprojIdeal.τ Cert.OprojIdeal.sig) → Buf (Elt Ideal) ℓ) : Prop :=
  ∀ c : Dev Cert.OprojIdeal.nD,
    (Cert.Pre_in_range.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6))) = (fun _ => 1#1)

def Pre_OprojReferenceIdeal (m : (ℓ : Loc Cert.OprojReferenceIdeal.nD Cert.OprojReferenceIdeal.τ Cert.OprojReferenceIdeal.sig) → Buf (Elt Ideal) ℓ) : Prop :=
  True

def Pre_OprojReferenceIdeal_in_range [hPre_in_range : Cert.Pre_in_range.Facts] (m : (ℓ : Loc Cert.OprojReferenceIdeal.nD Cert.OprojReferenceIdeal.τ Cert.OprojReferenceIdeal.sig) → Buf (Elt Ideal) ℓ) : Prop :=
  ∀ c : Dev Cert.OprojReferenceIdeal.nD,
    (Cert.Pre_in_range.fn (F := Ideal) (m ((c.tc : Thread Cert.OprojReferenceIdeal.nD Cert.OprojReferenceIdeal.τ).loc Cert.OprojReferenceIdeal.main_arg0)) (m ((c.tc : Thread Cert.OprojReferenceIdeal.nD Cert.OprojReferenceIdeal.τ).loc Cert.OprojReferenceIdeal.main_arg1)) (m ((c.tc : Thread Cert.OprojReferenceIdeal.nD Cert.OprojReferenceIdeal.τ).loc Cert.OprojReferenceIdeal.main_arg2)) (m ((c.tc : Thread Cert.OprojReferenceIdeal.nD Cert.OprojReferenceIdeal.τ).loc Cert.OprojReferenceIdeal.main_arg3)) (m ((c.tc : Thread Cert.OprojReferenceIdeal.nD Cert.OprojReferenceIdeal.τ).loc Cert.OprojReferenceIdeal.main_arg4)) (m ((c.tc : Thread Cert.OprojReferenceIdeal.nD Cert.OprojReferenceIdeal.τ).loc Cert.OprojReferenceIdeal.main_arg5)) (m ((c.tc : Thread Cert.OprojReferenceIdeal.nD Cert.OprojReferenceIdeal.τ).loc Cert.OprojReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ r.2.sem = fun _ => 0)

def quiescent_OprojIdeal_pre_in_range [hOprojIdeal : Cert.OprojIdeal.Facts] [hPre_in_range : Cert.Pre_in_range.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal_in_range m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4)
      ∧ r.2.mem ((c.tc : Thread Cert.OprojReferenceIdeal.nD Cert.OprojReferenceIdeal.τ).loc Cert.OprojReferenceIdeal.main_arg5) = m ((c.tc : Thread Cert.OprojReferenceIdeal.nD Cert.OprojReferenceIdeal.τ).loc Cert.OprojReferenceIdeal.main_arg5)
      ∧ r.2.mem ((c.tc : Thread Cert.OprojReferenceIdeal.nD Cert.OprojReferenceIdeal.τ).loc Cert.OprojReferenceIdeal.main_arg6) = m ((c.tc : Thread Cert.OprojReferenceIdeal.nD Cert.OprojReferenceIdeal.τ).loc Cert.OprojReferenceIdeal.main_arg6))
      ∧ r.2.sem = fun _ => 0)

def quiescent_OprojReferenceIdeal_pre_in_range [hOprojReferenceIdeal : Cert.OprojReferenceIdeal.Facts] [hPre_in_range : Cert.Pre_in_range.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal_in_range m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4)
      ∧ r.2.mem ((c.tc : Thread Cert.OprojReferenceIdeal.nD Cert.OprojReferenceIdeal.τ).loc Cert.OprojReferenceIdeal.main_arg5) = m ((c.tc : Thread Cert.OprojReferenceIdeal.nD Cert.OprojReferenceIdeal.τ).loc Cert.OprojReferenceIdeal.main_arg5)
      ∧ r.2.mem ((c.tc : Thread Cert.OprojReferenceIdeal.nD Cert.OprojReferenceIdeal.τ).loc Cert.OprojReferenceIdeal.main_arg6) = m ((c.tc : Thread Cert.OprojReferenceIdeal.nD Cert.OprojReferenceIdeal.τ).loc Cert.OprojReferenceIdeal.main_arg6))
      ∧ r.2.sem = fun _ => 0)

def preserves_Kernel_KernelIdeal : Prop :=
  IdealRules.named_const.Statement Cert.KernelIdeal.κ "inv_f8_max" .f32 0x3B124925#32 ((1 / 448 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Oproj_OprojIdeal : Prop :=
  IdealRules.named_const.Statement Cert.OprojIdeal.κ "inv_f8_max" .f32 0x3B124925#32 ((1 / 448 : ℝ) : EReal)

def algebraic_OprojIdeal_OprojReferenceIdeal_pre_in_range [hOprojIdeal : Cert.OprojIdeal.Facts] [hOprojReferenceIdeal : Cert.OprojReferenceIdeal.Facts] [hPre_in_range : Cert.Pre_in_range.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal_in_range m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)
      ∧ m' ((c.tc : Thread Cert.OprojReferenceIdeal.nD Cert.OprojReferenceIdeal.τ).loc Cert.OprojReferenceIdeal.main_arg3) = m ((c.tc : Thread Cert.OprojIdeal.nD Cert.OprojIdeal.τ).loc Cert.OprojIdeal.main_arg3)
      ∧ m' ((c.tc : Thread Cert.OprojReferenceIdeal.nD Cert.OprojReferenceIdeal.τ).loc Cert.OprojReferenceIdeal.main_arg4) = m ((c.tc : Thread Cert.OprojIdeal.nD Cert.OprojIdeal.τ).loc Cert.OprojIdeal.main_arg4)
      ∧ m' ((c.tc : Thread Cert.OprojReferenceIdeal.nD Cert.OprojReferenceIdeal.τ).loc Cert.OprojReferenceIdeal.main_arg5) = m ((c.tc : Thread Cert.OprojIdeal.nD Cert.OprojIdeal.τ).loc Cert.OprojIdeal.main_arg5)
      ∧ m' ((c.tc : Thread Cert.OprojReferenceIdeal.nD Cert.OprojReferenceIdeal.τ).loc Cert.OprojReferenceIdeal.main_arg6) = m ((c.tc : Thread Cert.OprojIdeal.nD Cert.OprojIdeal.τ).loc Cert.OprojIdeal.main_arg6)) →
    ∃ (v0 : (c : Dev Cert.OprojIdeal.nD) → Buf (Elt Ideal) ((c.tc : Thread Cert.OprojIdeal.nD Cert.OprojIdeal.τ).loc Cert.OprojIdeal.main_v3_0)) (v1 : (c : Dev Cert.OprojIdeal.nD) → Buf (Elt Ideal) ((c.tc : Thread Cert.OprojIdeal.nD Cert.OprojIdeal.τ).loc Cert.OprojIdeal.main_v3_1)) (v2 : (c : Dev Cert.OprojIdeal.nD) → Buf (Elt Ideal) ((c.tc : Thread Cert.OprojIdeal.nD Cert.OprojIdeal.τ).loc Cert.OprojIdeal.main_v3_2)) (v3 : (c : Dev Cert.OprojIdeal.nD) → Buf (Elt Ideal) ((c.tc : Thread Cert.OprojIdeal.nD Cert.OprojIdeal.τ).loc Cert.OprojIdeal.main_v3_3)) (v4 : (c : Dev Cert.OprojIdeal.nD) → Buf (Elt Ideal) ((c.tc : Thread Cert.OprojIdeal.nD Cert.OprojIdeal.τ).loc Cert.OprojIdeal.main_v3_4)) (v5 : (c : Dev Cert.OprojIdeal.nD) → Buf (Elt Ideal) ((c.tc : Thread Cert.OprojIdeal.nD Cert.OprojIdeal.τ).loc Cert.OprojIdeal.main_v3_5)) (v6 : (c : Dev Cert.OprojIdeal.nD) → Buf (Elt Ideal) ((c.tc : Thread Cert.OprojIdeal.nD Cert.OprojIdeal.τ).loc Cert.OprojIdeal.main_v3_6)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v3_0) = v0 c
          ∧ r.2.mem ((c.tc : Thread Cert.OprojIdeal.nD Cert.OprojIdeal.τ).loc Cert.OprojIdeal.main_v3_1) = v1 c
          ∧ r.2.mem ((c.tc : Thread Cert.OprojIdeal.nD Cert.OprojIdeal.τ).loc Cert.OprojIdeal.main_v3_2) = v2 c
          ∧ r.2.mem ((c.tc : Thread Cert.OprojIdeal.nD Cert.OprojIdeal.τ).loc Cert.OprojIdeal.main_v3_3) = v3 c
          ∧ r.2.mem ((c.tc : Thread Cert.OprojIdeal.nD Cert.OprojIdeal.τ).loc Cert.OprojIdeal.main_v3_4) = v4 c
          ∧ r.2.mem ((c.tc : Thread Cert.OprojIdeal.nD Cert.OprojIdeal.τ).loc Cert.OprojIdeal.main_v3_5) = v5 c
          ∧ r.2.mem ((c.tc : Thread Cert.OprojIdeal.nD Cert.OprojIdeal.τ).loc Cert.OprojIdeal.main_v3_6) = v6 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v3_0) = v0 c
          ∧ r.2.mem ((c.tc : Thread Cert.OprojReferenceIdeal.nD Cert.OprojReferenceIdeal.τ).loc Cert.OprojReferenceIdeal.main_v3_1) = v1 c
          ∧ r.2.mem ((c.tc : Thread Cert.OprojReferenceIdeal.nD Cert.OprojReferenceIdeal.τ).loc Cert.OprojReferenceIdeal.main_v3_2) = v2 c
          ∧ r.2.mem ((c.tc : Thread Cert.OprojReferenceIdeal.nD Cert.OprojReferenceIdeal.τ).loc Cert.OprojReferenceIdeal.main_v3_3) = v3 c
          ∧ r.2.mem ((c.tc : Thread Cert.OprojReferenceIdeal.nD Cert.OprojReferenceIdeal.τ).loc Cert.OprojReferenceIdeal.main_v3_4) = v4 c
          ∧ r.2.mem ((c.tc : Thread Cert.OprojReferenceIdeal.nD Cert.OprojReferenceIdeal.τ).loc Cert.OprojReferenceIdeal.main_v3_5) = v5 c
          ∧ r.2.mem ((c.tc : Thread Cert.OprojReferenceIdeal.nD Cert.OprojReferenceIdeal.τ).loc Cert.OprojReferenceIdeal.main_v3_6) = v6 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3)
          ∧ r.2.mem ((c.tc : Thread Cert.OprojReferenceIdeal.nD Cert.OprojReferenceIdeal.τ).loc Cert.OprojReferenceIdeal.main_arg4) = m' ((c.tc : Thread Cert.OprojReferenceIdeal.nD Cert.OprojReferenceIdeal.τ).loc Cert.OprojReferenceIdeal.main_arg4)
          ∧ r.2.mem ((c.tc : Thread Cert.OprojReferenceIdeal.nD Cert.OprojReferenceIdeal.τ).loc Cert.OprojReferenceIdeal.main_arg5) = m' ((c.tc : Thread Cert.OprojReferenceIdeal.nD Cert.OprojReferenceIdeal.τ).loc Cert.OprojReferenceIdeal.main_arg5)
          ∧ r.2.mem ((c.tc : Thread Cert.OprojReferenceIdeal.nD Cert.OprojReferenceIdeal.τ).loc Cert.OprojReferenceIdeal.main_arg6) = m' ((c.tc : Thread Cert.OprojReferenceIdeal.nD Cert.OprojReferenceIdeal.τ).loc Cert.OprojReferenceIdeal.main_arg6))

def Claim : Prop :=
  ∃ (hKernel : Cert.Kernel.Facts) (hKernelIdeal : Cert.KernelIdeal.Facts) (hReferenceIdeal : Cert.ReferenceIdeal.Facts) (hOproj : Cert.Oproj.Facts) (hOprojIdeal : Cert.OprojIdeal.Facts) (hOprojReferenceIdeal : Cert.OprojReferenceIdeal.Facts) (hPre_tame : Cert.Pre_tame.Facts) (hPre_in_range : Cert.Pre_in_range.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Oproj (hOproj := hOproj)
    ∧ quiescent_OprojIdeal (hOprojIdeal := hOprojIdeal)
    ∧ quiescent_OprojIdeal_pre_in_range (hOprojIdeal := hOprojIdeal) (hPre_in_range := hPre_in_range)
    ∧ quiescent_OprojReferenceIdeal (hOprojReferenceIdeal := hOprojReferenceIdeal)
    ∧ quiescent_OprojReferenceIdeal_pre_in_range (hOprojReferenceIdeal := hOprojReferenceIdeal) (hPre_in_range := hPre_in_range)
    ∧ preserves_Kernel_KernelIdeal
    ∧ algebraic_KernelIdeal_ReferenceIdeal_pre_tame (hKernelIdeal := hKernelIdeal) (hReferenceIdeal := hReferenceIdeal) (hPre_tame := hPre_tame)
    ∧ preserves_Oproj_OprojIdeal
    ∧ algebraic_OprojIdeal_OprojReferenceIdeal_pre_in_range (hOprojIdeal := hOprojIdeal) (hOprojReferenceIdeal := hOprojReferenceIdeal) (hPre_in_range := hPre_in_range)
-- ==== Pre_in_range.lean ====
abbrev S10x1536x128 : Shape := ⟨3, ![10, 1536, 128]⟩
abbrev S1536x1280 : Shape := ⟨2, ![1536, 1280]⟩
abbrev S1280x640 : Shape := ⟨2, ![1280, 640]⟩
abbrev S40x1280 : Shape := ⟨2, ![40, 1280]⟩
abbrev S1280 : Shape := ⟨1, ![1280]⟩
abbrev S_ : Shape := ⟨0, ![]⟩

class Facts : Prop where
  natLt_8_32 : 8 < 32
  bcast_S_S40x1280 : S_.BroadcastsInDim S40x1280 (![] : Fin 0 → Fin S40x1280.rank)
  reducesTo_S40x1280_S_d0_1 : S40x1280.ReducesTo [0, 1] S_
  h_S_ : 0 < S_.numel

variable [Facts]

def fn {F : FTy → Type} [FloatOps F] (main_arg0 : FVec F S10x1536x128 .f32) (main_arg1 : FVec F S1536x1280 .bf16) (main_arg2 : IVec S1280x640 8) (main_arg3 : IVec S40x1280 8) (main_arg4 : FVec F S1280 .f32) (main_arg5 : FVec F S1280 .f32) (main_arg6 : FVec F S1280 .f32) : IVec S_ 1 :=
  let main_v0 : IVec S40x1280 32 := (extui 32 · natLt_8_32) main_arg3
  let main_c : IVec S_ 32 := constantI S_ 32 1#32
  let main_v1 : IVec S40x1280 32 := broadcastInDim S40x1280 ![] bcast_S_S40x1280 main_c
  let main_v2 : IVec S40x1280 1 := cmpi .sge main_v0 main_v1
  let main_c_0 : IVec S_ 32 := constantI S_ 32 254#32
  let main_v3 : IVec S40x1280 32 := broadcastInDim S40x1280 ![] bcast_S_S40x1280 main_c_0
  let main_v4 : IVec S40x1280 1 := cmpi .sle main_v0 main_v3
  let main_v5 : IVec S40x1280 1 := andi main_v2 main_v4
  let main_c_1 : IVec S_ 1 := constantI S_ 1 1#1
  let main_v6 : IVec S_ 1 := (fun x v => Host.reduce IntOp.andi x v reducesTo_S40x1280_S_d0_1 h_S_) main_v5 main_c_1
  main_v6
-- ==== Pre_tame.lean ====
abbrev S1536x1280 : Shape := ⟨2, ![1536, 1280]⟩
abbrev S1536 : Shape := ⟨1, ![1536]⟩
abbrev S1280x2560 : Shape := ⟨2, ![1280, 2560]⟩
abbrev S40x5120 : Shape := ⟨2, ![40, 5120]⟩
abbrev S5120 : Shape := ⟨1, ![5120]⟩
abbrev S5120x640 : Shape := ⟨2, ![5120, 640]⟩
abbrev S160x1280 : Shape := ⟨2, ![160, 1280]⟩
abbrev S1280 : Shape := ⟨1, ![1280]⟩
abbrev S_ : Shape := ⟨0, ![]⟩

class Facts : Prop where
  natLt_8_32 : 8 < 32
  bitsLt_bf16_f32 : FTy.bits .bf16 < FTy.bits .f32
  bcast_S_S1536x1280 : S_.BroadcastsInDim S1536x1280 (![] : Fin 0 → Fin S1536x1280.rank)
  reducesTo_S1536x1280_S_d0_1 : S1536x1280.ReducesTo [0, 1] S_
  h_S_ : 0 < S_.numel
  bcast_S_S1536 : S_.BroadcastsInDim S1536 (![] : Fin 0 → Fin S1536.rank)
  reducesTo_S1536_S_d0 : S1536.ReducesTo [0] S_
  bcast_S_S5120 : S_.BroadcastsInDim S5120 (![] : Fin 0 → Fin S5120.rank)
  reducesTo_S5120_S_d0 : S5120.ReducesTo [0] S_
  bcast_S_S40x5120 : S_.BroadcastsInDim S40x5120 (![] : Fin 0 → Fin S40x5120.rank)
  reducesTo_S40x5120_S_d0_1 : S40x5120.ReducesTo [0, 1] S_
  bcast_S_S160x1280 : S_.BroadcastsInDim S160x1280 (![] : Fin 0 → Fin S160x1280.rank)
  reducesTo_S160x1280_S_d0_1 : S160x1280.ReducesTo [0, 1] S_

variable [Facts]

def fn_part1 {F : FTy → Type} [FloatOps F] (main_v0 : IVec S40x5120 32) (main_v1 : IVec S160x1280 32) (main_v16 : IVec S_ 1) (main_c_4 : IVec S_ 32) : IVec S_ 1 :=
  let main_v17 : IVec S40x5120 32 := broadcastInDim S40x5120 ![] bcast_S_S40x5120 main_c_4
  let main_v18 : IVec S40x5120 1 := cmpi .sge main_v0 main_v17
  let main_c_5 : IVec S_ 32 := constantI S_ 32 254#32
  let main_v19 : IVec S40x5120 32 := broadcastInDim S40x5120 ![] bcast_S_S40x5120 main_c_5
  let main_v20 : IVec S40x5120 1 := cmpi .sle main_v0 main_v19
  let main_v21 : IVec S40x5120 1 := andi main_v18 main_v20
  let main_c_6 : IVec S_ 1 := constantI S_ 1 1#1
  let main_v22 : IVec S_ 1 := (fun x v => Host.reduce IntOp.andi x v reducesTo_S40x5120_S_d0_1 h_S_) main_v21 main_c_6
  let main_v23 : IVec S_ 1 := andi main_v16 main_v22
  let main_c_7 : IVec S_ 32 := constantI S_ 32 1#32
  let main_v24 : IVec S160x1280 32 := broadcastInDim S160x1280 ![] bcast_S_S160x1280 main_c_7
  let main_v25 : IVec S160x1280 1 := cmpi .sge main_v1 main_v24
  let main_c_8 : IVec S_ 32 := constantI S_ 32 254#32
  let main_v26 : IVec S160x1280 32 := broadcastInDim S160x1280 ![] bcast_S_S160x1280 main_c_8
  let main_v27 : IVec S160x1280 1 := cmpi .sle main_v1 main_v26
  let main_v28 : IVec S160x1280 1 := andi main_v25 main_v27
  let main_c_9 : IVec S_ 1 := constantI S_ 1 1#1
  let main_v29 : IVec S_ 1 := (fun x v => Host.reduce IntOp.andi x v reducesTo_S160x1280_S_d0_1 h_S_) main_v28 main_c_9
  let main_v30 : IVec S_ 1 := andi main_v23 main_v29
  main_v30

def fn {F : FTy → Type} [FloatOps F] (main_arg0 : FVec F S1536x1280 .bf16) (main_arg1 : FVec F S1536 .f32) (main_arg2 : FVec F S1536x1280 .f32) (main_arg3 : IVec S1280x2560 8) (main_arg4 : IVec S40x5120 8) (main_arg5 : FVec F S5120 .f32) (main_arg6 : IVec S5120x640 8) (main_arg7 : IVec S160x1280 8) (main_arg8 : FVec F S1280 .f32) : IVec S_ 1 :=
  let main_v0 : IVec S40x5120 32 := (extui 32 · natLt_8_32) main_arg4
  let main_v1 : IVec S160x1280 32 := (extui 32 · natLt_8_32) main_arg7
  let main_v2 : FVec F S1536x1280 .f32 := (extf .f32 · bitsLt_bf16_f32) main_arg0
  let main_v3 : FVec F S1536x1280 .f32 := Host.absf main_v2
  let main_cst : FVec F S_ .f32 := constant S_ .f32 0x7F800000#32
  let main_v4 : FVec F S1536x1280 .f32 := broadcastInDim S1536x1280 ![] bcast_S_S1536x1280 main_cst
  let main_v5 : IVec S1536x1280 1 := cmpf .olt main_v3 main_v4
  let main_c : IVec S_ 1 := constantI S_ 1 1#1
  let main_v6 : IVec S_ 1 := (fun x v => Host.reduce IntOp.andi x v reducesTo_S1536x1280_S_d0_1 h_S_) main_v5 main_c
  let main_v7 : FVec F S1536 .f32 := Host.absf main_arg1
  let main_cst_0 : FVec F S_ .f32 := constant S_ .f32 0x7F800000#32
  let main_v8 : FVec F S1536 .f32 := broadcastInDim S1536 ![] bcast_S_S1536 main_cst_0
  let main_v9 : IVec S1536 1 := cmpf .olt main_v7 main_v8
  let main_c_1 : IVec S_ 1 := constantI S_ 1 1#1
  let main_v10 : IVec S_ 1 := (fun x v => Host.reduce IntOp.andi x v reducesTo_S1536_S_d0 h_S_) main_v9 main_c_1
  let main_v11 : IVec S_ 1 := andi main_v6 main_v10
  let main_v12 : FVec F S5120 .f32 := Host.absf main_arg5
  let main_cst_2 : FVec F S_ .f32 := constant S_ .f32 0x7F800000#32
  let main_v13 : FVec F S5120 .f32 := broadcastInDim S5120 ![] bcast_S_S5120 main_cst_2
  let main_v14 : IVec S5120 1 := cmpf .olt main_v12 main_v13
  let main_c_3 : IVec S_ 1 := constantI S_ 1 1#1
  let main_v15 : IVec S_ 1 := (fun x v => Host.reduce IntOp.andi x v reducesTo_S5120_S_d0 h_S_) main_v14 main_c_3
  let main_v16 : IVec S_ 1 := andi main_v11 main_v15
  let main_c_4 : IVec S_ 32 := constantI S_ 32 1#32
  fn_part1 (F := F) main_v0 main_v1 main_v16 main_c_4
-- ==== Kernel.lean ====
abbrev S1536x1280 : Shape := ⟨2, ![1536, 1280]⟩
abbrev S1536 : Shape := ⟨1, ![1536]⟩
abbrev S1280x2560 : Shape := ⟨2, ![1280, 2560]⟩
abbrev S40x5120 : Shape := ⟨2, ![40, 5120]⟩
abbrev S5120 : Shape := ⟨1, ![5120]⟩
abbrev S5120x640 : Shape := ⟨2, ![5120, 640]⟩
abbrev S160x1280 : Shape := ⟨2, ![160, 1280]⟩
abbrev S1280 : Shape := ⟨1, ![1280]⟩
abbrev S1536x1 : Shape := ⟨2, ![1536, 1]⟩
abbrev S1536x128 : Shape := ⟨2, ![1536, 128]⟩
abbrev S1x5120 : Shape := ⟨2, ![1, 5120]⟩
abbrev S1x1280 : Shape := ⟨2, ![1, 1280]⟩
abbrev S1536x5120 : Shape := ⟨2, ![1536, 5120]⟩
abbrev S1x1536 : Shape := ⟨2, ![1, 1536]⟩
abbrev S10x1536x128 : Shape := ⟨3, ![10, 1536, 128]⟩
abbrev S1280x512 : Shape := ⟨2, ![1280, 512]⟩
abbrev S512x640 : Shape := ⟨2, ![512, 640]⟩
abbrev S1536x512 : Shape := ⟨2, ![1536, 512]⟩
abbrev S5x8x5120 : Shape := ⟨3, ![5, 8, 5120]⟩
abbrev S20x8x1280 : Shape := ⟨3, ![20, 8, 1280]⟩
abbrev S512x1280 : Shape := ⟨2, ![512, 1280]⟩
abbrev S10x1536x512 : Shape := ⟨3, ![10, 1536, 512]⟩
abbrev S8x5120 : Shape := ⟨2, ![8, 5120]⟩
abbrev S1x8x5120 : Shape := ⟨3, ![1, 8, 5120]⟩
abbrev S8x1280 : Shape := ⟨2, ![8, 1280]⟩
abbrev S1x8x1280 : Shape := ⟨3, ![1, 8, 1280]⟩
abbrev S256x128 : Shape := ⟨2, ![256, 128]⟩
abbrev S64x128 : Shape := ⟨2, ![64, 128]⟩
abbrev S1x1x128 : Shape := ⟨3, ![1, 1, 128]⟩
abbrev S1x128 : Shape := ⟨2, ![1, 128]⟩
abbrev S32x128 : Shape := ⟨2, ![32, 128]⟩
abbrev S256x1280 : Shape := ⟨2, ![256, 1280]⟩
abbrev S256x512 : Shape := ⟨2, ![256, 512]⟩
abbrev S1x256x128 : Shape := ⟨3, ![1, 256, 128]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 17
  | .vmem => 23
  | .smem => 0
  | _ => 0

abbrev bufTy : (tb : Table) → Fin (tcTables nBuf tb) → BufTy
  | .hbm, ⟨0, _⟩ => ⟨S1536x1280, .bf16⟩
  | .hbm, ⟨1, _⟩ => ⟨S1536, .f32⟩
  | .hbm, ⟨2, _⟩ => ⟨S1536x1280, .f32⟩
  | .hbm, ⟨3, _⟩ => ⟨S1280x2560, .i8⟩
  | .hbm, ⟨4, _⟩ => ⟨S40x5120, .i8⟩
  | .hbm, ⟨5, _⟩ => ⟨S5120, .f32⟩
  | .hbm, ⟨6, _⟩ => ⟨S5120x640, .i8⟩
  | .hbm, ⟨7, _⟩ => ⟨S160x1280, .i8⟩
  | .hbm, ⟨8, _⟩ => ⟨S1280, .f32⟩
  | .hbm, ⟨9, _⟩ => ⟨S1536x1, .f32⟩
  | .hbm, ⟨10, _⟩ => ⟨S1536x128, .f32⟩
  | .hbm, ⟨11, _⟩ => ⟨S1x5120, .f32⟩
  | .hbm, ⟨12, _⟩ => ⟨S1x1280, .f32⟩
  | .hbm, ⟨13, _⟩ => ⟨S1536x5120, .fp8e4m3⟩
  | .hbm, ⟨14, _⟩ => ⟨S1x1536, .f32⟩
  | .hbm, ⟨15, _⟩ => ⟨S1536x1280, .bf16⟩
  | .hbm, ⟨16, _⟩ => ⟨S10x1536x128, .f32⟩
  | .local _ .vmem, ⟨0, _⟩ => ⟨S1536x1280, .bf16⟩
  | .local _ .vmem, ⟨1, _⟩ => ⟨S1536x128, .f32⟩
  | .local _ .vmem, ⟨2, _⟩ => ⟨S1536x1280, .f32⟩
  | .local _ .vmem, ⟨3, _⟩ => ⟨S1280x512, .i8⟩
  | .local _ .vmem, ⟨4, _⟩ => ⟨S1280x512, .i8⟩
  | .local _ .vmem, ⟨5, _⟩ => ⟨S40x5120, .i8⟩
  | .local _ .vmem, ⟨6, _⟩ => ⟨S1x5120, .f32⟩
  | .local _ .vmem, ⟨7, _⟩ => ⟨S512x640, .i8⟩
  | .local _ .vmem, ⟨8, _⟩ => ⟨S512x640, .i8⟩
  | .local _ .vmem, ⟨9, _⟩ => ⟨S160x1280, .i8⟩
  | .local _ .vmem, ⟨10, _⟩ => ⟨S1x1280, .f32⟩
  | .local _ .vmem, ⟨11, _⟩ => ⟨S1536x512, .fp8e4m3⟩
  | .local _ .vmem, ⟨12, _⟩ => ⟨S1536x512, .fp8e4m3⟩
  | .local _ .vmem, ⟨13, _⟩ => ⟨S1x1536, .f32⟩
  | .local _ .vmem, ⟨14, _⟩ => ⟨S1536x1280, .bf16⟩
  | .local _ .vmem, ⟨15, _⟩ => ⟨S10x1536x128, .f32⟩
  | .local _ .vmem, ⟨16, _⟩ => ⟨S5x8x5120, .f32⟩
  | .local _ .vmem, ⟨17, _⟩ => ⟨S20x8x1280, .f32⟩
  | .local _ .vmem, ⟨18, _⟩ => ⟨S1280x512, .bf16⟩
  | .local _ .vmem, ⟨19, _⟩ => ⟨S512x1280, .bf16⟩
  | .local _ .vmem, ⟨20, _⟩ => ⟨S10x1536x512, .f32⟩
  | .local _ .vmem, ⟨21, _⟩ => ⟨S1536x128, .f32⟩
  | .local _ .vmem, ⟨22, _⟩ => ⟨S1536x128, .f32⟩
  | _, _ => ⟨S1536x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c10_i32 : BitVec 32 := 10#32
  let v3 : BitVec 1 := Scalar.cmpi .slt arg0 c10_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c512_i32 : BitVec 32 := 512#32
  let v19 : BitVec 32 := Scalar.muli arg0 c512_i32
  let c0_i32_8 : BitVec 32 := 0#32
  let v20 : BitVec 32 := Scalar.addi v19 c0_i32_8
  v20
def k0_off1 (i : grid0.Coords) (c0_i32_8 : BitVec 32) : Fin 3 → Nat :=
  let c0_10 : Index := 0#32
  let c0_11 : Index := 0#32
  let arg0 : BitVec 32 := BitVec.ofNat 32 (i 0).val
  let c512_i32 : BitVec 32 := 512#32
  let v19 : BitVec 32 := Scalar.muli arg0 c512_i32
  let v20 : BitVec 32 := Scalar.addi v19 c0_i32_8
  let v21 : BitVec 32 := v20
  let v38 : Index := Scalar.indexCast v21
  ![0, 0, v38.toNat]
def k0_off2 (i : grid0.Coords) (c0_i32_8 : BitVec 32) : Fin 3 → Nat :=
  let c0_12 : Index := 0#32
  let c1 : Index := 1#32
  let arg0 : BitVec 32 := BitVec.ofNat 32 (i 0).val
  let c512_i32 : BitVec 32 := 512#32
  let v19 : BitVec 32 := Scalar.muli arg0 c512_i32
  let v20 : BitVec 32 := Scalar.addi v19 c0_i32_8
  let v21 : BitVec 32 := v20
  let v46 : Index := Scalar.indexCast v21
  ![0, 1, v46.toNat]
def k0_off3 (i : grid0.Coords) (c0_i32_8 : BitVec 32) : Fin 3 → Nat :=
  let c0_13 : Index := 0#32
  let c2 : Index := 2#32
  let arg0 : BitVec 32 := BitVec.ofNat 32 (i 0).val
  let c512_i32 : BitVec 32 := 512#32
  let v19 : BitVec 32 := Scalar.muli arg0 c512_i32
  let v20 : BitVec 32 := Scalar.addi v19 c0_i32_8
  let v21 : BitVec 32 := v20
  let v54 : Index := Scalar.indexCast v21
  ![0, 2, v54.toNat]
def k0_off4 (i : grid0.Coords) (c0_i32_8 : BitVec 32) : Fin 3 → Nat :=
  let c0_14 : Index := 0#32
  let c3 : Index := 3#32
  let arg0 : BitVec 32 := BitVec.ofNat 32 (i 0).val
  let c512_i32 : BitVec 32 := 512#32
  let v19 : BitVec 32 := Scalar.muli arg0 c512_i32
  let v20 : BitVec 32 := Scalar.addi v19 c0_i32_8
  let v21 : BitVec 32 := v20
  let v62 : Index := Scalar.indexCast v21
  ![0, 3, v62.toNat]
def k0_off5 (i : grid0.Coords) (c0_i32_8 : BitVec 32) : Fin 3 → Nat :=
  let c0_15 : Index := 0#32
  let c4 : Index := 4#32
  let arg0 : BitVec 32 := BitVec.ofNat 32 (i 0).val
  let c512_i32 : BitVec 32 := 512#32
  let v19 : BitVec 32 := Scalar.muli arg0 c512_i32
  let v20 : BitVec 32 := Scalar.addi v19 c0_i32_8
  let v21 : BitVec 32 := v20
  let v70 : Index := Scalar.indexCast v21
  ![0, 4, v70.toNat]
def k0_off6 (i : grid0.Coords) (c0_i32_8 : BitVec 32) : Fin 3 → Nat :=
  let c0_16 : Index := 0#32
  let c5 : Index := 5#32
  let arg0 : BitVec 32 := BitVec.ofNat 32 (i 0).val
  let c512_i32 : BitVec 32 := 512#32
  let v19 : BitVec 32 := Scalar.muli arg0 c512_i32
  let v20 : BitVec 32 := Scalar.addi v19 c0_i32_8
  let v21 : BitVec 32 := v20
  let v78 : Index := Scalar.indexCast v21
  ![0, 5, v78.toNat]
def k0_off7 (i : grid0.Coords) (c0_i32_8 : BitVec 32) : Fin 3 → Nat :=
  let c0_17 : Index := 0#32
  let c6 : Index := 6#32
  let arg0 : BitVec 32 := BitVec.ofNat 32 (i 0).val
  let c512_i32 : BitVec 32 := 512#32
  let v19 : BitVec 32 := Scalar.muli arg0 c512_i32
  let v20 : BitVec 32 := Scalar.addi v19 c0_i32_8
  let v21 : BitVec 32 := v20
  let v86 : Index := Scalar.indexCast v21
  ![0, 6, v86.toNat]
def k0_off8 (i : grid0.Coords) (c0_i32_8 : BitVec 32) : Fin 3 → Nat :=
  let c0_18 : Index := 0#32
  let c7 : Index := 7#32
  let arg0 : BitVec 32 := BitVec.ofNat 32 (i 0).val
  let c512_i32 : BitVec 32 := 512#32
  let v19 : BitVec 32 := Scalar.muli arg0 c512_i32
  let v20 : BitVec 32 := Scalar.addi v19 c0_i32_8
  let v21 : BitVec 32 := v20
  let v94 : Index := Scalar.indexCast v21
  ![0, 7, v94.toNat]
def k0_mult2 (i : grid0.Coords) : BitVec 32 :=
  let arg0 : BitVec 32 := BitVec.ofNat 32 (i 0).val
  let c512_i32_22 : BitVec 32 := 512#32
  let v107 : BitVec 32 := Scalar.muli arg0 c512_i32_22
  let c0_i32_23 : BitVec 32 := 0#32
  let v108 : BitVec 32 := Scalar.addi v107 c0_i32_23
  v108
def k0_off9 (i : grid0.Coords) (c0_i32_23 : BitVec 32) : Fin 3 → Nat :=
  let c1_29 : Index := 1#32
  let c0_30 : Index := 0#32
  let arg0 : BitVec 32 := BitVec.ofNat 32 (i 0).val
  let c512_i32_22 : BitVec 32 := 512#32
  let v107 : BitVec 32 := Scalar.muli arg0 c512_i32_22
  let v108 : BitVec 32 := Scalar.addi v107 c0_i32_23
  let v109 : BitVec 32 := v108
  let v126 : Index := Scalar.indexCast v109
  ![1, 0, v126.toNat]
def k0_off10 (i : grid0.Coords) (c0_i32_23 : BitVec 32) : Fin 3 → Nat :=
  let c1_31 : Index := 1#32
  let c1_32 : Index := 1#32
  let arg0 : BitVec 32 := BitVec.ofNat 32 (i 0).val
  let c512_i32_22 : BitVec 32 := 512#32
  let v107 : BitVec 32 := Scalar.muli arg0 c512_i32_22
  let v108 : BitVec 32 := Scalar.addi v107 c0_i32_23
  let v109 : BitVec 32 := v108
  let v134 : Index := Scalar.indexCast v109
  ![1, 1, v134.toNat]
def k0_off11 (i : grid0.Coords) (c0_i32_23 : BitVec 32) : Fin 3 → Nat :=
  let c1_33 : Index := 1#32
  let c2_34 : Index := 2#32
  let arg0 : BitVec 32 := BitVec.ofNat 32 (i 0).val
  let c512_i32_22 : BitVec 32 := 512#32
  let v107 : BitVec 32 := Scalar.muli arg0 c512_i32_22
  let v108 : BitVec 32 := Scalar.addi v107 c0_i32_23
  let v109 : BitVec 32 := v108
  let v142 : Index := Scalar.indexCast v109
  ![1, 2, v142.toNat]
def k0_off12 (i : grid0.Coords) (c0_i32_23 : BitVec 32) : Fin 3 → Nat :=
  let c1_35 : Index := 1#32
  let c3_36 : Index := 3#32
  let arg0 : BitVec 32 := BitVec.ofNat 32 (i 0).val
  let c512_i32_22 : BitVec 32 := 512#32
  let v107 : BitVec 32 := Scalar.muli arg0 c512_i32_22
  let v108 : BitVec 32 := Scalar.addi v107 c0_i32_23
  let v109 : BitVec 32 := v108
  let v150 : Index := Scalar.indexCast v109
  ![1, 3, v150.toNat]
def k0_off13 (i : grid0.Coords) (c0_i32_23 : BitVec 32) : Fin 3 → Nat :=
  let c1_37 : Index := 1#32
  let c4_38 : Index := 4#32
  let arg0 : BitVec 32 := BitVec.ofNat 32 (i 0).val
  let c512_i32_22 : BitVec 32 := 512#32
  let v107 : BitVec 32 := Scalar.muli arg0 c512_i32_22
  let v108 : BitVec 32 := Scalar.addi v107 c0_i32_23
  let v109 : BitVec 32 := v108
  let v158 : Index := Scalar.indexCast v109
  ![1, 4, v158.toNat]
def k0_off14 (i : grid0.Coords) (c0_i32_23 : BitVec 32) : Fin 3 → Nat :=
  let c1_39 : Index := 1#32
  let c5_40 : Index := 5#32
  let arg0 : BitVec 32 := BitVec.ofNat 32 (i 0).val
  let c512_i32_22 : BitVec 32 := 512#32
  let v107 : BitVec 32 := Scalar.muli arg0 c512_i32_22
  let v108 : BitVec 32 := Scalar.addi v107 c0_i32_23
  let v109 : BitVec 32 := v108
  let v166 : Index := Scalar.indexCast v109
  ![1, 5, v166.toNat]
def k0_off15 (i : grid0.Coords) (c0_i32_23 : BitVec 32) : Fin 3 → Nat :=
  let c1_41 : Index := 1#32
  let c6_42 : Index := 6#32
  let arg0 : BitVec 32 := BitVec.ofNat 32 (i 0).val
  let c512_i32_22 : BitVec 32 := 512#32
  let v107 : BitVec 32 := Scalar.muli arg0 c512_i32_22
  let v108 : BitVec 32 := Scalar.addi v107 c0_i32_23
  let v109 : BitVec 32 := v108
  let v174 : Index := Scalar.indexCast v109
  ![1, 6, v174.toNat]
def k0_off16 (i : grid0.Coords) (c0_i32_23 : BitVec 32) : Fin 3 → Nat :=
  let c1_43 : Index := 1#32
  let c7_44 : Index := 7#32
  let arg0 : BitVec 32 := BitVec.ofNat 32 (i 0).val
  let c512_i32_22 : BitVec 32 := 512#32
  let v107 : BitVec 32 := Scalar.muli arg0 c512_i32_22
  let v108 : BitVec 32 := Scalar.addi v107 c0_i32_23
  let v109 : BitVec 32 := v108
  let v182 : Index := Scalar.indexCast v109
  ![1, 7, v182.toNat]
def k0_mult3 (i : grid0.Coords) : BitVec 32 :=
  let arg0 : BitVec 32 := BitVec.ofNat 32 (i 0).val
  let c512_i32_48 : BitVec 32 := 512#32
  let v195 : BitVec 32 := Scalar.muli arg0 c512_i32_48
  let c0_i32_49 : BitVec 32 := 0#32
  let v196 : BitVec 32 := Scalar.addi v195 c0_i32_49
  v196
def k0_off17 (i : grid0.Coords) (c0_i32_49 : BitVec 32) : Fin 3 → Nat :=
  let c2_55 : Index := 2#32
  let c0_56 : Index := 0#32
  let arg0 : BitVec 32 := BitVec.ofNat 32 (i 0).val
  let c512_i32_48 : BitVec 32 := 512#32
  let v195 : BitVec 32 := Scalar.muli arg0 c512_i32_48
  let v196 : BitVec 32 := Scalar.addi v195 c0_i32_49
  let v197 : BitVec 32 := v196
  let v214 : Index := Scalar.indexCast v197
  ![2, 0, v214.toNat]
def k0_off18 (i : grid0.Coords) (c0_i32_49 : BitVec 32) : Fin 3 → Nat :=
  let c2_57 : Index := 2#32
  let c1_58 : Index := 1#32
  let arg0 : BitVec 32 := BitVec.ofNat 32 (i 0).val
  let c512_i32_48 : BitVec 32 := 512#32
  let v195 : BitVec 32 := Scalar.muli arg0 c512_i32_48
  let v196 : BitVec 32 := Scalar.addi v195 c0_i32_49
  let v197 : BitVec 32 := v196
  let v222 : Index := Scalar.indexCast v197
  ![2, 1, v222.toNat]
def k0_off19 (i : grid0.Coords) (c0_i32_49 : BitVec 32) : Fin 3 → Nat :=
  let c2_59 : Index := 2#32
  let c2_60 : Index := 2#32
  let arg0 : BitVec 32 := BitVec.ofNat 32 (i 0).val
  let c512_i32_48 : BitVec 32 := 512#32
  let v195 : BitVec 32 := Scalar.muli arg0 c512_i32_48
  let v196 : BitVec 32 := Scalar.addi v195 c0_i32_49
  let v197 : BitVec 32 := v196
  let v230 : Index := Scalar.indexCast v197
  ![2, 2, v230.toNat]
def k0_off20 (i : grid0.Coords) (c0_i32_49 : BitVec 32) : Fin 3 → Nat :=
  let c2_61 : Index := 2#32
  let c3_62 : Index := 3#32
  let arg0 : BitVec 32 := BitVec.ofNat 32 (i 0).val
  let c512_i32_48 : BitVec 32 := 512#32
  let v195 : BitVec 32 := Scalar.muli arg0 c512_i32_48
  let v196 : BitVec 32 := Scalar.addi v195 c0_i32_49
  let v197 : BitVec 32 := v196
  let v238 : Index := Scalar.indexCast v197
  ![2, 3, v238.toNat]
def k0_off21 (i : grid0.Coords) (c0_i32_49 : BitVec 32) : Fin 3 → Nat :=
  let c2_63 : Index := 2#32
  let c4_64 : Index := 4#32
  let arg0 : BitVec 32 := BitVec.ofNat 32 (i 0).val
  let c512_i32_48 : BitVec 32 := 512#32
  let v195 : BitVec 32 := Scalar.muli arg0 c512_i32_48
  let v196 : BitVec 32 := Scalar.addi v195 c0_i32_49
  let v197 : BitVec 32 := v196
  let v246 : Index := Scalar.indexCast v197
  ![2, 4, v246.toNat]
def k0_off22 (i : grid0.Coords) (c0_i32_49 : BitVec 32) : Fin 3 → Nat :=
  let c2_65 : Index := 2#32
  let c5_66 : Index := 5#32
  let arg0 : BitVec 32 := BitVec.ofNat 32 (i 0).val
  let c512_i32_48 : BitVec 32 := 512#32
  let v195 : BitVec 32 := Scalar.muli arg0 c512_i32_48
  let v196 : BitVec 32 := Scalar.addi v195 c0_i32_49
  let v197 : BitVec 32 := v196
  let v254 : Index := Scalar.indexCast v197
  ![2, 5, v254.toNat]
def k0_off23 (i : grid0.Coords) (c0_i32_49 : BitVec 32) : Fin 3 → Nat :=
  let c2_67 : Index := 2#32
  let c6_68 : Index := 6#32
  let arg0 : BitVec 32 := BitVec.ofNat 32 (i 0).val
  let c512_i32_48 : BitVec 32 := 512#32
  let v195 : BitVec 32 := Scalar.muli arg0 c512_i32_48
  let v196 : BitVec 32 := Scalar.addi v195 c0_i32_49
  let v197 : BitVec 32 := v196
  let v262 : Index := Scalar.indexCast v197
  ![2, 6, v262.toNat]
def k0_off24 (i : grid0.Coords) (c0_i32_49 : BitVec 32) : Fin 3 → Nat :=
  let c2_69 : Index := 2#32
  let c7_70 : Index := 7#32
  let arg0 : BitVec 32 := BitVec.ofNat 32 (i 0).val
  let c512_i32_48 : BitVec 32 := 512#32
  let v195 : BitVec 32 := Scalar.muli arg0 c512_i32_48
  let v196 : BitVec 32 := Scalar.addi v195 c0_i32_49
  let v197 : BitVec 32 := v196
  let v270 : Index := Scalar.indexCast v197
  ![2, 7, v270.toNat]
def k0_mult4 (i : grid0.Coords) : BitVec 32 :=
  let arg0 : BitVec 32 := BitVec.ofNat 32 (i 0).val
  let c512_i32_74 : BitVec 32 := 512#32
  let v283 : BitVec 32 := Scalar.muli arg0 c512_i32_74
  let c0_i32_75 : BitVec 32 := 0#32
  let v284 : BitVec 32 := Scalar.addi v283 c0_i32_75
  v284
def k0_off25 (i : grid0.Coords) (c0_i32_75 : BitVec 32) : Fin 3 → Nat :=
  let c3_81 : Index := 3#32
  let c0_82 : Index := 0#32
  let arg0 : BitVec 32 := BitVec.ofNat 32 (i 0).val
  let c512_i32_74 : BitVec 32 := 512#32
  let v283 : BitVec 32 := Scalar.muli arg0 c512_i32_74
  let v284 : BitVec 32 := Scalar.addi v283 c0_i32_75
  let v285 : BitVec 32 := v284
  let v302 : Index := Scalar.indexCast v285
  ![3, 0, v302.toNat]
def k0_off26 (i : grid0.Coords) (c0_i32_75 : BitVec 32) : Fin 3 → Nat :=
  let c3_83 : Index := 3#32
  let c1_84 : Index := 1#32
  let arg0 : BitVec 32 := BitVec.ofNat 32 (i 0).val
  let c512_i32_74 : BitVec 32 := 512#32
  let v283 : BitVec 32 := Scalar.muli arg0 c512_i32_74
  let v284 : BitVec 32 := Scalar.addi v283 c0_i32_75
  let v285 : BitVec 32 := v284
  let v310 : Index := Scalar.indexCast v285
  ![3, 1, v310.toNat]
def k0_off27 (i : grid0.Coords) (c0_i32_75 : BitVec 32) : Fin 3 → Nat :=
  let c3_85 : Index := 3#32
  let c2_86 : Index := 2#32
  let arg0 : BitVec 32 := BitVec.ofNat 32 (i 0).val
  let c512_i32_74 : BitVec 32 := 512#32
  let v283 : BitVec 32 := Scalar.muli arg0 c512_i32_74
  let v284 : BitVec 32 := Scalar.addi v283 c0_i32_75
  let v285 : BitVec 32 := v284
  let v318 : Index := Scalar.indexCast v285
  ![3, 2, v318.toNat]
def k0_off28 (i : grid0.Coords) (c0_i32_75 : BitVec 32) : Fin 3 → Nat :=
  let c3_87 : Index := 3#32
  let c3_88 : Index := 3#32
  let arg0 : BitVec 32 := BitVec.ofNat 32 (i 0).val
  let c512_i32_74 : BitVec 32 := 512#32
  let v283 : BitVec 32 := Scalar.muli arg0 c512_i32_74
  let v284 : BitVec 32 := Scalar.addi v283 c0_i32_75
  let v285 : BitVec 32 := v284
  let v326 : Index := Scalar.indexCast v285
  ![3, 3, v326.toNat]
def k0_off29 (i : grid0.Coords) (c0_i32_75 : BitVec 32) : Fin 3 → Nat :=
  let c3_89 : Index := 3#32
  let c4_90 : Index := 4#32
  let arg0 : BitVec 32 := BitVec.ofNat 32 (i 0).val
  let c512_i32_74 : BitVec 32 := 512#32
  let v283 : BitVec 32 := Scalar.muli arg0 c512_i32_74
  let v284 : BitVec 32 := Scalar.addi v283 c0_i32_75
  let v285 : BitVec 32 := v284
  let v334 : Index := Scalar.indexCast v285
  ![3, 4, v334.toNat]
def k0_off30 (i : grid0.Coords) (c0_i32_75 : BitVec 32) : Fin 3 → Nat :=
  let c3_91 : Index := 3#32
  let c5_92 : Index := 5#32
  let arg0 : BitVec 32 := BitVec.ofNat 32 (i 0).val
  let c512_i32_74 : BitVec 32 := 512#32
  let v283 : BitVec 32 := Scalar.muli arg0 c512_i32_74
  let v284 : BitVec 32 := Scalar.addi v283 c0_i32_75
  let v285 : BitVec 32 := v284
  let v342 : Index := Scalar.indexCast v285
  ![3, 5, v342.toNat]
def k0_off31 (i : grid0.Coords) (c0_i32_75 : BitVec 32) : Fin 3 → Nat :=
  let c3_93 : Index := 3#32
  let c6_94 : Index := 6#32
  let arg0 : BitVec 32 := BitVec.ofNat 32 (i 0).val
  let c512_i32_74 : BitVec 32 := 512#32
  let v283 : BitVec 32 := Scalar.muli arg0 c512_i32_74
  let v284 : BitVec 32 := Scalar.addi v283 c0_i32_75
  let v285 : BitVec 32 := v284
  let v350 : Index := Scalar.indexCast v285
  ![3, 6, v350.toNat]
def k0_off32 (i : grid0.Coords) (c0_i32_75 : BitVec 32) : Fin 3 → Nat :=
  let c3_95 : Index := 3#32
  let c7_96 : Index := 7#32
  let arg0 : BitVec 32 := BitVec.ofNat 32 (i 0).val
  let c512_i32_74 : BitVec 32 := 512#32
  let v283 : BitVec 32 := Scalar.muli arg0 c512_i32_74
  let v284 : BitVec 32 := Scalar.addi v283 c0_i32_75
  let v285 : BitVec 32 := v284
  let v358 : Index := Scalar.indexCast v285
  ![3, 7, v358.toNat]
def k0_mult5 (i : grid0.Coords) : BitVec 32 :=
  let arg0 : BitVec 32 := BitVec.ofNat 32 (i 0).val
  let c512_i32_100 : BitVec 32 := 512#32
  let v371 : BitVec 32 := Scalar.muli arg0 c512_i32_100
  let c0_i32_101 : BitVec 32 := 0#32
  let v372 : BitVec 32 := Scalar.addi v371 c0_i32_101
  v372
def k0_off33 (i : grid0.Coords) (c0_i32_101 : BitVec 32) : Fin 3 → Nat :=
  let c4_107 : Index := 4#32
  let c0_108 : Index := 0#32
  let arg0 : BitVec 32 := BitVec.ofNat 32 (i 0).val
  let c512_i32_100 : BitVec 32 := 512#32
  let v371 : BitVec 32 := Scalar.muli arg0 c512_i32_100
  let v372 : BitVec 32 := Scalar.addi v371 c0_i32_101
  let v373 : BitVec 32 := v372
  let v390 : Index := Scalar.indexCast v373
  ![4, 0, v390.toNat]
def k0_off34 (i : grid0.Coords) (c0_i32_101 : BitVec 32) : Fin 3 → Nat :=
  let c4_109 : Index := 4#32
  let c1_110 : Index := 1#32
  let arg0 : BitVec 32 := BitVec.ofNat 32 (i 0).val
  let c512_i32_100 : BitVec 32 := 512#32
  let v371 : BitVec 32 := Scalar.muli arg0 c512_i32_100
  let v372 : BitVec 32 := Scalar.addi v371 c0_i32_101
  let v373 : BitVec 32 := v372
  let v398 : Index := Scalar.indexCast v373
  ![4, 1, v398.toNat]
def k0_off35 (i : grid0.Coords) (c0_i32_101 : BitVec 32) : Fin 3 → Nat :=
  let c4_111 : Index := 4#32
  let c2_112 : Index := 2#32
  let arg0 : BitVec 32 := BitVec.ofNat 32 (i 0).val
  let c512_i32_100 : BitVec 32 := 512#32
  let v371 : BitVec 32 := Scalar.muli arg0 c512_i32_100
  let v372 : BitVec 32 := Scalar.addi v371 c0_i32_101
  let v373 : BitVec 32 := v372
  let v406 : Index := Scalar.indexCast v373
  ![4, 2, v406.toNat]
def k0_off36 (i : grid0.Coords) (c0_i32_101 : BitVec 32) : Fin 3 → Nat :=
  let c4_113 : Index := 4#32
  let c3_114 : Index := 3#32
  let arg0 : BitVec 32 := BitVec.ofNat 32 (i 0).val
  let c512_i32_100 : BitVec 32 := 512#32
  let v371 : BitVec 32 := Scalar.muli arg0 c512_i32_100
  let v372 : BitVec 32 := Scalar.addi v371 c0_i32_101
  let v373 : BitVec 32 := v372
  let v414 : Index := Scalar.indexCast v373
  ![4, 3, v414.toNat]
def k0_off37 (i : grid0.Coords) (c0_i32_101 : BitVec 32) : Fin 3 → Nat :=
  let c4_115 : Index := 4#32
  let c4_116 : Index := 4#32
  let arg0 : BitVec 32 := BitVec.ofNat 32 (i 0).val
  let c512_i32_100 : BitVec 32 := 512#32
  let v371 : BitVec 32 := Scalar.muli arg0 c512_i32_100
  let v372 : BitVec 32 := Scalar.addi v371 c0_i32_101
  let v373 : BitVec 32 := v372
  let v422 : Index := Scalar.indexCast v373
  ![4, 4, v422.toNat]
def k0_off38 (i : grid0.Coords) (c0_i32_101 : BitVec 32) : Fin 3 → Nat :=
  let c4_117 : Index := 4#32
  let c5_118 : Index := 5#32
  let arg0 : BitVec 32 := BitVec.ofNat 32 (i 0).val
  let c512_i32_100 : BitVec 32 := 512#32
  let v371 : BitVec 32 := Scalar.muli arg0 c512_i32_100
  let v372 : BitVec 32 := Scalar.addi v371 c0_i32_101
  let v373 : BitVec 32 := v372
  let v430 : Index := Scalar.indexCast v373
  ![4, 5, v430.toNat]
def k0_off39 (i : grid0.Coords) (c0_i32_101 : BitVec 32) : Fin 3 → Nat :=
  let c4_119 : Index := 4#32
  let c6_120 : Index := 6#32
  let arg0 : BitVec 32 := BitVec.ofNat 32 (i 0).val
  let c512_i32_100 : BitVec 32 := 512#32
  let v371 : BitVec 32 := Scalar.muli arg0 c512_i32_100
  let v372 : BitVec 32 := Scalar.addi v371 c0_i32_101
  let v373 : BitVec 32 := v372
  let v438 : Index := Scalar.indexCast v373
  ![4, 6, v438.toNat]
def k0_off40 (i : grid0.Coords) (c0_i32_101 : BitVec 32) : Fin 3 → Nat :=
  let c4_121 : Index := 4#32
  let c7_122 : Index := 7#32
  let arg0 : BitVec 32 := BitVec.ofNat 32 (i 0).val
  let c512_i32_100 : BitVec 32 := 512#32
  let v371 : BitVec 32 := Scalar.muli arg0 c512_i32_100
  let v372 : BitVec 32 := Scalar.addi v371 c0_i32_101
  let v373 : BitVec 32 := v372
  let v446 : Index := Scalar.indexCast v373
  ![4, 7, v446.toNat]
def k0_mult6 (i : grid0.Coords) : BitVec 32 :=
  let arg0 : BitVec 32 := BitVec.ofNat 32 (i 0).val
  let c512_i32_126 : BitVec 32 := 512#32
  let v459 : BitVec 32 := Scalar.muli arg0 c512_i32_126
  let c128_i32 : BitVec 32 := 128#32
  let v460 : BitVec 32 := Scalar.addi v459 c128_i32
  v460
def k0_mult7 (i : grid0.Coords) : BitVec 32 :=
  let arg0 : BitVec 32 := BitVec.ofNat 32 (i 0).val
  let c512_i32_152 : BitVec 32 := 512#32
  let v547 : BitVec 32 := Scalar.muli arg0 c512_i32_152
  let c128_i32_153 : BitVec 32 := 128#32
  let v548 : BitVec 32 := Scalar.addi v547 c128_i32_153
  v548
def k0_mult8 (i : grid0.Coords) : BitVec 32 :=
  let arg0 : BitVec 32 := BitVec.ofNat 32 (i 0).val
  let c512_i32_179 : BitVec 32 := 512#32
  let v635 : BitVec 32 := Scalar.muli arg0 c512_i32_179
  let c128_i32_180 : BitVec 32 := 128#32
  let v636 : BitVec 32 := Scalar.addi v635 c128_i32_180
  v636
def k0_mult9 (i : grid0.Coords) : BitVec 32 :=
  let arg0 : BitVec 32 := BitVec.ofNat 32 (i 0).val
  let c512_i32_206 : BitVec 32 := 512#32
  let v723 : BitVec 32 := Scalar.muli arg0 c512_i32_206
  let c128_i32_207 : BitVec 32 := 128#32
  let v724 : BitVec 32 := Scalar.addi v723 c128_i32_207
  v724
def k0_mult10 (i : grid0.Coords) : BitVec 32 :=
  let arg0 : BitVec 32 := BitVec.ofNat 32 (i 0).val
  let c512_i32_233 : BitVec 32 := 512#32
  let v811 : BitVec 32 := Scalar.muli arg0 c512_i32_233
  let c128_i32_234 : BitVec 32 := 128#32
  let v812 : BitVec 32 := Scalar.addi v811 c128_i32_234
  v812
def k0_mult11 (i : grid0.Coords) : BitVec 32 :=
  let arg0 : BitVec 32 := BitVec.ofNat 32 (i 0).val
  let c512_i32_260 : BitVec 32 := 512#32
  let v899 : BitVec 32 := Scalar.muli arg0 c512_i32_260
  let c256_i32 : BitVec 32 := 256#32
  let v900 : BitVec 32 := Scalar.addi v899 c256_i32
  v900
def k0_mult12 (i : grid0.Coords) : BitVec 32 :=
  let arg0 : BitVec 32 := BitVec.ofNat 32 (i 0).val
  let c512_i32_286 : BitVec 32 := 512#32
  let v987 : BitVec 32 := Scalar.muli arg0 c512_i32_286
  let c256_i32_287 : BitVec 32 := 256#32
  let v988 : BitVec 32 := Scalar.addi v987 c256_i32_287
  v988
def k0_mult13 (i : grid0.Coords) : BitVec 32 :=
  let arg0 : BitVec 32 := BitVec.ofNat 32 (i 0).val
  let c512_i32_313 : BitVec 32 := 512#32
  let v1075 : BitVec 32 := Scalar.muli arg0 c512_i32_313
  let c256_i32_314 : BitVec 32 := 256#32
  let v1076 : BitVec 32 := Scalar.addi v1075 c256_i32_314
  v1076
def k0_mult14 (i : grid0.Coords) : BitVec 32 :=
  let arg0 : BitVec 32 := BitVec.ofNat 32 (i 0).val
  let c512_i32_340 : BitVec 32 := 512#32
  let v1163 : BitVec 32 := Scalar.muli arg0 c512_i32_340
  let c256_i32_341 : BitVec 32 := 256#32
  let v1164 : BitVec 32 := Scalar.addi v1163 c256_i32_341
  v1164
def k0_mult15 (i : grid0.Coords) : BitVec 32 :=
  let arg0 : BitVec 32 := BitVec.ofNat 32 (i 0).val
  let c512_i32_367 : BitVec 32 := 512#32
  let v1251 : BitVec 32 := Scalar.muli arg0 c512_i32_367
  let c256_i32_368 : BitVec 32 := 256#32
  let v1252 : BitVec 32 := Scalar.addi v1251 c256_i32_368
  v1252
def k0_mult16 (i : grid0.Coords) : BitVec 32 :=
  let arg0 : BitVec 32 := BitVec.ofNat 32 (i 0).val
  let c512_i32_393 : BitVec 32 := 512#32
  let v1339 : BitVec 32 := Scalar.muli arg0 c512_i32_393
  let c384_i32 : BitVec 32 := 384#32
  let v1340 : BitVec 32 := Scalar.addi v1339 c384_i32
  v1340
def k0_mult17 (i : grid0.Coords) : BitVec 32 :=
  let arg0 : BitVec 32 := BitVec.ofNat 32 (i 0).val
  let c512_i32_419 : BitVec 32 := 512#32
  let v1427 : BitVec 32 := Scalar.muli arg0 c512_i32_419
  let c384_i32_420 : BitVec 32 := 384#32
  let v1428 : BitVec 32 := Scalar.addi v1427 c384_i32_420
  v1428
def k0_mult18 (i : grid0.Coords) : BitVec 32 :=
  let arg0 : BitVec 32 := BitVec.ofNat 32 (i 0).val
  let c512_i32_446 : BitVec 32 := 512#32
  let v1515 : BitVec 32 := Scalar.muli arg0 c512_i32_446
  let c384_i32_447 : BitVec 32 := 384#32
  let v1516 : BitVec 32 := Scalar.addi v1515 c384_i32_447
  v1516
def k0_mult19 (i : grid0.Coords) : BitVec 32 :=
  let arg0 : BitVec 32 := BitVec.ofNat 32 (i 0).val
  let c512_i32_473 : BitVec 32 := 512#32
  let v1603 : BitVec 32 := Scalar.muli arg0 c512_i32_473
  let c384_i32_474 : BitVec 32 := 384#32
  let v1604 : BitVec 32 := Scalar.addi v1603 c384_i32_474
  v1604
def k0_mult20 (i : grid0.Coords) : BitVec 32 :=
  let arg0 : BitVec 32 := BitVec.ofNat 32 (i 0).val
  let c512_i32_500 : BitVec 32 := 512#32
  let v1691 : BitVec 32 := Scalar.muli arg0 c512_i32_500
  let c384_i32_501 : BitVec 32 := 384#32
  let v1692 : BitVec 32 := Scalar.addi v1691 c384_i32_501
  v1692
def k0_mult21 (i : grid0.Coords) : BitVec 32 :=
  let arg0 : BitVec 32 := BitVec.ofNat 32 (i 0).val
  let c512_i32_534 : BitVec 32 := 512#32
  let v1784 : BitVec 32 := Scalar.muli arg0 c512_i32_534
  let c0_i32_535 : BitVec 32 := 0#32
  let v1785 : BitVec 32 := Scalar.addi v1784 c0_i32_535
  v1785
def k0_off41 (i : grid0.Coords) (c0_i32_535 : BitVec 32) : Fin 2 → Nat :=
  let c0_536 : Index := 0#32
  let arg0 : BitVec 32 := BitVec.ofNat 32 (i 0).val
  let c512_i32_534 : BitVec 32 := 512#32
  let v1784 : BitVec 32 := Scalar.muli arg0 c512_i32_534
  let v1785 : BitVec 32 := Scalar.addi v1784 c0_i32_535
  let v1786 : BitVec 32 := v1785
  let v1789 : Index := Scalar.indexCast v1786
  ![0, v1789.toNat]
def k0_off42 (i : grid0.Coords) : Fin 3 → Nat :=
  let arg0 : BitVec 32 := BitVec.ofNat 32 (i 0).val
  let v1801 : Index := Scalar.indexCast arg0
  let c0_539 : Index := 0#32
  let c0_540 : Index := 0#32
  ![v1801.toNat, 0, 0]
def k0_mult22 (i : grid0.Coords) : BitVec 32 :=
  let arg0 : BitVec 32 := BitVec.ofNat 32 (i 0).val
  let c512_i32_541 : BitVec 32 := 512#32
  let v1807 : BitVec 32 := Scalar.muli arg0 c512_i32_541
  let c128_i32_542 : BitVec 32 := 128#32
  let v1808 : BitVec 32 := Scalar.addi v1807 c128_i32_542
  v1808
def k0_off43 (i : grid0.Coords) : Fin 3 → Nat :=
  let arg0 : BitVec 32 := BitVec.ofNat 32 (i 0).val
  let v1824 : Index := Scalar.indexCast arg0
  let c0_546 : Index := 0#32
  let c128_547 : Index := 128#32
  ![v1824.toNat, 0, 128]
def k0_mult23 (i : grid0.Coords) : BitVec 32 :=
  let arg0 : BitVec 32 := BitVec.ofNat 32 (i 0).val
  let c512_i32_548 : BitVec 32 := 512#32
  let v1830 : BitVec 32 := Scalar.muli arg0 c512_i32_548
  let c256_i32_549 : BitVec 32 := 256#32
  let v1831 : BitVec 32 := Scalar.addi v1830 c256_i32_549
  v1831
def k0_off44 (i : grid0.Coords) : Fin 3 → Nat :=
  let arg0 : BitVec 32 := BitVec.ofNat 32 (i 0).val
  let v1847 : Index := Scalar.indexCast arg0
  let c0_553 : Index := 0#32
  let c256_554 : Index := 256#32
  ![v1847.toNat, 0, 256]
def k0_mult24 (i : grid0.Coords) : BitVec 32 :=
  let arg0 : BitVec 32 := BitVec.ofNat 32 (i 0).val
  let c512_i32_555 : BitVec 32 := 512#32
  let v1853 : BitVec 32 := Scalar.muli arg0 c512_i32_555
  let c384_i32_556 : BitVec 32 := 384#32
  let v1854 : BitVec 32 := Scalar.addi v1853 c384_i32_556
  v1854
def k0_off45 (i : grid0.Coords) : Fin 3 → Nat :=
  let arg0 : BitVec 32 := BitVec.ofNat 32 (i 0).val
  let v1870 : Index := Scalar.indexCast arg0
  let c0_560 : Index := 0#32
  let c384_561 : Index := 384#32
  ![v1870.toNat, 0, 384]
def k0_mult25 (i : grid0.Coords) : BitVec 32 :=
  let arg0 : BitVec 32 := BitVec.ofNat 32 (i 0).val
  let c512_i32_573 : BitVec 32 := 512#32
  let v1885 : BitVec 32 := Scalar.muli arg0 c512_i32_573
  let c0_i32_574 : BitVec 32 := 0#32
  let v1886 : BitVec 32 := Scalar.addi v1885 c0_i32_574
  v1886
def k0_off46 (i : grid0.Coords) : Fin 3 → Nat :=
  let arg0 : BitVec 32 := BitVec.ofNat 32 (i 0).val
  let v1902 : Index := Scalar.indexCast arg0
  let c256_578 : Index := 256#32
  let c0_579 : Index := 0#32
  ![v1902.toNat, 256, 0]
def k0_mult26 (i : grid0.Coords) : BitVec 32 :=
  let arg0 : BitVec 32 := BitVec.ofNat 32 (i 0).val
  let c512_i32_580 : BitVec 32 := 512#32
  let v1908 : BitVec 32 := Scalar.muli arg0 c512_i32_580
  let c128_i32_581 : BitVec 32 := 128#32
  let v1909 : BitVec 32 := Scalar.addi v1908 c128_i32_581
  v1909
def k0_off47 (i : grid0.Coords) : Fin 3 → Nat :=
  let arg0 : BitVec 32 := BitVec.ofNat 32 (i 0).val
  let v1925 : Index := Scalar.indexCast arg0
  let c256_585 : Index := 256#32
  let c128_586 : Index := 128#32
  ![v1925.toNat, 256, 128]
def k0_mult27 (i : grid0.Coords) : BitVec 32 :=
  let arg0 : BitVec 32 := BitVec.ofNat 32 (i 0).val
  let c512_i32_587 : BitVec 32 := 512#32
  let v1931 : BitVec 32 := Scalar.muli arg0 c512_i32_587
  let c256_i32_588 : BitVec 32 := 256#32
  let v1932 : BitVec 32 := Scalar.addi v1931 c256_i32_588
  v1932
def k0_off48 (i : grid0.Coords) : Fin 3 → Nat :=
  let arg0 : BitVec 32 := BitVec.ofNat 32 (i 0).val
  let v1948 : Index := Scalar.indexCast arg0
  let c256_592 : Index := 256#32
  let c256_593 : Index := 256#32
  ![v1948.toNat, 256, 256]
def k0_mult28 (i : grid0.Coords) : BitVec 32 :=
  let arg0 : BitVec 32 := BitVec.ofNat 32 (i 0).val
  let c512_i32_594 : BitVec 32 := 512#32
  let v1954 : BitVec 32 := Scalar.muli arg0 c512_i32_594
  let c384_i32_595 : BitVec 32 := 384#32
  let v1955 : BitVec 32 := Scalar.addi v1954 c384_i32_595
  v1955
def k0_off49 (i : grid0.Coords) : Fin 3 → Nat :=
  let arg0 : BitVec 32 := BitVec.ofNat 32 (i 0).val
  let v1971 : Index := Scalar.indexCast arg0
  let c256_599 : Index := 256#32
  let c384_600 : Index := 384#32
  ![v1971.toNat, 256, 384]
def k0_mult29 (i : grid0.Coords) : BitVec 32 :=
  let arg0 : BitVec 32 := BitVec.ofNat 32 (i 0).val
  let c512_i32_612 : BitVec 32 := 512#32
  let v1986 : BitVec 32 := Scalar.muli arg0 c512_i32_612
  let c0_i32_613 : BitVec 32 := 0#32
  let v1987 : BitVec 32 := Scalar.addi v1986 c0_i32_613
  v1987
def k0_off50 (i : grid0.Coords) : Fin 3 → Nat :=
  let arg0 : BitVec 32 := BitVec.ofNat 32 (i 0).val
  let v2003 : Index := Scalar.indexCast arg0
  let c512_617 : Index := 512#32
  let c0_618 : Index := 0#32
  ![v2003.toNat, 512, 0]
def k0_mult30 (i : grid0.Coords) : BitVec 32 :=
  let arg0 : BitVec 32 := BitVec.ofNat 32 (i 0).val
  let c512_i32_619 : BitVec 32 := 512#32
  let v2009 : BitVec 32 := Scalar.muli arg0 c512_i32_619
  let c128_i32_620 : BitVec 32 := 128#32
  let v2010 : BitVec 32 := Scalar.addi v2009 c128_i32_620
  v2010
def k0_off51 (i : grid0.Coords) : Fin 3 → Nat :=
  let arg0 : BitVec 32 := BitVec.ofNat 32 (i 0).val
  let v2026 : Index := Scalar.indexCast arg0
  let c512_624 : Index := 512#32
  let c128_625 : Index := 128#32
  ![v2026.toNat, 512, 128]
def k0_mult31 (i : grid0.Coords) : BitVec 32 :=
  let arg0 : BitVec 32 := BitVec.ofNat 32 (i 0).val
  let c512_i32_626 : BitVec 32 := 512#32
  let v2032 : BitVec 32 := Scalar.muli arg0 c512_i32_626
  let c256_i32_627 : BitVec 32 := 256#32
  let v2033 : BitVec 32 := Scalar.addi v2032 c256_i32_627
  v2033
def k0_off52 (i : grid0.Coords) : Fin 3 → Nat :=
  let arg0 : BitVec 32 := BitVec.ofNat 32 (i 0).val
  let v2049 : Index := Scalar.indexCast arg0
  let c512_631 : Index := 512#32
  let c256_632 : Index := 256#32
  ![v2049.toNat, 512, 256]
def k0_mult32 (i : grid0.Coords) : BitVec 32 :=
  let arg0 : BitVec 32 := BitVec.ofNat 32 (i 0).val
  let c512_i32_633 : BitVec 32 := 512#32
  let v2055 : BitVec 32 := Scalar.muli arg0 c512_i32_633
  let c384_i32_634 : BitVec 32 := 384#32
  let v2056 : BitVec 32 := Scalar.addi v2055 c384_i32_634
  v2056
def k0_off53 (i : grid0.Coords) : Fin 3 → Nat :=
  let arg0 : BitVec 32 := BitVec.ofNat 32 (i 0).val
  let v2072 : Index := Scalar.indexCast arg0
  let c512_638 : Index := 512#32
  let c384_639 : Index := 384#32
  ![v2072.toNat, 512, 384]
def k0_mult33 (i : grid0.Coords) : BitVec 32 :=
  let arg0 : BitVec 32 := BitVec.ofNat 32 (i 0).val
  let c512_i32_651 : BitVec 32 := 512#32
  let v2087 : BitVec 32 := Scalar.muli arg0 c512_i32_651
  let c0_i32_652 : BitVec 32 := 0#32
  let v2088 : BitVec 32 := Scalar.addi v2087 c0_i32_652
  v2088
def k0_off54 (i : grid0.Coords) : Fin 3 → Nat :=
  let arg0 : BitVec 32 := BitVec.ofNat 32 (i 0).val
  let v2104 : Index := Scalar.indexCast arg0
  let c768_656 : Index := 768#32
  let c0_657 : Index := 0#32
  ![v2104.toNat, 768, 0]
def k0_mult34 (i : grid0.Coords) : BitVec 32 :=
  let arg0 : BitVec 32 := BitVec.ofNat 32 (i 0).val
  let c512_i32_658 : BitVec 32 := 512#32
  let v2110 : BitVec 32 := Scalar.muli arg0 c512_i32_658
  let c128_i32_659 : BitVec 32 := 128#32
  let v2111 : BitVec 32 := Scalar.addi v2110 c128_i32_659
  v2111
def k0_off55 (i : grid0.Coords) : Fin 3 → Nat :=
  let arg0 : BitVec 32 := BitVec.ofNat 32 (i 0).val
  let v2127 : Index := Scalar.indexCast arg0
  let c768_663 : Index := 768#32
  let c128_664 : Index := 128#32
  ![v2127.toNat, 768, 128]
def k0_mult35 (i : grid0.Coords) : BitVec 32 :=
  let arg0 : BitVec 32 := BitVec.ofNat 32 (i 0).val
  let c512_i32_665 : BitVec 32 := 512#32
  let v2133 : BitVec 32 := Scalar.muli arg0 c512_i32_665
  let c256_i32_666 : BitVec 32 := 256#32
  let v2134 : BitVec 32 := Scalar.addi v2133 c256_i32_666
  v2134
def k0_off56 (i : grid0.Coords) : Fin 3 → Nat :=
  let arg0 : BitVec 32 := BitVec.ofNat 32 (i 0).val
  let v2150 : Index := Scalar.indexCast arg0
  let c768_670 : Index := 768#32
  let c256_671 : Index := 256#32
  ![v2150.toNat, 768, 256]
def k0_mult36 (i : grid0.Coords) : BitVec 32 :=
  let arg0 : BitVec 32 := BitVec.ofNat 32 (i 0).val
  let c512_i32_672 : BitVec 32 := 512#32
  let v2156 : BitVec 32 := Scalar.muli arg0 c512_i32_672
  let c384_i32_673 : BitVec 32 := 384#32
  let v2157 : BitVec 32 := Scalar.addi v2156 c384_i32_673
  v2157
def k0_off57 (i : grid0.Coords) : Fin 3 → Nat :=
  let arg0 : BitVec 32 := BitVec.ofNat 32 (i 0).val
  let v2173 : Index := Scalar.indexCast arg0
  let c768_677 : Index := 768#32
  let c384_678 : Index := 384#32
  ![v2173.toNat, 768, 384]
def k0_mult37 (i : grid0.Coords) : BitVec 32 :=
  let arg0 : BitVec 32 := BitVec.ofNat 32 (i 0).val
  let c512_i32_690 : BitVec 32 := 512#32
  let v2188 : BitVec 32 := Scalar.muli arg0 c512_i32_690
  let c0_i32_691 : BitVec 32 := 0#32
  let v2189 : BitVec 32 := Scalar.addi v2188 c0_i32_691
  v2189
def k0_off58 (i : grid0.Coords) : Fin 3 → Nat :=
  let arg0 : BitVec 32 := BitVec.ofNat 32 (i 0).val
  let v2205 : Index := Scalar.indexCast arg0
  let c1024_695 : Index := 1024#32
  let c0_696 : Index := 0#32
  ![v2205.toNat, 1024, 0]
def k0_mult38 (i : grid0.Coords) : BitVec 32 :=
  let arg0 : BitVec 32 := BitVec.ofNat 32 (i 0).val
  let c512_i32_697 : BitVec 32 := 512#32
  let v2211 : BitVec 32 := Scalar.muli arg0 c512_i32_697
  let c128_i32_698 : BitVec 32 := 128#32
  let v2212 : BitVec 32 := Scalar.addi v2211 c128_i32_698
  v2212
def k0_off59 (i : grid0.Coords) : Fin 3 → Nat :=
  let arg0 : BitVec 32 := BitVec.ofNat 32 (i 0).val
  let v2228 : Index := Scalar.indexCast arg0
  let c1024_702 : Index := 1024#32
  let c128_703 : Index := 128#32
  ![v2228.toNat, 1024, 128]
def k0_mult39 (i : grid0.Coords) : BitVec 32 :=
  let arg0 : BitVec 32 := BitVec.ofNat 32 (i 0).val
  let c512_i32_704 : BitVec 32 := 512#32
  let v2234 : BitVec 32 := Scalar.muli arg0 c512_i32_704
  let c256_i32_705 : BitVec 32 := 256#32
  let v2235 : BitVec 32 := Scalar.addi v2234 c256_i32_705
  v2235
def k0_off60 (i : grid0.Coords) : Fin 3 → Nat :=
  let arg0 : BitVec 32 := BitVec.ofNat 32 (i 0).val
  let v2251 : Index := Scalar.indexCast arg0
  let c1024_709 : Index := 1024#32
  let c256_710 : Index := 256#32
  ![v2251.toNat, 1024, 256]
def k0_mult40 (i : grid0.Coords) : BitVec 32 :=
  let arg0 : BitVec 32 := BitVec.ofNat 32 (i 0).val
  let c512_i32_711 : BitVec 32 := 512#32
  let v2257 : BitVec 32 := Scalar.muli arg0 c512_i32_711
  let c384_i32_712 : BitVec 32 := 384#32
  let v2258 : BitVec 32 := Scalar.addi v2257 c384_i32_712
  v2258
def k0_off61 (i : grid0.Coords) : Fin 3 → Nat :=
  let arg0 : BitVec 32 := BitVec.ofNat 32 (i 0).val
  let v2274 : Index := Scalar.indexCast arg0
  let c1024_716 : Index := 1024#32
  let c384_717 : Index := 384#32
  ![v2274.toNat, 1024, 384]
def k0_mult41 (i : grid0.Coords) : BitVec 32 :=
  let arg0 : BitVec 32 := BitVec.ofNat 32 (i 0).val
  let c512_i32_728 : BitVec 32 := 512#32
  let v2289 : BitVec 32 := Scalar.muli arg0 c512_i32_728
  let c0_i32_729 : BitVec 32 := 0#32
  let v2290 : BitVec 32 := Scalar.addi v2289 c0_i32_729
  v2290
def k0_off62 (i : grid0.Coords) : Fin 3 → Nat :=
  let arg0 : BitVec 32 := BitVec.ofNat 32 (i 0).val
  let v2306 : Index := Scalar.indexCast arg0
  let c1280_733 : Index := 1280#32
  let c0_734 : Index := 0#32
  ![v2306.toNat, 1280, 0]
def k0_mult42 (i : grid0.Coords) : BitVec 32 :=
  let arg0 : BitVec 32 := BitVec.ofNat 32 (i 0).val
  let c512_i32_735 : BitVec 32 := 512#32
  let v2312 : BitVec 32 := Scalar.muli arg0 c512_i32_735
  let c128_i32_736 : BitVec 32 := 128#32
  let v2313 : BitVec 32 := Scalar.addi v2312 c128_i32_736
  v2313
def k0_off63 (i : grid0.Coords) : Fin 3 → Nat :=
  let arg0 : BitVec 32 := BitVec.ofNat 32 (i 0).val
  let v2329 : Index := Scalar.indexCast arg0
  let c1280_740 : Index := 1280#32
  let c128_741 : Index := 128#32
  ![v2329.toNat, 1280, 128]
def k0_mult43 (i : grid0.Coords) : BitVec 32 :=
  let arg0 : BitVec 32 := BitVec.ofNat 32 (i 0).val
  let c512_i32_742 : BitVec 32 := 512#32
  let v2335 : BitVec 32 := Scalar.muli arg0 c512_i32_742
  let c256_i32_743 : BitVec 32 := 256#32
  let v2336 : BitVec 32 := Scalar.addi v2335 c256_i32_743
  v2336
def k0_off64 (i : grid0.Coords) : Fin 3 → Nat :=
  let arg0 : BitVec 32 := BitVec.ofNat 32 (i 0).val
  let v2352 : Index := Scalar.indexCast arg0
  let c1280_747 : Index := 1280#32
  let c256_748 : Index := 256#32
  ![v2352.toNat, 1280, 256]
def k0_mult44 (i : grid0.Coords) : BitVec 32 :=
  let arg0 : BitVec 32 := BitVec.ofNat 32 (i 0).val
  let c512_i32_749 : BitVec 32 := 512#32
  let v2358 : BitVec 32 := Scalar.muli arg0 c512_i32_749
  let c384_i32_750 : BitVec 32 := 384#32
  let v2359 : BitVec 32 := Scalar.addi v2358 c384_i32_750
  v2359
def k0_off65 (i : grid0.Coords) : Fin 3 → Nat :=
  let arg0 : BitVec 32 := BitVec.ofNat 32 (i 0).val
  let v2375 : Index := Scalar.indexCast arg0
  let c1280_754 : Index := 1280#32
  let c384_755 : Index := 384#32
  ![v2375.toNat, 1280, 384]
def k0_cond4 (i : grid0.Coords) : BitVec 1 :=
  let arg0 : BitVec 32 := BitVec.ofNat 32 (i 0).val
  let c10_i32_4 : BitVec 32 := 10#32
  let v9 : BitVec 1 := Scalar.cmpi .sge arg0 c10_i32_4
  let v10 : BitVec 32 := Scalar.extui v9
  let c0_i32_5 : BitVec 32 := 0#32
  let v11 : BitVec 1 := Scalar.cmpi .ne v10 c0_i32_5
  v11

def k0_off66 (i : grid0.Coords) (c0_i32_9 : BitVec 32) : Fin 3 → Nat :=
  let arg0 : BitVec 32 := BitVec.ofNat 32 (i 0).val
  let c10_i32_7 : BitVec 32 := 10#32
  let v15 : BitVec 32 := Scalar.subi arg0 c10_i32_7
  let c2_i32 : BitVec 32 := 2#32
  let v17 : BitVec 32 := Scalar.muli v15 c2_i32
  let v18 : BitVec 32 := Scalar.addi v17 c0_i32_9
  let v33 : Index := Scalar.indexCast v18
  let c0_11 : Index := 0#32
  let c0_12 : Index := 0#32
  ![v33.toNat, 0, 0]
def k0_off67 (i : grid0.Coords) (c0_i32_9 : BitVec 32) : Fin 3 → Nat :=
  let arg0 : BitVec 32 := BitVec.ofNat 32 (i 0).val
  let c10_i32_7 : BitVec 32 := 10#32
  let v15 : BitVec 32 := Scalar.subi arg0 c10_i32_7
  let c2_i32 : BitVec 32 := 2#32
  let v17 : BitVec 32 := Scalar.muli v15 c2_i32
  let v18 : BitVec 32 := Scalar.addi v17 c0_i32_9
  let v41 : Index := Scalar.indexCast v18
  let c1 : Index := 1#32
  let c0_13 : Index := 0#32
  ![v41.toNat, 1, 0]
def k0_off68 (i : grid0.Coords) (c0_i32_9 : BitVec 32) : Fin 3 → Nat :=
  let arg0 : BitVec 32 := BitVec.ofNat 32 (i 0).val
  let c10_i32_7 : BitVec 32 := 10#32
  let v15 : BitVec 32 := Scalar.subi arg0 c10_i32_7
  let c2_i32 : BitVec 32 := 2#32
  let v17 : BitVec 32 := Scalar.muli v15 c2_i32
  let v18 : BitVec 32 := Scalar.addi v17 c0_i32_9
  let v49 : Index := Scalar.indexCast v18
  let c2 : Index := 2#32
  let c0_14 : Index := 0#32
  ![v49.toNat, 2, 0]
def k0_off69 (i : grid0.Coords) (c0_i32_9 : BitVec 32) : Fin 3 → Nat :=
  let arg0 : BitVec 32 := BitVec.ofNat 32 (i 0).val
  let c10_i32_7 : BitVec 32 := 10#32
  let v15 : BitVec 32 := Scalar.subi arg0 c10_i32_7
  let c2_i32 : BitVec 32 := 2#32
  let v17 : BitVec 32 := Scalar.muli v15 c2_i32
  let v18 : BitVec 32 := Scalar.addi v17 c0_i32_9
  let v57 : Index := Scalar.indexCast v18
  let c3 : Index := 3#32
  let c0_15 : Index := 0#32
  ![v57.toNat, 3, 0]
def k0_off70 (i : grid0.Coords) (c0_i32_9 : BitVec 32) : Fin 3 → Nat :=
  let arg0 : BitVec 32 := BitVec.ofNat 32 (i 0).val
  let c10_i32_7 : BitVec 32 := 10#32
  let v15 : BitVec 32 := Scalar.subi arg0 c10_i32_7
  let c2_i32 : BitVec 32 := 2#32
  let v17 : BitVec 32 := Scalar.muli v15 c2_i32
  let v18 : BitVec 32 := Scalar.addi v17 c0_i32_9
  let v65 : Index := Scalar.indexCast v18
  let c4 : Index := 4#32
  let c0_16 : Index := 0#32
  ![v65.toNat, 4, 0]
def k0_off71 (i : grid0.Coords) (c0_i32_9 : BitVec 32) : Fin 3 → Nat :=
  let arg0 : BitVec 32 := BitVec.ofNat 32 (i 0).val
  let c10_i32_7 : BitVec 32 := 10#32
  let v15 : BitVec 32 := Scalar.subi arg0 c10_i32_7
  let c2_i32 : BitVec 32 := 2#32
  let v17 : BitVec 32 := Scalar.muli v15 c2_i32
  let v18 : BitVec 32 := Scalar.addi v17 c0_i32_9
  let v73 : Index := Scalar.indexCast v18
  let c5 : Index := 5#32
  let c0_17 : Index := 0#32
  ![v73.toNat, 5, 0]
def k0_off72 (i : grid0.Coords) (c0_i32_9 : BitVec 32) : Fin 3 → Nat :=
  let arg0 : BitVec 32 := BitVec.ofNat 32 (i 0).val
  let c10_i32_7 : BitVec 32 := 10#32
  let v15 : BitVec 32 := Scalar.subi arg0 c10_i32_7
  let c2_i32 : BitVec 32 := 2#32
  let v17 : BitVec 32 := Scalar.muli v15 c2_i32
  let v18 : BitVec 32 := Scalar.addi v17 c0_i32_9
  let v81 : Index := Scalar.indexCast v18
  let c6 : Index := 6#32
  let c0_18 : Index := 0#32
  ![v81.toNat, 6, 0]
def k0_off73 (i : grid0.Coords) (c0_i32_9 : BitVec 32) : Fin 3 → Nat :=
  let arg0 : BitVec 32 := BitVec.ofNat 32 (i 0).val
  let c10_i32_7 : BitVec 32 := 10#32
  let v15 : BitVec 32 := Scalar.subi arg0 c10_i32_7
  let c2_i32 : BitVec 32 := 2#32
  let v17 : BitVec 32 := Scalar.muli v15 c2_i32
  let v18 : BitVec 32 := Scalar.addi v17 c0_i32_9
  let v89 : Index := Scalar.indexCast v18
  let c7 : Index := 7#32
  let c0_19 : Index := 0#32
  ![v89.toNat, 7, 0]
def k0_off74 (i : grid0.Coords) (c0_i32_50 : BitVec 32) : Fin 3 → Nat :=
  let arg0 : BitVec 32 := BitVec.ofNat 32 (i 0).val
  let c10_i32_7 : BitVec 32 := 10#32
  let v15 : BitVec 32 := Scalar.subi arg0 c10_i32_7
  let c2_i32_49 : BitVec 32 := 2#32
  let v187 : BitVec 32 := Scalar.muli v15 c2_i32_49
  let v188 : BitVec 32 := Scalar.addi v187 c0_i32_50
  let v205 : Index := Scalar.indexCast v188
  let c0_57 : Index := 0#32
  let c640 : Index := 640#32
  ![v205.toNat, 0, 640]
def k0_off75 (i : grid0.Coords) (c0_i32_50 : BitVec 32) : Fin 3 → Nat :=
  let arg0 : BitVec 32 := BitVec.ofNat 32 (i 0).val
  let c10_i32_7 : BitVec 32 := 10#32
  let v15 : BitVec 32 := Scalar.subi arg0 c10_i32_7
  let c2_i32_49 : BitVec 32 := 2#32
  let v187 : BitVec 32 := Scalar.muli v15 c2_i32_49
  let v188 : BitVec 32 := Scalar.addi v187 c0_i32_50
  let v213 : Index := Scalar.indexCast v188
  let c1_58 : Index := 1#32
  let c640_59 : Index := 640#32
  ![v213.toNat, 1, 640]
def k0_off76 (i : grid0.Coords) (c0_i32_50 : BitVec 32) : Fin 3 → Nat :=
  let arg0 : BitVec 32 := BitVec.ofNat 32 (i 0).val
  let c10_i32_7 : BitVec 32 := 10#32
  let v15 : BitVec 32 := Scalar.subi arg0 c10_i32_7
  let c2_i32_49 : BitVec 32 := 2#32
  let v187 : BitVec 32 := Scalar.muli v15 c2_i32_49
  let v188 : BitVec 32 := Scalar.addi v187 c0_i32_50
  let v221 : Index := Scalar.indexCast v188
  let c2_60 : Index := 2#32
  let c640_61 : Index := 640#32
  ![v221.toNat, 2, 640]
def k0_off77 (i : grid0.Coords) (c0_i32_50 : BitVec 32) : Fin 3 → Nat :=
  let arg0 : BitVec 32 := BitVec.ofNat 32 (i 0).val
  let c10_i32_7 : BitVec 32 := 10#32
  let v15 : BitVec 32 := Scalar.subi arg0 c10_i32_7
  let c2_i32_49 : BitVec 32 := 2#32
  let v187 : BitVec 32 := Scalar.muli v15 c2_i32_49
  let v188 : BitVec 32 := Scalar.addi v187 c0_i32_50
  let v229 : Index := Scalar.indexCast v188
  let c3_62 : Index := 3#32
  let c640_63 : Index := 640#32
  ![v229.toNat, 3, 640]
def k0_off78 (i : grid0.Coords) (c0_i32_50 : BitVec 32) : Fin 3 → Nat :=
  let arg0 : BitVec 32 := BitVec.ofNat 32 (i 0).val
  let c10_i32_7 : BitVec 32 := 10#32
  let v15 : BitVec 32 := Scalar.subi arg0 c10_i32_7
  let c2_i32_49 : BitVec 32 := 2#32
  let v187 : BitVec 32 := Scalar.muli v15 c2_i32_49
  let v188 : BitVec 32 := Scalar.addi v187 c0_i32_50
  let v237 : Index := Scalar.indexCast v188
  let c4_64 : Index := 4#32
  let c640_65 : Index := 640#32
  ![v237.toNat, 4, 640]
def k0_off79 (i : grid0.Coords) (c0_i32_50 : BitVec 32) : Fin 3 → Nat :=
  let arg0 : BitVec 32 := BitVec.ofNat 32 (i 0).val
  let c10_i32_7 : BitVec 32 := 10#32
  let v15 : BitVec 32 := Scalar.subi arg0 c10_i32_7
  let c2_i32_49 : BitVec 32 := 2#32
  let v187 : BitVec 32 := Scalar.muli v15 c2_i32_49
  let v188 : BitVec 32 := Scalar.addi v187 c0_i32_50
  let v245 : Index := Scalar.indexCast v188
  let c5_66 : Index := 5#32
  let c640_67 : Index := 640#32
  ![v245.toNat, 5, 640]
def k0_off80 (i : grid0.Coords) (c0_i32_50 : BitVec 32) : Fin 3 → Nat :=
  let arg0 : BitVec 32 := BitVec.ofNat 32 (i 0).val
  let c10_i32_7 : BitVec 32 := 10#32
  let v15 : BitVec 32 := Scalar.subi arg0 c10_i32_7
  let c2_i32_49 : BitVec 32 := 2#32
  let v187 : BitVec 32 := Scalar.muli v15 c2_i32_49
  let v188 : BitVec 32 := Scalar.addi v187 c0_i32_50
  let v253 : Index := Scalar.indexCast v188
  let c6_68 : Index := 6#32
  let c640_69 : Index := 640#32
  ![v253.toNat, 6, 640]
def k0_off81 (i : grid0.Coords) (c0_i32_50 : BitVec 32) : Fin 3 → Nat :=
  let arg0 : BitVec 32 := BitVec.ofNat 32 (i 0).val
  let c10_i32_7 : BitVec 32 := 10#32
  let v15 : BitVec 32 := Scalar.subi arg0 c10_i32_7
  let c2_i32_49 : BitVec 32 := 2#32
  let v187 : BitVec 32 := Scalar.muli v15 c2_i32_49
  let v188 : BitVec 32 := Scalar.addi v187 c0_i32_50
  let v261 : Index := Scalar.indexCast v188
  let c7_70 : Index := 7#32
  let c640_71 : Index := 640#32
  ![v261.toNat, 7, 640]
def k0_off82 (i : grid0.Coords) (c0_i32_104 : BitVec 32) : Fin 3 → Nat :=
  let arg0 : BitVec 32 := BitVec.ofNat 32 (i 0).val
  let c10_i32_7 : BitVec 32 := 10#32
  let v15 : BitVec 32 := Scalar.subi arg0 c10_i32_7
  let c2_i32_103 : BitVec 32 := 2#32
  let v361 : BitVec 32 := Scalar.muli v15 c2_i32_103
  let v362 : BitVec 32 := Scalar.addi v361 c0_i32_104
  let v377 : Index := Scalar.indexCast v362
  let c0_110 : Index := 0#32
  let c128_111 : Index := 128#32
  ![v377.toNat, 0, 128]
def k0_off83 (i : grid0.Coords) (c0_i32_104 : BitVec 32) : Fin 3 → Nat :=
  let arg0 : BitVec 32 := BitVec.ofNat 32 (i 0).val
  let c10_i32_7 : BitVec 32 := 10#32
  let v15 : BitVec 32 := Scalar.subi arg0 c10_i32_7
  let c2_i32_103 : BitVec 32 := 2#32
  let v361 : BitVec 32 := Scalar.muli v15 c2_i32_103
  let v362 : BitVec 32 := Scalar.addi v361 c0_i32_104
  let v385 : Index := Scalar.indexCast v362
  let c1_112 : Index := 1#32
  let c128_113 : Index := 128#32
  ![v385.toNat, 1, 128]
def k0_off84 (i : grid0.Coords) (c0_i32_104 : BitVec 32) : Fin 3 → Nat :=
  let arg0 : BitVec 32 := BitVec.ofNat 32 (i 0).val
  let c10_i32_7 : BitVec 32 := 10#32
  let v15 : BitVec 32 := Scalar.subi arg0 c10_i32_7
  let c2_i32_103 : BitVec 32 := 2#32
  let v361 : BitVec 32 := Scalar.muli v15 c2_i32_103
  let v362 : BitVec 32 := Scalar.addi v361 c0_i32_104
  let v393 : Index := Scalar.indexCast v362
  let c2_114 : Index := 2#32
  let c128_115 : Index := 128#32
  ![v393.toNat, 2, 128]
def k0_off85 (i : grid0.Coords) (c0_i32_104 : BitVec 32) : Fin 3 → Nat :=
  let arg0 : BitVec 32 := BitVec.ofNat 32 (i 0).val
  let c10_i32_7 : BitVec 32 := 10#32
  let v15 : BitVec 32 := Scalar.subi arg0 c10_i32_7
  let c2_i32_103 : BitVec 32 := 2#32
  let v361 : BitVec 32 := Scalar.muli v15 c2_i32_103
  let v362 : BitVec 32 := Scalar.addi v361 c0_i32_104
  let v401 : Index := Scalar.indexCast v362
  let c3_116 : Index := 3#32
  let c128_117 : Index := 128#32
  ![v401.toNat, 3, 128]
def k0_off86 (i : grid0.Coords) (c0_i32_104 : BitVec 32) : Fin 3 → Nat :=
  let arg0 : BitVec 32 := BitVec.ofNat 32 (i 0).val
  let c10_i32_7 : BitVec 32 := 10#32
  let v15 : BitVec 32 := Scalar.subi arg0 c10_i32_7
  let c2_i32_103 : BitVec 32 := 2#32
  let v361 : BitVec 32 := Scalar.muli v15 c2_i32_103
  let v362 : BitVec 32 := Scalar.addi v361 c0_i32_104
  let v409 : Index := Scalar.indexCast v362
  let c4_118 : Index := 4#32
  let c128_119 : Index := 128#32
  ![v409.toNat, 4, 128]
def k0_off87 (i : grid0.Coords) (c0_i32_104 : BitVec 32) : Fin 3 → Nat :=
  let arg0 : BitVec 32 := BitVec.ofNat 32 (i 0).val
  let c10_i32_7 : BitVec 32 := 10#32
  let v15 : BitVec 32 := Scalar.subi arg0 c10_i32_7
  let c2_i32_103 : BitVec 32 := 2#32
  let v361 : BitVec 32 := Scalar.muli v15 c2_i32_103
  let v362 : BitVec 32 := Scalar.addi v361 c0_i32_104
  let v417 : Index := Scalar.indexCast v362
  let c5_120 : Index := 5#32
  let c128_121 : Index := 128#32
  ![v417.toNat, 5, 128]
def k0_off88 (i : grid0.Coords) (c0_i32_104 : BitVec 32) : Fin 3 → Nat :=
  let arg0 : BitVec 32 := BitVec.ofNat 32 (i 0).val
  let c10_i32_7 : BitVec 32 := 10#32
  let v15 : BitVec 32 := Scalar.subi arg0 c10_i32_7
  let c2_i32_103 : BitVec 32 := 2#32
  let v361 : BitVec 32 := Scalar.muli v15 c2_i32_103
  let v362 : BitVec 32 := Scalar.addi v361 c0_i32_104
  let v425 : Index := Scalar.indexCast v362
  let c6_122 : Index := 6#32
  let c128_123 : Index := 128#32
  ![v425.toNat, 6, 128]
def k0_off89 (i : grid0.Coords) (c0_i32_104 : BitVec 32) : Fin 3 → Nat :=
  let arg0 : BitVec 32 := BitVec.ofNat 32 (i 0).val
  let c10_i32_7 : BitVec 32 := 10#32
  let v15 : BitVec 32 := Scalar.subi arg0 c10_i32_7
  let c2_i32_103 : BitVec 32 := 2#32
  let v361 : BitVec 32 := Scalar.muli v15 c2_i32_103
  let v362 : BitVec 32 := Scalar.addi v361 c0_i32_104
  let v433 : Index := Scalar.indexCast v362
  let c7_124 : Index := 7#32
  let c128_125 : Index := 128#32
  ![v433.toNat, 7, 128]
def k0_off90 (i : grid0.Coords) (c0_i32_158 : BitVec 32) : Fin 3 → Nat :=
  let arg0 : BitVec 32 := BitVec.ofNat 32 (i 0).val
  let c10_i32_7 : BitVec 32 := 10#32
  let v15 : BitVec 32 := Scalar.subi arg0 c10_i32_7
  let c2_i32_157 : BitVec 32 := 2#32
  let v531 : BitVec 32 := Scalar.muli v15 c2_i32_157
  let v532 : BitVec 32 := Scalar.addi v531 c0_i32_158
  let v549 : Index := Scalar.indexCast v532
  let c0_165 : Index := 0#32
  let c768 : Index := 768#32
  ![v549.toNat, 0, 768]
def k0_off91 (i : grid0.Coords) (c0_i32_158 : BitVec 32) : Fin 3 → Nat :=
  let arg0 : BitVec 32 := BitVec.ofNat 32 (i 0).val
  let c10_i32_7 : BitVec 32 := 10#32
  let v15 : BitVec 32 := Scalar.subi arg0 c10_i32_7
  let c2_i32_157 : BitVec 32 := 2#32
  let v531 : BitVec 32 := Scalar.muli v15 c2_i32_157
  let v532 : BitVec 32 := Scalar.addi v531 c0_i32_158
  let v557 : Index := Scalar.indexCast v532
  let c1_166 : Index := 1#32
  let c768_167 : Index := 768#32
  ![v557.toNat, 1, 768]
def k0_off92 (i : grid0.Coords) (c0_i32_158 : BitVec 32) : Fin 3 → Nat :=
  let arg0 : BitVec 32 := BitVec.ofNat 32 (i 0).val
  let c10_i32_7 : BitVec 32 := 10#32
  let v15 : BitVec 32 := Scalar.subi arg0 c10_i32_7
  let c2_i32_157 : BitVec 32 := 2#32
  let v531 : BitVec 32 := Scalar.muli v15 c2_i32_157
  let v532 : BitVec 32 := Scalar.addi v531 c0_i32_158
  let v565 : Index := Scalar.indexCast v532
  let c2_168 : Index := 2#32
  let c768_169 : Index := 768#32
  ![v565.toNat, 2, 768]
def k0_off93 (i : grid0.Coords) (c0_i32_158 : BitVec 32) : Fin 3 → Nat :=
  let arg0 : BitVec 32 := BitVec.ofNat 32 (i 0).val
  let c10_i32_7 : BitVec 32 := 10#32
  let v15 : BitVec 32 := Scalar.subi arg0 c10_i32_7
  let c2_i32_157 : BitVec 32 := 2#32
  let v531 : BitVec 32 := Scalar.muli v15 c2_i32_157
  let v532 : BitVec 32 := Scalar.addi v531 c0_i32_158
  let v573 : Index := Scalar.indexCast v532
  let c3_170 : Index := 3#32
  let c768_171 : Index := 768#32
  ![v573.toNat, 3, 768]
def k0_off94 (i : grid0.Coords) (c0_i32_158 : BitVec 32) : Fin 3 → Nat :=
  let arg0 : BitVec 32 := BitVec.ofNat 32 (i 0).val
  let c10_i32_7 : BitVec 32 := 10#32
  let v15 : BitVec 32 := Scalar.subi arg0 c10_i32_7
  let c2_i32_157 : BitVec 32 := 2#32
  let v531 : BitVec 32 := Scalar.muli v15 c2_i32_157
  let v532 : BitVec 32 := Scalar.addi v531 c0_i32_158
  let v581 : Index := Scalar.indexCast v532
  let c4_172 : Index := 4#32
  let c768_173 : Index := 768#32
  ![v581.toNat, 4, 768]
def k0_off95 (i : grid0.Coords) (c0_i32_158 : BitVec 32) : Fin 3 → Nat :=
  let arg0 : BitVec 32 := BitVec.ofNat 32 (i 0).val
  let c10_i32_7 : BitVec 32 := 10#32
  let v15 : BitVec 32 := Scalar.subi arg0 c10_i32_7
  let c2_i32_157 : BitVec 32 := 2#32
  let v531 : BitVec 32 := Scalar.muli v15 c2_i32_157
  let v532 : BitVec 32 := Scalar.addi v531 c0_i32_158
  let v589 : Index := Scalar.indexCast v532
  let c5_174 : Index := 5#32
  let c768_175 : Index := 768#32
  ![v589.toNat, 5, 768]
def k0_off96 (i : grid0.Coords) (c0_i32_158 : BitVec 32) : Fin 3 → Nat :=
  let arg0 : BitVec 32 := BitVec.ofNat 32 (i 0).val
  let c10_i32_7 : BitVec 32 := 10#32
  let v15 : BitVec 32 := Scalar.subi arg0 c10_i32_7
  let c2_i32_157 : BitVec 32 := 2#32
  let v531 : BitVec 32 := Scalar.muli v15 c2_i32_157
  let v532 : BitVec 32 := Scalar.addi v531 c0_i32_158
  let v597 : Index := Scalar.indexCast v532
  let c6_176 : Index := 6#32
  let c768_177 : Index := 768#32
  ![v597.toNat, 6, 768]
def k0_off97 (i : grid0.Coords) (c0_i32_158 : BitVec 32) : Fin 3 → Nat :=
  let arg0 : BitVec 32 := BitVec.ofNat 32 (i 0).val
  let c10_i32_7 : BitVec 32 := 10#32
  let v15 : BitVec 32 := Scalar.subi arg0 c10_i32_7
  let c2_i32_157 : BitVec 32 := 2#32
  let v531 : BitVec 32 := Scalar.muli v15 c2_i32_157
  let v532 : BitVec 32 := Scalar.addi v531 c0_i32_158
  let v605 : Index := Scalar.indexCast v532
  let c7_178 : Index := 7#32
  let c768_179 : Index := 768#32
  ![v605.toNat, 7, 768]
def k0_off98 (i : grid0.Coords) (c0_i32_213 : BitVec 32) : Fin 3 → Nat :=
  let arg0 : BitVec 32 := BitVec.ofNat 32 (i 0).val
  let c10_i32_7 : BitVec 32 := 10#32
  let v15 : BitVec 32 := Scalar.subi arg0 c10_i32_7
  let c2_i32_212 : BitVec 32 := 2#32
  let v705 : BitVec 32 := Scalar.muli v15 c2_i32_212
  let v706 : BitVec 32 := Scalar.addi v705 c0_i32_213
  let v721 : Index := Scalar.indexCast v706
  let c0_219 : Index := 0#32
  let c256_220 : Index := 256#32
  ![v721.toNat, 0, 256]
def k0_off99 (i : grid0.Coords) (c0_i32_213 : BitVec 32) : Fin 3 → Nat :=
  let arg0 : BitVec 32 := BitVec.ofNat 32 (i 0).val
  let c10_i32_7 : BitVec 32 := 10#32
  let v15 : BitVec 32 := Scalar.subi arg0 c10_i32_7
  let c2_i32_212 : BitVec 32 := 2#32
  let v705 : BitVec 32 := Scalar.muli v15 c2_i32_212
  let v706 : BitVec 32 := Scalar.addi v705 c0_i32_213
  let v729 : Index := Scalar.indexCast v706
  let c1_221 : Index := 1#32
  let c256_222 : Index := 256#32
  ![v729.toNat, 1, 256]
def k0_off100 (i : grid0.Coords) (c0_i32_213 : BitVec 32) : Fin 3 → Nat :=
  let arg0 : BitVec 32 := BitVec.ofNat 32 (i 0).val
  let c10_i32_7 : BitVec 32 := 10#32
  let v15 : BitVec 32 := Scalar.subi arg0 c10_i32_7
  let c2_i32_212 : BitVec 32 := 2#32
  let v705 : BitVec 32 := Scalar.muli v15 c2_i32_212
  let v706 : BitVec 32 := Scalar.addi v705 c0_i32_213
  let v737 : Index := Scalar.indexCast v706
  let c2_223 : Index := 2#32
  let c256_224 : Index := 256#32
  ![v737.toNat, 2, 256]
def k0_off101 (i : grid0.Coords) (c0_i32_213 : BitVec 32) : Fin 3 → Nat :=
  let arg0 : BitVec 32 := BitVec.ofNat 32 (i 0).val
  let c10_i32_7 : BitVec 32 := 10#32
  let v15 : BitVec 32 := Scalar.subi arg0 c10_i32_7
  let c2_i32_212 : BitVec 32 := 2#32
  let v705 : BitVec 32 := Scalar.muli v15 c2_i32_212
  let v706 : BitVec 32 := Scalar.addi v705 c0_i32_213
  let v745 : Index := Scalar.indexCast v706
  let c3_225 : Index := 3#32
  let c256_226 : Index := 256#32
  ![v745.toNat, 3, 256]
def k0_off102 (i : grid0.Coords) (c0_i32_213 : BitVec 32) : Fin 3 → Nat :=
  let arg0 : BitVec 32 := BitVec.ofNat 32 (i 0).val
  let c10_i32_7 : BitVec 32 := 10#32
  let v15 : BitVec 32 := Scalar.subi arg0 c10_i32_7
  let c2_i32_212 : BitVec 32 := 2#32
  let v705 : BitVec 32 := Scalar.muli v15 c2_i32_212
  let v706 : BitVec 32 := Scalar.addi v705 c0_i32_213
  let v753 : Index := Scalar.indexCast v706
  let c4_227 : Index := 4#32
  let c256_228 : Index := 256#32
  ![v753.toNat, 4, 256]
def k0_off103 (i : grid0.Coords) (c0_i32_213 : BitVec 32) : Fin 3 → Nat :=
  let arg0 : BitVec 32 := BitVec.ofNat 32 (i 0).val
  let c10_i32_7 : BitVec 32 := 10#32
  let v15 : BitVec 32 := Scalar.subi arg0 c10_i32_7
  let c2_i32_212 : BitVec 32 := 2#32
  let v705 : BitVec 32 := Scalar.muli v15 c2_i32_212
  let v706 : BitVec 32 := Scalar.addi v705 c0_i32_213
  let v761 : Index := Scalar.indexCast v706
  let c5_229 : Index := 5#32
  let c256_230 : Index := 256#32
  ![v761.toNat, 5, 256]
def k0_off104 (i : grid0.Coords) (c0_i32_213 : BitVec 32) : Fin 3 → Nat :=
  let arg0 : BitVec 32 := BitVec.ofNat 32 (i 0).val
  let c10_i32_7 : BitVec 32 := 10#32
  let v15 : BitVec 32 := Scalar.subi arg0 c10_i32_7
  let c2_i32_212 : BitVec 32 := 2#32
  let v705 : BitVec 32 := Scalar.muli v15 c2_i32_212
  let v706 : BitVec 32 := Scalar.addi v705 c0_i32_213
  let v769 : Index := Scalar.indexCast v706
  let c6_231 : Index := 6#32
  let c256_232 : Index := 256#32
  ![v769.toNat, 6, 256]
def k0_off105 (i : grid0.Coords) (c0_i32_213 : BitVec 32) : Fin 3 → Nat :=
  let arg0 : BitVec 32 := BitVec.ofNat 32 (i 0).val
  let c10_i32_7 : BitVec 32 := 10#32
  let v15 : BitVec 32 := Scalar.subi arg0 c10_i32_7
  let c2_i32_212 : BitVec 32 := 2#32
  let v705 : BitVec 32 := Scalar.muli v15 c2_i32_212
  let v706 : BitVec 32 := Scalar.addi v705 c0_i32_213
  let v777 : Index := Scalar.indexCast v706
  let c7_233 : Index := 7#32
  let c256_234 : Index := 256#32
  ![v777.toNat, 7, 256]
def k0_off106 (i : grid0.Coords) (c0_i32_267 : BitVec 32) : Fin 3 → Nat :=
  let arg0 : BitVec 32 := BitVec.ofNat 32 (i 0).val
  let c10_i32_7 : BitVec 32 := 10#32
  let v15 : BitVec 32 := Scalar.subi arg0 c10_i32_7
  let c2_i32_266 : BitVec 32 := 2#32
  let v875 : BitVec 32 := Scalar.muli v15 c2_i32_266
  let v876 : BitVec 32 := Scalar.addi v875 c0_i32_267
  let v893 : Index := Scalar.indexCast v876
  let c0_274 : Index := 0#32
  let c896 : Index := 896#32
  ![v893.toNat, 0, 896]
def k0_off107 (i : grid0.Coords) (c0_i32_267 : BitVec 32) : Fin 3 → Nat :=
  let arg0 : BitVec 32 := BitVec.ofNat 32 (i 0).val
  let c10_i32_7 : BitVec 32 := 10#32
  let v15 : BitVec 32 := Scalar.subi arg0 c10_i32_7
  let c2_i32_266 : BitVec 32 := 2#32
  let v875 : BitVec 32 := Scalar.muli v15 c2_i32_266
  let v876 : BitVec 32 := Scalar.addi v875 c0_i32_267
  let v901 : Index := Scalar.indexCast v876
  let c1_275 : Index := 1#32
  let c896_276 : Index := 896#32
  ![v901.toNat, 1, 896]
def k0_off108 (i : grid0.Coords) (c0_i32_267 : BitVec 32) : Fin 3 → Nat :=
  let arg0 : BitVec 32 := BitVec.ofNat 32 (i 0).val
  let c10_i32_7 : BitVec 32 := 10#32
  let v15 : BitVec 32 := Scalar.subi arg0 c10_i32_7
  let c2_i32_266 : BitVec 32 := 2#32
  let v875 : BitVec 32 := Scalar.muli v15 c2_i32_266
  let v876 : BitVec 32 := Scalar.addi v875 c0_i32_267
  let v909 : Index := Scalar.indexCast v876
  let c2_277 : Index := 2#32
  let c896_278 : Index := 896#32
  ![v909.toNat, 2, 896]
def k0_off109 (i : grid0.Coords) (c0_i32_267 : BitVec 32) : Fin 3 → Nat :=
  let arg0 : BitVec 32 := BitVec.ofNat 32 (i 0).val
  let c10_i32_7 : BitVec 32 := 10#32
  let v15 : BitVec 32 := Scalar.subi arg0 c10_i32_7
  let c2_i32_266 : BitVec 32 := 2#32
  let v875 : BitVec 32 := Scalar.muli v15 c2_i32_266
  let v876 : BitVec 32 := Scalar.addi v875 c0_i32_267
  let v917 : Index := Scalar.indexCast v876
  let c3_279 : Index := 3#32
  let c896_280 : Index := 896#32
  ![v917.toNat, 3, 896]
def k0_off110 (i : grid0.Coords) (c0_i32_267 : BitVec 32) : Fin 3 → Nat :=
  let arg0 : BitVec 32 := BitVec.ofNat 32 (i 0).val
  let c10_i32_7 : BitVec 32 := 10#32
  let v15 : BitVec 32 := Scalar.subi arg0 c10_i32_7
  let c2_i32_266 : BitVec 32 := 2#32
  let v875 : BitVec 32 := Scalar.muli v15 c2_i32_266
  let v876 : BitVec 32 := Scalar.addi v875 c0_i32_267
  let v925 : Index := Scalar.indexCast v876
  let c4_281 : Index := 4#32
  let c896_282 : Index := 896#32
  ![v925.toNat, 4, 896]
def k0_off111 (i : grid0.Coords) (c0_i32_267 : BitVec 32) : Fin 3 → Nat :=
  let arg0 : BitVec 32 := BitVec.ofNat 32 (i 0).val
  let c10_i32_7 : BitVec 32 := 10#32
  let v15 : BitVec 32 := Scalar.subi arg0 c10_i32_7
  let c2_i32_266 : BitVec 32 := 2#32
  let v875 : BitVec 32 := Scalar.muli v15 c2_i32_266
  let v876 : BitVec 32 := Scalar.addi v875 c0_i32_267
  let v933 : Index := Scalar.indexCast v876
  let c5_283 : Index := 5#32
  let c896_284 : Index := 896#32
  ![v933.toNat, 5, 896]
def k0_off112 (i : grid0.Coords) (c0_i32_267 : BitVec 32) : Fin 3 → Nat :=
  let arg0 : BitVec 32 := BitVec.ofNat 32 (i 0).val
  let c10_i32_7 : BitVec 32 := 10#32
  let v15 : BitVec 32 := Scalar.subi arg0 c10_i32_7
  let c2_i32_266 : BitVec 32 := 2#32
  let v875 : BitVec 32 := Scalar.muli v15 c2_i32_266
  let v876 : BitVec 32 := Scalar.addi v875 c0_i32_267
  let v941 : Index := Scalar.indexCast v876
  let c6_285 : Index := 6#32
  let c896_286 : Index := 896#32
  ![v941.toNat, 6, 896]
def k0_off113 (i : grid0.Coords) (c0_i32_267 : BitVec 32) : Fin 3 → Nat :=
  let arg0 : BitVec 32 := BitVec.ofNat 32 (i 0).val
  let c10_i32_7 : BitVec 32 := 10#32
  let v15 : BitVec 32 := Scalar.subi arg0 c10_i32_7
  let c2_i32_266 : BitVec 32 := 2#32
  let v875 : BitVec 32 := Scalar.muli v15 c2_i32_266
  let v876 : BitVec 32 := Scalar.addi v875 c0_i32_267
  let v949 : Index := Scalar.indexCast v876
  let c7_287 : Index := 7#32
  let c896_288 : Index := 896#32
  ![v949.toNat, 7, 896]
def k0_off114 (i : grid0.Coords) (c0_i32_321 : BitVec 32) : Fin 3 → Nat :=
  let arg0 : BitVec 32 := BitVec.ofNat 32 (i 0).val
  let c10_i32_7 : BitVec 32 := 10#32
  let v15 : BitVec 32 := Scalar.subi arg0 c10_i32_7
  let c2_i32_320 : BitVec 32 := 2#32
  let v1049 : BitVec 32 := Scalar.muli v15 c2_i32_320
  let v1050 : BitVec 32 := Scalar.addi v1049 c0_i32_321
  let v1065 : Index := Scalar.indexCast v1050
  let c0_327 : Index := 0#32
  let c384_328 : Index := 384#32
  ![v1065.toNat, 0, 384]
def k0_off115 (i : grid0.Coords) (c0_i32_321 : BitVec 32) : Fin 3 → Nat :=
  let arg0 : BitVec 32 := BitVec.ofNat 32 (i 0).val
  let c10_i32_7 : BitVec 32 := 10#32
  let v15 : BitVec 32 := Scalar.subi arg0 c10_i32_7
  let c2_i32_320 : BitVec 32 := 2#32
  let v1049 : BitVec 32 := Scalar.muli v15 c2_i32_320
  let v1050 : BitVec 32 := Scalar.addi v1049 c0_i32_321
  let v1073 : Index := Scalar.indexCast v1050
  let c1_329 : Index := 1#32
  let c384_330 : Index := 384#32
  ![v1073.toNat, 1, 384]
def k0_off116 (i : grid0.Coords) (c0_i32_321 : BitVec 32) : Fin 3 → Nat :=
  let arg0 : BitVec 32 := BitVec.ofNat 32 (i 0).val
  let c10_i32_7 : BitVec 32 := 10#32
  let v15 : BitVec 32 := Scalar.subi arg0 c10_i32_7
  let c2_i32_320 : BitVec 32 := 2#32
  let v1049 : BitVec 32 := Scalar.muli v15 c2_i32_320
  let v1050 : BitVec 32 := Scalar.addi v1049 c0_i32_321
  let v1081 : Index := Scalar.indexCast v1050
  let c2_331 : Index := 2#32
  let c384_332 : Index := 384#32
  ![v1081.toNat, 2, 384]
def k0_off117 (i : grid0.Coords) (c0_i32_321 : BitVec 32) : Fin 3 → Nat :=
  let arg0 : BitVec 32 := BitVec.ofNat 32 (i 0).val
  let c10_i32_7 : BitVec 32 := 10#32
  let v15 : BitVec 32 := Scalar.subi arg0 c10_i32_7
  let c2_i32_320 : BitVec 32 := 2#32
  let v1049 : BitVec 32 := Scalar.muli v15 c2_i32_320
  let v1050 : BitVec 32 := Scalar.addi v1049 c0_i32_321
  let v1089 : Index := Scalar.indexCast v1050
  let c3_333 : Index := 3#32
  let c384_334 : Index := 384#32
  ![v1089.toNat, 3, 384]
def k0_off118 (i : grid0.Coords) (c0_i32_321 : BitVec 32) : Fin 3 → Nat :=
  let arg0 : BitVec 32 := BitVec.ofNat 32 (i 0).val
  let c10_i32_7 : BitVec 32 := 10#32
  let v15 : BitVec 32 := Scalar.subi arg0 c10_i32_7
  let c2_i32_320 : BitVec 32 := 2#32
  let v1049 : BitVec 32 := Scalar.muli v15 c2_i32_320
  let v1050 : BitVec 32 := Scalar.addi v1049 c0_i32_321
  let v1097 : Index := Scalar.indexCast v1050
  let c4_335 : Index := 4#32
  let c384_336 : Index := 384#32
  ![v1097.toNat, 4, 384]
def k0_off119 (i : grid0.Coords) (c0_i32_321 : BitVec 32) : Fin 3 → Nat :=
  let arg0 : BitVec 32 := BitVec.ofNat 32 (i 0).val
  let c10_i32_7 : BitVec 32 := 10#32
  let v15 : BitVec 32 := Scalar.subi arg0 c10_i32_7
  let c2_i32_320 : BitVec 32 := 2#32
  let v1049 : BitVec 32 := Scalar.muli v15 c2_i32_320
  let v1050 : BitVec 32 := Scalar.addi v1049 c0_i32_321
  let v1105 : Index := Scalar.indexCast v1050
  let c5_337 : Index := 5#32
  let c384_338 : Index := 384#32
  ![v1105.toNat, 5, 384]
def k0_off120 (i : grid0.Coords) (c0_i32_321 : BitVec 32) : Fin 3 → Nat :=
  let arg0 : BitVec 32 := BitVec.ofNat 32 (i 0).val
  let c10_i32_7 : BitVec 32 := 10#32
  let v15 : BitVec 32 := Scalar.subi arg0 c10_i32_7
  let c2_i32_320 : BitVec 32 := 2#32
  let v1049 : BitVec 32 := Scalar.muli v15 c2_i32_320
  let v1050 : BitVec 32 := Scalar.addi v1049 c0_i32_321
  let v1113 : Index := Scalar.indexCast v1050
  let c6_339 : Index := 6#32
  let c384_340 : Index := 384#32
  ![v1113.toNat, 6, 384]
def k0_off121 (i : grid0.Coords) (c0_i32_321 : BitVec 32) : Fin 3 → Nat :=
  let arg0 : BitVec 32 := BitVec.ofNat 32 (i 0).val
  let c10_i32_7 : BitVec 32 := 10#32
  let v15 : BitVec 32 := Scalar.subi arg0 c10_i32_7
  let c2_i32_320 : BitVec 32 := 2#32
  let v1049 : BitVec 32 := Scalar.muli v15 c2_i32_320
  let v1050 : BitVec 32 := Scalar.addi v1049 c0_i32_321
  let v1121 : Index := Scalar.indexCast v1050
  let c7_341 : Index := 7#32
  let c384_342 : Index := 384#32
  ![v1121.toNat, 7, 384]
def k0_off122 (i : grid0.Coords) (c0_i32_375 : BitVec 32) : Fin 3 → Nat :=
  let arg0 : BitVec 32 := BitVec.ofNat 32 (i 0).val
  let c10_i32_7 : BitVec 32 := 10#32
  let v15 : BitVec 32 := Scalar.subi arg0 c10_i32_7
  let c2_i32_374 : BitVec 32 := 2#32
  let v1219 : BitVec 32 := Scalar.muli v15 c2_i32_374
  let v1220 : BitVec 32 := Scalar.addi v1219 c0_i32_375
  let v1237 : Index := Scalar.indexCast v1220
  let c0_382 : Index := 0#32
  let c1024 : Index := 1024#32
  ![v1237.toNat, 0, 1024]
def k0_off123 (i : grid0.Coords) (c0_i32_375 : BitVec 32) : Fin 3 → Nat :=
  let arg0 : BitVec 32 := BitVec.ofNat 32 (i 0).val
  let c10_i32_7 : BitVec 32 := 10#32
  let v15 : BitVec 32 := Scalar.subi arg0 c10_i32_7
  let c2_i32_374 : BitVec 32 := 2#32
  let v1219 : BitVec 32 := Scalar.muli v15 c2_i32_374
  let v1220 : BitVec 32 := Scalar.addi v1219 c0_i32_375
  let v1245 : Index := Scalar.indexCast v1220
  let c1_383 : Index := 1#32
  let c1024_384 : Index := 1024#32
  ![v1245.toNat, 1, 1024]
def k0_off124 (i : grid0.Coords) (c0_i32_375 : BitVec 32) : Fin 3 → Nat :=
  let arg0 : BitVec 32 := BitVec.ofNat 32 (i 0).val
  let c10_i32_7 : BitVec 32 := 10#32
  let v15 : BitVec 32 := Scalar.subi arg0 c10_i32_7
  let c2_i32_374 : BitVec 32 := 2#32
  let v1219 : BitVec 32 := Scalar.muli v15 c2_i32_374
  let v1220 : BitVec 32 := Scalar.addi v1219 c0_i32_375
  let v1253 : Index := Scalar.indexCast v1220
  let c2_385 : Index := 2#32
  let c1024_386 : Index := 1024#32
  ![v1253.toNat, 2, 1024]
def k0_off125 (i : grid0.Coords) (c0_i32_375 : BitVec 32) : Fin 3 → Nat :=
  let arg0 : BitVec 32 := BitVec.ofNat 32 (i 0).val
  let c10_i32_7 : BitVec 32 := 10#32
  let v15 : BitVec 32 := Scalar.subi arg0 c10_i32_7
  let c2_i32_374 : BitVec 32 := 2#32
  let v1219 : BitVec 32 := Scalar.muli v15 c2_i32_374
  let v1220 : BitVec 32 := Scalar.addi v1219 c0_i32_375
  let v1261 : Index := Scalar.indexCast v1220
  let c3_387 : Index := 3#32
  let c1024_388 : Index := 1024#32
  ![v1261.toNat, 3, 1024]
def k0_off126 (i : grid0.Coords) (c0_i32_375 : BitVec 32) : Fin 3 → Nat :=
  let arg0 : BitVec 32 := BitVec.ofNat 32 (i 0).val
  let c10_i32_7 : BitVec 32 := 10#32
  let v15 : BitVec 32 := Scalar.subi arg0 c10_i32_7
  let c2_i32_374 : BitVec 32 := 2#32
  let v1219 : BitVec 32 := Scalar.muli v15 c2_i32_374
  let v1220 : BitVec 32 := Scalar.addi v1219 c0_i32_375
  let v1269 : Index := Scalar.indexCast v1220
  let c4_389 : Index := 4#32
  let c1024_390 : Index := 1024#32
  ![v1269.toNat, 4, 1024]
def k0_off127 (i : grid0.Coords) (c0_i32_375 : BitVec 32) : Fin 3 → Nat :=
  let arg0 : BitVec 32 := BitVec.ofNat 32 (i 0).val
  let c10_i32_7 : BitVec 32 := 10#32
  let v15 : BitVec 32 := Scalar.subi arg0 c10_i32_7
  let c2_i32_374 : BitVec 32 := 2#32
  let v1219 : BitVec 32 := Scalar.muli v15 c2_i32_374
  let v1220 : BitVec 32 := Scalar.addi v1219 c0_i32_375
  let v1277 : Index := Scalar.indexCast v1220
  let c5_391 : Index := 5#32
  let c1024_392 : Index := 1024#32
  ![v1277.toNat, 5, 1024]
def k0_off128 (i : grid0.Coords) (c0_i32_375 : BitVec 32) : Fin 3 → Nat :=
  let arg0 : BitVec 32 := BitVec.ofNat 32 (i 0).val
  let c10_i32_7 : BitVec 32 := 10#32
  let v15 : BitVec 32 := Scalar.subi arg0 c10_i32_7
  let c2_i32_374 : BitVec 32 := 2#32
  let v1219 : BitVec 32 := Scalar.muli v15 c2_i32_374
  let v1220 : BitVec 32 := Scalar.addi v1219 c0_i32_375
  let v1285 : Index := Scalar.indexCast v1220
  let c6_393 : Index := 6#32
  let c1024_394 : Index := 1024#32
  ![v1285.toNat, 6, 1024]
def k0_off129 (i : grid0.Coords) (c0_i32_375 : BitVec 32) : Fin 3 → Nat :=
  let arg0 : BitVec 32 := BitVec.ofNat 32 (i 0).val
  let c10_i32_7 : BitVec 32 := 10#32
  let v15 : BitVec 32 := Scalar.subi arg0 c10_i32_7
  let c2_i32_374 : BitVec 32 := 2#32
  let v1219 : BitVec 32 := Scalar.muli v15 c2_i32_374
  let v1220 : BitVec 32 := Scalar.addi v1219 c0_i32_375
  let v1293 : Index := Scalar.indexCast v1220
  let c7_395 : Index := 7#32
  let c1024_396 : Index := 1024#32
  ![v1293.toNat, 7, 1024]
def k0_off130 (i : grid0.Coords) (c0_i32_429 : BitVec 32) : Fin 3 → Nat :=
  let arg0 : BitVec 32 := BitVec.ofNat 32 (i 0).val
  let c10_i32_7 : BitVec 32 := 10#32
  let v15 : BitVec 32 := Scalar.subi arg0 c10_i32_7
  let c2_i32_428 : BitVec 32 := 2#32
  let v1393 : BitVec 32 := Scalar.muli v15 c2_i32_428
  let v1394 : BitVec 32 := Scalar.addi v1393 c0_i32_429
  let v1409 : Index := Scalar.indexCast v1394
  let c0_435 : Index := 0#32
  let c512_436 : Index := 512#32
  ![v1409.toNat, 0, 512]
def k0_off131 (i : grid0.Coords) (c0_i32_429 : BitVec 32) : Fin 3 → Nat :=
  let arg0 : BitVec 32 := BitVec.ofNat 32 (i 0).val
  let c10_i32_7 : BitVec 32 := 10#32
  let v15 : BitVec 32 := Scalar.subi arg0 c10_i32_7
  let c2_i32_428 : BitVec 32 := 2#32
  let v1393 : BitVec 32 := Scalar.muli v15 c2_i32_428
  let v1394 : BitVec 32 := Scalar.addi v1393 c0_i32_429
  let v1417 : Index := Scalar.indexCast v1394
  let c1_437 : Index := 1#32
  let c512_438 : Index := 512#32
  ![v1417.toNat, 1, 512]
def k0_off132 (i : grid0.Coords) (c0_i32_429 : BitVec 32) : Fin 3 → Nat :=
  let arg0 : BitVec 32 := BitVec.ofNat 32 (i 0).val
  let c10_i32_7 : BitVec 32 := 10#32
  let v15 : BitVec 32 := Scalar.subi arg0 c10_i32_7
  let c2_i32_428 : BitVec 32 := 2#32
  let v1393 : BitVec 32 := Scalar.muli v15 c2_i32_428
  let v1394 : BitVec 32 := Scalar.addi v1393 c0_i32_429
  let v1425 : Index := Scalar.indexCast v1394
  let c2_439 : Index := 2#32
  let c512_440 : Index := 512#32
  ![v1425.toNat, 2, 512]
def k0_off133 (i : grid0.Coords) (c0_i32_429 : BitVec 32) : Fin 3 → Nat :=
  let arg0 : BitVec 32 := BitVec.ofNat 32 (i 0).val
  let c10_i32_7 : BitVec 32 := 10#32
  let v15 : BitVec 32 := Scalar.subi arg0 c10_i32_7
  let c2_i32_428 : BitVec 32 := 2#32
  let v1393 : BitVec 32 := Scalar.muli v15 c2_i32_428
  let v1394 : BitVec 32 := Scalar.addi v1393 c0_i32_429
  let v1433 : Index := Scalar.indexCast v1394
  let c3_441 : Index := 3#32
  let c512_442 : Index := 512#32
  ![v1433.toNat, 3, 512]
def k0_off134 (i : grid0.Coords) (c0_i32_429 : BitVec 32) : Fin 3 → Nat :=
  let arg0 : BitVec 32 := BitVec.ofNat 32 (i 0).val
  let c10_i32_7 : BitVec 32 := 10#32
  let v15 : BitVec 32 := Scalar.subi arg0 c10_i32_7
  let c2_i32_428 : BitVec 32 := 2#32
  let v1393 : BitVec 32 := Scalar.muli v15 c2_i32_428
  let v1394 : BitVec 32 := Scalar.addi v1393 c0_i32_429
  let v1441 : Index := Scalar.indexCast v1394
  let c4_443 : Index := 4#32
  let c512_444 : Index := 512#32
  ![v1441.toNat, 4, 512]
def k0_off135 (i : grid0.Coords) (c0_i32_429 : BitVec 32) : Fin 3 → Nat :=
  let arg0 : BitVec 32 := BitVec.ofNat 32 (i 0).val
  let c10_i32_7 : BitVec 32 := 10#32
  let v15 : BitVec 32 := Scalar.subi arg0 c10_i32_7
  let c2_i32_428 : BitVec 32 := 2#32
  let v1393 : BitVec 32 := Scalar.muli v15 c2_i32_428
  let v1394 : BitVec 32 := Scalar.addi v1393 c0_i32_429
  let v1449 : Index := Scalar.indexCast v1394
  let c5_445 : Index := 5#32
  let c512_446 : Index := 512#32
  ![v1449.toNat, 5, 512]
def k0_off136 (i : grid0.Coords) (c0_i32_429 : BitVec 32) : Fin 3 → Nat :=
  let arg0 : BitVec 32 := BitVec.ofNat 32 (i 0).val
  let c10_i32_7 : BitVec 32 := 10#32
  let v15 : BitVec 32 := Scalar.subi arg0 c10_i32_7
  let c2_i32_428 : BitVec 32 := 2#32
  let v1393 : BitVec 32 := Scalar.muli v15 c2_i32_428
  let v1394 : BitVec 32 := Scalar.addi v1393 c0_i32_429
  let v1457 : Index := Scalar.indexCast v1394
  let c6_447 : Index := 6#32
  let c512_448 : Index := 512#32
  ![v1457.toNat, 6, 512]
def k0_off137 (i : grid0.Coords) (c0_i32_429 : BitVec 32) : Fin 3 → Nat :=
  let arg0 : BitVec 32 := BitVec.ofNat 32 (i 0).val
  let c10_i32_7 : BitVec 32 := 10#32
  let v15 : BitVec 32 := Scalar.subi arg0 c10_i32_7
  let c2_i32_428 : BitVec 32 := 2#32
  let v1393 : BitVec 32 := Scalar.muli v15 c2_i32_428
  let v1394 : BitVec 32 := Scalar.addi v1393 c0_i32_429
  let v1465 : Index := Scalar.indexCast v1394
  let c7_449 : Index := 7#32
  let c512_450 : Index := 512#32
  ![v1465.toNat, 7, 512]
def k0_off138 (i : grid0.Coords) (c0_i32_483 : BitVec 32) : Fin 3 → Nat :=
  let arg0 : BitVec 32 := BitVec.ofNat 32 (i 0).val
  let c10_i32_7 : BitVec 32 := 10#32
  let v15 : BitVec 32 := Scalar.subi arg0 c10_i32_7
  let c2_i32_482 : BitVec 32 := 2#32
  let v1563 : BitVec 32 := Scalar.muli v15 c2_i32_482
  let v1564 : BitVec 32 := Scalar.addi v1563 c0_i32_483
  let v1581 : Index := Scalar.indexCast v1564
  let c0_490 : Index := 0#32
  let c1152 : Index := 1152#32
  ![v1581.toNat, 0, 1152]
def k0_off139 (i : grid0.Coords) (c0_i32_483 : BitVec 32) : Fin 3 → Nat :=
  let arg0 : BitVec 32 := BitVec.ofNat 32 (i 0).val
  let c10_i32_7 : BitVec 32 := 10#32
  let v15 : BitVec 32 := Scalar.subi arg0 c10_i32_7
  let c2_i32_482 : BitVec 32 := 2#32
  let v1563 : BitVec 32 := Scalar.muli v15 c2_i32_482
  let v1564 : BitVec 32 := Scalar.addi v1563 c0_i32_483
  let v1589 : Index := Scalar.indexCast v1564
  let c1_491 : Index := 1#32
  let c1152_492 : Index := 1152#32
  ![v1589.toNat, 1, 1152]
def k0_off140 (i : grid0.Coords) (c0_i32_483 : BitVec 32) : Fin 3 → Nat :=
  let arg0 : BitVec 32 := BitVec.ofNat 32 (i 0).val
  let c10_i32_7 : BitVec 32 := 10#32
  let v15 : BitVec 32 := Scalar.subi arg0 c10_i32_7
  let c2_i32_482 : BitVec 32 := 2#32
  let v1563 : BitVec 32 := Scalar.muli v15 c2_i32_482
  let v1564 : BitVec 32 := Scalar.addi v1563 c0_i32_483
  let v1597 : Index := Scalar.indexCast v1564
  let c2_493 : Index := 2#32
  let c1152_494 : Index := 1152#32
  ![v1597.toNat, 2, 1152]
def k0_off141 (i : grid0.Coords) (c0_i32_483 : BitVec 32) : Fin 3 → Nat :=
  let arg0 : BitVec 32 := BitVec.ofNat 32 (i 0).val
  let c10_i32_7 : BitVec 32 := 10#32
  let v15 : BitVec 32 := Scalar.subi arg0 c10_i32_7
  let c2_i32_482 : BitVec 32 := 2#32
  let v1563 : BitVec 32 := Scalar.muli v15 c2_i32_482
  let v1564 : BitVec 32 := Scalar.addi v1563 c0_i32_483
  let v1605 : Index := Scalar.indexCast v1564
  let c3_495 : Index := 3#32
  let c1152_496 : Index := 1152#32
  ![v1605.toNat, 3, 1152]
def k0_off142 (i : grid0.Coords) (c0_i32_483 : BitVec 32) : Fin 3 → Nat :=
  let arg0 : BitVec 32 := BitVec.ofNat 32 (i 0).val
  let c10_i32_7 : BitVec 32 := 10#32
  let v15 : BitVec 32 := Scalar.subi arg0 c10_i32_7
  let c2_i32_482 : BitVec 32 := 2#32
  let v1563 : BitVec 32 := Scalar.muli v15 c2_i32_482
  let v1564 : BitVec 32 := Scalar.addi v1563 c0_i32_483
  let v1613 : Index := Scalar.indexCast v1564
  let c4_497 : Index := 4#32
  let c1152_498 : Index := 1152#32
  ![v1613.toNat, 4, 1152]
def k0_off143 (i : grid0.Coords) (c0_i32_483 : BitVec 32) : Fin 3 → Nat :=
  let arg0 : BitVec 32 := BitVec.ofNat 32 (i 0).val
  let c10_i32_7 : BitVec 32 := 10#32
  let v15 : BitVec 32 := Scalar.subi arg0 c10_i32_7
  let c2_i32_482 : BitVec 32 := 2#32
  let v1563 : BitVec 32 := Scalar.muli v15 c2_i32_482
  let v1564 : BitVec 32 := Scalar.addi v1563 c0_i32_483
  let v1621 : Index := Scalar.indexCast v1564
  let c5_499 : Index := 5#32
  let c1152_500 : Index := 1152#32
  ![v1621.toNat, 5, 1152]
def k0_off144 (i : grid0.Coords) (c0_i32_483 : BitVec 32) : Fin 3 → Nat :=
  let arg0 : BitVec 32 := BitVec.ofNat 32 (i 0).val
  let c10_i32_7 : BitVec 32 := 10#32
  let v15 : BitVec 32 := Scalar.subi arg0 c10_i32_7
  let c2_i32_482 : BitVec 32 := 2#32
  let v1563 : BitVec 32 := Scalar.muli v15 c2_i32_482
  let v1564 : BitVec 32 := Scalar.addi v1563 c0_i32_483
  let v1629 : Index := Scalar.indexCast v1564
  let c6_501 : Index := 6#32
  let c1152_502 : Index := 1152#32
  ![v1629.toNat, 6, 1152]
def k0_off145 (i : grid0.Coords) (c0_i32_483 : BitVec 32) : Fin 3 → Nat :=
  let arg0 : BitVec 32 := BitVec.ofNat 32 (i 0).val
  let c10_i32_7 : BitVec 32 := 10#32
  let v15 : BitVec 32 := Scalar.subi arg0 c10_i32_7
  let c2_i32_482 : BitVec 32 := 2#32
  let v1563 : BitVec 32 := Scalar.muli v15 c2_i32_482
  let v1564 : BitVec 32 := Scalar.addi v1563 c0_i32_483
  let v1637 : Index := Scalar.indexCast v1564
  let c7_503 : Index := 7#32
  let c1152_504 : Index := 1152#32
  ![v1637.toNat, 7, 1152]
def k0_off146 (i : grid0.Coords) : Fin 3 → Nat :=
  let arg0 : BitVec 32 := BitVec.ofNat 32 (i 0).val
  let c10_i32_7 : BitVec 32 := 10#32
  let v15 : BitVec 32 := Scalar.subi arg0 c10_i32_7
  let v1737 : Index := Scalar.indexCast v15
  let c0_537 : Index := 0#32
  let c0_538 : Index := 0#32
  ![v1737.toNat, 0, 0]
def k0_off147 (i : grid0.Coords) : Fin 3 → Nat :=
  let arg0 : BitVec 32 := BitVec.ofNat 32 (i 0).val
  let c10_i32_7 : BitVec 32 := 10#32
  let v15 : BitVec 32 := Scalar.subi arg0 c10_i32_7
  let v1746 : Index := Scalar.indexCast v15
  let c0_541 : Index := 0#32
  let c128_542 : Index := 128#32
  ![v1746.toNat, 0, 128]
def k0_off148 (i : grid0.Coords) : Fin 3 → Nat :=
  let arg0 : BitVec 32 := BitVec.ofNat 32 (i 0).val
  let c10_i32_7 : BitVec 32 := 10#32
  let v15 : BitVec 32 := Scalar.subi arg0 c10_i32_7
  let v1755 : Index := Scalar.indexCast v15
  let c0_545 : Index := 0#32
  let c256_546 : Index := 256#32
  ![v1755.toNat, 0, 256]
def k0_off149 (i : grid0.Coords) : Fin 3 → Nat :=
  let arg0 : BitVec 32 := BitVec.ofNat 32 (i 0).val
  let c10_i32_7 : BitVec 32 := 10#32
  let v15 : BitVec 32 := Scalar.subi arg0 c10_i32_7
  let v1764 : Index := Scalar.indexCast v15
  let c0_549 : Index := 0#32
  let c384_550 : Index := 384#32
  ![v1764.toNat, 0, 384]
def k0_off150 (i : grid0.Coords) : Fin 3 → Nat :=
  let arg0 : BitVec 32 := BitVec.ofNat 32 (i 0).val
  let c10_i32_7 : BitVec 32 := 10#32
  let v15 : BitVec 32 := Scalar.subi arg0 c10_i32_7
  let v1869 : Index := Scalar.indexCast v15
  let c256_628 : Index := 256#32
  let c0_629 : Index := 0#32
  ![v1869.toNat, 256, 0]
def k0_off151 (i : grid0.Coords) : Fin 3 → Nat :=
  let arg0 : BitVec 32 := BitVec.ofNat 32 (i 0).val
  let c10_i32_7 : BitVec 32 := 10#32
  let v15 : BitVec 32 := Scalar.subi arg0 c10_i32_7
  let v1878 : Index := Scalar.indexCast v15
  let c256_632 : Index := 256#32
  let c128_633 : Index := 128#32
  ![v1878.toNat, 256, 128]
def k0_off152 (i : grid0.Coords) : Fin 3 → Nat :=
  let arg0 : BitVec 32 := BitVec.ofNat 32 (i 0).val
  let c10_i32_7 : BitVec 32 := 10#32
  let v15 : BitVec 32 := Scalar.subi arg0 c10_i32_7
  let v1887 : Index := Scalar.indexCast v15
  let c256_636 : Index := 256#32
  let c256_637 : Index := 256#32
  ![v1887.toNat, 256, 256]
def k0_off153 (i : grid0.Coords) : Fin 3 → Nat :=
  let arg0 : BitVec 32 := BitVec.ofNat 32 (i 0).val
  let c10_i32_7 : BitVec 32 := 10#32
  let v15 : BitVec 32 := Scalar.subi arg0 c10_i32_7
  let v1896 : Index := Scalar.indexCast v15
  let c256_640 : Index := 256#32
  let c384_641 : Index := 384#32
  ![v1896.toNat, 256, 384]
def k0_off154 (i : grid0.Coords) : Fin 3 → Nat :=
  let arg0 : BitVec 32 := BitVec.ofNat 32 (i 0).val
  let c10_i32_7 : BitVec 32 := 10#32
  let v15 : BitVec 32 := Scalar.subi arg0 c10_i32_7
  let v2001 : Index := Scalar.indexCast v15
  let c512_721 : Index := 512#32
  let c0_722 : Index := 0#32
  ![v2001.toNat, 512, 0]
def k0_off155 (i : grid0.Coords) : Fin 3 → Nat :=
  let arg0 : BitVec 32 := BitVec.ofNat 32 (i 0).val
  let c10_i32_7 : BitVec 32 := 10#32
  let v15 : BitVec 32 := Scalar.subi arg0 c10_i32_7
  let v2010 : Index := Scalar.indexCast v15
  let c512_725 : Index := 512#32
  let c128_726 : Index := 128#32
  ![v2010.toNat, 512, 128]
def k0_off156 (i : grid0.Coords) : Fin 3 → Nat :=
  let arg0 : BitVec 32 := BitVec.ofNat 32 (i 0).val
  let c10_i32_7 : BitVec 32 := 10#32
  let v15 : BitVec 32 := Scalar.subi arg0 c10_i32_7
  let v2019 : Index := Scalar.indexCast v15
  let c512_729 : Index := 512#32
  let c256_730 : Index := 256#32
  ![v2019.toNat, 512, 256]
def k0_off157 (i : grid0.Coords) : Fin 3 → Nat :=
  let arg0 : BitVec 32 := BitVec.ofNat 32 (i 0).val
  let c10_i32_7 : BitVec 32 := 10#32
  let v15 : BitVec 32 := Scalar.subi arg0 c10_i32_7
  let v2028 : Index := Scalar.indexCast v15
  let c512_733 : Index := 512#32
  let c384_734 : Index := 384#32
  ![v2028.toNat, 512, 384]
def k0_off158 (i : grid0.Coords) : Fin 3 → Nat :=
  let arg0 : BitVec 32 := BitVec.ofNat 32 (i 0).val
  let c10_i32_7 : BitVec 32 := 10#32
  let v15 : BitVec 32 := Scalar.subi arg0 c10_i32_7
  let v2133 : Index := Scalar.indexCast v15
  let c768_814 : Index := 768#32
  let c0_815 : Index := 0#32
  ![v2133.toNat, 768, 0]
def k0_off159 (i : grid0.Coords) : Fin 3 → Nat :=
  let arg0 : BitVec 32 := BitVec.ofNat 32 (i 0).val
  let c10_i32_7 : BitVec 32 := 10#32
  let v15 : BitVec 32 := Scalar.subi arg0 c10_i32_7
  let v2142 : Index := Scalar.indexCast v15
  let c768_818 : Index := 768#32
  let c128_819 : Index := 128#32
  ![v2142.toNat, 768, 128]
def k0_off160 (i : grid0.Coords) : Fin 3 → Nat :=
  let arg0 : BitVec 32 := BitVec.ofNat 32 (i 0).val
  let c10_i32_7 : BitVec 32 := 10#32
  let v15 : BitVec 32 := Scalar.subi arg0 c10_i32_7
  let v2151 : Index := Scalar.indexCast v15
  let c768_822 : Index := 768#32
  let c256_823 : Index := 256#32
  ![v2151.toNat, 768, 256]
def k0_off161 (i : grid0.Coords) : Fin 3 → Nat :=
  let arg0 : BitVec 32 := BitVec.ofNat 32 (i 0).val
  let c10_i32_7 : BitVec 32 := 10#32
  let v15 : BitVec 32 := Scalar.subi arg0 c10_i32_7
  let v2160 : Index := Scalar.indexCast v15
  let c768_826 : Index := 768#32
  let c384_827 : Index := 384#32
  ![v2160.toNat, 768, 384]
def k0_off162 (i : grid0.Coords) : Fin 3 → Nat :=
  let arg0 : BitVec 32 := BitVec.ofNat 32 (i 0).val
  let c10_i32_7 : BitVec 32 := 10#32
  let v15 : BitVec 32 := Scalar.subi arg0 c10_i32_7
  let v2265 : Index := Scalar.indexCast v15
  let c1024_907 : Index := 1024#32
  let c0_908 : Index := 0#32
  ![v2265.toNat, 1024, 0]
def k0_off163 (i : grid0.Coords) : Fin 3 → Nat :=
  let arg0 : BitVec 32 := BitVec.ofNat 32 (i 0).val
  let c10_i32_7 : BitVec 32 := 10#32
  let v15 : BitVec 32 := Scalar.subi arg0 c10_i32_7
  let v2274 : Index := Scalar.indexCast v15
  let c1024_911 : Index := 1024#32
  let c128_912 : Index := 128#32
  ![v2274.toNat, 1024, 128]
def k0_off164 (i : grid0.Coords) : Fin 3 → Nat :=
  let arg0 : BitVec 32 := BitVec.ofNat 32 (i 0).val
  let c10_i32_7 : BitVec 32 := 10#32
  let v15 : BitVec 32 := Scalar.subi arg0 c10_i32_7
  let v2283 : Index := Scalar.indexCast v15
  let c1024_915 : Index := 1024#32
  let c256_916 : Index := 256#32
  ![v2283.toNat, 1024, 256]
def k0_off165 (i : grid0.Coords) : Fin 3 → Nat :=
  let arg0 : BitVec 32 := BitVec.ofNat 32 (i 0).val
  let c10_i32_7 : BitVec 32 := 10#32
  let v15 : BitVec 32 := Scalar.subi arg0 c10_i32_7
  let v2292 : Index := Scalar.indexCast v15
  let c1024_919 : Index := 1024#32
  let c384_920 : Index := 384#32
  ![v2292.toNat, 1024, 384]
def k0_off166 (i : grid0.Coords) : Fin 3 → Nat :=
  let arg0 : BitVec 32 := BitVec.ofNat 32 (i 0).val
  let c10_i32_7 : BitVec 32 := 10#32
  let v15 : BitVec 32 := Scalar.subi arg0 c10_i32_7
  let v2397 : Index := Scalar.indexCast v15
  let c1280_999 : Index := 1280#32
  let c0_1000 : Index := 0#32
  ![v2397.toNat, 1280, 0]
def k0_off167 (i : grid0.Coords) : Fin 3 → Nat :=
  let arg0 : BitVec 32 := BitVec.ofNat 32 (i 0).val
  let c10_i32_7 : BitVec 32 := 10#32
  let v15 : BitVec 32 := Scalar.subi arg0 c10_i32_7
  let v2406 : Index := Scalar.indexCast v15
  let c1280_1003 : Index := 1280#32
  let c128_1004 : Index := 128#32
  ![v2406.toNat, 1280, 128]
def k0_off168 (i : grid0.Coords) : Fin 3 → Nat :=
  let arg0 : BitVec 32 := BitVec.ofNat 32 (i 0).val
  let c10_i32_7 : BitVec 32 := 10#32
  let v15 : BitVec 32 := Scalar.subi arg0 c10_i32_7
  let v2415 : Index := Scalar.indexCast v15
  let c1280_1007 : Index := 1280#32
  let c256_1008 : Index := 256#32
  ![v2415.toNat, 1280, 256]
def k0_off169 (i : grid0.Coords) : Fin 3 → Nat :=
  let arg0 : BitVec 32 := BitVec.ofNat 32 (i 0).val
  let c10_i32_7 : BitVec 32 := 10#32
  let v15 : BitVec 32 := Scalar.subi arg0 c10_i32_7
  let v2424 : Index := Scalar.indexCast v15
  let c1280_1011 : Index := 1280#32
  let c384_1012 : Index := 384#32
  ![v2424.toNat, 1280, 384]
def k0_cond3 (i : grid0.Coords) : BitVec 1 :=
  let arg0 : BitVec 32 := BitVec.ofNat 32 (i 0).val
  let c10_i32_2 : BitVec 32 := 10#32
  let v6 : BitVec 1 := Scalar.cmpi .eq arg0 c10_i32_2
  let v7 : BitVec 32 := Scalar.extui v6
  let c0_i32_3 : BitVec 32 := 0#32
  let v8 : BitVec 1 := Scalar.cmpi .ne v7 c0_i32_3
  v8

def k0_cond5 (i : grid0.Coords) : BitVec 1 :=
  let arg0 : BitVec 32 := BitVec.ofNat 32 (i 0).val
  let c19_i32 : BitVec 32 := 19#32
  let v12 : BitVec 1 := Scalar.cmpi .eq arg0 c19_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c10_i32 : BitVec 32 := 10#32
  let v0 : BitVec 1 := Scalar.cmpi .slt arg0 c10_i32
  let c5_i32 : BitVec 32 := 5#32
  let v1 : BitVec 1 := Scalar.cmpi .slt arg0 c5_i32
  let c5_i32_0 : BitVec 32 := 5#32
  let v2 : BitVec 32 := Scalar.subi arg0 c5_i32_0
  let v3 : BitVec 32 := Scalar.select v1 arg0 v2
  let c4_i32 : BitVec 32 := 4#32
  let v4 : BitVec 32 := Scalar.select v0 v3 c4_i32
  let c0_i32 : BitVec 32 := 0#32
  let c0_i32_1 : BitVec 32 := 0#32
  ![c0_i32.toNat, v4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1536x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S40x5120 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x640 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S160x1280 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1536x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1536x1280 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S10x1536x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "inv_f8_max" => some ((1 / 448 : ℝ) : EReal)
  | _ => none
-- ==== ReferenceIdeal.lean ====
abbrev S1536x1280 : Shape := ⟨2, ![1536, 1280]⟩
abbrev S1536 : Shape := ⟨1, ![1536]⟩
abbrev S1280x2560 : Shape := ⟨2, ![1280, 2560]⟩
abbrev S40x5120 : Shape := ⟨2, ![40, 5120]⟩
abbrev S5120 : Shape := ⟨1, ![5120]⟩
abbrev S5120x640 : Shape := ⟨2, ![5120, 640]⟩
abbrev S160x1280 : Shape := ⟨2, ![160, 1280]⟩
abbrev S1280 : Shape := ⟨1, ![1280]⟩
abbrev S1536x1 : Shape := ⟨2, ![1536, 1]⟩
abbrev S1x5120 : Shape := ⟨2, ![1, 5120]⟩
abbrev S1x1280 : Shape := ⟨2, ![1, 1280]⟩
abbrev S1536x5120 : Shape := ⟨2, ![1536, 5120]⟩
abbrev S1x1536 : Shape := ⟨2, ![1, 1536]⟩
abbrev S10x1536x128 : Shape := ⟨3, ![10, 1536, 128]⟩
abbrev S40x32x2560 : Shape := ⟨3, ![40, 32, 2560]⟩
abbrev S40x2560 : Shape := ⟨2, ![40, 2560]⟩
abbrev S40x1x2560 : Shape := ⟨3, ![40, 1, 2560]⟩
abbrev S1536x2560 : Shape := ⟨2, ![1536, 2560]⟩
abbrev S160x32x640 : Shape := ⟨3, ![160, 32, 640]⟩
abbrev S160x640 : Shape := ⟨2, ![160, 640]⟩
abbrev S160x1x640 : Shape := ⟨3, ![160, 1, 640]⟩
abbrev S1536x640 : Shape := ⟨2, ![1536, 640]⟩
abbrev S1536x10x128 : Shape := ⟨3, ![1536, 10, 128]⟩

abbrev nBuf : Space → Nat
  | .hbm => 16
  | .vmem => 13
  | .smem => 0
  | _ => 0

abbrev bufTy : (tb : Table) → Fin (tcTables nBuf tb) → BufTy
  | .hbm, ⟨0, _⟩ => ⟨S1536x1280, .bf16⟩
  | .hbm, ⟨1, _⟩ => ⟨S1536, .f32⟩
  | .hbm, ⟨2, _⟩ => ⟨S1536x1280, .f32⟩
  | .hbm, ⟨3, _⟩ => ⟨S1280x2560, .i8⟩
  | .hbm, ⟨4, _⟩ => ⟨S40x5120, .i8⟩
  | .hbm, ⟨5, _⟩ => ⟨S5120, .f32⟩
  | .hbm, ⟨6, _⟩ => ⟨S5120x640, .i8⟩
  | .hbm, ⟨7, _⟩ => ⟨S160x1280, .i8⟩
  | .hbm, ⟨8, _⟩ => ⟨S1280, .f32⟩
  | .hbm, ⟨9, _⟩ => ⟨S1536x1, .f32⟩
  | .hbm, ⟨10, _⟩ => ⟨S1x5120, .f32⟩
  | .hbm, ⟨11, _⟩ => ⟨S1x1280, .f32⟩
  | .hbm, ⟨12, _⟩ => ⟨S1536x5120, .fp8e4m3⟩
  | .hbm, ⟨13, _⟩ => ⟨S1x1536, .f32⟩
  | .hbm, ⟨14, _⟩ => ⟨S1536x1280, .bf16⟩
  | .hbm, ⟨15, _⟩ => ⟨S10x1536x128, .f32⟩
  | .local _ .vmem, ⟨0, _⟩ => ⟨S1536x1280, .bf16⟩
  | .local _ .vmem, ⟨1, _⟩ => ⟨S1536x1, .f32⟩
  | .local _ .vmem, ⟨2, _⟩ => ⟨S1536x1280, .f32⟩
  | .local _ .vmem, ⟨3, _⟩ => ⟨S1280x2560, .i8⟩
  | .local _ .vmem, ⟨4, _⟩ => ⟨S40x5120, .i8⟩
  | .local _ .vmem, ⟨5, _⟩ => ⟨S1x5120, .f32⟩
  | .local _ .vmem, ⟨6, _⟩ => ⟨S5120x640, .i8⟩
  | .local _ .vmem, ⟨7, _⟩ => ⟨S160x1280, .i8⟩
  | .local _ .vmem, ⟨8, _⟩ => ⟨S1x1280, .f32⟩
  | .local _ .vmem, ⟨9, _⟩ => ⟨S1536x5120, .fp8e4m3⟩
  | .local _ .vmem, ⟨10, _⟩ => ⟨S1x1536, .f32⟩
  | .local _ .vmem, ⟨11, _⟩ => ⟨S1536x1280, .bf16⟩
  | .local _ .vmem, ⟨12, _⟩ => ⟨S10x1536x128, .f32⟩
  | _, _ => ⟨S1536x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1536x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x2560 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x5120 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x640 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S160x1280 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x1280 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S10x1536x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Oproj.lean ====
abbrev S10x1536x128 : Shape := ⟨3, ![10, 1536, 128]⟩
abbrev S1536x1280 : Shape := ⟨2, ![1536, 1280]⟩
abbrev S1280x640 : Shape := ⟨2, ![1280, 640]⟩
abbrev S40x1280 : Shape := ⟨2, ![40, 1280]⟩
abbrev S1280 : Shape := ⟨1, ![1280]⟩
abbrev S1x1280 : Shape := ⟨2, ![1, 1280]⟩
abbrev S1x1536 : Shape := ⟨2, ![1, 1536]⟩
abbrev S1536x128 : Shape := ⟨2, ![1536, 128]⟩
abbrev S10x256x128 : Shape := ⟨3, ![10, 256, 128]⟩
abbrev S256x1280 : Shape := ⟨2, ![256, 1280]⟩
abbrev S1x256 : Shape := ⟨2, ![1, 256]⟩
abbrev S256x128 : Shape := ⟨2, ![256, 128]⟩
abbrev S5x8x1280 : Shape := ⟨3, ![5, 8, 1280]⟩
abbrev S1280x1280 : Shape := ⟨2, ![1280, 1280]⟩
abbrev S8x1280 : Shape := ⟨2, ![8, 1280]⟩
abbrev S1x8x1280 : Shape := ⟨3, ![1, 8, 1280]⟩
abbrev S64x128 : Shape := ⟨2, ![64, 128]⟩
abbrev S1x1x128 : Shape := ⟨3, ![1, 1, 128]⟩
abbrev S1x128 : Shape := ⟨2, ![1, 128]⟩
abbrev S32x128 : Shape := ⟨2, ![32, 128]⟩
abbrev S1x256x128 : Shape := ⟨3, ![1, 256, 128]⟩
abbrev S256 : Shape := ⟨1, ![256]⟩
abbrev S256x1 : Shape := ⟨2, ![256, 1]⟩
abbrev S128x1 : Shape := ⟨2, ![128, 1]⟩
abbrev S128x128 : Shape := ⟨2, ![128, 128]⟩
abbrev S128 : Shape := ⟨1, ![128]⟩

abbrev nBuf : Space → Nat
  | .hbm => 17
  | .vmem => 25
  | .smem => 0
  | _ => 0

abbrev bufTy : (tb : Table) → Fin (tcTables nBuf tb) → BufTy
  | .hbm, ⟨0, _⟩ => ⟨S10x1536x128, .f32⟩
  | .hbm, ⟨1, _⟩ => ⟨S1536x1280, .bf16⟩
  | .hbm, ⟨2, _⟩ => ⟨S1280x640, .i8⟩
  | .hbm, ⟨3, _⟩ => ⟨S40x1280, .i8⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1x1280, .f32⟩
  | .hbm, ⟨8, _⟩ => ⟨S1x1280, .f32⟩
  | .hbm, ⟨9, _⟩ => ⟨S1x1280, .f32⟩
  | .hbm, ⟨10, _⟩ => ⟨S1536x1280, .fp8e4m3⟩
  | .hbm, ⟨11, _⟩ => ⟨S1x1536, .f32⟩
  | .hbm, ⟨12, _⟩ => ⟨S1536x1280, .f32⟩
  | .hbm, ⟨13, _⟩ => ⟨S1536x1280, .fp8e4m3⟩
  | .hbm, ⟨14, _⟩ => ⟨S1x1536, .f32⟩
  | .hbm, ⟨15, _⟩ => ⟨S1536x1280, .bf16⟩
  | .hbm, ⟨16, _⟩ => ⟨S1536x128, .f32⟩
  | .local _ .vmem, ⟨0, _⟩ => ⟨S10x256x128, .f32⟩
  | .local _ .vmem, ⟨1, _⟩ => ⟨S10x256x128, .f32⟩
  | .local _ .vmem, ⟨2, _⟩ => ⟨S256x1280, .bf16⟩
  | .local _ .vmem, ⟨3, _⟩ => ⟨S256x1280, .bf16⟩
  | .local _ .vmem, ⟨4, _⟩ => ⟨S1280x640, .i8⟩
  | .local _ .vmem, ⟨5, _⟩ => ⟨S40x1280, .i8⟩
  | .local _ .vmem, ⟨6, _⟩ => ⟨S1x1280, .f32⟩
  | .local _ .vmem, ⟨7, _⟩ => ⟨S1x1280, .f32⟩
  | .local _ .vmem, ⟨8, _⟩ => ⟨S1x1280, .f32⟩
  | .local _ .vmem, ⟨9, _⟩ => ⟨S256x1280, .fp8e4m3⟩
  | .local _ .vmem, ⟨10, _⟩ => ⟨S256x1280, .fp8e4m3⟩
  | .local _ .vmem, ⟨11, _⟩ => ⟨S1x256, .f32⟩
  | .local _ .vmem, ⟨12, _⟩ => ⟨S1x256, .f32⟩
  | .local _ .vmem, ⟨13, _⟩ => ⟨S256x1280, .f32⟩
  | .local _ .vmem, ⟨14, _⟩ => ⟨S256x1280, .f32⟩
  | .local _ .vmem, ⟨15, _⟩ => ⟨S256x1280, .fp8e4m3⟩
  | .local _ .vmem, ⟨16, _⟩ => ⟨S256x1280, .fp8e4m3⟩
  | .local _ .vmem, ⟨17, _⟩ => ⟨S1x256, .f32⟩
  | .local _ .vmem, ⟨18, _⟩ => ⟨S1x256, .f32⟩
  | .local _ .vmem, ⟨19, _⟩ => ⟨S256x1280, .bf16⟩
  | .local _ .vmem, ⟨20, _⟩ => ⟨S256x1280, .bf16⟩
  | .local _ .vmem, ⟨21, _⟩ => ⟨S256x128, .f32⟩
  | .local _ .vmem, ⟨22, _⟩ => ⟨S256x128, .f32⟩
  | .local _ .vmem, ⟨23, _⟩ => ⟨S5x8x1280, .f32⟩
  | .local _ .vmem, ⟨24, _⟩ => ⟨S1280x1280, .bf16⟩
  | _, _ => ⟨S10x1536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x640 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x1280 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1280 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1280 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1280 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OprojIdeal.lean ====
variable {F : FTy → Type} [FloatOps F] [Named F]
def κ : String → Option EReal := fun
  | "inv_f8_max" => some ((1 / 448 : ℝ) : EReal)
  | _ => none
-- ==== OprojReferenceIdeal.lean ====
abbrev S10x1536x128 : Shape := ⟨3, ![10, 1536, 128]⟩
abbrev S1536x1280 : Shape := ⟨2, ![1536, 1280]⟩
abbrev S1280x640 : Shape := ⟨2, ![1280, 640]⟩
abbrev S40x1280 : Shape := ⟨2, ![40, 1280]⟩
abbrev S1280 : Shape := ⟨1, ![1280]⟩
abbrev S1x1280 : Shape := ⟨2, ![1, 1280]⟩
abbrev S1x1536 : Shape := ⟨2, ![1, 1536]⟩
abbrev S1536x128 : Shape := ⟨2, ![1536, 128]⟩
abbrev S1536x10x128 : Shape := ⟨3, ![1536, 10, 128]⟩
abbrev S1536 : Shape := ⟨1, ![1536]⟩
abbrev S1536x1 : Shape := ⟨2, ![1536, 1]⟩
abbrev S40x32x640 : Shape := ⟨3, ![40, 32, 640]⟩
abbrev S40x640 : Shape := ⟨2, ![40, 640]⟩
abbrev S40x1x640 : Shape := ⟨3, ![40, 1, 640]⟩
abbrev S1536x640 : Shape := ⟨2, ![1536, 640]⟩

abbrev nBuf : Space → Nat
  | .hbm => 17
  | .vmem => 14
  | .smem => 0
  | _ => 0

abbrev bufTy : (tb : Table) → Fin (tcTables nBuf tb) → BufTy
  | .hbm, ⟨0, _⟩ => ⟨S10x1536x128, .f32⟩
  | .hbm, ⟨1, _⟩ => ⟨S1536x1280, .bf16⟩
  | .hbm, ⟨2, _⟩ => ⟨S1280x640, .i8⟩
  | .hbm, ⟨3, _⟩ => ⟨S40x1280, .i8⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1x1280, .f32⟩
  | .hbm, ⟨8, _⟩ => ⟨S1x1280, .f32⟩
  | .hbm, ⟨9, _⟩ => ⟨S1x1280, .f32⟩
  | .hbm, ⟨10, _⟩ => ⟨S1536x1280, .fp8e4m3⟩
  | .hbm, ⟨11, _⟩ => ⟨S1x1536, .f32⟩
  | .hbm, ⟨12, _⟩ => ⟨S1536x1280, .f32⟩
  | .hbm, ⟨13, _⟩ => ⟨S1536x1280, .fp8e4m3⟩
  | .hbm, ⟨14, _⟩ => ⟨S1x1536, .f32⟩
  | .hbm, ⟨15, _⟩ => ⟨S1536x1280, .bf16⟩
  | .hbm, ⟨16, _⟩ => ⟨S1536x128, .f32⟩
  | .local _ .vmem, ⟨0, _⟩ => ⟨S10x1536x128, .f32⟩
  | .local _ .vmem, ⟨1, _⟩ => ⟨S1536x1280, .bf16⟩
  | .local _ .vmem, ⟨2, _⟩ => ⟨S1280x640, .i8⟩
  | .local _ .vmem, ⟨3, _⟩ => ⟨S40x1280, .i8⟩
  | .local _ .vmem, ⟨4, _⟩ => ⟨S1x1280, .f32⟩
  | .local _ .vmem, ⟨5, _⟩ => ⟨S1x1280, .f32⟩
  | .local _ .vmem, ⟨6, _⟩ => ⟨S1x1280, .f32⟩
  | .local _ .vmem, ⟨7, _⟩ => ⟨S1536x1280, .fp8e4m3⟩
  | .local _ .vmem, ⟨8, _⟩ => ⟨S1x1536, .f32⟩
  | .local _ .vmem, ⟨9, _⟩ => ⟨S1536x1280, .f32⟩
  | .local _ .vmem, ⟨10, _⟩ => ⟨S1536x1280, .fp8e4m3⟩
  | .local _ .vmem, ⟨11, _⟩ => ⟨S1x1536, .f32⟩
  | .local _ .vmem, ⟨12, _⟩ => ⟨S1536x1280, .bf16⟩
  | .local _ .vmem, ⟨13, _⟩ => ⟨S1536x128, .f32⟩
  | _, _ => ⟨S10x1536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S10x1536x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x640 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x1280 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x1280 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x1280 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x1280 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Mlp.Blocks.lean ====
/- The body of the MLP kernel cut into its five conditional blocks, and the memrefs and conditions of a grid point. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, e0]
    word_cmp
   : ∀ t : Fin grid0.N, cond0_0 (grid0.coords t) ↔ t.val % 20 = 0)

/-- The condition of the body's `scf.if` 1 (`k0_h2`), from the grid coordinates (the skeleton's scalar
    chain substituted). -/
abbrev cond0_1 (i : grid0.Coords) : Prop := k0_cond2 i = 1#1
/-- It holds at the points before point 10 — decided over the grid. -/
theorem hcond0_1 : ∀ t : Fin cfg0.N, cond0_1 (grid0.coords t) ↔ t.val < 10 :=
  (by decide +kernel : ∀ t : Fin grid0.N, cond0_1 (grid0.coords t) ↔ t.val < 10)

/-- The condition of the body's `scf.if` 2 (`k0_h3`), from the grid coordinates (the skeleton's scalar
    chain substituted). -/
abbrev cond0_2 (i : grid0.Coords) : Prop := k0_cond3 i = 1#1
/-- It holds at point 10 only — by arithmetic of the point. -/
theorem hcond0_2 : ∀ t : Fin cfg0.N, cond0_2 (grid0.coords t) ↔ t.val % 20 = 10 :=
  (fun t => by
    have ht : t.val < 20 := Nat.lt_of_lt_of_eq t.isLt N_0
    have e0 : (grid0.coords t 0).val = t.val / 1 % 20 := Pipeline.Grid.coords_val t 0 (by decide) rfl
    simp only [cond0_2, k0_cond3, e0]
    word_cmp
   : ∀ t : Fin grid0.N, cond0_2 (grid0.coords t) ↔ t.val % 20 = 10)

/-- The condition of the body's `scf.if` 3 (`k0_h4`), from the grid coordinates (the skeleton's scalar
    chain substituted). -/
abbrev cond0_3 (i : grid0.Coords) : Prop := k0_cond4 i = 1#1
/-- It holds at the points from point 10 on — decided over the grid. -/
theorem hcond0_3 : ∀ t : Fin cfg0.N, cond0_3 (grid0.coords t) ↔ 10 ≤ t.val :=
  (by decide +kernel : ∀ t : Fin grid0.N, cond0_3 (grid0.coords t) ↔ 10 ≤ t.val)

/-- The condition of the body's `scf.if` 4 (`k0_h5`), from the grid coordinates (the skeleton's scalar
    chain substituted). -/
abbrev cond0_4 (i : grid0.Coords) : Prop := k0_cond5 i = 1#1
/-- It holds at the last point only — by arithmetic of the point. -/
theorem hcond0_4 : ∀ t : Fin cfg0.N, cond0_4 (grid0.coords t) ↔ t.val % 20 = 19 :=
  (fun t => by
    have ht : t.val < 20 := Nat.lt_of_lt_of_eq t.isLt N_0
    have e0 : (grid0.coords t 0).val = t.val / 1 % 20 := Pipeline.Grid.coords_val t 0 (by decide) rfl
    simp only [cond0_4, k0_cond5, e0]
    word_cmp
   : ∀ t : Fin grid0.N, cond0_4 (grid0.coords t) ↔ t.val % 20 = 19)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S40x5120 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5120 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x640 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S160x1280 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1280 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1536x512 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1536 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1536x1280 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S10x1536x128 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S5x8x5120 .f32 := Memref.whole cc0_scratch0
abbrev scM0_1 : Memref sig .tc .vmem S20x8x1280 .f32 := Memref.whole cc0_scratch1
abbrev scM0_2 : Memref sig .tc .vmem S1280x512 .bf16 := Memref.whole cc0_scratch2
abbrev scM0_3 : Memref sig .tc .vmem S512x1280 .bf16 := Memref.whole cc0_scratch3
abbrev scM0_4 : Memref sig .tc .vmem S10x1536x512 .f32 := Memref.whole cc0_scratch4
abbrev scM0_5 : Memref sig .tc .vmem S1536x128 .f32 := Memref.whole cc0_scratch5
abbrev scM0_6 : Memref sig .tc .vmem S1536x128 .f32 := Memref.whole cc0_scratch6
/-- The scratch `arg14` the kernel carries between points, as a view: what it holds is stated through it. -/
abbrev VS0_0 : View sig .tc .vmem S5x8x5120 .f32 := scM0_0.view
/-- The scratch `arg15` the kernel carries between points, as a view: what it holds is stated through it. -/
abbrev VS0_1 : View sig .tc .vmem S20x8x1280 .f32 := scM0_1.view
/-- The scratch `arg19` the kernel carries between points, as a view: what it holds is stated through it. -/
abbrev VS0_5 : View sig .tc .vmem S1536x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- At the first point: the two tables of block scales are filled and the running maxima set to zero. -/
def initBlock (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)  :
    Prog (TpuEff nD τ sig (Elt F) Λ₀ .tc) PUnit := do
  let ⟨v44, v45⟩ : Σ' (v44 : FVec F S160x1280 .f32), FVec F S8x1280 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v44 v45
  let v105 : FVec F S8x1280 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v44
  let v106 : Vec F S1x8x1280 .f32 ← Prog.lift (.load arg15 (Rect.unit (s := S20x8x1280) ![15, 0, 0] S1x8x1280.size inb_S20x8x1280_S1x8x1280_15_0_0).toLoadRect (View.loadsAt_vmem h_S1x8x1280))
  Prog.lift (.store arg15 (Rect.unit (s := S20x8x1280) ![15, 0, 0] S1x8x1280.size inb_S20x8x1280_S1x8x1280_15_0_0) (k0_pay1 v105) Finset.univ (View.stores_vmem_bits_univ h_S1x8x1280 rfl) (.inl rfl))
  let v110 : Vec F S1x8x1280 .f32 ← Prog.lift (.load arg15 (Rect.unit (s := S20x8x1280) ![16, 0, 0] S1x8x1280.size inb_S20x8x1280_S1x8x1280_16_0_0).toLoadRect (View.loadsAt_vmem h_S1x8x1280))
  Prog.lift (.store arg15 (Rect.unit (s := S20x8x1280) ![16, 0, 0] S1x8x1280.size inb_S20x8x1280_S1x8x1280_16_0_0) (k0_pay2 v44) Finset.univ (View.stores_vmem_bits_univ h_S1x8x1280 rfl) (.inl rfl))
  let v114 : Vec F S1x8x1280 .f32 ← Prog.lift (.load arg15 (Rect.unit (s := S20x8x1280) ![17, 0, 0] S1x8x1280.size inb_S20x8x1280_S1x8x1280_17_0_0).toLoadRect (View.loadsAt_vmem h_S1x8x1280))
  Prog.lift (.store arg15 (Rect.unit (s := S20x8x1280) ![17, 0, 0] S1x8x1280.size inb_S20x8x1280_S1x8x1280_17_0_0) (k0_pay3 v44) Finset.univ (View.stores_vmem_bits_univ h_S1x8x1280 rfl) (.inl rfl))
  let v118 : Vec F S1x8x1280 .f32 ← Prog.lift (.load arg15 (Rect.unit (s := S20x8x1280) ![18, 0, 0] S1x8x1280.size inb_S20x8x1280_S1x8x1280_18_0_0).toLoadRect (View.loadsAt_vmem h_S1x8x1280))
  Prog.lift (.store arg15 (Rect.unit (s := S20x8x1280) ![18, 0, 0] S1x8x1280.size inb_S20x8x1280_S1x8x1280_18_0_0) (k0_pay4 v44) Finset.univ (View.stores_vmem_bits_univ h_S1x8x1280 rfl) (.inl rfl))
  let v122 : Vec F S1x8x1280 .f32 ← Prog.lift (.load arg15 (Rect.unit (s := S20x8x1280) ![19, 0, 0] S1x8x1280.size inb_S20x8x1280_S1x8x1280_19_0_0).toLoadRect (View.loadsAt_vmem h_S1x8x1280))
  Prog.lift (.store arg15 (Rect.unit (s := S20x8x1280) ![19, 0, 0] S1x8x1280.size inb_S20x8x1280_S1x8x1280_19_0_0) (k0_pay5 v44) Finset.univ (View.stores_vmem_bits_univ h_S1x8x1280 rfl) (.inl rfl))
  let v126 : Vec F S1536x128 .f32 ← Prog.lift (.load arg19 (Rect.unit (s := S1536x128) ![0, 0] S1536x128.size inb_S1536x128_S1536x128_0_0).toLoadRect (View.loadsAt_vmem h_S1536x128))
  Prog.lift (.store arg19 (Rect.unit (s := S1536x128) ![0, 0] S1536x128.size inb_S1536x128_S1536x128_0_0) (k0_pay6 (F := F)) Finset.univ (View.stores_vmem_bits_univ h_S1536x128 rfl) (.inl rfl))
  pure ⟨⟩

/-- At the points below 10: one tile of 512 columns of the first product, the activation and the running maxima. -/
def phaseOne (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (arg0 : BitVec 32) (k0_h2 : k0_cond2 i = 1#1) :
    Prog (TpuEff nD τ sig (Elt F) Λ₀ .tc) PUnit := do
  let ⟨v2357, v2374⟩ : Σ' (v2357 : FVec F S256x128 .f32), FVec F S256x128 .f32 ← k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h2
  let v2381 : Vec F S256x128 .f32 ← Prog.lift (.load arg19 (Rect.unit (s := S1536x128) ![1280, 0] S256x128.size inb_S1536x128_S256x128_1280_0).toLoadRect (View.loadsAt_vmem h_S256x128))
  Prog.lift (.store arg19 (Rect.unit (s := S1536x128) ![1280, 0] S256x128.size inb_S1536x128_S256x128_1280_0) (k0_pay7 v2357 v2374) Finset.univ (View.stores_vmem_bits_univ h_S256x128 rfl) (.inl rfl))
  pure ⟨⟩

/-- At point 10: the row scales from the running maxima. -/
def rowScales (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)  :
    Prog (TpuEff nD τ sig (Elt F) Λ₀ .tc) PUnit := do
  let v50 : FVec F S128x1 .f32 ← k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let ⟨v79, v84⟩ : Σ' (v79 : FVec F S128x128 .f32), FVec F S128x128 .f32 ← k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v50
  k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v79 v84
  let v158 : FVec F S128x1 .f32 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let ⟨v187, v192⟩ : Σ' (v187 : FVec F S128x128 .f32), FVec F S128x128 .f32 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v158
  k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v187 v192
  let v266 : FVec F S128x1 .f32 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let ⟨v295, v300⟩ : Σ' (v295 : FVec F S128x128 .f32), FVec F S128x128 .f32 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v266
  k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v295 v300
  pure ⟨⟩

/-- At the points from 10 on: one block of 512 rows of the second product. -/
def phaseTwo (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (arg0 : BitVec 32) (k0_h4 : k0_cond4 i = 1#1) :
    Prog (TpuEff nD τ sig (Elt F) Λ₀ .tc) PUnit := do
  let ⟨v15, v2437, v2470⟩ : Σ' (v15 : BitVec 32) (v2437 : FVec F S256x1280 .f32), FVec F S256x128 .f32 ← k0_part128 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h4
  let ⟨v2501, v2502⟩ : Σ' (v2501 : FVec F S256x128 .f32), BitVec 1 ← k0_part127 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v15 v2437 v2470
  let v2503 : Vec F S1x256x128 .f32 ← Prog.lift (.load arg13 (Rect.unit (s := S10x1536x128) ![7, 1280, 0] S1x256x128.size inb_S10x1536x128_S1x256x128_7_1280_0).toLoadRect (View.loadsAt_vmem h_S1x256x128))
  let v2507 : Vec F S1x256x128 .f32 ← Prog.lift (.load arg13 (Rect.unit (s := S10x1536x128) ![7, 1280, 0] S1x256x128.size inb_S10x1536x128_S1x256x128_7_1280_0).toLoadRect (View.loadsAt_vmem h_S1x256x128))
  Prog.lift (.store arg13 (Rect.unit (s := S10x1536x128) ![7, 1280, 0] S1x256x128.size inb_S10x1536x128_S1x256x128_7_1280_0) (k0_pay8 v2501 v2502 v2503) Finset.univ (View.stores_vmem_bits_univ h_S1x256x128 rfl) (.inl rfl))
  let v2512 : Vec F S1x256x128 .f32 ← Prog.lift (.load arg13 (Rect.unit (s := S10x1536x128) ![8, 1280, 0] S1x256x128.size inb_S10x1536x128_S1x256x128_8_1280_0).toLoadRect (View.loadsAt_vmem h_S1x256x128))
  let v2516 : Vec F S1x256x128 .f32 ← Prog.lift (.load arg13 (Rect.unit (s := S10x1536x128) ![8, 1280, 0] S1x256x128.size inb_S10x1536x128_S1x256x128_8_1280_0).toLoadRect (View.loadsAt_vmem h_S1x256x128))
  Prog.lift (.store arg13 (Rect.unit (s := S10x1536x128) ![8, 1280, 0] S1x256x128.size inb_S10x1536x128_S1x256x128_8_1280_0) (k0_pay9 v15 v2437 v2512) Finset.univ (View.stores_vmem_bits_univ h_S1x256x128 rfl) (.inl rfl))
  let v2521 : Vec F S1x256x128 .f32 ← Prog.lift (.load arg13 (Rect.unit (s := S10x1536x128) ![9, 1280, 0] S1x256x128.size inb_S10x1536x128_S1x256x128_9_1280_0).toLoadRect (View.loadsAt_vmem h_S1x256x128))
  let v2525 : Vec F S1x256x128 .f32 ← Prog.lift (.load arg13 (Rect.unit (s := S10x1536x128) ![9, 1280, 0] S1x256x128.size inb_S10x1536x128_S1x256x128_9_1280_0).toLoadRect (View.loadsAt_vmem h_S1x256x128))
  Prog.lift (.store arg13 (Rect.unit (s := S10x1536x128) ![9, 1280, 0] S1x256x128.size inb_S10x1536x128_S1x256x128_9_1280_0) (k0_pay10 v15 v2437 v2521) Finset.univ (View.stores_vmem_bits_univ h_S1x256x128 rfl) (.inl rfl))
  pure ⟨⟩

/-- At the last point: the row scale, the bias and the residual. -/
def finish (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)  :
    Prog (TpuEff nD τ sig (Elt F) Λ₀ .tc) PUnit := do
  let ⟨v1566, v1691⟩ : Σ' (v1566 : Vec F S128x128 .f32), FVec F S128x128 .bf16 ← k0_part185 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v1692 : Vec F S128x128 .bf16 ← Prog.lift (.load arg12 (Rect.unit (s := S1536x1280) ![1408, 1024] S128x128.size inb_S1536x1280_S128x128_1408_1024).toLoadRect (View.loadsAt_vmem h_S128x128))
  Prog.lift (.store arg12 (Rect.unit (s := S1536x1280) ![1408, 1024] S128x128.size inb_S1536x1280_S128x128_1408_1024) v1691 Finset.univ (View.stores_vmem h_S128x128 (harg12.storeExact_slice rfl _ packedbf16_S1536x1280_S128x128_1408_1024) (fun _ => rfl)) (.inl rfl))
  let v1693 : Vec F S128x128 .f32 ← Prog.lift (.load arg3 (Rect.unit (s := S1536x1280) ![1408, 1152] S128x128.size inb_S1536x1280_S128x128_1408_1152).toLoadRect (View.loadsAt_vmem h_S128x128))
  let v1694 : Vec F S1x128x128 .f32 ← Prog.lift (.load arg13 (Rect.unit (s := S10x1536x128) ![9, 1408, 0] S1x128x128.size inb_S10x1536x128_S1x128x128_9_1408_0).toLoadRect (View.loadsAt_vmem h_S1x128x128))
  let v1697 : Vec F S1x128 .f32 ← Prog.lift (.load arg9 (Rect.unit (s := S1x1280) ![0, 1152] S1x128.size inb_S1x1280_S1x128_0_1152).toLoadRect (View.loadsAt_vmem h_S1x128))
  let v1702 : Vec F S1x128x128 .f32 ← Prog.lift (.load arg13 (Rect.unit (s := S10x1536x128) ![9, 1408, 0] S1x128x128.size inb_S10x1536x128_S1x128x128_9_1408_0).toLoadRect (View.loadsAt_vmem h_S1x128x128))
  Prog.lift (.store arg13 (Rect.unit (s := S10x1536x128) ![9, 1408, 0] S1x128x128.size inb_S10x1536x128_S1x128x128_9_1408_0) (k0_pay12 v1566 v1693 v1694 v1697) Finset.univ (View.stores_vmem_bits_univ h_S1x128x128 rfl) (.inl rfl))
  let v1706 : Vec F S128x128 .bf16 ← Prog.lift (.load arg12 (Rect.unit (s := S1536x1280) ![1408, 1152] S128x128.size inb_S1536x1280_S128x128_1408_1152).toLoadRect (View.loadsAt_vmem h_S128x128))
  Prog.lift (.store arg12 (Rect.unit (s := S1536x1280) ![1408, 1152] S128x128.size inb_S1536x1280_S128x128_1408_1152) (k0_pay13 v1566 v1693 v1694 v1697) Finset.univ (View.stores_vmem h_S128x128 (harg12.storeExact_slice rfl _ packedbf16_S1536x1280_S128x128_1408_1152) (fun _ => rfl)) (.inl rfl))
  pure ⟨⟩

set_option maxHeartbeats 4000000 in
/-- The body at a point of kind A. -/
theorem body_A (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc0 : cond0_0 i) (hc1 : cond0_1 i) (hc2 : ¬cond0_2 i) (hc3 : ¬cond0_3 i) (hc4 : ¬cond0_4 i) :
    cc0_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (initBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  >>= fun _ => phaseOne i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc1) := by
  rw [cc0_mlp_eq_skeleton]
  unfold cc0_mlp_skel initBlock phaseOne
  simp only [dif_pos hc0, dif_pos hc1, dif_neg hc2, dif_neg hc3, dif_neg hc4, bind_assoc, pure_bind]

set_option maxHeartbeats 4000000 in
/-- The body at a point of kind B. -/
theorem body_B (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc0 : ¬cond0_0 i) (hc1 : cond0_1 i) (hc2 : ¬cond0_2 i) (hc3 : ¬cond0_3 i) (hc4 : ¬cond0_4 i) :
    cc0_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (phaseOne i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc1) := by
  rw [cc0_mlp_eq_skeleton]
  unfold cc0_mlp_skel phaseOne
  simp only [dif_neg hc0, dif_pos hc1, dif_neg hc2, dif_neg hc3, dif_neg hc4, bind_assoc, pure_bind]

set_option maxHeartbeats 4000000 in
/-- The body at a point of kind C. -/
theorem body_C (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc0 : ¬cond0_0 i) (hc1 : ¬cond0_1 i) (hc2 : cond0_2 i) (hc3 : cond0_3 i) (hc4 : ¬cond0_4 i) :
    cc0_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (rowScales i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  >>= fun _ => phaseTwo i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc3) := by
  rw [cc0_mlp_eq_skeleton]
  unfold cc0_mlp_skel rowScales phaseTwo
  simp only [dif_neg hc0, dif_neg hc1, dif_pos hc2, dif_pos hc3, dif_neg hc4, bind_assoc, pure_bind]

set_option maxHeartbeats 4000000 in
/-- The body at a point of kind D. -/
theorem body_D (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc0 : ¬cond0_0 i) (hc1 : ¬cond0_1 i) (hc2 : ¬cond0_2 i) (hc3 : cond0_3 i) (hc4 : ¬cond0_4 i) :
    cc0_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (phaseTwo i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc3) := by
  rw [cc0_mlp_eq_skeleton]
  unfold cc0_mlp_skel phaseTwo
  simp only [dif_neg hc0, dif_neg hc1, dif_neg hc2, dif_pos hc3, dif_neg hc4, bind_assoc, pure_bind]

set_option maxHeartbeats 4000000 in
/-- The body at a point of kind E. -/
theorem body_E (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc0 : ¬cond0_0 i) (hc1 : ¬cond0_1 i) (hc2 : ¬cond0_2 i) (hc3 : cond0_3 i) (hc4 : cond0_4 i) :
    cc0_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (phaseTwo i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc3 >>= fun _ => finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) := by
  rw [cc0_mlp_eq_skeleton]
  unfold cc0_mlp_skel phaseTwo finish
  simp only [dif_neg hc0, dif_neg hc1, dif_neg hc2, dif_pos hc3, dif_pos hc4, bind_assoc, pure_bind]

end Cert.KernelIdeal.Gen

end
-- ==== Proof.Mlp.RunInit.lean ====
/- The run of the block `initBlock` of the MLP kernel: what its stores leave, as pieces. -/
module

public import proofs.«01_k».proof.Proof.Mlp.Blocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
/-- From the contents `d·` of the memrefs that the block `initBlock` addresses, the block runs to the continuation; the memrefs
    it stores into end with the pieces `L·` (last first) written over what they held. -/
def runInit (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)
    (d5 : Vec F S40x5120 .i8) (d8 : Vec F S160x1280 .i8) (d14 : Vec F S5x8x5120 .f32) (d15 : Vec F S20x8x1280 .f32) (d19 : Vec F S1536x128 .f32) :
    Σ' (L14 : List (View.Piece (Elt F) S5x8x5120 .f32)), Σ' (L15 : List (View.Piece (Elt F) S20x8x1280 .f32)), { L19 : List (View.Piece (Elt F) S1536x128 .f32) //
      ∀ (E : Set ℕ) (K : PUnit → sProp 𝕄),
        iprop(owns (c : Thread nD τ) arg5 fullShare d5 ∗ owns (c : Thread nD τ) arg8 fullShare d8 ∗ owns (c : Thread nD τ) arg14 fullShare d14 ∗ owns (c : Thread nD τ) arg15 fullShare d15 ∗ owns (c : Thread nD τ) arg19 fullShare d19
            ∗ (iprop(owns (c : Thread nD τ) arg5 fullShare d5 ∗ owns (c : Thread nD τ) arg8 fullShare d8 ∗ (arg14.view.loc (c : Thread nD τ) ↦[arg14.view.set]{fullShare} arg14.view.writes (Elt F) (harg14.unread d14) L14) ∗ (arg15.view.loc (c : Thread nD τ) ↦[arg15.view.set]{fullShare} arg15.view.writes (Elt F) (harg15.unread d15) L15) ∗ (arg19.view.loc (c : Thread nD τ) ↦[arg19.view.set]{fullShare} arg19.view.writes (Elt F) (harg19.unread d19) L19)) -∗ K ⟨⟩))
          ⊢ wp frame (wpE (defs₀ (F := F)) Variants.none c none) E (initBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K } := by
  refine ⟨?_, ?_, ?_, fun E K => ?run⟩
  case run =>
    unfold initBlock
    simp only [k0_part1_eq_skeleton, k0_part2_eq_skeleton, k0_part3_eq_skeleton]
    unfold owns
    iintro ⟨⟨%f5, %hf5, H5⟩, ⟨%f8, %hf8, H8⟩, ⟨%f14, %hf14, H14⟩, ⟨%f15, %hf15, H15⟩, ⟨%f19, %hf19, H19⟩, Hk⟩
    obtain rfl := harg5.eq_unread hf5; obtain rfl := harg8.eq_unread hf8; obtain rfl := harg14.eq_unread hf14; obtain rfl := harg15.eq_unread hf15; obtain rfl := harg19.eq_unread hf19
    sl_exec
    sl_step
    iapply Hk
    isplitl [H5]
    · iexists _; isplitr; · ipureintro; exact harg5.read_unread _
      iexact H5
    isplitl [H8]
    · iexists _; isplitr; · ipureintro; exact harg8.read_unread _
      iexact H8
    isplitl [H14]; · iexact H14
    isplitl [H15]; · iexact H15
    iexact H19

end Cert.KernelIdeal.Gen

end
-- ==== Proof.Mlp.RunOne.lean ====
/- The run of the block `phaseOne` of the MLP kernel: what its stores leave, as pieces. -/
module

public import proofs.«01_k».proof.Proof.Mlp.RunInit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
/-- From the contents `d·` of the memrefs that the block `phaseOne` addresses, the block runs to the continuation; the memrefs
    it stores into end with the pieces `L·` (last first) written over what they held. -/
def runOne (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc1 : cond0_1 i)
    (d1 : Vec F S1536x1280 .bf16) (d2 : Vec F S1536x128 .f32) (d4 : Vec F S1280x512 .i8) (d6 : Vec F S1x5120 .f32) (d14 : Vec F S5x8x5120 .f32) (d16 : Vec F S1280x512 .bf16) (d18 : Vec F S10x1536x512 .f32) (d19 : Vec F S1536x128 .f32) :
    Σ' (L16 : List (View.Piece (Elt F) S1280x512 .bf16)), Σ' (L18 : List (View.Piece (Elt F) S10x1536x512 .f32)), { L19 : List (View.Piece (Elt F) S1536x128 .f32) //
      ∀ (E : Set ℕ) (K : PUnit → sProp 𝕄),
        iprop(owns (c : Thread nD τ) arg1 fullShare d1 ∗ owns (c : Thread nD τ) arg2 fullShare d2 ∗ owns (c : Thread nD τ) arg4 fullShare d4 ∗ owns (c : Thread nD τ) arg6 fullShare d6 ∗ owns (c : Thread nD τ) arg14 fullShare d14 ∗ owns (c : Thread nD τ) arg16 fullShare d16 ∗ owns (c : Thread nD τ) arg18 fullShare d18 ∗ owns (c : Thread nD τ) arg19 fullShare d19
            ∗ (iprop(owns (c : Thread nD τ) arg1 fullShare d1 ∗ owns (c : Thread nD τ) arg2 fullShare d2 ∗ owns (c : Thread nD τ) arg4 fullShare d4 ∗ owns (c : Thread nD τ) arg6 fullShare d6 ∗ owns (c : Thread nD τ) arg14 fullShare d14 ∗ (arg16.view.loc (c : Thread nD τ) ↦[arg16.view.set]{fullShare} arg16.view.writes (Elt F) (harg16.unread d16) L16) ∗ (arg18.view.loc (c : Thread nD τ) ↦[arg18.view.set]{fullShare} arg18.view.writes (Elt F) (harg18.unread d18) L18) ∗ (arg19.view.loc (c : Thread nD τ) ↦[arg19.view.set]{fullShare} arg19.view.writes (Elt F) (harg19.unread d19) L19)) -∗ K ⟨⟩))
          ⊢ wp frame (wpE (defs₀ (F := F)) Variants.none c none) E (phaseOne i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc1) K } := by
  refine ⟨?_, ?_, ?_, fun E K => ?run⟩
  case run =>
    unfold phaseOne
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f1, %hf1, H1⟩, ⟨%f2, %hf2, H2⟩, ⟨%f4, %hf4, H4⟩, ⟨%f6, %hf6, H6⟩, ⟨%f14, %hf14, H14⟩, ⟨%f16, %hf16, H16⟩, ⟨%f18, %hf18, H18⟩, ⟨%f19, %hf19, H19⟩, Hk⟩
    obtain rfl := harg1.eq_unread hf1; obtain rfl := harg2.eq_unread hf2; obtain rfl := harg4.eq_unread hf4; obtain rfl := harg6.eq_unread hf6; obtain rfl := harg14.eq_unread hf14; obtain rfl := harg16.eq_unread hf16; obtain rfl := harg18.eq_unread hf18; obtain rfl := harg19.eq_unread hf19
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H4]
    · iexists _; isplitr; · ipureintro; exact harg4.read_unread _
      iexact H4
    isplitl [H6]
    · iexists _; isplitr; · ipureintro; exact harg6.read_unread _
      iexact H6
    isplitl [H14]
    · iexists _; isplitr; · ipureintro; exact harg14.read_unread _
      iexact H14
    isplitl [H16]; · iexact H16
    isplitl [H18]; · iexact H18
    iexact H19

end Cert.KernelIdeal.Gen

end
-- ==== Proof.Mlp.RunScales.lean ====
/- The run of the block `rowScales` of the MLP kernel: what its stores leave, as pieces. -/
module

public import proofs.«01_k».proof.Proof.Mlp.RunOne

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
/-- From the contents `d·` of the memrefs that the block `rowScales` addresses, the block runs to the continuation; the memrefs
    it stores into end with the pieces `L·` (last first) written over what they held. -/
def runScales (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)
    (d11 : Vec F S1x1536 .f32) (d19 : Vec F S1536x128 .f32) (d20 : Vec F S1536x128 .f32) :
    Σ' (L11 : List (View.Piece (Elt F) S1x1536 .f32)), Σ' (L19 : List (View.Piece (Elt F) S1536x128 .f32)), { L20 : List (View.Piece (Elt F) S1536x128 .f32) //
      ∀ (E : Set ℕ) (K : PUnit → sProp 𝕄),
        iprop(owns (c : Thread nD τ) arg11 fullShare d11 ∗ owns (c : Thread nD τ) arg19 fullShare d19 ∗ owns (c : Thread nD τ) arg20 fullShare d20
            ∗ (iprop((arg11.view.loc (c : Thread nD τ) ↦[arg11.view.set]{fullShare} arg11.view.writes (Elt F) (harg11.unread d11) L11) ∗ (arg19.view.loc (c : Thread nD τ) ↦[arg19.view.set]{fullShare} arg19.view.writes (Elt F) (harg19.unread d19) L19) ∗ (arg20.view.loc (c : Thread nD τ) ↦[arg20.view.set]{fullShare} arg20.view.writes (Elt F) (harg20.unread d20) L20)) -∗ K ⟨⟩))
          ⊢ wp frame (wpE (defs₀ (F := F)) Variants.none c none) E (rowScales i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K } := by
  refine ⟨?_, ?_, ?_, fun E K => ?run⟩
  case run =>
    unfold rowScales
    simp only [k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f11, %hf11, H11⟩, ⟨%f19, %hf19, H19⟩, ⟨%f20, %hf20, H20⟩, Hk⟩
    obtain rfl := harg11.eq_unread hf11; obtain rfl := harg19.eq_unread hf19; obtain rfl := harg20.eq_unread hf20
    sl_exec
    sl_step
    iapply Hk
    isplitl [H11]; · iexact H11
    isplitl [H19]; · iexact H19
    iexact H20

end Cert.KernelIdeal.Gen

end
-- ==== Proof.Mlp.RunTwo.lean ====
/- The run of the block `phaseTwo` of the MLP kernel: what its stores leave, as pieces. -/
module

public import proofs.«01_k».proof.Proof.Mlp.RunScales

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
/-- From the contents `d·` of the memrefs that the block `phaseTwo` addresses, the block runs to the continuation; the memrefs
    it stores into end with the pieces `L·` (last first) written over what they held. -/
def runTwo (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc3 : cond0_3 i)
    (d7 : Vec F S512x640 .i8) (d10 : Vec F S1536x512 .fp8e4m3) (d13 : Vec F S10x1536x128 .f32) (d15 : Vec F S20x8x1280 .f32) (d17 : Vec F S512x1280 .bf16) (d18 : Vec F S10x1536x512 .f32) (d19 : Vec F S1536x128 .f32) :
    Σ' (L10 : List (View.Piece (Elt F) S1536x512 .fp8e4m3)), Σ' (L13 : List (View.Piece (Elt F) S10x1536x128 .f32)), { L17 : List (View.Piece (Elt F) S512x1280 .bf16) //
      ∀ (E : Set ℕ) (K : PUnit → sProp 𝕄),
        iprop(owns (c : Thread nD τ) arg7 fullShare d7 ∗ owns (c : Thread nD τ) arg10 fullShare d10 ∗ owns (c : Thread nD τ) arg13 fullShare d13 ∗ owns (c : Thread nD τ) arg15 fullShare d15 ∗ owns (c : Thread nD τ) arg17 fullShare d17 ∗ owns (c : Thread nD τ) arg18 fullShare d18 ∗ owns (c : Thread nD τ) arg19 fullShare d19
            ∗ (iprop(owns (c : Thread nD τ) arg7 fullShare d7 ∗ (arg10.view.loc (c : Thread nD τ) ↦[arg10.view.set]{fullShare} arg10.view.writes (Elt F) (harg10.unread d10) L10) ∗ (arg13.view.loc (c : Thread nD τ) ↦[arg13.view.set]{fullShare} arg13.view.writes (Elt F) (harg13.unread d13) L13) ∗ owns (c : Thread nD τ) arg15 fullShare d15 ∗ (arg17.view.loc (c : Thread nD τ) ↦[arg17.view.set]{fullShare} arg17.view.writes (Elt F) (harg17.unread d17) L17) ∗ owns (c : Thread nD τ) arg18 fullShare d18 ∗ owns (c : Thread nD τ) arg19 fullShare d19) -∗ K ⟨⟩))
          ⊢ wp frame (wpE (defs₀ (F := F)) Variants.none c none) E (phaseTwo i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc3) K } := by
  refine ⟨?_, ?_, ?_, fun E K => ?run⟩
  case run =>
    unfold phaseTwo
    simp only [k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton]
    unfold owns
    iintro ⟨⟨%f7, %hf7, H7⟩, ⟨%f10, %hf10, H10⟩, ⟨%f13, %hf13, H13⟩, ⟨%f15, %hf15, H15⟩, ⟨%f17, %hf17, H17⟩, ⟨%f18, %hf18, H18⟩, ⟨%f19, %hf19, H19⟩, Hk⟩
    obtain rfl := harg7.eq_unread hf7; obtain rfl := harg10.eq_unread hf10; obtain rfl := harg13.eq_unread hf13; obtain rfl := harg15.eq_unread hf15; obtain rfl := harg17.eq_unread hf17; obtain rfl := harg18.eq_unread hf18; obtain rfl := harg19.eq_unread hf19
    sl_exec
    sl_step
    iapply Hk
    isplitl [H7]
    · iexists _; isplitr; · ipureintro; exact harg7.read_unread _
      iexact H7
    isplitl [H10]; · iexact H10
    isplitl [H13]; · iexact H13
    isplitl [H15]
    · iexists _; isplitr; · ipureintro; exact harg15.read_unread _
      iexact H15
    isplitl [H17]; · iexact H17
    isplitl [H18]
    · iexists _; isplitr; · ipureintro; exact harg18.read_unread _
      iexact H18
    iexists _; isplitr; · ipureintro; exact harg19.read_unread _
    iexact H19

end Cert.KernelIdeal.Gen

end
-- ==== Proof.Mlp.RunFinish.lean ====
/- The run of the block `finish` of the MLP kernel: what its stores leave, as pieces. -/
module

public import proofs.«01_k».proof.Proof.Mlp.RunTwo

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
/-- From the contents `d·` of the memrefs that the block `finish` addresses, the block runs to the continuation; the memrefs
    it stores into end with the pieces `L·` (last first) written over what they held. -/
def runFinish (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)
    (d3 : Vec F S1536x1280 .f32) (d9 : Vec F S1x1280 .f32) (d12 : Vec F S1536x1280 .bf16) (d13 : Vec F S10x1536x128 .f32) (d20 : Vec F S1536x128 .f32) :
    Σ' (L12 : List (View.Piece (Elt F) S1536x1280 .bf16)), { L13 : List (View.Piece (Elt F) S10x1536x128 .f32) //
      ∀ (E : Set ℕ) (K : PUnit → sProp 𝕄),
        iprop(owns (c : Thread nD τ) arg3 fullShare d3 ∗ owns (c : Thread nD τ) arg9 fullShare d9 ∗ owns (c : Thread nD τ) arg12 fullShare d12 ∗ owns (c : Thread nD τ) arg13 fullShare d13 ∗ owns (c : Thread nD τ) arg20 fullShare d20
            ∗ (iprop(owns (c : Thread nD τ) arg3 fullShare d3 ∗ owns (c : Thread nD τ) arg9 fullShare d9 ∗ (arg12.view.loc (c : Thread nD τ) ↦[arg12.view.set]{fullShare} arg12.view.writes (Elt F) (harg12.unread d12) L12) ∗ (arg13.view.loc (c : Thread nD τ) ↦[arg13.view.set]{fullShare} arg13.view.writes (Elt F) (harg13.unread d13) L13) ∗ owns (c : Thread nD τ) arg20 fullShare d20) -∗ K ⟨⟩))
          ⊢ wp frame (wpE (defs₀ (F := F)) Variants.none c none) E (finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K } := by
  refine ⟨?_, ?_, fun E K => ?run⟩
  case run =>
    unfold finish
    simp only [k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton]
    unfold owns
    iintro ⟨⟨%f3, %hf3, H3⟩, ⟨%f9, %hf9, H9⟩, ⟨%f12, %hf12, H12⟩, ⟨%f13, %hf13, H13⟩, ⟨%f20, %hf20, H20⟩, Hk⟩
    obtain rfl := harg3.eq_unread hf3; obtain rfl := harg9.eq_unread hf9; obtain rfl := harg12.eq_unread hf12; obtain rfl := harg13.eq_unread hf13; obtain rfl := harg20.eq_unread hf20
    sl_exec
    sl_step
    iapply Hk
    isplitl [H3]
    · iexists _; isplitr; · ipureintro; exact harg3.read_unread _
      iexact H3
    isplitl [H9]
    · iexists _; isplitr; · ipureintro; exact harg9.read_unread _
      iexact H9
    isplitl [H12]; · iexact H12
    isplitl [H13]; · iexact H13
    iexists _; isplitr; · ipureintro; exact harg20.read_unread _
    iexact H20

end Cert.KernelIdeal.Gen

end
-- ==== Proof.Mlp.Tile.lean ====
/- The tile of weights that the kernel decodes at a time, and the weight block of a grid point, as functions of what is loaded. -/
module

public import proofs.«01_k».proof.Proof.Mlp.RunFinish

@[expose] public section

set_option maxRecDepth 16384

noncomputable section

namespace Cert.KernelIdeal.Gen

open Idealize.ShloMosaic Idealize.ShloMosaic.TcCoe Idealize.ShloMosaic.Tactic
open Idealize.SL.Sem

variable {F : FTy → Type} [FloatOps F] [Named F]

/-- A load from a whole memref that holds `d` is the load from `d`. -/
theorem readAt_unread {sp : Space} {s : Shape} {e : EltTy} {a : Memref sig .tc sp s e} (h : a.IsWhole) (d : Vec F s e) (r : Rect s) :
    View.readAt (Elt F) a.view r.toLoadRect (h.unread d) = View.ld d r := by
  rw [View.readAt_eq_ld, h.read_unread]

/-- The codes of a tile of weights, four packed in a word, as the numbers they stand for. -/
def decBits (w : IVec S64x128 32) : FVec F S256x128 .bf16 :=
  mulf (extf .bf16 (bitcastToFloat .fp8e4m3 (bitcast S256x128 8
    (ori (shli (andi w (broadcast S64x128 134744072#32)) (broadcast S64x128 4#32))
      (shli (andi w (broadcast S64x128 117901063#32)) (broadcast S64x128 2#32))) bitcasts_S64x128_w32_S256x128_w8)) bitsLt_fp8e4m3_bf16)
    (broadcast S256x128 (Scalar.ofBits .bf16 0x4280#16))

/-- A row of block scales repeated over the rows of its block. -/
def scBand (s : Vec F S1x1x128 .f32) : FVec F S32x128 .bf16 :=
  truncf .bf16 (broadcastTo S32x128 (shapeCast S1x128 (shapeCast S1x128 s shapeCasts_S1x1x128_S1x128) shapeCasts_S1x128_S1x128)
    broadcasts_S1x128_S32x128) bitsLt_bf16_f32

/-- A tile of weights: its eight bands of codes, each times its row of block scales. -/
def tile (v : FVec F S256x128 .bf16) (s : Fin 8 → Vec F S1x1x128 .f32) : FVec F S256x128 .bf16 :=
  shapeCast S256x128 (concatenate S256x128 0
    [⟨S32x128, mulf (extractStridedSlice S32x128 ![0, 0] v slices_S256x128_o0_0_S32x128) (scBand (s 0))⟩,
     ⟨S32x128, mulf (extractStridedSlice S32x128 ![32, 0] v slices_S256x128_o32_0_S32x128) (scBand (s 1))⟩,
     ⟨S32x128, mulf (extractStridedSlice S32x128 ![64, 0] v slices_S256x128_o64_0_S32x128) (scBand (s 2))⟩,
     ⟨S32x128, mulf (extractStridedSlice S32x128 ![96, 0] v slices_S256x128_o96_0_S32x128) (scBand (s 3))⟩,
     ⟨S32x128, mulf (extractStridedSlice S32x128 ![128, 0] v slices_S256x128_o128_0_S32x128) (scBand (s 4))⟩,
     ⟨S32x128, mulf (extractStridedSlice S32x128 ![160, 0] v slices_S256x128_o160_0_S32x128) (scBand (s 5))⟩,
     ⟨S32x128, mulf (extractStridedSlice S32x128 ![192, 0] v slices_S256x128_o192_0_S32x128) (scBand (s 6))⟩,
     ⟨S32x128, mulf (extractStridedSlice S32x128 ![224, 0] v slices_S256x128_o224_0_S32x128) (scBand (s 7))⟩]
    concatenates_S32x128_S32x128_S32x128_S32x128_S32x128_S32x128_S32x128_S32x128_S256x128_d0) shapeCasts_S256x128_S256x128

/-- A tile's place in the weight block of a first-phase point. -/
theorem w1_inb (t : Fin 4) (kb : Fin 5) : ∀ a, (![256 * kb.val, 128 * t.val] : Fin 2 → Nat) a + S256x128.size a ≤ S1280x512.size a := by
  revert t kb; decide

/-- The first column that a first-phase point's tile takes from the table of block scales. -/
def sc1Col (i : grid0.Coords) (t : Fin 4) : Nat :=
  (Scalar.indexCast (Scalar.addi (Scalar.muli (BitVec.ofNat 32 (i 0).val) 512#32) (BitVec.ofNat 32 (128 * t.val))) : Index).toNat

theorem lt_of_cond1 {i : grid0.Coords} (h : cond0_1 i) : (i 0).val < 10 := by
  revert h; revert i; decide +kernel

theorem sc1Col_eq {i : grid0.Coords} (h : (i 0).val < 10) (t : Fin 4) : sc1Col i t = 512 * (i 0).val + 128 * t.val := by
  have ht := t.isLt
  show (BitVec.ofNat 32 (i 0).val * 512#32 + BitVec.ofNat 32 (128 * t.val)).toNat = _
  simp only [BitVec.toNat_add, BitVec.toNat_mul, BitVec.toNat_ofNat]
  omega

theorem sc1_inb {i : grid0.Coords} (h : (i 0).val < 10) (t : Fin 4) (kb : Fin 5) (q : Fin 8) :
    ∀ a, (![kb.val, q.val, sc1Col i t] : Fin 3 → Nat) a + S1x1x128.size a ≤ S5x8x5120.size a := by
  have := t.isLt; have := kb.isLt; have := q.isLt
  intro a
  match a with
  | ⟨0, _⟩ => show kb.val + 1 ≤ 5; omega
  | ⟨1, _⟩ => show q.val + 1 ≤ 8; omega
  | ⟨2, _⟩ => show sc1Col i t + 128 ≤ 5120; rw [sc1Col_eq h]; omega

/-- By how much a first-phase point shifts its codes: not at all for a low half, by a nibble for a high one. -/
def shOne (i : grid0.Coords) : BitVec 32 :=
  Scalar.muli 4#32 (Scalar.extui (Scalar.cmpi .sge (BitVec.ofNat 32 (i 0).val) 5#32))

section
variable (i : grid0.Coords) (arg4 : Memref sig .tc .vmem S1280x512 .i8) (harg4 : arg4.IsWhole)
  (arg14 : Memref sig .tc .vmem S5x8x5120 .f32) (harg14 : arg14.IsWhole) (hc1 : cond0_1 i) (d4 : Vec F S1280x512 .i8) (d14 : Vec F S5x8x5120 .f32)

/-- The store of one tile of weights of a first-phase point. -/
def w1Piece (t : Fin 4) (kb : Fin 5) : View.Piece (Elt F) S1280x512 .bf16 :=
  ⟨Rect.unit (s := S1280x512) ![256 * kb.val, 128 * t.val] S256x128.size (w1_inb t kb),
   tile (decBits (shrui (bitcast S64x128 32 (View.readAt (Elt F) arg4.view
      (Rect.unit (s := S1280x512) ![256 * kb.val, 128 * t.val] S256x128.size (w1_inb t kb)).toLoadRect (harg4.unread d4))
      bitcasts_S256x128_w8_S64x128_w32) (broadcast S64x128 (shOne i))))
    fun q => View.readAt (Elt F) arg14.view
      (Rect.unit (s := S5x8x5120) ![kb.val, q.val, sc1Col i t] S1x1x128.size (sc1_inb (lt_of_cond1 hc1) t kb q)).toLoadRect (harg14.unread d14)⟩

theorem w1_list (c : Dev nD) : runOne.sl.H16_20 c i arg4 harg4 arg14 harg14 hc1 d4 d14 =
    ([3, 2, 1, 0] : List (Fin 4)).flatMap fun t => ([4, 3, 2, 1, 0] : List (Fin 5)).map fun kb => w1Piece i arg4 harg4 arg14 harg14 hc1 d4 d14 t kb := rfl

end

end Cert.KernelIdeal.Gen

end
-- ==== Proof.Mlp.Decode.lean ====
/- What a tile of weights holds: the value of a code times the scale of its block. -/
module

public import proofs.«01_k».proof.Proof.Mlp.Tile
public import Idealize.ShloMosaic.Lib.ValueIdx
public import Idealize.ShloMosaic.Lib.ValueLayout
public import Idealize.ShloMosaic.Lib.ValueLayoutCasts
public import Idealize.ShloMosaic.Lib.BitcastFour
public import Idealize.ShloMosaic.Lib.BitcastPair
public import Idealize.ShloMosaic.Lib.Pipeline.Value
public import Idealize.ShloMosaic.Lib.Pipeline.ValueKit.Tiles
public import Idealize.ShloMosaic.Lib.MatmulPlain
public import Idealize.ShloMosaic.Lib.IdealHost

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx

/-- The nibble of a code byte, low or high, moved to where an e4m3 pattern holds its sign and the low bits of its exponent
    and the top bit of its fraction. -/
def nib (hi : Bool) (b : BitVec 8) : BitVec 8 :=
  let n := if hi then b >>> 4 else b
  ((n &&& 8#8) <<< 4) ||| ((n &&& 7#8) <<< 2)

/-- The number a nibble of a code byte stands for. -/
def nibVal (hi : Bool) (b : BitVec 8) : EReal := Ideal.ofBits .fp8e4m3 (nib hi b) * Ideal.ofBits .bf16 0x4280#16

/-- The bits of a word of four patterns: each a bit of the word of four nibbles. -/
theorem word_bit (w : BitVec 32) (k q : Nat) (hk : k < 4) (hq : q < 8) :
    (((w &&& 134744072#32) <<< (4#32)) ||| ((w &&& 117901063#32) <<< (2#32))).getLsbD (8 * k + q)
      = (if q = 7 then w.getLsbD (8 * k + 3) else if 2 ≤ q ∧ q ≤ 4 then w.getLsbD (8 * k + q - 2) else false) := by
  interval_cases k <;> interval_cases q <;> simp [BitVec.getLsbD_or, BitVec.getLsbD_and]

/-- The bits of the pattern of one nibble. -/
theorem nib_bit (hi : Bool) (b : BitVec 8) (q : Nat) (hq : q < 8) :
    (nib hi b).getLsbD q
      = (if q = 7 then b.getLsbD (3 + if hi then 4 else 0) else if 2 ≤ q ∧ q ≤ 4 then b.getLsbD (q - 2 + if hi then 4 else 0) else false) := by
  cases hi <;> interval_cases q <;> simp [nib, BitVec.getLsbD_or, BitVec.getLsbD_and]

/-- The word of codes after the shift: by nothing or by a nibble. -/
def shBy (hi : Bool) : Nat := if hi then 4 else 0

/-- A tile's codes decoded, read at an index. -/
theorem decBits_apply (hi : Bool) (v : Vec Ideal S256x128 .i8) (w : IVec S64x128 32)
    (hw : ∀ x q, q < 28 → (w x).getLsbD q = (bitcast S64x128 32 v bitcasts_S256x128_w8_S64x128_w32 x).getLsbD (q + shBy hi))
    (r : Fin 256) (l : Fin 128) :
    decBits (F := Ideal) w (ix2 r l) = nibVal hi (v (ix2 r l)) := by
  unfold decBits nibVal
  rw [mulf_apply, extf_apply]
  refine congrArg₂ (· * ·) ?_ rfl
  refine congrArg (Ideal.ofBits .fp8e4m3) (BitVec.eq_of_getLsbD_eq fun q hq => ?_)
  have hr := r.isLt
  rw [bitcast_getLsbD _ _ _ q hq (by decide)]
  have hrow : Shape.row S256x128 (ix2 r l) = r.val := rfl
  have e1 : (r.val * 8 + q) / 32 = r.val / 4 := by omega
  have e2 : (r.val * 8 + q) % 32 = 8 * (r.val % 4) + q := by omega
  have hs : Shape.Bitcasts.srcIdx bitcasts_S64x128_w32_S256x128_w8 (ix2 r l : S256x128.Idx) ((Shape.row S256x128 (ix2 r l) * 8 + q) / 32)
      (fun a ha => (Nat.div_lt_iff_lt_mul (by decide)).2 (bitcasts_S64x128_w32_S256x128_w8.pos_lt _ q hq a ha))
      = ix2 (⟨r.val / 4, by omega⟩ : Fin 64) l := by
    funext c
    match c with
    | ⟨0, _⟩ => exact Fin.ext ((Shape.Bitcasts.srcIdx_row _ _ _ _ ⟨0, Nat.zero_lt_two⟩ rfl).trans (by rw [hrow, e1]))
    | ⟨1, _⟩ => exact Fin.ext (Shape.Bitcasts.srcIdx_other _ _ _ _ ⟨1, Nat.one_lt_two⟩ (by show ¬ 1 + 2 = 2; omega))
  rw [hs, hrow, e2]
  show (((w _ &&& 134744072#32) <<< (4#32)) ||| ((w _ &&& 117901063#32) <<< (2#32))).getLsbD _ = _
  rw [word_bit _ _ _ (by omega) hq, nib_bit hi _ q hq]
  have key : ∀ p, p < 4 → (w (ix2 (⟨r.val / 4, by omega⟩ : Fin 64) l)).getLsbD (8 * (r.val % 4) + p) = (v (ix2 r l)).getLsbD (p + shBy hi) := by
    intro p hp
    have hsh : shBy hi ≤ 4 := by cases hi <;> decide
    rw [hw _ _ (by omega)]
    refine (bitcast_8_32_getLsbD_ix2 v bitcasts_S256x128_w8_S64x128_w32 ⟨r.val / 4, by omega⟩ l _ (by omega) r (by show r.val = 4 * (r.val / 4) + _; omega)).trans ?_
    congr 1; omega
  have h3 := key 3 (by omega)
  by_cases h7 : q = 7
  · rw [if_pos h7, if_pos h7, h3]; rfl
  · rw [if_neg h7, if_neg h7]
    by_cases h24 : 2 ≤ q ∧ q ≤ 4
    · rw [if_pos h24, if_pos h24, show 8 * (r.val % 4) + q - 2 = 8 * (r.val % 4) + (q - 2) by omega, key (q - 2) (by omega)]; rfl
    · rw [if_neg h24, if_neg h24]

/-- The bits of a shifted word, where they come from below the top nibble. -/
theorem shrui_bit (hi : Bool) (sh : BitVec 32) (hsh : sh = if hi then 4#32 else 0#32) (x : IVec S64x128 32) (j : S64x128.Idx) (q : Nat) (hq : q < 28) :
    (shrui x (broadcast S64x128 sh) j).getLsbD q = (x j).getLsbD (q + shBy hi) := by
  subst hsh
  show (IntOp.shrui .vector (x j) _).getLsbD q = _
  cases hi
  · simp [IntOp.shrui, broadcast, shBy]
  · simp [IntOp.shrui, broadcast, shBy, Nat.add_comm]

/-- One band of a tile. -/
def bandAt (v : FVec Ideal S256x128 .bf16) (s : Fin 8 → Vec Ideal S1x1x128 .f32) (q : Fin 8) : FVec Ideal S32x128 .bf16 :=
  mulf (extractStridedSlice S32x128 ![32 * q.val, 0] v (by revert q; decide)) (scBand (s q))

theorem scBand_apply (s : Vec Ideal S1x1x128 .f32) (a : Fin 32) (l : Fin 128) : scBand (F := Ideal) s (ix2 a l) = s (ix3 (0 : Fin 1) (0 : Fin 1) l) := by
  unfold scBand
  rw [truncf_apply, shapeCast_self]
  refine (broadcastTo_1b_ab_apply _ _ a l).trans ?_
  exact shapeCast_1ab_ab_apply _ _ _ _

/-- A tile read at an index: the decoded code times the scale of its band. -/
theorem tile_apply (v : FVec Ideal S256x128 .bf16) (s : Fin 8 → Vec Ideal S1x1x128 .f32) (r : Fin 256) (l : Fin 128) :
    tile v s (ix2 r l) = v (ix2 r l) * s ⟨r.val / 32, by omega⟩ (ix3 (0 : Fin 1) (0 : Fin 1) l) := by
  unfold tile
  rw [shapeCast_self]
  obtain ⟨q, hq⟩ : ∃ q : Fin 8, q.val = r.val / 32 := ⟨⟨r.val / 32, by omega⟩, rfl⟩
  have hq' : (⟨r.val / 32, by omega⟩ : Fin 8) = q := Fin.ext hq.symm
  rw [hq']
  refine (concatenate_apply_piece (t := S256x128) 0 _ _ (ix2 r l) q.val (by exact q.isLt) S32x128 (bandAt v s q) (by fin_cases q <;> rfl) rfl (32 * q.val)
    (by fin_cases q <;> rfl) (ix2 (⟨r.val % 32, by omega⟩ : Fin 32) l) ?_ ?_).trans ?_
  · intro b hb
    match b with
    | ⟨0, _⟩ => exact absurd rfl hb
    | ⟨1, _⟩ => rfl
  · show 32 * q.val + r.val % 32 = r.val; omega
  · unfold bandAt
    rw [mulf_apply, scBand_apply]
    congr 1
    refine extractStridedSlice_apply _ _ _ _ _ fun a => ?_
    match a with
    | ⟨0, _⟩ => show r.val = 32 * q.val + r.val % 32; omega
    | ⟨1, _⟩ => show l.val = 0 + l.val; omega

end Cert.KernelIdeal.Gen

end
-- ==== Proof.Mlp.Family.lean ====
/- Families of stores whose payloads are tiles of one function. -/
module

public import proofs.«01_k».proof.Proof.Mlp.Decode

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx

section Pieces
variable {Val : EltTy → Type} {sig' : RefSig} {κ : Kind} {sp : Space} {s : Shape} {e : EltTy} {α β : Type}

/-- Stores whose payloads are tiles of one function leave that function where one of them lies. -/
theorem read_family (v : View sig' κ sp s e) (f : v.ty.Contents Val) (ls : List α) (bs : List β) (P : α → β → View.Piece Val s e)
    (G : s.Idx → Val e) (hP : ∀ a b x, (P a b).2 x = G ((P a b).1.emb x)) (y : s.Idx)
    (h : ∃ a ∈ ls, ∃ b ∈ bs, y ∈ (P a b).1.set) :
    v.read Val (v.writes Val f (ls.flatMap fun a => bs.map (P a))) y = G y := by
  refine View.read_writes_apply_of_pieces v f G _ ?_ y ?_
  · intro p hp
    obtain ⟨a, ha, hp⟩ := List.mem_flatMap.mp hp
    obtain ⟨b, hb, rfl⟩ := List.mem_map.mp hp
    exact hP a b
  · obtain ⟨a, ha, b, hb, hy⟩ := h
    exact ⟨P a b, List.mem_flatMap.mpr ⟨a, ha, List.mem_map.mpr ⟨b, hb, rfl⟩⟩, hy⟩

/-- Stores leave what was there where none of them lies. -/
theorem read_miss (v : View sig' κ sp s e) (f : v.ty.Contents Val) (y : s.Idx) :
    ∀ L : List (View.Piece Val s e), (∀ p ∈ L, y ∉ p.1.set) → v.read Val (v.writes Val f L) y = v.read Val f y
  | [], _ => rfl
  | p :: L, h => by
    rw [View.read_writes_cons_miss v f p L y (h p List.mem_cons_self)]
    exact read_miss v f y L fun q hq => h q (List.mem_cons_of_mem _ hq)

/-- What is read back of stores that cover a shape and whose payloads are tiles of one function. -/
theorem readCov_family [∀ e, Nonempty (Val e)] (v : View sig' κ sp s e) (ls : List α) (bs : List β) (P : α → β → View.Piece Val s e)
    (G : s.Idx → Val e) (hP : ∀ a b x, (P a b).2 x = G ((P a b).1.emb x)) (off : Fin s.rank → Nat) (h0 : off = fun _ => 0)
    (inb : ∀ a, off a + s.size a ≤ s.size a)
    (h : ∀ y, ∃ a ∈ ls, ∃ b ∈ bs, y ∈ (P a b).1.set) :
    v.readCov (ls.flatMap fun a => bs.map (P a)) (Rect.unit off s.size inb).toLoadRect = G := by
  have hc : ∀ y, ∃ p ∈ ls.flatMap (fun a => bs.map (P a)), y ∈ p.1.set := fun y => by
    obtain ⟨a, ha, b, hb, hy⟩ := h y
    exact ⟨P a b, List.mem_flatMap.mpr ⟨a, ha, List.mem_map.mpr ⟨b, hb, rfl⟩⟩, hy⟩
  rw [View.readCov_eq_canon_ld _ _ _ hc, View.ld_unit_zero h0]
  funext y
  refine View.canon_apply_of_pieces G _ ?_ y (hc y)
  intro p hp
  obtain ⟨a, ha, hp⟩ := List.mem_flatMap.mp hp
  obtain ⟨b, hb, rfl⟩ := List.mem_map.mp hp
  exact hP a b

end Pieces

end Cert.KernelIdeal.Gen

end
-- ==== Proof.Mlp.ValOne.lean ====
/- What a first-phase point leaves: its block of the hidden activation, and the running maxima. -/
module

public import proofs.«01_k».proof.Proof.Mlp.Family

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx

/-- The weight block of the first product at point `j`: the value of each code times its scale. -/
def wOne (j : Fin 10) (d4 : Vec Ideal S1280x512 .i8) (d14 : Vec Ideal S5x8x5120 .f32) : FVec Ideal S1280x512 .bf16 := fun y =>
  nibVal (decide (5 ≤ j.val)) (d4 y) * d14 (ix3 (⟨(y 0).val / 256, by have := idx2_lt0 y; omega⟩ : Fin 5) (⟨(y 0).val % 256 / 32, by omega⟩ : Fin 8)
    (⟨512 * j.val + (y 1).val, by have := idx2_lt1 y; omega⟩ : Fin 5120))

/-- The point's number in the first phase. -/
abbrev ptOne {i : grid0.Coords} (hc1 : cond0_1 i) : Fin 10 := ⟨(i 0).val, lt_of_cond1 hc1⟩

theorem shOne_eq (i : grid0.Coords) (hc1 : cond0_1 i) : shOne i = if decide (5 ≤ (ptOne hc1).val) then 4#32 else 0#32 := by
  revert hc1; revert i; decide +kernel

section
variable (i : grid0.Coords) (arg4 : Memref sig .tc .vmem S1280x512 .i8) (harg4 : arg4.IsWhole)
  (arg14 : Memref sig .tc .vmem S5x8x5120 .f32) (harg14 : arg14.IsWhole) (hc1 : cond0_1 i) (d4 : Vec Ideal S1280x512 .i8) (d14 : Vec Ideal S5x8x5120 .f32)

/-- The store of a tile is the tile of the weight block. -/
theorem w1Piece_eq (t : Fin 4) (kb : Fin 5) (x) : (w1Piece (F := Ideal) i arg4 harg4 arg14 harg14 hc1 d4 d14 t kb).2 x
    = wOne (ptOne hc1) d4 d14 ((w1Piece (F := Ideal) i arg4 harg4 arg14 harg14 hc1 d4 d14 t kb).1.emb x) := by
  obtain ⟨r, l, rfl⟩ : ∃ (r : Fin 256) (l : Fin 128), x = ix2 r l := ⟨x 0, x 1, eq_ix2 x⟩
  have hr := r.isLt; have hl := l.isLt
  unfold w1Piece
  dsimp only
  rw [tile_apply]
  rw [decBits_apply (decide (5 ≤ (ptOne hc1).val)) _ _ (fun x q hq => shrui_bit _ _ (shOne_eq i hc1) _ x q hq) r l]
  rw [readAt_unread harg4, readAt_unread harg14]
  unfold wOne
  refine congrArg₂ (· * ·) rfl ?_
  refine View.ld_unit_apply_of _ _ _ _ _ _ fun a => ?_
  match a with
  | ⟨0, _⟩ => show (256 * kb.val + 1 * r.val) / 256 = kb.val + 0; omega
  | ⟨1, _⟩ => show (256 * kb.val + 1 * r.val) % 256 / 32 = r.val / 32 + 0; omega
  | ⟨2, _⟩ => show 512 * (i 0).val + (128 * t.val + 1 * l.val) = sc1Col i t + l.val; rw [sc1Col_eq (lt_of_cond1 hc1)]; omega

/-- The weight block, as the products read it back. -/
theorem w1_read (c : Dev nD) (arg16 : Memref sig .tc .vmem S1280x512 .bf16) (off : Fin 2 → Nat) (h0 : off = fun _ => 0) (inb) :
    View.readCov arg16.view (runOne.sl.H16_20 (F := Ideal) c i arg4 harg4 arg14 harg14 hc1 d4 d14) (Rect.unit (s := S1280x512) off S1280x512.size inb).toLoadRect
      = wOne (ptOne hc1) d4 d14 := by
  rw [w1_list]
  refine readCov_family arg16.view _ _ _ _ (w1Piece_eq i arg4 harg4 arg14 harg14 hc1 d4 d14) off h0 inb fun y => ?_
  have h0 := idx2_lt0 y; have h1 := idx2_lt1 y
  have hm : ∀ t : Fin 4, t ∈ ([3, 2, 1, 0] : List (Fin 4)) := by decide
  have hk : ∀ t : Fin 5, t ∈ ([4, 3, 2, 1, 0] : List (Fin 5)) := by decide
  refine ⟨⟨(y 1).val / 128, by omega⟩, hm _, ⟨(y 0).val / 256, by omega⟩, hk _, ?_⟩
  · show y ∈ (Rect.unit (s := S1280x512) ![256 * ((y 0).val / 256), 128 * ((y 1).val / 128)] S256x128.size (w1_inb ⟨(y 1).val / 128, by omega⟩ ⟨(y 0).val / 256, by omega⟩)).set
    refine Rect.mem_set_unit.mpr fun a => ?_
    match a with
    | ⟨0, _⟩ => show 256 * ((y 0).val / 256) ≤ (y 0).val ∧ (y 0).val < 256 * ((y 0).val / 256) + 256; omega
    | ⟨1, _⟩ => show 128 * ((y 1).val / 128) ≤ (y 1).val ∧ (y 1).val < 128 * ((y 1).val / 128) + 128; omega

end

/-- The activation of a tile, from the product, the row scales and the bias. -/
def geluTile {F : FTy → Type} [FloatOps F] (acc : FVec F S256x512 .f32) (rs : Vec F S256x128 .f32) (b : Vec F S1x128 .f32) (t : Fin 4) : FVec F S256x128 .f32 :=
  let u := addf (mulf (extractStridedSlice S256x128 ![0, 128 * t.val] acc (by revert t; decide)) (shapeCast S256x128 rs shapeCasts_S256x128_S256x128))
    (broadcastTo S256x128 (shapeCast S1x128 b shapeCasts_S1x128_S1x128) broadcasts_S1x128_S256x128)
  let h := mulf (broadcast S256x128 (Scalar.ofBits .f32 1056964608#32)) u
  addf h (mulf h (erf (mulf u (broadcast S256x128 (Scalar.ofBits .f32 1060439283#32)))))

theorem rows_inb (m : Fin 6) : ∀ a, (![256 * m.val, 0] : Fin 2 → Nat) a + S256x128.size a ≤ S1536x128.size a := by
  revert m; decide
theorem rowsA_inb (m : Fin 6) : ∀ a, (![256 * m.val, 0] : Fin 2 → Nat) a + S256x1280.size a ≤ S1536x1280.size a := by
  revert m; decide
theorem bias_inb {i : grid0.Coords} (h : (i 0).val < 10) (t : Fin 4) : ∀ a, (![0, sc1Col i t] : Fin 2 → Nat) a + S1x128.size a ≤ S1x5120.size a := by
  have := t.isLt
  intro a
  match a with
  | ⟨0, _⟩ => show 0 + 1 ≤ 1; omega
  | ⟨1, _⟩ => show sc1Col i t + 128 ≤ 5120; rw [sc1Col_eq h]; omega
/-- The slot of the activation that a first-phase point fills. -/
def slotOne (i : grid0.Coords) : Nat := (Scalar.indexCast (BitVec.ofNat 32 (i 0).val) : Index).toNat
theorem slotOne_eq {i : grid0.Coords} (h : (i 0).val < 10) : slotOne i = (i 0).val := by
  show (BitVec.ofNat 32 (i 0).val).toNat = _
  simp only [BitVec.toNat_ofNat]; omega
theorem slot_inb {i : grid0.Coords} (h : (i 0).val < 10) (m : Fin 6) (t : Fin 4) :
    ∀ a, (![slotOne i, 256 * m.val, 128 * t.val] : Fin 3 → Nat) a + S1x256x128.size a ≤ S10x1536x512.size a := by
  have := t.isLt; have := m.isLt
  intro a
  match a with
  | ⟨0, _⟩ => show slotOne i + 1 ≤ 10; rw [slotOne_eq h]; omega
  | ⟨1, _⟩ => show 256 * m.val + 256 ≤ 1536; omega
  | ⟨2, _⟩ => show 128 * t.val + 128 ≤ 512; omega

section
variable {F : FTy → Type} [FloatOps F] [Named F]
variable (c : Dev nD) (i : grid0.Coords) (arg1 : Memref sig .tc .vmem S1536x1280 .bf16) (harg1 : arg1.IsWhole)
  (arg2 : Memref sig .tc .vmem S1536x128 .f32) (harg2 : arg2.IsWhole) (arg4 : Memref sig .tc .vmem S1280x512 .i8) (harg4 : arg4.IsWhole)
  (arg6 : Memref sig .tc .vmem S1x5120 .f32) (harg6 : arg6.IsWhole)
  (arg14 : Memref sig .tc .vmem S5x8x5120 .f32) (harg14 : arg14.IsWhole) (arg16 : Memref sig .tc .vmem S1280x512 .bf16)
  (arg19 : Memref sig .tc .vmem S1536x128 .f32) (harg19 : arg19.IsWhole) (hc1 : cond0_1 i)
  (d1 : Vec F S1536x1280 .bf16) (d2 : Vec F S1536x128 .f32) (d4 : Vec F S1280x512 .i8) (d6 : Vec F S1x5120 .f32) (d14 : Vec F S5x8x5120 .f32)
  (d19 : Vec F S1536x128 .f32)

/-- The activation tile that a first-phase point computes for 256 rows and 128 columns. -/
def fTile (m : Fin 6) (t : Fin 4) : FVec F S256x128 .f32 :=
  geluTile (matmul dot_S256x1280_S1280x512_S256x512_1_0_0_1_n_n none
      (View.readAt (Elt F) arg1.view (Rect.unit (s := S1536x1280) ![256 * m.val, 0] S256x1280.size (rowsA_inb m)).toLoadRect (harg1.unread d1))
      (View.readCov arg16.view (runOne.sl.H16_20 c i arg4 harg4 arg14 harg14 hc1 d4 d14)
        (Rect.unit (s := S1280x512) ![0, 0] S1280x512.size inb_S1280x512_S1280x512_0_0).toLoadRect) (constant S256x512 .f32 0x00000000#32))
    (View.readAt (Elt F) arg2.view (Rect.unit (s := S1536x128) ![256 * m.val, 0] S256x128.size (rows_inb m)).toLoadRect (harg2.unread d2))
    (View.readAt (Elt F) arg6.view (Rect.unit (s := S1x5120) ![0, sc1Col i t] S1x128.size (bias_inb (lt_of_cond1 hc1) t)).toLoadRect (harg6.unread d6)) t

/-- Its store. -/
def fPiece (m : Fin 6) (t : Fin 4) : View.Piece (Elt F) S10x1536x512 .f32 :=
  ⟨Rect.unit (s := S10x1536x512) ![slotOne i, 256 * m.val, 128 * t.val] S1x256x128.size (slot_inb (lt_of_cond1 hc1) m t),
    shapeCast S1x256x128 (fTile c i arg1 harg1 arg2 harg2 arg4 harg4 arg6 harg6 arg14 harg14 arg16 hc1 d1 d2 d4 d6 d14 m t) shapeCasts_S256x128_S1x256x128⟩

/-- The store of 256 rows of running maxima. -/
def amPiece (m : Fin 6) (_ : Fin 1) : View.Piece (Elt F) S1536x128 .f32 :=
  ⟨Rect.unit (s := S1536x128) ![256 * m.val, 0] S256x128.size (rows_inb m),
    shapeCast S256x128 (maximumf (maximumf (maximumf (maximumf
      (View.readAt (Elt F) arg19.view (Rect.unit (s := S1536x128) ![256 * m.val, 0] S256x128.size (rows_inb m)).toLoadRect (harg19.unread d19))
      (absf (fTile c i arg1 harg1 arg2 harg2 arg4 harg4 arg6 harg6 arg14 harg14 arg16 hc1 d1 d2 d4 d6 d14 m 0)))
      (absf (fTile c i arg1 harg1 arg2 harg2 arg4 harg4 arg6 harg6 arg14 harg14 arg16 hc1 d1 d2 d4 d6 d14 m 1)))
      (absf (fTile c i arg1 harg1 arg2 harg2 arg4 harg4 arg6 harg6 arg14 harg14 arg16 hc1 d1 d2 d4 d6 d14 m 2)))
      (absf (fTile c i arg1 harg1 arg2 harg2 arg4 harg4 arg6 harg6 arg14 harg14 arg16 hc1 d1 d2 d4 d6 d14 m 3))) shapeCasts_S256x128_S256x128⟩
end

end Cert.KernelIdeal.Gen

end
-- ==== Proof.Mlp.OneList.lean ====
/- The stores of a first-phase point, read back. -/
module

public import proofs.«01_k».proof.Proof.Mlp.ValOne

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx

section
variable {F : FTy → Type} [FloatOps F] [Named F]
variable (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc1 : cond0_1 i)
    (d1 : Vec F S1536x1280 .bf16) (d2 : Vec F S1536x128 .f32) (d4 : Vec F S1280x512 .i8) (d6 : Vec F S1x5120 .f32) (d14 : Vec F S5x8x5120 .f32) (d16 : Vec F S1280x512 .bf16) (d18 : Vec F S10x1536x512 .f32) (d19 : Vec F S1536x128 .f32)

theorem one_list18 : (runOne (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 d1 d2 d4 d6 d14 d16 d18 d19).2.1 =
    ([5, 4, 3, 2, 1, 0] : List (Fin 6)).flatMap fun m => ([3, 2, 1, 0] : List (Fin 4)).map fun t => fPiece c i arg1 harg1 arg2 harg2 arg4 harg4 arg6 harg6 arg14 harg14 arg16 hc1 d1 d2 d4 d6 d14 m t := rfl

theorem one_list19 : (runOne (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 d1 d2 d4 d6 d14 d16 d18 d19).2.2.1 =
    ([5, 4, 3, 2, 1, 0] : List (Fin 6)).flatMap fun m => ([0] : List (Fin 1)).map fun t =>
      amPiece c i arg1 harg1 arg2 harg2 arg4 harg4 arg6 harg6 arg14 harg14 arg16 arg19 harg19 hc1 d1 d2 d4 d6 d14 d19 m t := rfl
end

end Cert.KernelIdeal.Gen

end
-- ==== Proof.Mlp.InitList.lean ====
/- The stores of the first point, as families. -/
module

public import proofs.«01_k».proof.Proof.Mlp.OneList

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx

section
variable {F : FTy → Type} [FloatOps F] [Named F]

theorem scOff_inb (kb : Fin 5) : ∀ a, (![kb.val, 0, 0] : Fin 3 → Nat) a + S1x8x5120.size a ≤ S5x8x5120.size a := by revert kb; decide
theorem scSl_inb (kb : Fin 5) : S40x5120.Slices ![8 * kb.val, 0] S8x5120 := by revert kb; decide
theorem sdOff_inb (kb : Fin 20) : ∀ a, (![kb.val, 0, 0] : Fin 3 → Nat) a + S1x8x1280.size a ≤ S20x8x1280.size a := by revert kb; decide
theorem sdSl_inb (kb : Fin 20) : S160x1280.Slices ![8 * kb.val, 0] S8x1280 := by revert kb; decide

/-- The store of eight rows of the first product's block scales. -/
def scPiece (arg5 : Memref sig .tc .vmem S40x5120 .i8) (harg5 : arg5.IsWhole) (d5 : Vec F S40x5120 .i8) (kb : Fin 5) (_ : Fin 1) : View.Piece (Elt F) S5x8x5120 .f32 :=
  ⟨Rect.unit (s := S5x8x5120) ![kb.val, 0, 0] S1x8x5120.size (scOff_inb kb),
    shapeCast S1x8x5120 (extractStridedSlice S8x5120 ![8 * kb.val, 0] (k0_pay14 (View.readAt (Elt F) arg5.view
      (Rect.unit (s := S40x5120) ![0, 0] S40x5120.size inb_S40x5120_S40x5120_0_0).toLoadRect (harg5.unread d5))) (scSl_inb kb)) shapeCasts_S8x5120_S1x8x5120⟩

/-- The store of eight rows of the second product's block scales. -/
def sdPiece (arg8 : Memref sig .tc .vmem S160x1280 .i8) (harg8 : arg8.IsWhole) (d8 : Vec F S160x1280 .i8) (kb : Fin 20) (_ : Fin 1) : View.Piece (Elt F) S20x8x1280 .f32 :=
  ⟨Rect.unit (s := S20x8x1280) ![kb.val, 0, 0] S1x8x1280.size (sdOff_inb kb),
    shapeCast S1x8x1280 (extractStridedSlice S8x1280 ![8 * kb.val, 0] (k0_pay20 (View.readAt (Elt F) arg8.view
      (Rect.unit (s := S160x1280) ![0, 0] S160x1280.size inb_S160x1280_S160x1280_0_0).toLoadRect (harg8.unread d8))) (sdSl_inb kb)) shapeCasts_S8x1280_S1x8x1280⟩

/-- The store of the running maxima's start. -/
def zeroPiece (_ _ : Fin 1) : View.Piece (Elt F) S1536x128 .f32 :=
  ⟨Rect.unit (s := S1536x128) ![0, 0] S1536x128.size inb_S1536x128_S1536x128_0_0,
    shapeCast S1536x128 (broadcast S1536x128 (Scalar.ofBits .f32 0x00000000#32)) shapeCasts_S1536x128_S1536x128⟩

variable (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)
    (d5 : Vec F S40x5120 .i8) (d8 : Vec F S160x1280 .i8) (d14 : Vec F S5x8x5120 .f32) (d15 : Vec F S20x8x1280 .f32) (d19 : Vec F S1536x128 .f32)

theorem init_list14 : (runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d5 d8 d14 d15 d19).1 =
    ([4, 3, 2, 1, 0] : List (Fin 5)).flatMap fun kb => ([0] : List (Fin 1)).map fun z => scPiece arg5 harg5 d5 kb z := rfl
theorem init_list15 : (runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d5 d8 d14 d15 d19).2.1 =
    ([19, 18, 17, 16, 15, 14, 13, 12, 11, 10, 9, 8, 7, 6, 5, 4, 3, 2, 1, 0] : List (Fin 20)).flatMap fun kb => ([0] : List (Fin 1)).map fun z => sdPiece arg8 harg8 d8 kb z := rfl
theorem init_list19 : (runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d5 d8 d14 d15 d19).2.2.1 =
    ([0] : List (Fin 1)).flatMap fun kb => ([0] : List (Fin 1)).map fun z => zeroPiece kb z := rfl
end

end Cert.KernelIdeal.Gen

end
-- ==== Proof.Mlp.ScalesList.lean ====
/- The stores of the row scales, as families. -/
module

public import proofs.«01_k».proof.Proof.Mlp.InitList

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx

section
variable {F : FTy → Type} [FloatOps F] [Named F]

theorem band_inb (m : Fin 12) : ∀ a, (![128 * m.val, 0] : Fin 2 → Nat) a + S128x128.size a ≤ S1536x128.size a := by revert m; decide
theorem lane_inb (m : Fin 12) : ∀ a, (![0, 128 * m.val] : Fin 2 → Nat) a + S1x128.size a ≤ S1x1536.size a := by revert m; decide

/-- 128 rows of the running maxima. -/
def bandMax (arg19 : Memref sig .tc .vmem S1536x128 .f32) (harg19 : arg19.IsWhole) (d19 : Vec F S1536x128 .f32) (m : Fin 12) : Vec F S128x128 .f32 :=
  View.readAt (Elt F) arg19.view (Rect.unit (s := S1536x128) ![128 * m.val, 0] S128x128.size (band_inb m)).toLoadRect (harg19.unread d19)

/-- The stores of the row scales, of their inverses, and of the scales laid along the lanes. -/
def scalePiece (arg19 : Memref sig .tc .vmem S1536x128 .f32) (harg19 : arg19.IsWhole) (d19 : Vec F S1536x128 .f32) (m : Fin 12) (_ : Fin 1) : View.Piece (Elt F) S1536x128 .f32 :=
  ⟨Rect.unit (s := S1536x128) ![128 * m.val, 0] S128x128.size (band_inb m), k0_pay271 (bandMax arg19 harg19 d19 m)⟩
def invPiece (arg19 : Memref sig .tc .vmem S1536x128 .f32) (harg19 : arg19.IsWhole) (d19 : Vec F S1536x128 .f32) (m : Fin 12) (_ : Fin 1) : View.Piece (Elt F) S1536x128 .f32 :=
  ⟨Rect.unit (s := S1536x128) ![128 * m.val, 0] S128x128.size (band_inb m), k0_pay272 (bandMax arg19 harg19 d19 m)⟩
def lanePiece (arg19 : Memref sig .tc .vmem S1536x128 .f32) (harg19 : arg19.IsWhole) (d19 : Vec F S1536x128 .f32) (m : Fin 12) (_ : Fin 1) : View.Piece (Elt F) S1x1536 .f32 :=
  ⟨Rect.unit (s := S1x1536) ![0, 128 * m.val] S1x128.size (lane_inb m), k0_pay273 (bandMax arg19 harg19 d19 m)⟩

variable (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)
    (d11 : Vec F S1x1536 .f32) (d19 : Vec F S1536x128 .f32) (d20 : Vec F S1536x128 .f32)

theorem scales_list11 : (runScales (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d11 d19 d20).1 = ([11, 10, 9, 8, 7, 6, 5, 4, 3, 2, 1, 0] : List (Fin 12)).flatMap fun m => ([0] : List (Fin 1)).map fun z => lanePiece arg19 harg19 d19 m z := rfl
theorem scales_list19 : (runScales (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d11 d19 d20).2.1 = ([11, 10, 9, 8, 7, 6, 5, 4, 3, 2, 1, 0] : List (Fin 12)).flatMap fun m => ([0] : List (Fin 1)).map fun z => invPiece arg19 harg19 d19 m z := rfl
theorem scales_list20 : (runScales (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d11 d19 d20).2.2.1 = ([11, 10, 9, 8, 7, 6, 5, 4, 3, 2, 1, 0] : List (Fin 12)).flatMap fun m => ([0] : List (Fin 1)).map fun z => scalePiece arg19 harg19 d19 m z := rfl
end

end Cert.KernelIdeal.Gen

end
-- ==== Proof.Mlp.FinishList.lean ====
/- The stores of the last point's residual sum, as families. -/
module

public import proofs.«01_k».proof.Proof.Mlp.ScalesList

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx

section
variable {F : FTy → Type} [FloatOps F] [Named F]

theorem resid_inb (m : Fin 12) (t : Fin 10) : ∀ a, (![128 * m.val, 128 * t.val] : Fin 2 → Nat) a + S128x128.size a ≤ S1536x1280.size a := by
  revert m t; decide
theorem acc_inb (m : Fin 12) (t : Fin 10) : ∀ a, (![t.val, 128 * m.val, 0] : Fin 3 → Nat) a + S1x128x128.size a ≤ S10x1536x128.size a := by
  revert m t; decide
theorem bias2_inb (t : Fin 10) : ∀ a, (![0, 128 * t.val] : Fin 2 → Nat) a + S1x128.size a ≤ S1x1280.size a := by revert t; decide

/-- A tile of the residual sum. -/
def resTile (arg3 : Memref sig .tc .vmem S1536x1280 .f32) (harg3 : arg3.IsWhole) (arg9 : Memref sig .tc .vmem S1x1280 .f32) (harg9 : arg9.IsWhole)
    (arg13 : Memref sig .tc .vmem S10x1536x128 .f32) (harg13 : arg13.IsWhole) (arg20 : Memref sig .tc .vmem S1536x128 .f32) (harg20 : arg20.IsWhole)
    (d3 : Vec F S1536x1280 .f32) (d9 : Vec F S1x1280 .f32) (d13 : Vec F S10x1536x128 .f32) (d20 : Vec F S1536x128 .f32) (m : Fin 12) (t : Fin 10) : FVec F S128x128 .f32 :=
  addf (View.readAt (Elt F) arg3.view (Rect.unit (s := S1536x1280) ![128 * m.val, 128 * t.val] S128x128.size (resid_inb m t)).toLoadRect (harg3.unread d3))
    (addf (mulf (shapeCast S128x128 (View.readAt (Elt F) arg13.view (Rect.unit (s := S10x1536x128) ![t.val, 128 * m.val, 0] S1x128x128.size (acc_inb m t)).toLoadRect (harg13.unread d13)) shapeCasts_S1x128x128_S128x128)
        (View.readAt (Elt F) arg20.view (Rect.unit (s := S1536x128) ![128 * m.val, 0] S128x128.size (band_inb m)).toLoadRect (harg20.unread d20)))
      (broadcastTo S128x128 (shapeCast S1x128 (View.readAt (Elt F) arg9.view (Rect.unit (s := S1x1280) ![0, 128 * t.val] S1x128.size (bias2_inb t)).toLoadRect (harg9.unread d9)) shapeCasts_S1x128_S1x128) broadcasts_S1x128_S128x128))

/-- Its two stores. -/
def resPiece (arg3 : Memref sig .tc .vmem S1536x1280 .f32) (harg3 : arg3.IsWhole) (arg9 : Memref sig .tc .vmem S1x1280 .f32) (harg9 : arg9.IsWhole)
    (arg13 : Memref sig .tc .vmem S10x1536x128 .f32) (harg13 : arg13.IsWhole) (arg20 : Memref sig .tc .vmem S1536x128 .f32) (harg20 : arg20.IsWhole)
    (d3 : Vec F S1536x1280 .f32) (d9 : Vec F S1x1280 .f32) (d13 : Vec F S10x1536x128 .f32) (d20 : Vec F S1536x128 .f32) (m : Fin 12) (t : Fin 10) : View.Piece (Elt F) S1536x1280 .bf16 :=
  ⟨Rect.unit (s := S1536x1280) ![128 * m.val, 128 * t.val] S128x128.size (resid_inb m t), truncf .bf16 (resTile arg3 harg3 arg9 harg9 arg13 harg13 arg20 harg20 d3 d9 d13 d20 m t) bitsLt_bf16_f32⟩
def accPiece (arg3 : Memref sig .tc .vmem S1536x1280 .f32) (harg3 : arg3.IsWhole) (arg9 : Memref sig .tc .vmem S1x1280 .f32) (harg9 : arg9.IsWhole)
    (arg13 : Memref sig .tc .vmem S10x1536x128 .f32) (harg13 : arg13.IsWhole) (arg20 : Memref sig .tc .vmem S1536x128 .f32) (harg20 : arg20.IsWhole)
    (d3 : Vec F S1536x1280 .f32) (d9 : Vec F S1x1280 .f32) (d13 : Vec F S10x1536x128 .f32) (d20 : Vec F S1536x128 .f32) (m : Fin 12) (t : Fin 10) : View.Piece (Elt F) S10x1536x128 .f32 :=
  ⟨Rect.unit (s := S10x1536x128) ![t.val, 128 * m.val, 0] S1x128x128.size (acc_inb m t), shapeCast S1x128x128 (resTile arg3 harg3 arg9 harg9 arg13 harg13 arg20 harg20 d3 d9 d13 d20 m t) shapeCasts_S128x128_S1x128x128⟩

variable (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)
    (d3 : Vec F S1536x1280 .f32) (d9 : Vec F S1x1280 .f32) (d12 : Vec F S1536x1280 .bf16) (d13 : Vec F S10x1536x128 .f32) (d20 : Vec F S1536x128 .f32)

theorem finish_list12 : (runFinish (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d3 d9 d12 d13 d20).1 = ([11, 10, 9, 8, 7, 6, 5, 4, 3, 2, 1, 0] : List (Fin 12)).flatMap fun m => ([9, 8, 7, 6, 5, 4, 3, 2, 1, 0] : List (Fin 10)).map fun t => resPiece arg3 harg3 arg9 harg9 arg13 harg13 arg20 harg20 d3 d9 d13 d20 m t := rfl
theorem finish_list13 : (runFinish (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d3 d9 d12 d13 d20).2.1 = ([11, 10, 9, 8, 7, 6, 5, 4, 3, 2, 1, 0] : List (Fin 12)).flatMap fun m => ([9, 8, 7, 6, 5, 4, 3, 2, 1, 0] : List (Fin 10)).map fun t => accPiece arg3 harg3 arg9 harg9 arg13 harg13 arg20 harg20 d3 d9 d13 d20 m t := rfl
end

end Cert.KernelIdeal.Gen

end
-- ==== Proof.Mlp.TwoList.lean ====
/- The stores of a second-phase point, as families. -/
module

public import proofs.«01_k».proof.Proof.Mlp.FinishList

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx

theorem ge_of_cond3 {i : grid0.Coords} (h : cond0_3 i) : 10 ≤ (i 0).val ∧ (i 0).val < 20 := by
  revert h; revert i; decide +kernel
/-- The number of a second-phase point, as the kernel computes it. -/
def subTwo (i : grid0.Coords) : BitVec 32 := Scalar.subi (BitVec.ofNat 32 (i 0).val) 10#32
/-- The row of block scales that a second-phase point's tile takes. -/
def scRow2 (i : grid0.Coords) (kb : Fin 2) : Nat :=
  (Scalar.indexCast (Scalar.addi (Scalar.muli (subTwo i) 2#32) (BitVec.ofNat 32 kb.val)) : Index).toNat
theorem scRow2_eq {i : grid0.Coords} (h : cond0_3 i) (kb : Fin 2) : scRow2 i kb = 2 * ((i 0).val - 10) + kb.val := by
  revert h kb; revert i; decide +kernel
/-- The slot of the activation that it reads. -/
def slotTwo (i : grid0.Coords) : Nat := (Scalar.indexCast (subTwo i) : Index).toNat
theorem slotTwo_eq {i : grid0.Coords} (h : cond0_3 i) : slotTwo i = (i 0).val - 10 := by
  revert h; revert i; decide +kernel
/-- The first column of a tile of the second weight block: the high halves lie after the low ones. -/
def colTwo (hi : Bool) (t : Fin 5) : Nat := bif hi then 640 + 128 * t.val else 128 * t.val
theorem colTwo_le (hi : Bool) (t : Fin 5) : colTwo hi t + 128 ≤ 1280 := by revert hi t; decide
theorem w2_inb (hi : Bool) (t : Fin 5) (kb : Fin 2) : ∀ a, (![256 * kb.val, colTwo hi t] : Fin 2 → Nat) a + S256x128.size a ≤ S512x1280.size a := by
  revert hi t kb; decide
theorem c2_inb (t : Fin 5) (kb : Fin 2) : ∀ a, (![256 * kb.val, 128 * t.val] : Fin 2 → Nat) a + S256x128.size a ≤ S512x640.size a := by
  revert t kb; decide
theorem sc2_inb {i : grid0.Coords} (h : cond0_3 i) (hi : Bool) (t : Fin 5) (kb : Fin 2) (q : Fin 8) :
    ∀ a, (![scRow2 i kb, q.val, colTwo hi t] : Fin 3 → Nat) a + S1x1x128.size a ≤ S20x8x1280.size a := by
  have := t.isLt; have := kb.isLt; have := q.isLt; have := ge_of_cond3 h
  intro a
  match a with
  | ⟨0, _⟩ => show scRow2 i kb + 1 ≤ 20; rw [scRow2_eq h]; omega
  | ⟨1, _⟩ => show q.val + 1 ≤ 8; omega
  | ⟨2, _⟩ => exact colTwo_le hi t
theorem slot2_inb {i : grid0.Coords} (h : cond0_3 i) (m : Fin 6) (t : Fin 4) :
    ∀ a, (![slotTwo i, 256 * m.val, 128 * t.val] : Fin 3 → Nat) a + S1x256x128.size a ≤ S10x1536x512.size a := by
  have := t.isLt; have := m.isLt; have := ge_of_cond3 h
  intro a
  match a with
  | ⟨0, _⟩ => show slotTwo i + 1 ≤ 10; rw [slotTwo_eq h]; omega
  | ⟨1, _⟩ => show 256 * m.val + 256 ≤ 1536; omega
  | ⟨2, _⟩ => show 128 * t.val + 128 ≤ 512; omega
theorem actRows_inb (m : Fin 6) : ∀ a, (![256 * m.val, 0] : Fin 2 → Nat) a + S256x512.size a ≤ S1536x512.size a := by revert m; decide
theorem accRows_inb (t : Fin 10) (m : Fin 6) : ∀ a, (![t.val, 256 * m.val, 0] : Fin 3 → Nat) a + S1x256x128.size a ≤ S10x1536x128.size a := by
  revert t m; decide
theorem dSlice (t : Fin 10) : S256x1280.Slices ![0, 128 * t.val] S256x128 := by revert t; decide

section
variable {F : FTy → Type} [FloatOps F] [Named F]
variable (c : Dev nD) (i : grid0.Coords)

/-- The word shifted down by a nibble, for the high halves. -/
def wordTwo (hi : Bool) (w : IVec S64x128 32) : IVec S64x128 32 :=
  match hi with
  | true => shrui w (broadcast S64x128 4#32)
  | false => w

/-- The store of a tile of the second weight block. -/
def w2Piece (arg7 : Memref sig .tc .vmem S512x640 .i8) (harg7 : arg7.IsWhole) (arg15 : Memref sig .tc .vmem S20x8x1280 .f32) (harg15 : arg15.IsWhole) (hc3 : cond0_3 i)
    (d7 : Vec F S512x640 .i8) (d15 : Vec F S20x8x1280 .f32) (p : Fin 5 × Bool) (kb : Fin 2) : View.Piece (Elt F) S512x1280 .bf16 :=
  ⟨Rect.unit (s := S512x1280) ![256 * kb.val, colTwo p.2 p.1] S256x128.size (w2_inb p.2 p.1 kb),
   tile (decBits (wordTwo p.2 (bitcast S64x128 32 (View.readAt (Elt F) arg7.view
      (Rect.unit (s := S512x640) ![256 * kb.val, 128 * p.1.val] S256x128.size (c2_inb p.1 kb)).toLoadRect (harg7.unread d7))
      bitcasts_S256x128_w8_S64x128_w32)))
    fun q => View.readAt (Elt F) arg15.view
      (Rect.unit (s := S20x8x1280) ![scRow2 i kb, q.val, colTwo p.2 p.1] S1x1x128.size (sc2_inb hc3 p.2 p.1 kb q)).toLoadRect (harg15.unread d15)⟩

theorem w2_list (arg7 : Memref sig .tc .vmem S512x640 .i8) (harg7 : arg7.IsWhole) (arg15 : Memref sig .tc .vmem S20x8x1280 .f32) (harg15 : arg15.IsWhole) (hc3 : cond0_3 i)
    (d7 : Vec F S512x640 .i8) (d15 : Vec F S20x8x1280 .f32) : runTwo.sl.H17_20 c i arg7 harg7 arg15 harg15 hc3 d7 d15 =
    ([(4, true), (4, false), (3, true), (3, false), (2, true), (2, false), (1, true), (1, false), (0, true), (0, false)] : List (Fin 5 × Bool)).flatMap
      fun p => ([1, 0] : List (Fin 2)).map fun kb => w2Piece i arg7 harg7 arg15 harg15 hc3 d7 d15 p kb := rfl

/-- A tile of the quantised activation. -/
def codeTile (arg18 : Memref sig .tc .vmem S10x1536x512 .f32) (harg18 : arg18.IsWhole) (arg19 : Memref sig .tc .vmem S1536x128 .f32) (harg19 : arg19.IsWhole) (hc3 : cond0_3 i)
    (d18 : Vec F S10x1536x512 .f32) (d19 : Vec F S1536x128 .f32) (m : Fin 6) (t : Fin 4) : FVec F S256x128 .fp8e4m3 :=
  truncf .fp8e4m3 (minimumf (broadcast S256x128 (Scalar.ofBits .f32 1138753536#32)) (maximumf (broadcast S256x128 (Scalar.ofBits .f32 3286237184#32))
    (mulf (shapeCast S256x128 (View.readAt (Elt F) arg18.view (Rect.unit (s := S10x1536x512) ![slotTwo i, 256 * m.val, 128 * t.val] S1x256x128.size (slot2_inb hc3 m t)).toLoadRect (harg18.unread d18)) shapeCasts_S1x256x128_S256x128)
      (View.readAt (Elt F) arg19.view (Rect.unit (s := S1536x128) ![256 * m.val, 0] S256x128.size (rows_inb m)).toLoadRect (harg19.unread d19))))) bitsLt_fp8e4m3_f32

/-- 256 rows of the quantised activation. -/
def codeRows (arg18 : Memref sig .tc .vmem S10x1536x512 .f32) (harg18 : arg18.IsWhole) (arg19 : Memref sig .tc .vmem S1536x128 .f32) (harg19 : arg19.IsWhole) (hc3 : cond0_3 i)
    (d18 : Vec F S10x1536x512 .f32) (d19 : Vec F S1536x128 .f32) (m : Fin 6) : FVec F S256x512 .fp8e4m3 :=
  concatenate S256x512 1 [⟨S256x128, codeTile i arg18 harg18 arg19 harg19 hc3 d18 d19 m 0⟩, ⟨S256x128, codeTile i arg18 harg18 arg19 harg19 hc3 d18 d19 m 1⟩,
    ⟨S256x128, codeTile i arg18 harg18 arg19 harg19 hc3 d18 d19 m 2⟩, ⟨S256x128, codeTile i arg18 harg18 arg19 harg19 hc3 d18 d19 m 3⟩] concatenates_S256x128_S256x128_S256x128_S256x128_S256x512_d1

/-- Their store. -/
def codePiece (arg18 : Memref sig .tc .vmem S10x1536x512 .f32) (harg18 : arg18.IsWhole) (arg19 : Memref sig .tc .vmem S1536x128 .f32) (harg19 : arg19.IsWhole) (hc3 : cond0_3 i)
    (d18 : Vec F S10x1536x512 .f32) (d19 : Vec F S1536x128 .f32) (m : Fin 6) (_ : Fin 1) : View.Piece (Elt F) S1536x512 .fp8e4m3 :=
  ⟨Rect.unit (s := S1536x512) ![256 * m.val, 0] S256x512.size (actRows_inb m), codeRows i arg18 harg18 arg19 harg19 hc3 d18 d19 m⟩

/-- Their product with the weight block. -/
def dRows (arg7 : Memref sig .tc .vmem S512x640 .i8) (harg7 : arg7.IsWhole) (arg13 : Memref sig .tc .vmem S10x1536x128 .f32) (harg13 : arg13.IsWhole)
    (arg15 : Memref sig .tc .vmem S20x8x1280 .f32) (harg15 : arg15.IsWhole) (arg17 : Memref sig .tc .vmem S512x1280 .bf16)
    (arg18 : Memref sig .tc .vmem S10x1536x512 .f32) (harg18 : arg18.IsWhole) (arg19 : Memref sig .tc .vmem S1536x128 .f32) (harg19 : arg19.IsWhole) (hc3 : cond0_3 i)
    (d7 : Vec F S512x640 .i8) (d13 : Vec F S10x1536x128 .f32) (d15 : Vec F S20x8x1280 .f32) (d18 : Vec F S10x1536x512 .f32) (d19 : Vec F S1536x128 .f32) (m : Fin 6) : FVec F S256x1280 .f32 :=
  matmul dot_S256x512_S512x1280_S256x1280_1_0_0_1_n_n none (extf .bf16 (codeRows i arg18 harg18 arg19 harg19 hc3 d18 d19 m) bitsLt_fp8e4m3_bf16)
    (View.readCov arg17.view (runTwo.sl.H17_20 c i arg7 harg7 arg15 harg15 hc3 d7 d15)
        (Rect.unit (s := S512x1280) ![0, 0] S512x1280.size inb_S512x1280_S512x1280_0_0).toLoadRect) (constant S256x1280 .f32 0x00000000#32)

/-- The store of a tile of the accumulator: the product at the first of the phase's points, added to what is there at the others. -/
def sumPiece (arg7 : Memref sig .tc .vmem S512x640 .i8) (harg7 : arg7.IsWhole) (arg13 : Memref sig .tc .vmem S10x1536x128 .f32) (harg13 : arg13.IsWhole)
    (arg15 : Memref sig .tc .vmem S20x8x1280 .f32) (harg15 : arg15.IsWhole) (arg17 : Memref sig .tc .vmem S512x1280 .bf16)
    (arg18 : Memref sig .tc .vmem S10x1536x512 .f32) (harg18 : arg18.IsWhole) (arg19 : Memref sig .tc .vmem S1536x128 .f32) (harg19 : arg19.IsWhole) (hc3 : cond0_3 i)
    (d7 : Vec F S512x640 .i8) (d13 : Vec F S10x1536x128 .f32) (d15 : Vec F S20x8x1280 .f32) (d18 : Vec F S10x1536x512 .f32) (d19 : Vec F S1536x128 .f32) (m : Fin 6) (t : Fin 10) : View.Piece (Elt F) S10x1536x128 .f32 :=
  ⟨Rect.unit (s := S10x1536x128) ![t.val, 256 * m.val, 0] S1x256x128.size (accRows_inb t m),
    shapeCast S1x256x128 (Scalar.select (Scalar.cmpi .eq (subTwo i) 0#32) (extractStridedSlice S256x128 ![0, 128 * t.val] (dRows c i arg7 harg7 arg13 harg13 arg15 harg15 arg17 arg18 harg18 arg19 harg19 hc3 d7 d13 d15 d18 d19 m) (dSlice t))
      (addf (shapeCast S256x128 (View.readAt (Elt F) arg13.view (Rect.unit (s := S10x1536x128) ![t.val, 256 * m.val, 0] S1x256x128.size (accRows_inb t m)).toLoadRect (harg13.unread d13)) shapeCasts_S1x256x128_S256x128)
        (extractStridedSlice S256x128 ![0, 128 * t.val] (dRows c i arg7 harg7 arg13 harg13 arg15 harg15 arg17 arg18 harg18 arg19 harg19 hc3 d7 d13 d15 d18 d19 m) (dSlice t)))) shapeCasts_S256x128_S1x256x128⟩
end

section
variable {F : FTy → Type} [FloatOps F] [Named F]
variable (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc3 : cond0_3 i)
    (d7 : Vec F S512x640 .i8) (d10 : Vec F S1536x512 .fp8e4m3) (d13 : Vec F S10x1536x128 .f32) (d15 : Vec F S20x8x1280 .f32) (d17 : Vec F S512x1280 .bf16) (d18 : Vec F S10x1536x512 .f32) (d19 : Vec F S1536x128 .f32)

theorem two_list10 : (runTwo (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc3 d7 d10 d13 d15 d17 d18 d19).1 = ([5, 4, 3, 2, 1, 0] : List (Fin 6)).flatMap fun m => ([0] : List (Fin 1)).map fun z => codePiece i arg18 harg18 arg19 harg19 hc3 d18 d19 m z := rfl
theorem two_list13 : (runTwo (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc3 d7 d10 d13 d15 d17 d18 d19).2.1 = ([5, 4, 3, 2, 1, 0] : List (Fin 6)).flatMap fun m => ([9, 8, 7, 6, 5, 4, 3, 2, 1, 0] : List (Fin 10)).map fun t => sumPiece c i arg7 harg7 arg13 harg13 arg15 harg15 arg17 arg18 harg18 arg19 harg19 hc3 d7 d13 d15 d18 d19 m t := rfl
end

end Cert.KernelIdeal.Gen

end
-- ==== Proof.Mlp.OneVal.lean ====
/- The values that a first-phase point leaves. -/
module

public import proofs.«01_k».proof.Proof.Mlp.TwoList

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx

/-- The activation, in the kernel's order: half of `u`, plus half of `u` times the error function of `u/√2`. -/
def gelu (u : EReal) : EReal :=
  Ideal.ofBits .f32 1056964608#32 * u + Ideal.ofBits .f32 1056964608#32 * u * Ideal.erf (u * Ideal.ofBits .f32 1060439283#32)

/-- A number below 1536, 1280 or 512 within its group of 128. -/
def lane (c : Nat) : Fin 128 := ⟨c % 128, Nat.mod_lt _ (by decide)⟩

/-- The hidden activation's block `j`, at a row and a column. -/
def hid (j : Fin 10) (d1 : Vec Ideal S1536x1280 .bf16) (d2 : Vec Ideal S1536x128 .f32) (d4 : Vec Ideal S1280x512 .i8) (d6 : Vec Ideal S1x5120 .f32)
    (d14 : Vec Ideal S5x8x5120 .f32) (r : Fin 1536) (c : Fin 512) : EReal :=
  gelu ((∑ k : Fin 1280, d1 (ix2 r k) * wOne j d4 d14 (ix2 k c)) * d2 (ix2 r (lane c.val))
    + d6 (ix2 (0 : Fin 1) (⟨512 * j.val + c.val, by have := j.isLt; have := c.isLt; omega⟩ : Fin 5120)))

theorem geluTile_apply (acc : FVec Ideal S256x512 .f32) (rs : Vec Ideal S256x128 .f32) (b : Vec Ideal S1x128 .f32) (t : Fin 4) (r : Fin 256) (l : Fin 128) :
    geluTile (F := Ideal) acc rs b t (ix2 r l)
      = gelu (acc (ix2 r (⟨128 * t.val + l.val, by have := t.isLt; have := l.isLt; omega⟩ : Fin 512)) * rs (ix2 r l) + b (ix2 (0 : Fin 1) l)) := by
  unfold geluTile
  rw [shapeCast_self, shapeCast_self]
  have e1 : extractStridedSlice S256x128 ![0, 128 * t.val] acc (by revert t; decide) (ix2 r l)
      = acc (ix2 r (⟨128 * t.val + l.val, by have := t.isLt; have := l.isLt; omega⟩ : Fin 512)) := by
    refine extractStridedSlice_apply _ _ _ _ _ fun a => ?_
    match a with
    | ⟨0, _⟩ => show r.val = 0 + r.val; omega
    | ⟨1, _⟩ => rfl
  have e2 := broadcastTo_1b_ab_apply b broadcasts_S1x128_S256x128 r l
  rw [← e1, ← e2]
  rfl

section
variable (c : Dev nD) (i : grid0.Coords) (arg1 : Memref sig .tc .vmem S1536x1280 .bf16) (harg1 : arg1.IsWhole)
  (arg2 : Memref sig .tc .vmem S1536x128 .f32) (harg2 : arg2.IsWhole) (arg4 : Memref sig .tc .vmem S1280x512 .i8) (harg4 : arg4.IsWhole)
  (arg6 : Memref sig .tc .vmem S1x5120 .f32) (harg6 : arg6.IsWhole)
  (arg14 : Memref sig .tc .vmem S5x8x5120 .f32) (harg14 : arg14.IsWhole) (arg16 : Memref sig .tc .vmem S1280x512 .bf16)
  (arg19 : Memref sig .tc .vmem S1536x128 .f32) (harg19 : arg19.IsWhole) (hc1 : cond0_1 i)
  (d1 : Vec Ideal S1536x1280 .bf16) (d2 : Vec Ideal S1536x128 .f32) (d4 : Vec Ideal S1280x512 .i8) (d6 : Vec Ideal S1x5120 .f32) (d14 : Vec Ideal S5x8x5120 .f32)
  (d19 : Vec Ideal S1536x128 .f32)

theorem fTile_apply (m : Fin 6) (t : Fin 4) (r : Fin 256) (l : Fin 128) :
    fTile (F := Ideal) c i arg1 harg1 arg2 harg2 arg4 harg4 arg6 harg6 arg14 harg14 arg16 hc1 d1 d2 d4 d6 d14 m t (ix2 r l)
      = hid (ptOne hc1) d1 d2 d4 d6 d14 (⟨256 * m.val + r.val, by have := m.isLt; have := r.isLt; omega⟩ : Fin 1536)
          (⟨128 * t.val + l.val, by have := t.isLt; have := l.isLt; omega⟩ : Fin 512) := by
  have hm := m.isLt; have ht := t.isLt; have hr := r.isLt; have hl := l.isLt
  unfold fTile
  rw [geluTile_apply, w1_read i arg4 harg4 arg14 harg14 hc1 d4 d14 c arg16 _ (by funext a; match a with | ⟨0, _⟩ => rfl | ⟨1, _⟩ => rfl) _,
    readAt_unread harg1, readAt_unread harg2, readAt_unread harg6]
  unfold hid
  congr 1
  refine congrArg₂ (· + ·) (congrArg₂ (· * ·) ?_ ?_) ?_
  · refine (Ideal.matmul_plain_apply (M := 256) (K := 1280) (N := 512) none _ _ _ _ _).trans ?_
    rw [show (constant S256x512 .f32 0x00000000#32 : FVec Ideal S256x512 .f32) _ = (0 : EReal) from Ideal.ofBits_zero_f32, zero_add]
    refine Finset.sum_congr rfl fun k _ => congrArg (· * _) ?_
    refine View.ld_unit_apply_of _ _ _ _ _ _ fun a => ?_
    match a with
    | ⟨0, _⟩ => rfl
    | ⟨1, _⟩ => show k.val = 0 + k.val; omega
  · refine View.ld_unit_apply_of _ _ _ _ _ _ fun a => ?_
    match a with
    | ⟨0, _⟩ => rfl
    | ⟨1, _⟩ => show (128 * t.val + l.val) % 128 = 0 + l.val; omega
  · refine View.ld_unit_apply_of _ _ _ _ _ _ fun a => ?_
    match a with
    | ⟨0, _⟩ => rfl
    | ⟨1, _⟩ => show 512 * (i 0).val + (128 * t.val + l.val) = sc1Col i t + l.val; rw [sc1Col_eq (lt_of_cond1 hc1)]; omega

/-- The activation's scratch with block `j` filled. -/
def fillHid (j : Fin 10) (f : Fin 1536 → Fin 512 → EReal) (d18 : Vec Ideal S10x1536x512 .f32) : Vec Ideal S10x1536x512 .f32 := fun y =>
  if (y 0).val = j.val then f (y 1) (y 2) else d18 y

/-- The running maxima with the four lanes groups of a block taken in. -/
def fillMax (f : Fin 1536 → Fin 512 → EReal) (d19 : Vec Ideal S1536x128 .f32) : Vec Ideal S1536x128 .f32 := fun y =>
  let g : Fin 4 → EReal := fun t => f (y 0) ⟨128 * t.val + (y 1).val, by have := t.isLt; have := idx2_lt1 y; omega⟩
  max (max (max (max (d19 y) (max (g 0) (-g 0))) (max (g 1) (-g 1))) (max (g 2) (-g 2))) (max (g 3) (-g 3))

theorem one_read18 (v : View sig .tc .vmem S10x1536x512 .f32) (f0 : v.ty.Contents (Elt Ideal)) (d18 : Vec Ideal S10x1536x512 .f32) (hd : v.read (Elt Ideal) f0 = d18) :
    v.read (Elt Ideal) (v.writes (Elt Ideal) f0
      (([5, 4, 3, 2, 1, 0] : List (Fin 6)).flatMap fun m => ([3, 2, 1, 0] : List (Fin 4)).map fun t => fPiece (F := Ideal) c i arg1 harg1 arg2 harg2 arg4 harg4 arg6 harg6 arg14 harg14 arg16 hc1 d1 d2 d4 d6 d14 m t))
      = fillHid (ptOne hc1) (hid (ptOne hc1) d1 d2 d4 d6 d14) d18 := by
  have hj := lt_of_cond1 hc1
  funext y
  have hm : ∀ t : Fin 6, t ∈ ([5, 4, 3, 2, 1, 0] : List (Fin 6)) := by decide
  have hk : ∀ t : Fin 4, t ∈ ([3, 2, 1, 0] : List (Fin 4)) := by decide
  have h1 : (y 1).val < 1536 := (y 1).isLt
  have h2 : (y 2).val < 512 := (y 2).isLt
  by_cases hy : (y 0).val = (i 0).val
  · refine read_family v f0 _ _ (fun m t => fPiece (F := Ideal) c i arg1 harg1 arg2 harg2 arg4 harg4 arg6 harg6 arg14 harg14 arg16 hc1 d1 d2 d4 d6 d14 m t) _ ?_ y ⟨⟨(y 1).val / 256, by omega⟩, hm _, ⟨(y 2).val / 128, by omega⟩, hk _, ?_⟩
    · intro m t x
      have hm' := m.isLt; have ht := t.isLt
      obtain ⟨u, r, l, rfl⟩ : ∃ (u : Fin 1) (r : Fin 256) (l : Fin 128), x = ix3 u r l := ⟨x 0, x 1, x 2, eq_ix3 x⟩
      have hr := r.isLt; have hl := l.isLt
      unfold fPiece
      dsimp only
      rw [shapeCast_ab_1ab_apply, fTile_apply]
      unfold fillHid
      rw [if_pos (by show slotOne i + 1 * u.val = (i 0).val; rw [slotOne_eq hj]; omega)]
      refine congrArg₂ (hid (ptOne hc1) d1 d2 d4 d6 d14) (Fin.ext ?_) (Fin.ext ?_)
      · show 256 * m.val + r.val = 256 * m.val + 1 * r.val; omega
      · show 128 * t.val + l.val = 128 * t.val + 1 * l.val; omega
    · show y ∈ (Rect.unit (s := S10x1536x512) ![slotOne i, 256 * ((y 1).val / 256), 128 * ((y 2).val / 128)] S1x256x128.size
        (slot_inb (lt_of_cond1 hc1) ⟨(y 1).val / 256, by omega⟩ ⟨(y 2).val / 128, by omega⟩)).set
      refine Rect.mem_set_unit.mpr fun a => ?_
      match a with
      | ⟨0, _⟩ => show slotOne i ≤ (y 0).val ∧ (y 0).val < slotOne i + 1; rw [slotOne_eq hj]; omega
      | ⟨1, _⟩ => show 256 * ((y 1).val / 256) ≤ (y 1).val ∧ (y 1).val < 256 * ((y 1).val / 256) + 256; omega
      | ⟨2, _⟩ => show 128 * ((y 2).val / 128) ≤ (y 2).val ∧ (y 2).val < 128 * ((y 2).val / 128) + 128; omega
  · rw [read_miss v f0 y _ ?_, hd]
    · unfold fillHid; rw [if_neg hy]
    · intro p hp
      obtain ⟨m, _, hp⟩ := List.mem_flatMap.mp hp
      obtain ⟨t, _, rfl⟩ := List.mem_map.mp hp
      intro hmem
      have h0 : slotOne i ≤ (y 0).val ∧ (y 0).val < slotOne i + 1 := (Rect.mem_set_unit (s := S10x1536x512)
        (off := ![slotOne i, 256 * m.val, 128 * t.val]) (size := S1x256x128.size) (inb := slot_inb (lt_of_cond1 hc1) m t)).mp hmem 0
      rw [slotOne_eq hj] at h0; omega

theorem one_read19 (v : View sig .tc .vmem S1536x128 .f32) (f0 : v.ty.Contents (Elt Ideal)) :
    v.read (Elt Ideal) (v.writes (Elt Ideal) f0
      (([5, 4, 3, 2, 1, 0] : List (Fin 6)).flatMap fun m => ([0] : List (Fin 1)).map fun t =>
        amPiece (F := Ideal) c i arg1 harg1 arg2 harg2 arg4 harg4 arg6 harg6 arg14 harg14 arg16 arg19 harg19 hc1 d1 d2 d4 d6 d14 d19 m t))
      = fillMax (hid (ptOne hc1) d1 d2 d4 d6 d14) d19 := by
  funext y
  have hm : ∀ t : Fin 6, t ∈ ([5, 4, 3, 2, 1, 0] : List (Fin 6)) := by decide
  have h1 : (y 0).val < 1536 := (y 0).isLt
  have h2 : (y 1).val < 128 := (y 1).isLt
  refine read_family v f0 _ _ (fun m t => amPiece (F := Ideal) c i arg1 harg1 arg2 harg2 arg4 harg4 arg6 harg6 arg14 harg14 arg16 arg19 harg19 hc1 d1 d2 d4 d6 d14 d19 m t)
    _ ?_ y ⟨⟨(y 0).val / 256, by omega⟩, hm _, 0, by decide, ?_⟩
  · intro m t x
    have hm' := m.isLt
    obtain ⟨r, l, rfl⟩ : ∃ (r : Fin 256) (l : Fin 128), x = ix2 r l := ⟨x 0, x 1, eq_ix2 x⟩
    have hr := r.isLt; have hl := l.isLt
    unfold amPiece
    dsimp only
    refine (congrFun (shapeCast_self (s := S256x128) _ _) _).trans ?_
    rw [readAt_unread harg19]
    have key : ∀ t' : Fin 4, fTile (F := Ideal) c i arg1 harg1 arg2 harg2 arg4 harg4 arg6 harg6 arg14 harg14 arg16 hc1 d1 d2 d4 d6 d14 m t' (ix2 r l)
        = hid (ptOne hc1) d1 d2 d4 d6 d14 ((Rect.unit (s := S1536x128) ![256 * m.val, 0] S256x128.size (rows_inb m)).emb (ix2 r l) 0)
          (⟨128 * t'.val + ((Rect.unit (s := S1536x128) ![256 * m.val, 0] S256x128.size (rows_inb m)).emb (ix2 r l) 1).val, by
            have := t'.isLt; have := idx2_lt1 ((Rect.unit (s := S1536x128) ![256 * m.val, 0] S256x128.size (rows_inb m)).emb (ix2 r l)); omega⟩ : Fin 512) := by
      intro t'
      rw [fTile_apply]
      refine congrArg₂ (hid (ptOne hc1) d1 d2 d4 d6 d14) (Fin.ext ?_) (Fin.ext ?_)
      · show 256 * m.val + r.val = 256 * m.val + 1 * r.val; omega
      · show 128 * t'.val + l.val = 128 * t'.val + (0 + 1 * l.val); omega
    unfold fillMax
    dsimp only
    rw [← key 0, ← key 1, ← key 2, ← key 3]
    rfl
  · show y ∈ (Rect.unit (s := S1536x128) ![256 * ((y 0).val / 256), 0] S256x128.size (rows_inb ⟨(y 0).val / 256, by omega⟩)).set
    refine Rect.mem_set_unit.mpr fun a => ?_
    match a with
    | ⟨0, _⟩ => show 256 * ((y 0).val / 256) ≤ (y 0).val ∧ (y 0).val < 256 * ((y 0).val / 256) + 256; omega
    | ⟨1, _⟩ => show 0 ≤ (y 1).val ∧ (y 1).val < 0 + 128; omega
end

end Cert.KernelIdeal.Gen

end
-- ==== Proof.Mlp.ScalesVal.lean ====
/- The values that the first point's setup and the row scales leave. -/
module

public import proofs.«01_k».proof.Proof.Mlp.OneVal

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx

/-- The number whose exponent field is a scale's byte. -/
def scaleVal (b : BitVec 8) : EReal := Ideal.ofBits .f32 (IntOp.shli .vector (b.setWidth 32) 23#32)

/-- The first product's block scales as numbers, eight rows to a block of 256. -/
def scTab (d5 : Vec Ideal S40x5120 .i8) : Vec Ideal S5x8x5120 .f32 := fun y =>
  scaleVal (d5 (ix2 (⟨8 * (y 0).val + (y 1).val, by have h0 : (y 0).val < 5 := (y 0).isLt; have h1 : (y 1).val < 8 := (y 1).isLt; omega⟩ : Fin 40) (y 2)))
/-- The second product's block scales as numbers. -/
def sdTab (d8 : Vec Ideal S160x1280 .i8) : Vec Ideal S20x8x1280 .f32 := fun y =>
  scaleVal (d8 (ix2 (⟨8 * (y 0).val + (y 1).val, by have h0 : (y 0).val < 20 := (y 0).isLt; have h1 : (y 1).val < 8 := (y 1).isLt; omega⟩ : Fin 160) (y 2)))

theorem init_read14 (arg5 : Memref sig .tc .vmem S40x5120 .i8) (harg5 : arg5.IsWhole) (d5 : Vec Ideal S40x5120 .i8)
    (v : View sig .tc .vmem S5x8x5120 .f32) (f0 : v.ty.Contents (Elt Ideal)) :
    v.read (Elt Ideal) (v.writes (Elt Ideal) f0 (([4, 3, 2, 1, 0] : List (Fin 5)).flatMap fun kb => ([0] : List (Fin 1)).map fun z => scPiece arg5 harg5 d5 kb z))
      = scTab d5 := by
  funext y
  have hm : ∀ t : Fin 5, t ∈ ([4, 3, 2, 1, 0] : List (Fin 5)) := by decide
  have h1 : (y 1).val < 8 := (y 1).isLt
  have h2 : (y 2).val < 5120 := (y 2).isLt
  refine read_family v f0 _ _ (fun kb z => scPiece (F := Ideal) arg5 harg5 d5 kb z) _ ?_ y ⟨y 0, hm _, 0, by decide, ?_⟩
  · intro kb z x
    obtain ⟨u, r, l, rfl⟩ : ∃ (u : Fin 1) (r : Fin 8) (l : Fin 5120), x = ix3 u r l := ⟨x 0, x 1, x 2, eq_ix3 x⟩
    have hk := kb.isLt; have hr := r.isLt
    unfold scPiece
    dsimp only
    rw [shapeCast_ab_1ab_apply, readAt_unread harg5, View.ld_unit_zero (by funext a; match a with | ⟨0, _⟩ => rfl | ⟨1, _⟩ => rfl)]
    rw [extractStridedSlice_apply _ _ _ _ (ix2 (⟨8 * kb.val + r.val, by omega⟩ : Fin 40) l) (by
      intro a; match a with | ⟨0, _⟩ => rfl | ⟨1, _⟩ => exact (Nat.zero_add _).symm)]
    unfold scTab
    refine congrArg (fun q => scaleVal (d5 q)) (congrArg₂ ix2 (Fin.ext ?_) (Fin.ext ?_))
    · show 8 * kb.val + r.val = 8 * (kb.val + 1 * u.val) + (0 + 1 * r.val); omega
    · show l.val = 0 + 1 * l.val; omega
  · show y ∈ (Rect.unit (s := S5x8x5120) ![(y 0).val, 0, 0] S1x8x5120.size (scOff_inb (y 0))).set
    refine Rect.mem_set_unit.mpr fun a => ?_
    match a with
    | ⟨0, _⟩ => show (y 0).val ≤ (y 0).val ∧ (y 0).val < (y 0).val + 1; omega
    | ⟨1, _⟩ => show 0 ≤ (y 1).val ∧ (y 1).val < 0 + 8; omega
    | ⟨2, _⟩ => show 0 ≤ (y 2).val ∧ (y 2).val < 0 + 5120; omega

theorem init_read15 (arg8 : Memref sig .tc .vmem S160x1280 .i8) (harg8 : arg8.IsWhole) (d8 : Vec Ideal S160x1280 .i8)
    (v : View sig .tc .vmem S20x8x1280 .f32) (f0 : v.ty.Contents (Elt Ideal)) :
    v.read (Elt Ideal) (v.writes (Elt Ideal) f0 (([19, 18, 17, 16, 15, 14, 13, 12, 11, 10, 9, 8, 7, 6, 5, 4, 3, 2, 1, 0] : List (Fin 20)).flatMap fun kb =>
      ([0] : List (Fin 1)).map fun z => sdPiece arg8 harg8 d8 kb z)) = sdTab d8 := by
  funext y
  have hm : ∀ t : Fin 20, t ∈ ([19, 18, 17, 16, 15, 14, 13, 12, 11, 10, 9, 8, 7, 6, 5, 4, 3, 2, 1, 0] : List (Fin 20)) := by decide
  have h1 : (y 1).val < 8 := (y 1).isLt
  have h2 : (y 2).val < 1280 := (y 2).isLt
  refine read_family v f0 _ _ (fun kb z => sdPiece (F := Ideal) arg8 harg8 d8 kb z) _ ?_ y ⟨y 0, hm _, 0, by decide, ?_⟩
  · intro kb z x
    obtain ⟨u, r, l, rfl⟩ : ∃ (u : Fin 1) (r : Fin 8) (l : Fin 1280), x = ix3 u r l := ⟨x 0, x 1, x 2, eq_ix3 x⟩
    have hk := kb.isLt; have hr := r.isLt
    unfold sdPiece
    dsimp only
    rw [shapeCast_ab_1ab_apply, readAt_unread harg8, View.ld_unit_zero (by funext a; match a with | ⟨0, _⟩ => rfl | ⟨1, _⟩ => rfl)]
    rw [extractStridedSlice_apply _ _ _ _ (ix2 (⟨8 * kb.val + r.val, by omega⟩ : Fin 160) l) (by
      intro a; match a with | ⟨0, _⟩ => rfl | ⟨1, _⟩ => exact (Nat.zero_add _).symm)]
    unfold sdTab
    refine congrArg (fun q => scaleVal (d8 q)) (congrArg₂ ix2 (Fin.ext ?_) (Fin.ext ?_))
    · show 8 * kb.val + r.val = 8 * (kb.val + 1 * u.val) + (0 + 1 * r.val); omega
    · show l.val = 0 + 1 * l.val; omega
  · show y ∈ (Rect.unit (s := S20x8x1280) ![(y 0).val, 0, 0] S1x8x1280.size (sdOff_inb (y 0))).set
    refine Rect.mem_set_unit.mpr fun a => ?_
    match a with
    | ⟨0, _⟩ => show (y 0).val ≤ (y 0).val ∧ (y 0).val < (y 0).val + 1; omega
    | ⟨1, _⟩ => show 0 ≤ (y 1).val ∧ (y 1).val < 0 + 8; omega
    | ⟨2, _⟩ => show 0 ≤ (y 2).val ∧ (y 2).val < 0 + 1280; omega

theorem init_read19 (v : View sig .tc .vmem S1536x128 .f32) (f0 : v.ty.Contents (Elt Ideal)) :
    v.read (Elt Ideal) (v.writes (Elt Ideal) f0 (([0] : List (Fin 1)).flatMap fun kb => ([0] : List (Fin 1)).map fun z => zeroPiece kb z))
      = fun _ => (0 : EReal) := by
  funext y
  have h0 : (y 0).val < 1536 := (y 0).isLt
  have h1 : (y 1).val < 128 := (y 1).isLt
  refine read_family v f0 _ _ (fun (kb z : Fin 1) => zeroPiece (F := Ideal) kb z) (fun _ => (0 : EReal)) ?_ y ⟨0, List.mem_singleton_self _, 0, List.mem_singleton_self _, ?_⟩
  · intro kb z x
    unfold zeroPiece
    dsimp only
    refine (congrFun (shapeCast_self (s := S1536x128) _ _) _).trans ?_
    exact Ideal.ofBits_zero_f32
  · show y ∈ (Rect.unit (s := S1536x128) ![0, 0] S1536x128.size inb_S1536x128_S1536x128_0_0).set
    refine Rect.mem_set_unit.mpr fun a => ?_
    match a with
    | ⟨0, _⟩ => show 0 ≤ (y 0).val ∧ (y 0).val < 0 + 1536; omega
    | ⟨1, _⟩ => show 0 ≤ (y 1).val ∧ (y 1).val < 0 + 128; omega

/-- The largest of a row's 128 lanes. -/
def rowTop (f : Fin 128 → EReal) : EReal := (Finset.univ : Finset (Fin 128)).fold max (Ideal.ofBits .f32 0xFF800000#32) f

/-- A row's scale: the largest magnitude over the format's bound, and 1 for a row of zeros. -/
def rowScale (a : EReal) : EReal :=
  Scalar.select (FloatOps.cmpf (F := Ideal) (φ := .f32) .oeq a (Ideal.ofBits .f32 0x00000000#32)) (Ideal.ofBits .f32 0x3F800000#32)
    (a * Named.named (F := Ideal) (φ := .f32) κ "inv_f8_max" 0x3B124925#32)

theorem pay270_apply (V : Vec Ideal S128x128 .f32) (r l : Fin 128) : k0_pay270 (F := Ideal) V (ix2 r l) = rowScale (rowTop fun k => V (ix2 r k)) := by
  unfold k0_pay270
  have e : ∀ r : Fin 128, shapeCast S128x1 (multiReduction (F := Ideal) .maximumf [1] S128 V 0xFF800000#32 reduces_S128x128_S128 (.inl rfl) rfl) shapeCasts_S128_S128x1 (ix2 r (0 : Fin 1))
      = rowTop fun k => V (ix2 r k) := by
    intro r
    rw [shapeCast_a_a1_apply]
    refine (Ideal.multiReduction_maximumf_single V _ reduces_S128x128_S128 _ _ _).trans ?_
    unfold rowTop
    refine congrArg (fun f => Finset.fold max _ f Finset.univ) (funext fun k => congrArg V ?_)
    funext a; match a with | ⟨0, _⟩ => rfl | ⟨1, _⟩ => rfl
  refine (broadcastTo_apply _ _ (ix2 r l) (ix2 r (0 : Fin 1)) fun a => ?_).trans ?_
  · match a with | ⟨0, _⟩ => rfl | ⟨1, _⟩ => rfl
  rw [shapeCast_self]
  unfold rowScale
  rw [← e r]
  rfl

/-- The row scales of the running maxima. -/
def scales (d19 : Vec Ideal S1536x128 .f32) (r : Fin 1536) : EReal := rowScale (rowTop fun k => d19 (ix2 r k))

section
variable (arg19 : Memref sig .tc .vmem S1536x128 .f32) (harg19 : arg19.IsWhole) (d19 : Vec Ideal S1536x128 .f32)

theorem bandMax_scale (m : Fin 12) (r l : Fin 128) : k0_pay270 (F := Ideal) (bandMax arg19 harg19 d19 m) (ix2 r l)
    = scales d19 (⟨128 * m.val + r.val, by have := m.isLt; have := r.isLt; omega⟩ : Fin 1536) := by
  rw [pay270_apply]
  unfold scales bandMax
  rw [readAt_unread harg19]
  refine congrArg (fun f => rowScale (rowTop f)) (funext fun k => ?_)
  refine View.ld_unit_apply_of _ _ _ _ _ _ fun a => ?_
  match a with
  | ⟨0, _⟩ => rfl
  | ⟨1, _⟩ => exact (Nat.zero_add _).symm

theorem mem12 : ∀ t : Fin 12, t ∈ ([11, 10, 9, 8, 7, 6, 5, 4, 3, 2, 1, 0] : List (Fin 12)) := by decide

theorem mem_band (y : S1536x128.Idx) (m : Fin 12) (hm : m.val = (y 0).val / 128) :
    y ∈ (Rect.unit (s := S1536x128) ![128 * m.val, 0] S128x128.size (band_inb m)).set := by
  have h0 : (y 0).val < 1536 := (y 0).isLt
  have h1 : (y 1).val < 128 := (y 1).isLt
  refine Rect.mem_set_unit.mpr fun a => ?_
  match a with
  | ⟨0, _⟩ => show 128 * m.val ≤ (y 0).val ∧ (y 0).val < 128 * m.val + 128; omega
  | ⟨1, _⟩ => show 0 ≤ (y 1).val ∧ (y 1).val < 0 + 128; omega

theorem scales_read20 (v : View sig .tc .vmem S1536x128 .f32) (f0 : v.ty.Contents (Elt Ideal)) :
    v.read (Elt Ideal) (v.writes (Elt Ideal) f0 (([11, 10, 9, 8, 7, 6, 5, 4, 3, 2, 1, 0] : List (Fin 12)).flatMap fun m =>
      ([0] : List (Fin 1)).map fun z => scalePiece arg19 harg19 d19 m z)) = fun y => scales d19 (y 0) := by
  funext y
  have h0 : (y 0).val < 1536 := (y 0).isLt
  refine read_family v f0 _ _ (fun m z => scalePiece (F := Ideal) arg19 harg19 d19 m z) (fun y => scales d19 (y 0)) ?_ y
    ⟨⟨(y 0).val / 128, by omega⟩, mem12 _, 0, by decide, mem_band y _ rfl⟩
  intro m z x
  obtain ⟨r, l, rfl⟩ : ∃ (r : Fin 128) (l : Fin 128), x = ix2 r l := ⟨x 0, x 1, eq_ix2 x⟩
  unfold scalePiece
  dsimp only
  unfold k0_pay271
  rw [shapeCast_self, bandMax_scale]
  exact congrArg (scales d19) (Fin.ext (by show 128 * m.val + r.val = 128 * m.val + 1 * r.val; omega))

theorem scales_read19 (v : View sig .tc .vmem S1536x128 .f32) (f0 : v.ty.Contents (Elt Ideal)) :
    v.read (Elt Ideal) (v.writes (Elt Ideal) f0 (([11, 10, 9, 8, 7, 6, 5, 4, 3, 2, 1, 0] : List (Fin 12)).flatMap fun m =>
      ([0] : List (Fin 1)).map fun z => invPiece arg19 harg19 d19 m z)) = fun y => Ideal.div (Ideal.ofBits .f32 0x3F800000#32) (scales d19 (y 0)) := by
  funext y
  have h0 : (y 0).val < 1536 := (y 0).isLt
  refine read_family v f0 _ _ (fun m z => invPiece (F := Ideal) arg19 harg19 d19 m z)
    (fun y => Ideal.div (Ideal.ofBits .f32 0x3F800000#32) (scales d19 (y 0))) ?_ y
    ⟨⟨(y 0).val / 128, by omega⟩, mem12 _, 0, by decide, mem_band y _ rfl⟩
  intro m z x
  obtain ⟨r, l, rfl⟩ : ∃ (r : Fin 128) (l : Fin 128), x = ix2 r l := ⟨x 0, x 1, eq_ix2 x⟩
  unfold invPiece
  dsimp only
  unfold k0_pay272
  rw [shapeCast_self, divf_apply, broadcast_apply, bandMax_scale]
  exact congrArg (fun q => Ideal.div (Ideal.ofBits .f32 0x3F800000#32) (scales d19 q)) (Fin.ext (by show 128 * m.val + r.val = 128 * m.val + 1 * r.val; omega))

theorem cmpi_eq_ne (a b : BitVec 32) (h : ¬ a = b) : Scalar.cmpi .eq a b = 0#1 := by
  have h' : (a == b) = false := by simpa using h
  simp [Scalar.cmpi, IntOp.cmpi, h']
theorem cmpi_eq_self (a : BitVec 32) : Scalar.cmpi .eq a a = 1#1 := by simp [Scalar.cmpi, IntOp.cmpi]
theorem sel_zero {α : Type} (a b : α) : Scalar.select 0#1 a b = b := rfl
theorem sel_one {α : Type} (a b : α) : Scalar.select 1#1 a b = a := rfl

theorem lanes_apply (V : Vec Ideal S128x128 .f32) (l : Fin 128) : k0_pay273 (F := Ideal) V (ix2 (0 : Fin 1) l) = k0_pay270 (F := Ideal) V (ix2 l l) := by
  unfold k0_pay273
  dsimp only
  refine (shapeCast_a_1a_apply _ _ _ _).trans ?_
  refine (Ideal.multiReduction_add_single _ _ reduces_S128x128_S128_2 _ _ _).trans ?_
  refine (Finset.sum_eq_single (l : Fin 128) ?_ ?_).trans ?_
  · intro k _ hk
    have : (reduces_S128x128_S128_2).lift (ix1 l) k = ix2 (k : Fin 128) l := by
      funext a; match a with | ⟨0, _⟩ => rfl | ⟨1, _⟩ => rfl
    rw [this]
    have hne : ¬ (BitVec.ofNat 32 (0 * 128 + (k : Fin 128).val) = BitVec.ofNat 32 (0 * 128 + l.val)) := by
      intro h
      have h' := congrArg BitVec.toNat h
      simp only [BitVec.toNat_ofNat] at h'
      have := l.isLt; have hk' : (k : Fin 128).val < 128 := k.isLt
      exact hk (Fin.ext (by omega))
    show Scalar.select (Scalar.cmpi .eq (BitVec.ofNat 32 (0 * 128 + (k : Fin 128).val)) (BitVec.ofNat 32 (0 * 128 + l.val))) _ _ = _
    rw [cmpi_eq_ne _ _ hne, sel_zero]
    exact Ideal.ofBits_zero_f32
  · intro h; exact absurd (Finset.mem_univ _) h
  · have : (reduces_S128x128_S128_2).lift (ix1 l) l = ix2 (l : Fin 128) l := by
      funext a; match a with | ⟨0, _⟩ => rfl | ⟨1, _⟩ => rfl
    rw [this]
    show Scalar.select (Scalar.cmpi .eq (BitVec.ofNat 32 (0 * 128 + l.val)) (BitVec.ofNat 32 (0 * 128 + l.val))) _ _ = _
    rw [cmpi_eq_self, sel_one]

theorem scales_read11 (v : View sig .tc .vmem S1x1536 .f32) (f0 : v.ty.Contents (Elt Ideal)) :
    v.read (Elt Ideal) (v.writes (Elt Ideal) f0 (([11, 10, 9, 8, 7, 6, 5, 4, 3, 2, 1, 0] : List (Fin 12)).flatMap fun m =>
      ([0] : List (Fin 1)).map fun z => lanePiece arg19 harg19 d19 m z)) = fun y => scales d19 (y 1) := by
  funext y
  have h0 : (y 1).val < 1536 := (y 1).isLt
  have h1 : (y 0).val < 1 := (y 0).isLt
  refine read_family v f0 _ _ (fun m z => lanePiece (F := Ideal) arg19 harg19 d19 m z) (fun y => scales d19 (y 1)) ?_ y
    ⟨⟨(y 1).val / 128, by omega⟩, mem12 _, 0, by decide, ?_⟩
  · intro m z x
    obtain ⟨u, l, rfl⟩ : ∃ (u : Fin 1) (l : Fin 128), x = ix2 u l := ⟨x 0, x 1, eq_ix2 x⟩
    obtain rfl : u = 0 := Subsingleton.elim _ _
    unfold lanePiece
    dsimp only
    rw [lanes_apply, bandMax_scale]
    exact congrArg (scales d19) (Fin.ext (by show 128 * m.val + l.val = 128 * m.val + 1 * l.val; omega))
  · show y ∈ (Rect.unit (s := S1x1536) ![0, 128 * ((y 1).val / 128)] S1x128.size (lane_inb ⟨(y 1).val / 128, by omega⟩)).set
    refine Rect.mem_set_unit.mpr fun a => ?_
    match a with
    | ⟨0, _⟩ => show 0 ≤ (y 0).val ∧ (y 0).val < 0 + 1; omega
    | ⟨1, _⟩ => show 128 * ((y 1).val / 128) ≤ (y 1).val ∧ (y 1).val < 128 * ((y 1).val / 128) + 128; omega
end

end Cert.KernelIdeal.Gen

end
-- ==== Proof.Mlp.TwoVal.lean ====
/- The values that a second-phase point leaves. -/
module

public import proofs.«01_k».proof.Proof.Mlp.ScalesVal

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx

/-- The number of a second-phase point. -/
abbrev ptTwo {i : grid0.Coords} (hc3 : cond0_3 i) : Fin 10 := ⟨(i 0).val - 10, by have := ge_of_cond3 hc3; omega⟩

/-- The second product's weight block at point `k`. -/
def wTwo (k : Fin 10) (d7 : Vec Ideal S512x640 .i8) (d15 : Vec Ideal S20x8x1280 .f32) : FVec Ideal S512x1280 .bf16 := fun y =>
  nibVal (decide (640 ≤ (y 1).val)) (d7 (ix2 (y 0) (⟨(y 1).val % 640, Nat.mod_lt _ (by decide)⟩ : Fin 640)))
    * d15 (ix3 (⟨2 * k.val + (y 0).val / 256, by have := idx2_lt0 y; omega⟩ : Fin 20) (⟨(y 0).val % 256 / 32, by omega⟩ : Fin 8) (y 1))

theorem wordTwo_bit (hi : Bool) (w : IVec S64x128 32) : ∀ x q, q < 28 → ((wordTwo hi w) x).getLsbD q = (w x).getLsbD (q + shBy hi) := by
  intro x q hq
  cases hi with
  | false => simp [wordTwo, shBy]
  | true =>
    show (IntOp.shrui .vector (w x) 4#32).getLsbD q = _
    simp [IntOp.shrui, shBy, Nat.add_comm]

section
variable (i : grid0.Coords) (arg7 : Memref sig .tc .vmem S512x640 .i8) (harg7 : arg7.IsWhole) (arg15 : Memref sig .tc .vmem S20x8x1280 .f32) (harg15 : arg15.IsWhole) (hc3 : cond0_3 i)
    (d7 : Vec Ideal S512x640 .i8) (d15 : Vec Ideal S20x8x1280 .f32)

theorem w2Piece_eq (p : Fin 5 × Bool) (kb : Fin 2) (x) : (w2Piece (F := Ideal) i arg7 harg7 arg15 harg15 hc3 d7 d15 p kb).2 x
    = wTwo (ptTwo hc3) d7 d15 ((w2Piece (F := Ideal) i arg7 harg7 arg15 harg15 hc3 d7 d15 p kb).1.emb x) := by
  obtain ⟨t, hi⟩ := p
  obtain ⟨r, l, rfl⟩ : ∃ (r : Fin 256) (l : Fin 128), x = ix2 r l := ⟨x 0, x 1, eq_ix2 x⟩
  have hr := r.isLt; have hl := l.isLt; have ht := t.isLt; have hk := kb.isLt
  unfold w2Piece
  dsimp only
  rw [tile_apply]
  rw [decBits_apply hi _ _ (wordTwo_bit hi _) r l]
  rw [readAt_unread harg7, readAt_unread harg15]
  unfold wTwo
  have hcol : colTwo hi t = 128 * t.val + if hi then 640 else 0 := by cases hi <;> simp [colTwo]; omega
  refine congrArg₂ (· * ·) ?_ ?_
  · refine congrArg₂ nibVal ?_ ?_
    · show hi = decide (640 ≤ colTwo hi t + 1 * l.val)
      rw [hcol]; cases hi
      · simp; omega
      · simp; omega
    · refine View.ld_unit_apply_of _ _ _ _ _ _ fun a => ?_
      match a with
      | ⟨0, _⟩ => show 256 * kb.val + 1 * r.val = 256 * kb.val + r.val; omega
      | ⟨1, _⟩ =>
        show (colTwo hi t + 1 * l.val) % 640 = 128 * t.val + l.val
        rw [hcol]; cases hi
        · simp; omega
        · simp; omega
  · refine View.ld_unit_apply_of _ _ _ _ _ _ fun a => ?_
    match a with
    | ⟨0, _⟩ => show 2 * ((i 0).val - 10) + (256 * kb.val + 1 * r.val) / 256 = scRow2 i kb + 0; rw [scRow2_eq hc3]; omega
    | ⟨1, _⟩ => show (256 * kb.val + 1 * r.val) % 256 / 32 = r.val / 32 + 0; omega
    | ⟨2, _⟩ => show colTwo hi t + 1 * l.val = colTwo hi t + l.val; omega

theorem w2_read (c : Dev nD) (arg17 : Memref sig .tc .vmem S512x1280 .bf16) (off : Fin 2 → Nat) (h0 : off = fun _ => 0) (inb) :
    View.readCov arg17.view (runTwo.sl.H17_20 (F := Ideal) c i arg7 harg7 arg15 harg15 hc3 d7 d15) (Rect.unit (s := S512x1280) off S512x1280.size inb).toLoadRect
      = wTwo (ptTwo hc3) d7 d15 := by
  rw [w2_list]
  refine readCov_family arg17.view _ _ _ _ (w2Piece_eq i arg7 harg7 arg15 harg15 hc3 d7 d15) off h0 inb fun y => ?_
  have h0 : (y 0).val < 512 := idx2_lt0 y
  have h1 : (y 1).val < 1280 := idx2_lt1 y
  have hm : ∀ p : Fin 5 × Bool, p ∈ ([(4, true), (4, false), (3, true), (3, false), (2, true), (2, false), (1, true), (1, false), (0, true), (0, false)] : List (Fin 5 × Bool)) := by decide
  have hk : ∀ t : Fin 2, t ∈ ([1, 0] : List (Fin 2)) := by decide
  refine ⟨(⟨(y 1).val % 640 / 128, by omega⟩, decide (640 ≤ (y 1).val)), hm _, ⟨(y 0).val / 256, by omega⟩, hk _, ?_⟩
  show y ∈ (Rect.unit (s := S512x1280) ![256 * ((y 0).val / 256), colTwo (decide (640 ≤ (y 1).val)) ⟨(y 1).val % 640 / 128, by omega⟩] S256x128.size
    (w2_inb _ _ ⟨(y 0).val / 256, by omega⟩)).set
  refine Rect.mem_set_unit.mpr fun a => ?_
  match a with
  | ⟨0, _⟩ => show 256 * ((y 0).val / 256) ≤ (y 0).val ∧ (y 0).val < 256 * ((y 0).val / 256) + 256; omega
  | ⟨1, _⟩ =>
    show colTwo (decide (640 ≤ (y 1).val)) ⟨(y 1).val % 640 / 128, _⟩ ≤ (y 1).val ∧ (y 1).val < colTwo (decide (640 ≤ (y 1).val)) ⟨(y 1).val % 640 / 128, _⟩ + 128
    by_cases h : 640 ≤ (y 1).val
    · simp only [colTwo, h, decide_true, cond_true]; omega
    · simp only [colTwo, h, decide_false, cond_false]; omega
end

/-- A value clipped to the format's range. -/
def clip8 (x : EReal) : EReal := min (Ideal.ofBits .f32 1138753536#32) (max (Ideal.ofBits .f32 3286237184#32) x)

/-- The codes of block `k` of the activation. -/
def codes (k : Fin 10) (d18 : Vec Ideal S10x1536x512 .f32) (d19 : Vec Ideal S1536x128 .f32) (r : Fin 1536) (c : Fin 512) : EReal :=
  clip8 (d18 (ix3 k r c) * d19 (ix2 r (lane c.val)))

/-- Their product with the weight block. -/
def prodTwo (k : Fin 10) (d7 : Vec Ideal S512x640 .i8) (d15 : Vec Ideal S20x8x1280 .f32) (f : Fin 1536 → Fin 512 → EReal) (r : Fin 1536) (n : Fin 1280) : EReal :=
  ∑ q : Fin 512, f r q * wTwo k d7 d15 (ix2 q n)

/-- The accumulator with a block's product taken in. -/
def addTwo (k : Fin 10) (D : Fin 1536 → Fin 1280 → EReal) (d13 : Vec Ideal S10x1536x128 .f32) : Vec Ideal S10x1536x128 .f32 := fun y =>
  let x := D (y 1) ⟨128 * (y 0).val + (y 2).val, by have h0 : (y 0).val < 10 := (y 0).isLt; have h2 : (y 2).val < 128 := (y 2).isLt; omega⟩
  if k.val = 0 then x else d13 y + x

section
variable (i : grid0.Coords) (arg18 : Memref sig .tc .vmem S10x1536x512 .f32) (harg18 : arg18.IsWhole) (arg19 : Memref sig .tc .vmem S1536x128 .f32) (harg19 : arg19.IsWhole) (hc3 : cond0_3 i)
    (d18 : Vec Ideal S10x1536x512 .f32) (d19 : Vec Ideal S1536x128 .f32)

theorem codeTile_apply (m : Fin 6) (t : Fin 4) (r : Fin 256) (l : Fin 128) : codeTile (F := Ideal) i arg18 harg18 arg19 harg19 hc3 d18 d19 m t (ix2 r l)
    = codes (ptTwo hc3) d18 d19 (⟨256 * m.val + r.val, by have := m.isLt; have := r.isLt; omega⟩ : Fin 1536)
          (⟨128 * t.val + l.val, by have := t.isLt; have := l.isLt; omega⟩ : Fin 512) := by
  have hm := m.isLt; have ht := t.isLt; have hr := r.isLt; have hl := l.isLt
  unfold codeTile
  rw [readAt_unread harg18, readAt_unread harg19]
  unfold codes
  refine congrArg clip8 (congrArg₂ (· * ·) ?_ ?_)
  · refine (shapeCast_1ab_ab_apply _ _ _ _).trans ?_
    refine View.ld_unit_apply_of _ _ _ _ _ _ fun a => ?_
    match a with
    | ⟨0, _⟩ => show (i 0).val - 10 = slotTwo i + 0; rw [slotTwo_eq hc3]; omega
    | ⟨1, _⟩ => rfl
    | ⟨2, _⟩ => rfl
  · refine View.ld_unit_apply_of _ _ _ _ _ _ fun a => ?_
    match a with
    | ⟨0, _⟩ => rfl
    | ⟨1, _⟩ => show (128 * t.val + l.val) % 128 = 0 + l.val; omega

theorem codeRows_apply (m : Fin 6) (r : Fin 256) (c : Fin 512) : codeRows (F := Ideal) i arg18 harg18 arg19 harg19 hc3 d18 d19 m (ix2 r c)
    = codes (ptTwo hc3) d18 d19 (⟨256 * m.val + r.val, by have := m.isLt; have := r.isLt; omega⟩ : Fin 1536) c := by
  have hc := c.isLt; have hr := r.isLt; have hm := m.isLt
  unfold codeRows
  have key : ∀ (t : Fin 4) (l : Fin 128), 128 * t.val + l.val = c.val →
      codeTile (F := Ideal) i arg18 harg18 arg19 harg19 hc3 d18 d19 m t (ix2 r l) = codes (ptTwo hc3) d18 d19 (⟨256 * m.val + r.val, by omega⟩ : Fin 1536) c := by
    intro t l h
    rw [codeTile_apply]
    exact congrArg (codes (ptTwo hc3) d18 d19 _) (Fin.ext h)
  have h4 : c.val / 128 = 0 ∨ c.val / 128 = 1 ∨ c.val / 128 = 2 ∨ c.val / 128 = 3 := by omega
  rcases h4 with h | h | h | h
  · refine (concatenate_apply_piece (t := S256x512) (1 : Fin 2) [⟨S256x128, codeTile (F := Ideal) i arg18 harg18 arg19 harg19 hc3 d18 d19 m 0⟩, ⟨S256x128, codeTile (F := Ideal) i arg18 harg18 arg19 harg19 hc3 d18 d19 m 1⟩, ⟨S256x128, codeTile (F := Ideal) i arg18 harg18 arg19 harg19 hc3 d18 d19 m 2⟩, ⟨S256x128, codeTile (F := Ideal) i arg18 harg18 arg19 harg19 hc3 d18 d19 m 3⟩] _ _ 0 (show 0 < 4 by decide) S256x128 _ rfl rfl 0 rfl (ix2 r (⟨c.val - 0, by omega⟩ : Fin 128)) ?_ ?_).trans (key 0 _ ?_)
    · intro b hb; match b with | ⟨0, _⟩ => rfl | ⟨1, _⟩ => exact absurd rfl hb
    · show 0 + (c.val - 0) = c.val; omega
    · show 128 * 0 + (c.val - 0) = c.val; omega
  · refine (concatenate_apply_piece (t := S256x512) (1 : Fin 2) [⟨S256x128, codeTile (F := Ideal) i arg18 harg18 arg19 harg19 hc3 d18 d19 m 0⟩, ⟨S256x128, codeTile (F := Ideal) i arg18 harg18 arg19 harg19 hc3 d18 d19 m 1⟩, ⟨S256x128, codeTile (F := Ideal) i arg18 harg18 arg19 harg19 hc3 d18 d19 m 2⟩, ⟨S256x128, codeTile (F := Ideal) i arg18 harg18 arg19 harg19 hc3 d18 d19 m 3⟩] _ _ 1 (show 1 < 4 by decide) S256x128 _ rfl rfl 128 rfl (ix2 r (⟨c.val - 128, by omega⟩ : Fin 128)) ?_ ?_).trans (key 1 _ ?_)
    · intro b hb; match b with | ⟨0, _⟩ => rfl | ⟨1, _⟩ => exact absurd rfl hb
    · show 128 + (c.val - 128) = c.val; omega
    · show 128 * 1 + (c.val - 128) = c.val; omega
  · refine (concatenate_apply_piece (t := S256x512) (1 : Fin 2) [⟨S256x128, codeTile (F := Ideal) i arg18 harg18 arg19 harg19 hc3 d18 d19 m 0⟩, ⟨S256x128, codeTile (F := Ideal) i arg18 harg18 arg19 harg19 hc3 d18 d19 m 1⟩, ⟨S256x128, codeTile (F := Ideal) i arg18 harg18 arg19 harg19 hc3 d18 d19 m 2⟩, ⟨S256x128, codeTile (F := Ideal) i arg18 harg18 arg19 harg19 hc3 d18 d19 m 3⟩] _ _ 2 (show 2 < 4 by decide) S256x128 _ rfl rfl 256 rfl (ix2 r (⟨c.val - 256, by omega⟩ : Fin 128)) ?_ ?_).trans (key 2 _ ?_)
    · intro b hb; match b with | ⟨0, _⟩ => rfl | ⟨1, _⟩ => exact absurd rfl hb
    · show 256 + (c.val - 256) = c.val; omega
    · show 128 * 2 + (c.val - 256) = c.val; omega
  · refine (concatenate_apply_piece (t := S256x512) (1 : Fin 2) [⟨S256x128, codeTile (F := Ideal) i arg18 harg18 arg19 harg19 hc3 d18 d19 m 0⟩, ⟨S256x128, codeTile (F := Ideal) i arg18 harg18 arg19 harg19 hc3 d18 d19 m 1⟩, ⟨S256x128, codeTile (F := Ideal) i arg18 harg18 arg19 harg19 hc3 d18 d19 m 2⟩, ⟨S256x128, codeTile (F := Ideal) i arg18 harg18 arg19 harg19 hc3 d18 d19 m 3⟩] _ _ 3 (show 3 < 4 by decide) S256x128 _ rfl rfl 384 rfl (ix2 r (⟨c.val - 384, by omega⟩ : Fin 128)) ?_ ?_).trans (key 3 _ ?_)
    · intro b hb; match b with | ⟨0, _⟩ => rfl | ⟨1, _⟩ => exact absurd rfl hb
    · show 384 + (c.val - 384) = c.val; omega
    · show 128 * 3 + (c.val - 384) = c.val; omega

theorem sel_first {i : grid0.Coords} (h : cond0_3 i) : Scalar.cmpi .eq (subTwo i) 0#32 = if (i 0).val - 10 = 0 then 1#1 else 0#1 := by
  revert h; revert i; decide +kernel

theorem mem6 : ∀ t : Fin 6, t ∈ ([5, 4, 3, 2, 1, 0] : List (Fin 6)) := by decide

theorem two_read10 (v : View sig .tc .vmem S1536x512 .fp8e4m3) (f0 : v.ty.Contents (Elt Ideal)) :
    v.read (Elt Ideal) (v.writes (Elt Ideal) f0 (([5, 4, 3, 2, 1, 0] : List (Fin 6)).flatMap fun m => ([0] : List (Fin 1)).map fun z => codePiece (F := Ideal) i arg18 harg18 arg19 harg19 hc3 d18 d19 m z))
      = fun y => codes (ptTwo hc3) d18 d19 (y 0) (y 1) := by
  funext y
  have h0 : (y 0).val < 1536 := (y 0).isLt
  have h1 : (y 1).val < 512 := (y 1).isLt
  refine read_family v f0 _ _ (fun m (z : Fin 1) => codePiece (F := Ideal) i arg18 harg18 arg19 harg19 hc3 d18 d19 m z) (fun y => codes (ptTwo hc3) d18 d19 (y 0) (y 1)) ?_ y
    ⟨⟨(y 0).val / 256, by omega⟩, mem6 _, 0, List.mem_singleton_self _, ?_⟩
  · intro m z x
    obtain ⟨r, l, rfl⟩ : ∃ (r : Fin 256) (l : Fin 512), x = ix2 r l := ⟨x 0, x 1, eq_ix2 x⟩
    unfold codePiece
    dsimp only
    rw [codeRows_apply]
    refine congrArg₂ (codes (ptTwo hc3) d18 d19) (Fin.ext ?_) (Fin.ext ?_)
    · show 256 * m.val + r.val = 256 * m.val + 1 * r.val; omega
    · show l.val = 0 + 1 * l.val; omega
  · show y ∈ (Rect.unit (s := S1536x512) ![256 * ((y 0).val / 256), 0] S256x512.size (actRows_inb ⟨(y 0).val / 256, by omega⟩)).set
    refine Rect.mem_set_unit.mpr fun a => ?_
    match a with
    | ⟨0, _⟩ => show 256 * ((y 0).val / 256) ≤ (y 0).val ∧ (y 0).val < 256 * ((y 0).val / 256) + 256; omega
    | ⟨1, _⟩ => show 0 ≤ (y 1).val ∧ (y 1).val < 0 + 512; omega
end

section
variable (c : Dev nD) (i : grid0.Coords) (arg7 : Memref sig .tc .vmem S512x640 .i8) (harg7 : arg7.IsWhole) (arg13 : Memref sig .tc .vmem S10x1536x128 .f32) (harg13 : arg13.IsWhole)
    (arg15 : Memref sig .tc .vmem S20x8x1280 .f32) (harg15 : arg15.IsWhole) (arg17 : Memref sig .tc .vmem S512x1280 .bf16)
    (arg18 : Memref sig .tc .vmem S10x1536x512 .f32) (harg18 : arg18.IsWhole) (arg19 : Memref sig .tc .vmem S1536x128 .f32) (harg19 : arg19.IsWhole) (hc3 : cond0_3 i)
    (d7 : Vec Ideal S512x640 .i8) (d13 : Vec Ideal S10x1536x128 .f32) (d15 : Vec Ideal S20x8x1280 .f32) (d18 : Vec Ideal S10x1536x512 .f32) (d19 : Vec Ideal S1536x128 .f32)

theorem dRows_apply (m : Fin 6) (r : Fin 256) (n : Fin 1280) : dRows (F := Ideal) c i arg7 harg7 arg13 harg13 arg15 harg15 arg17 arg18 harg18 arg19 harg19 hc3 d7 d13 d15 d18 d19 m (ix2 r n)
    = prodTwo (ptTwo hc3) d7 d15 (codes (ptTwo hc3) d18 d19) (⟨256 * m.val + r.val, by have := m.isLt; have := r.isLt; omega⟩ : Fin 1536) n := by
  unfold dRows
  rw [w2_read i arg7 harg7 arg15 harg15 hc3 d7 d15 c arg17 _ (by funext a; match a with | ⟨0, _⟩ => rfl | ⟨1, _⟩ => rfl) _]
  refine (Ideal.matmul_plain_apply (M := 256) (K := 512) (N := 1280) none _ _ _ _ _).trans ?_
  rw [show (constant S256x1280 .f32 0x00000000#32 : FVec Ideal S256x1280 .f32) _ = (0 : EReal) from Ideal.ofBits_zero_f32, zero_add]
  unfold prodTwo
  exact Finset.sum_congr rfl fun k _ => congrArg (· * _) (codeRows_apply i arg18 harg18 arg19 harg19 hc3 d18 d19 m r k)

theorem two_read13 (v : View sig .tc .vmem S10x1536x128 .f32) (f0 : v.ty.Contents (Elt Ideal)) :
    v.read (Elt Ideal) (v.writes (Elt Ideal) f0 (([5, 4, 3, 2, 1, 0] : List (Fin 6)).flatMap fun m => ([9, 8, 7, 6, 5, 4, 3, 2, 1, 0] : List (Fin 10)).map fun t =>
        sumPiece (F := Ideal) c i arg7 harg7 arg13 harg13 arg15 harg15 arg17 arg18 harg18 arg19 harg19 hc3 d7 d13 d15 d18 d19 m t))
      = addTwo (ptTwo hc3) (prodTwo (ptTwo hc3) d7 d15 (codes (ptTwo hc3) d18 d19)) d13 := by
  funext y
  have h1 : (y 1).val < 1536 := (y 1).isLt
  have h2 : (y 2).val < 128 := (y 2).isLt
  have hk : ∀ t : Fin 10, t ∈ ([9, 8, 7, 6, 5, 4, 3, 2, 1, 0] : List (Fin 10)) := by decide
  refine read_family v f0 _ _ (fun m t => sumPiece (F := Ideal) c i arg7 harg7 arg13 harg13 arg15 harg15 arg17 arg18 harg18 arg19 harg19 hc3 d7 d13 d15 d18 d19 m t) _ ?_ y ⟨⟨(y 1).val / 256, by omega⟩, mem6 _, y 0, hk _, ?_⟩
  · intro m t x
    obtain ⟨u, r, l, rfl⟩ : ∃ (u : Fin 1) (r : Fin 256) (l : Fin 128), x = ix3 u r l := ⟨x 0, x 1, x 2, eq_ix3 x⟩
    have hm := m.isLt; have ht := t.isLt; have hr := r.isLt; have hl := l.isLt
    unfold sumPiece
    dsimp only
    refine (shapeCast_ab_1ab_apply _ _ _ _ _).trans ?_
    rw [readAt_unread harg13]
    have e1 : extractStridedSlice S256x128 ![0, 128 * t.val] (dRows (F := Ideal) c i arg7 harg7 arg13 harg13 arg15 harg15 arg17 arg18 harg18 arg19 harg19 hc3 d7 d13 d15 d18 d19 m) (dSlice t) (ix2 r l)
        = prodTwo (ptTwo hc3) d7 d15 (codes (ptTwo hc3) d18 d19) (⟨256 * m.val + r.val, by omega⟩ : Fin 1536) (⟨128 * t.val + l.val, by omega⟩ : Fin 1280) := by
      rw [← dRows_apply]
      refine extractStridedSlice_apply _ _ _ _ _ fun a => ?_
      match a with
      | ⟨0, _⟩ => exact (Nat.zero_add _).symm
      | ⟨1, _⟩ => rfl
    have e2 : prodTwo (ptTwo hc3) d7 d15 (codes (ptTwo hc3) d18 d19) (⟨256 * m.val + r.val, by omega⟩ : Fin 1536) (⟨128 * t.val + l.val, by omega⟩ : Fin 1280)
        = prodTwo (ptTwo hc3) d7 d15 (codes (ptTwo hc3) d18 d19) (⟨256 * m.val + 1 * r.val, by omega⟩ : Fin 1536) (⟨128 * (t.val + 1 * u.val) + (0 + 1 * l.val), by omega⟩ : Fin 1280) :=
      congrArg₂ _ (Fin.ext (by show 256 * m.val + r.val = 256 * m.val + 1 * r.val; omega))
        (Fin.ext (by show 128 * t.val + l.val = 128 * (t.val + 1 * u.val) + (0 + 1 * l.val); omega))
    unfold addTwo
    dsimp only
    rw [sel_first hc3]
    by_cases h : (i 0).val - 10 = 0
    · rw [if_pos h, if_pos h, sel_one, e1, e2]; rfl
    · rw [if_neg h, if_neg h, sel_zero, addf_apply, e1, e2]
      refine congrArg₂ (· + ·) ((shapeCast_1ab_ab_apply _ _ _ _).trans ?_) rfl
      obtain rfl : u = 0 := Subsingleton.elim _ _
      rfl
  · show y ∈ (Rect.unit (s := S10x1536x128) ![(y 0).val, 256 * ((y 1).val / 256), 0] S1x256x128.size (accRows_inb (y 0) ⟨(y 1).val / 256, by omega⟩)).set
    refine Rect.mem_set_unit.mpr fun a => ?_
    match a with
    | ⟨0, _⟩ => show (y 0).val ≤ (y 0).val ∧ (y 0).val < (y 0).val + 1; omega
    | ⟨1, _⟩ => show 256 * ((y 1).val / 256) ≤ (y 1).val ∧ (y 1).val < 256 * ((y 1).val / 256) + 256; omega
    | ⟨2, _⟩ => show 0 ≤ (y 2).val ∧ (y 2).val < 0 + 128; omega
end

/-- The residual sum at a row and a column. -/
def resid (d3 : Vec Ideal S1536x1280 .f32) (d9 : Vec Ideal S1x1280 .f32) (d13 : Vec Ideal S10x1536x128 .f32) (d20 : Vec Ideal S1536x128 .f32)
    (t : Fin 10) (r : Fin 1536) (l : Fin 128) : EReal :=
  d3 (ix2 r (⟨128 * t.val + l.val, by have := t.isLt; have := l.isLt; omega⟩ : Fin 1280))
    + (d13 (ix3 t r l) * d20 (ix2 r l) + d9 (ix2 (0 : Fin 1) (⟨128 * t.val + l.val, by have := t.isLt; have := l.isLt; omega⟩ : Fin 1280)))

section
variable (arg3 : Memref sig .tc .vmem S1536x1280 .f32) (harg3 : arg3.IsWhole) (arg9 : Memref sig .tc .vmem S1x1280 .f32) (harg9 : arg9.IsWhole)
    (arg13 : Memref sig .tc .vmem S10x1536x128 .f32) (harg13 : arg13.IsWhole) (arg20 : Memref sig .tc .vmem S1536x128 .f32) (harg20 : arg20.IsWhole)
    (d3 : Vec Ideal S1536x1280 .f32) (d9 : Vec Ideal S1x1280 .f32) (d13 : Vec Ideal S10x1536x128 .f32) (d20 : Vec Ideal S1536x128 .f32)

theorem resTile_apply (m : Fin 12) (t : Fin 10) (r l : Fin 128) : resTile (F := Ideal) arg3 harg3 arg9 harg9 arg13 harg13 arg20 harg20 d3 d9 d13 d20 m t (ix2 r l)
    = resid d3 d9 d13 d20 t (⟨128 * m.val + r.val, by have := m.isLt; have := r.isLt; omega⟩ : Fin 1536) l := by
  have hm := m.isLt; have ht := t.isLt; have hr := r.isLt; have hl := l.isLt
  unfold resTile
  rw [readAt_unread harg3, readAt_unread harg9, readAt_unread harg13, readAt_unread harg20]
  unfold resid
  refine congrArg₂ (· + ·) ?_ (congrArg₂ (· + ·) (congrArg₂ (· * ·) ?_ ?_) ?_)
  · refine View.ld_unit_apply_of _ _ _ _ _ _ fun a => ?_
    match a with | ⟨0, _⟩ => rfl | ⟨1, _⟩ => rfl
  · refine (shapeCast_1ab_ab_apply _ _ _ _).trans ?_
    refine View.ld_unit_apply_of _ _ _ _ _ _ fun a => ?_
    match a with
    | ⟨0, _⟩ => rfl
    | ⟨1, _⟩ => rfl
    | ⟨2, _⟩ => exact (Nat.zero_add _).symm
  · refine View.ld_unit_apply_of _ _ _ _ _ _ fun a => ?_
    match a with | ⟨0, _⟩ => rfl | ⟨1, _⟩ => exact (Nat.zero_add _).symm
  · refine (broadcastTo_1b_ab_apply _ _ _ _).trans ?_
    refine (congrFun (shapeCast_self (s := S1x128) _ _) _).trans ?_
    refine View.ld_unit_apply_of _ _ _ _ _ _ fun a => ?_
    match a with | ⟨0, _⟩ => rfl | ⟨1, _⟩ => rfl

theorem finish_read13 (v : View sig .tc .vmem S10x1536x128 .f32) (f0 : v.ty.Contents (Elt Ideal)) :
    v.read (Elt Ideal) (v.writes (Elt Ideal) f0 (([11, 10, 9, 8, 7, 6, 5, 4, 3, 2, 1, 0] : List (Fin 12)).flatMap fun m => ([9, 8, 7, 6, 5, 4, 3, 2, 1, 0] : List (Fin 10)).map fun t =>
        accPiece (F := Ideal) arg3 harg3 arg9 harg9 arg13 harg13 arg20 harg20 d3 d9 d13 d20 m t))
      = fun y => resid d3 d9 d13 d20 (y 0) (y 1) (y 2) := by
  funext y
  have h1 : (y 1).val < 1536 := (y 1).isLt
  have h2 : (y 2).val < 128 := (y 2).isLt
  have hk : ∀ t : Fin 10, t ∈ ([9, 8, 7, 6, 5, 4, 3, 2, 1, 0] : List (Fin 10)) := by decide
  refine read_family v f0 _ _ (fun m t => accPiece (F := Ideal) arg3 harg3 arg9 harg9 arg13 harg13 arg20 harg20 d3 d9 d13 d20 m t) (fun y => resid d3 d9 d13 d20 (y 0) (y 1) (y 2)) ?_ y
    ⟨⟨(y 1).val / 128, by omega⟩, mem12 _, y 0, hk _, ?_⟩
  · intro m t x
    obtain ⟨u, r, l, rfl⟩ : ∃ (u : Fin 1) (r l : Fin 128), x = ix3 u r l := ⟨x 0, x 1, x 2, eq_ix3 x⟩
    obtain rfl : u = 0 := Subsingleton.elim _ _
    unfold accPiece
    dsimp only
    refine (shapeCast_ab_1ab_apply _ _ _ _ _).trans ?_
    rw [resTile_apply]
    refine congr (congrArg₂ (resid d3 d9 d13 d20) (Fin.ext ?_) (Fin.ext ?_)) (Fin.ext ?_)
    · show t.val = t.val + 1 * 0; omega
    · show 128 * m.val + r.val = 128 * m.val + 1 * r.val; omega
    · show l.val = 0 + 1 * l.val; omega
  · show y ∈ (Rect.unit (s := S10x1536x128) ![(y 0).val, 128 * ((y 1).val / 128), 0] S1x128x128.size (acc_inb ⟨(y 1).val / 128, by omega⟩ (y 0))).set
    refine Rect.mem_set_unit.mpr fun a => ?_
    match a with
    | ⟨0, _⟩ => show (y 0).val ≤ (y 0).val ∧ (y 0).val < (y 0).val + 1; omega
    | ⟨1, _⟩ => show 128 * ((y 1).val / 128) ≤ (y 1).val ∧ (y 1).val < 128 * ((y 1).val / 128) + 128; omega
    | ⟨2, _⟩ => show 0 ≤ (y 2).val ∧ (y 2).val < 0 + 128; omega

theorem finish_read12 (v : View sig .tc .vmem S1536x1280 .bf16) (f0 : v.ty.Contents (Elt Ideal)) :
    v.read (Elt Ideal) (v.writes (Elt Ideal) f0 (([11, 10, 9, 8, 7, 6, 5, 4, 3, 2, 1, 0] : List (Fin 12)).flatMap fun m => ([9, 8, 7, 6, 5, 4, 3, 2, 1, 0] : List (Fin 10)).map fun t =>
        resPiece (F := Ideal) arg3 harg3 arg9 harg9 arg13 harg13 arg20 harg20 d3 d9 d13 d20 m t))
      = fun y => resid d3 d9 d13 d20 (⟨(y 1).val / 128, by have := idx2_lt1 y; omega⟩ : Fin 10) (y 0) (lane (y 1).val) := by
  funext y
  have h0 : (y 0).val < 1536 := (y 0).isLt
  have h1 : (y 1).val < 1280 := (y 1).isLt
  have hk : ∀ t : Fin 10, t ∈ ([9, 8, 7, 6, 5, 4, 3, 2, 1, 0] : List (Fin 10)) := by decide
  refine read_family v f0 _ _ (fun m t => resPiece (F := Ideal) arg3 harg3 arg9 harg9 arg13 harg13 arg20 harg20 d3 d9 d13 d20 m t)
    (fun y => resid d3 d9 d13 d20 (⟨(y 1).val / 128, by have := idx2_lt1 y; omega⟩ : Fin 10) (y 0) (lane (y 1).val)) ?_ y
    ⟨⟨(y 0).val / 128, by omega⟩, mem12 _, ⟨(y 1).val / 128, by omega⟩, hk _, ?_⟩
  · intro m t x
    obtain ⟨r, l, rfl⟩ : ∃ (r l : Fin 128), x = ix2 r l := ⟨x 0, x 1, eq_ix2 x⟩
    have ht := t.isLt; have hl := l.isLt
    unfold resPiece
    dsimp only
    refine (resTile_apply arg3 harg3 arg9 harg9 arg13 harg13 arg20 harg20 d3 d9 d13 d20 m t r l).trans ?_
    refine congr (congrArg₂ (resid d3 d9 d13 d20) (Fin.ext ?_) (Fin.ext ?_)) (Fin.ext ?_)
    · show t.val = (128 * t.val + 1 * l.val) / 128; omega
    · show 128 * m.val + r.val = 128 * m.val + 1 * r.val; omega
    · show l.val = (128 * t.val + 1 * l.val) % 128; omega
  · show y ∈ (Rect.unit (s := S1536x1280) ![128 * ((y 0).val / 128), 128 * ((y 1).val / 128)] S128x128.size (resid_inb ⟨(y 0).val / 128, by omega⟩ ⟨(y 1).val / 128, by omega⟩)).set
    refine Rect.mem_set_unit.mpr fun a => ?_
    match a with
    | ⟨0, _⟩ => show 128 * ((y 0).val / 128) ≤ (y 0).val ∧ (y 0).val < 128 * ((y 0).val / 128) + 128; omega
    | ⟨1, _⟩ => show 128 * ((y 1).val / 128) ≤ (y 1).val ∧ (y 1).val < 128 * ((y 1).val / 128) + 128; omega
end

end Cert.KernelIdeal.Gen

end
-- ==== Proof.Mlp.Steps.lean ====
/- Each block of the kernel's body as one step: the contents of the buffers it addresses before and after it. -/
module

public import proofs.«01_k».proof.Proof.Mlp.TwoVal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "𝕄" => MT nD τ sig Unit (Elt Ideal) ℕ (UR sig nD τ) ℕ

set_option maxHeartbeats 4000000 in
/-- The block `initBlock` from the contents `d·` of the buffers that it addresses. -/
theorem stepInit (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (d5 : Vec Ideal S40x5120 .i8) (d8 : Vec Ideal S160x1280 .i8) (d14 : Vec Ideal S5x8x5120 .f32) (d15 : Vec Ideal S20x8x1280 .f32) (d19 : Vec Ideal S1536x128 .f32)
    (E : Set ℕ) (K : PUnit → sProp 𝕄) :
    iprop(owns (c : Thread nD τ) arg5 fullShare (d5) ∗ owns (c : Thread nD τ) arg8 fullShare (d8) ∗ owns (c : Thread nD τ) arg14 fullShare (d14) ∗ owns (c : Thread nD τ) arg15 fullShare (d15) ∗ owns (c : Thread nD τ) arg19 fullShare (d19)
        ∗ (iprop(owns (c : Thread nD τ) arg5 fullShare (d5) ∗ owns (c : Thread nD τ) arg8 fullShare (d8) ∗ owns (c : Thread nD τ) arg14 fullShare (scTab d5) ∗ owns (c : Thread nD τ) arg15 fullShare (sdTab d8) ∗ owns (c : Thread nD τ) arg19 fullShare (fun _ => (0 : EReal))) -∗ K ⟨⟩))
      ⊢ wp frame (wpE (defs₀ (F := Ideal)) Variants.none c none) E (initBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K := by
  iintro ⟨H5, H8, H14, H15, H19, Hk⟩
  iapply (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d5 d8 d14 d15 d19).2.2.2
  isplitl [H5]; · iexact H5
  isplitl [H8]; · iexact H8
  isplitl [H14]; · iexact H14
  isplitl [H15]; · iexact H15
  isplitl [H19]; · iexact H19
  iintro ⟨H5, H8, H14, H15, H19⟩
  iapply Hk
  isplitl [H5]
  · iexact H5
  isplitl [H8]
  · iexact H8
  isplitl [H14]
  · unfold owns; iexists _; isplitr
    swap; · iexact H14
    ipureintro; rw [init_list14]; apply init_read14
  isplitl [H15]
  · unfold owns; iexists _; isplitr
    swap; · iexact H15
    ipureintro; rw [init_list15]; apply init_read15
  unfold owns; iexists _; isplitr
  swap; · iexact H19
  ipureintro; rw [init_list19]; apply init_read19

set_option maxHeartbeats 4000000 in
/-- The block `phaseOne` from the contents `d·` of the buffers that it addresses. -/
theorem stepOne (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc1 : cond0_1 i) (d1 : Vec Ideal S1536x1280 .bf16) (d2 : Vec Ideal S1536x128 .f32) (d4 : Vec Ideal S1280x512 .i8) (d6 : Vec Ideal S1x5120 .f32) (d14 : Vec Ideal S5x8x5120 .f32) (d16 : Vec Ideal S1280x512 .bf16) (d18 : Vec Ideal S10x1536x512 .f32) (d19 : Vec Ideal S1536x128 .f32)
    (E : Set ℕ) (K : PUnit → sProp 𝕄) :
    iprop(owns (c : Thread nD τ) arg1 fullShare (d1) ∗ owns (c : Thread nD τ) arg2 fullShare (d2) ∗ owns (c : Thread nD τ) arg4 fullShare (d4) ∗ owns (c : Thread nD τ) arg6 fullShare (d6) ∗ owns (c : Thread nD τ) arg14 fullShare (d14) ∗ owns (c : Thread nD τ) arg16 fullShare (d16) ∗ owns (c : Thread nD τ) arg18 fullShare (d18) ∗ owns (c : Thread nD τ) arg19 fullShare (d19)
        ∗ (iprop(owns (c : Thread nD τ) arg1 fullShare (d1) ∗ owns (c : Thread nD τ) arg2 fullShare (d2) ∗ owns (c : Thread nD τ) arg4 fullShare (d4) ∗ owns (c : Thread nD τ) arg6 fullShare (d6) ∗ owns (c : Thread nD τ) arg14 fullShare (d14) ∗ (∃ d, owns (c : Thread nD τ) arg16 fullShare (d)) ∗ owns (c : Thread nD τ) arg18 fullShare (fillHid (ptOne hc1) (hid (ptOne hc1) d1 d2 d4 d6 d14) d18) ∗ owns (c : Thread nD τ) arg19 fullShare (fillMax (hid (ptOne hc1) d1 d2 d4 d6 d14) d19)) -∗ K ⟨⟩))
      ⊢ wp frame (wpE (defs₀ (F := Ideal)) Variants.none c none) E (phaseOne i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc1) K := by
  iintro ⟨H1, H2, H4, H6, H14, H16, H18, H19, Hk⟩
  iapply (runOne c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 d1 d2 d4 d6 d14 d16 d18 d19).2.2.2
  isplitl [H1]; · iexact H1
  isplitl [H2]; · iexact H2
  isplitl [H4]; · iexact H4
  isplitl [H6]; · iexact H6
  isplitl [H14]; · iexact H14
  isplitl [H16]; · iexact H16
  isplitl [H18]; · iexact H18
  isplitl [H19]; · iexact H19
  iintro ⟨H1, H2, H4, H6, H14, H16, H18, H19⟩
  iapply Hk
  isplitl [H1]
  · iexact H1
  isplitl [H2]
  · iexact H2
  isplitl [H4]
  · iexact H4
  isplitl [H6]
  · iexact H6
  isplitl [H14]
  · iexact H14
  isplitl [H16]
  · iexists _; unfold owns; iexists _; isplitr
    swap; · iexact H16
    ipureintro; rfl
  isplitl [H18]
  · unfold owns; iexists _; isplitr
    swap; · iexact H18
    ipureintro; rw [one_list18]; apply one_read18; exact harg18.read_unread _
  unfold owns; iexists _; isplitr
  swap; · iexact H19
  ipureintro; rw [one_list19]; apply one_read19

set_option maxHeartbeats 4000000 in
/-- The block `rowScales` from the contents `d·` of the buffers that it addresses. -/
theorem stepScales (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (d11 : Vec Ideal S1x1536 .f32) (d19 : Vec Ideal S1536x128 .f32) (d20 : Vec Ideal S1536x128 .f32)
    (E : Set ℕ) (K : PUnit → sProp 𝕄) :
    iprop(owns (c : Thread nD τ) arg11 fullShare (d11) ∗ owns (c : Thread nD τ) arg19 fullShare (d19) ∗ owns (c : Thread nD τ) arg20 fullShare (d20)
        ∗ (iprop(owns (c : Thread nD τ) arg11 fullShare (fun y => scales d19 (y 1)) ∗ owns (c : Thread nD τ) arg19 fullShare (fun y => Ideal.div (Ideal.ofBits .f32 0x3F800000#32) (scales d19 (y 0))) ∗ owns (c : Thread nD τ) arg20 fullShare (fun y => scales d19 (y 0))) -∗ K ⟨⟩))
      ⊢ wp frame (wpE (defs₀ (F := Ideal)) Variants.none c none) E (rowScales i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K := by
  iintro ⟨H11, H19, H20, Hk⟩
  iapply (runScales c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d11 d19 d20).2.2.2
  isplitl [H11]; · iexact H11
  isplitl [H19]; · iexact H19
  isplitl [H20]; · iexact H20
  iintro ⟨H11, H19, H20⟩
  iapply Hk
  isplitl [H11]
  · unfold owns; iexists _; isplitr
    swap; · iexact H11
    ipureintro; rw [scales_list11]; apply scales_read11
  isplitl [H19]
  · unfold owns; iexists _; isplitr
    swap; · iexact H19
    ipureintro; rw [scales_list19]; apply scales_read19
  unfold owns; iexists _; isplitr
  swap; · iexact H20
  ipureintro; rw [scales_list20]; apply scales_read20

set_option maxHeartbeats 4000000 in
/-- The block `phaseTwo` from the contents `d·` of the buffers that it addresses. -/
theorem stepTwo (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc3 : cond0_3 i) (d7 : Vec Ideal S512x640 .i8) (d10 : Vec Ideal S1536x512 .fp8e4m3) (d13 : Vec Ideal S10x1536x128 .f32) (d15 : Vec Ideal S20x8x1280 .f32) (d17 : Vec Ideal S512x1280 .bf16) (d18 : Vec Ideal S10x1536x512 .f32) (d19 : Vec Ideal S1536x128 .f32)
    (E : Set ℕ) (K : PUnit → sProp 𝕄) :
    iprop(owns (c : Thread nD τ) arg7 fullShare (d7) ∗ owns (c : Thread nD τ) arg10 fullShare (d10) ∗ owns (c : Thread nD τ) arg13 fullShare (d13) ∗ owns (c : Thread nD τ) arg15 fullShare (d15) ∗ owns (c : Thread nD τ) arg17 fullShare (d17) ∗ owns (c : Thread nD τ) arg18 fullShare (d18) ∗ owns (c : Thread nD τ) arg19 fullShare (d19)
        ∗ (iprop(owns (c : Thread nD τ) arg7 fullShare (d7) ∗ owns (c : Thread nD τ) arg10 fullShare (fun y => codes (ptTwo hc3) d18 d19 (y 0) (y 1)) ∗ owns (c : Thread nD τ) arg13 fullShare (addTwo (ptTwo hc3) (prodTwo (ptTwo hc3) d7 d15 (codes (ptTwo hc3) d18 d19)) d13) ∗ owns (c : Thread nD τ) arg15 fullShare (d15) ∗ (∃ d, owns (c : Thread nD τ) arg17 fullShare (d)) ∗ owns (c : Thread nD τ) arg18 fullShare (d18) ∗ owns (c : Thread nD τ) arg19 fullShare (d19)) -∗ K ⟨⟩))
      ⊢ wp frame (wpE (defs₀ (F := Ideal)) Variants.none c none) E (phaseTwo i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc3) K := by
  iintro ⟨H7, H10, H13, H15, H17, H18, H19, Hk⟩
  iapply (runTwo c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc3 d7 d10 d13 d15 d17 d18 d19).2.2.2
  isplitl [H7]; · iexact H7
  isplitl [H10]; · iexact H10
  isplitl [H13]; · iexact H13
  isplitl [H15]; · iexact H15
  isplitl [H17]; · iexact H17
  isplitl [H18]; · iexact H18
  isplitl [H19]; · iexact H19
  iintro ⟨H7, H10, H13, H15, H17, H18, H19⟩
  iapply Hk
  isplitl [H7]
  · iexact H7
  isplitl [H10]
  · unfold owns; iexists _; isplitr
    swap; · iexact H10
    ipureintro; rw [two_list10]; apply two_read10
  isplitl [H13]
  · unfold owns; iexists _; isplitr
    swap; · iexact H13
    ipureintro; rw [two_list13]; apply two_read13
  isplitl [H15]
  · iexact H15
  isplitl [H17]
  · iexists _; unfold owns; iexists _; isplitr
    swap; · iexact H17
    ipureintro; rfl
  isplitl [H18]
  · iexact H18
  iexact H19

set_option maxHeartbeats 4000000 in
/-- The block `finish` from the contents `d·` of the buffers that it addresses. -/
theorem stepFinish (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (d3 : Vec Ideal S1536x1280 .f32) (d9 : Vec Ideal S1x1280 .f32) (d12 : Vec Ideal S1536x1280 .bf16) (d13 : Vec Ideal S10x1536x128 .f32) (d20 : Vec Ideal S1536x128 .f32)
    (E : Set ℕ) (K : PUnit → sProp 𝕄) :
    iprop(owns (c : Thread nD τ) arg3 fullShare (d3) ∗ owns (c : Thread nD τ) arg9 fullShare (d9) ∗ owns (c : Thread nD τ) arg12 fullShare (d12) ∗ owns (c : Thread nD τ) arg13 fullShare (d13) ∗ owns (c : Thread nD τ) arg20 fullShare (d20)
        ∗ (iprop(owns (c : Thread nD τ) arg3 fullShare (d3) ∗ owns (c : Thread nD τ) arg9 fullShare (d9) ∗ owns (c : Thread nD τ) arg12 fullShare (fun y => resid d3 d9 d13 d20 (⟨(y 1).val / 128, by have := idx2_lt1 y; omega⟩ : Fin 10) (y 0) (lane (y 1).val)) ∗ owns (c : Thread nD τ) arg13 fullShare (fun y => resid d3 d9 d13 d20 (y 0) (y 1) (y 2)) ∗ owns (c : Thread nD τ) arg20 fullShare (d20)) -∗ K ⟨⟩))
      ⊢ wp frame (wpE (defs₀ (F := Ideal)) Variants.none c none) E (finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K := by
  iintro ⟨H3, H9, H12, H13, H20, Hk⟩
  iapply (runFinish c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d3 d9 d12 d13 d20).2.2
  isplitl [H3]; · iexact H3
  isplitl [H9]; · iexact H9
  isplitl [H12]; · iexact H12
  isplitl [H13]; · iexact H13
  isplitl [H20]; · iexact H20
  iintro ⟨H3, H9, H12, H13, H20⟩
  iapply Hk
  isplitl [H3]
  · iexact H3
  isplitl [H9]
  · iexact H9
  isplitl [H12]
  · unfold owns; iexists _; isplitr
    swap; · iexact H12
    ipureintro; rw [finish_list12]; apply finish_read12
  isplitl [H13]
  · unfold owns; iexists _; isplitr
    swap; · iexact H13
    ipureintro; rw [finish_list13]; apply finish_read13
  iexact H20

end Cert.KernelIdeal.Gen

end
-- ==== Proof.Mlp.Data.lean ====
/- What the kernel's buffers hold at each grid point, as functions of the arrays at entry, and the proof data of the pipeline. -/
module

public import proofs.«01_k».proof.Proof.Mlp.Steps
public import Idealize.ShloMosaic.Lib.Pipeline.DatRel
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Idealize.ShloMosaic.ValueIdx

variable (m : (ℓ : Loc nD τ sig) → Buf (Elt Ideal) ℓ)

local notation "𝕄" => MT nD τ sig Unit (Elt Ideal) ℕ (UR sig nD τ) ℕ

/-- Grid point `n`. -/
def pt (n : Nat) (h : n < 20 := by omega) : Fin cfg0.N := ⟨n, lt_of_lt_of_eq h (show cfg0.N = 20 from N_0).symm⟩

theorem coords_val : ∀ t : Fin grid0.N, (grid0.coords t 0).val = t.val := by decide +kernel

/-- The block of input 1 at point `t`. -/
def x1 (c : Dev nD) (t : Fin cfg0.N) : Vec Ideal S1536x1280 .bf16 := iblk m c 0 t
/-- The block of input 2 at point `t`. -/
def x2 (c : Dev nD) (t : Fin cfg0.N) : Vec Ideal S1536x128 .f32 := iblk m c 1 t
/-- The block of input 3 at point `t`. -/
def x3 (c : Dev nD) (t : Fin cfg0.N) : Vec Ideal S1536x1280 .f32 := iblk m c 2 t
/-- The block of input 4 at point `t`. -/
def x4 (c : Dev nD) (t : Fin cfg0.N) : Vec Ideal S1280x512 .i8 := iblk m c 3 t
/-- The block of input 5 at point `t`. -/
def x5 (c : Dev nD) (t : Fin cfg0.N) : Vec Ideal S40x5120 .i8 := iblk m c 4 t
/-- The block of input 6 at point `t`. -/
def x6 (c : Dev nD) (t : Fin cfg0.N) : Vec Ideal S1x5120 .f32 := iblk m c 5 t
/-- The block of input 7 at point `t`. -/
def x7 (c : Dev nD) (t : Fin cfg0.N) : Vec Ideal S512x640 .i8 := iblk m c 6 t
/-- The block of input 8 at point `t`. -/
def x8 (c : Dev nD) (t : Fin cfg0.N) : Vec Ideal S160x1280 .i8 := iblk m c 7 t
/-- The block of input 9 at point `t`. -/
def x9 (c : Dev nD) (t : Fin cfg0.N) : Vec Ideal S1x1280 .f32 := iblk m c 8 t

/-- The hidden activations of block `j`: the first product, scaled, with the bias added and the activation applied. -/
def hidAt (c : Dev nD) (j : Fin 10) : Fin 1536 → Fin 512 → EReal :=
  hid j (x1 m c (pt j.val)) (x2 m c (pt j.val)) (x4 m c (pt j.val)) (x6 m c (pt j.val)) (scTab (x5 m c (pt 0)))

/-- The running maxima after `n` blocks. -/
def maxAt (c : Dev nD) : Nat → Vec Ideal S1536x128 .f32
  | 0 => fun _ => (0 : EReal)
  | n + 1 => if h : n < 10 then fillMax (hidAt m c ⟨n, h⟩) (maxAt c n) else maxAt c n

/-- The scale of each row. -/
def scaleAt (c : Dev nD) (r : Fin 1536) : EReal := scales (maxAt m c 10) r

/-- The row scales, spread over the lanes. -/
def rsTab (c : Dev nD) : Vec Ideal S1536x128 .f32 := fun y => scaleAt m c (y 0)

/-- The inverse row scales, spread over the lanes. -/
def invAt (c : Dev nD) : Vec Ideal S1536x128 .f32 := fun y => Ideal.div (Ideal.ofBits .f32 0x3F800000#32) (scaleAt m c (y 0))

/-- The scratch of the maxima after point `n`: the running maxima, and from point 10 on the inverse scales. -/
def amAt (c : Dev nD) (n : Nat) : Vec Ideal S1536x128 .f32 := if n < 10 then maxAt m c (n + 1) else invAt m c

/-- The codes of block `k`. -/
def codeAt (c : Dev nD) (k : Fin 10) (r : Fin 1536) (q : Fin 512) : EReal := clip8 (hidAt m c k r q * invAt m c (ix2 r (lane q.val)))

/-- The second product over the first `n` blocks. -/
def accAt (c : Dev nD) : Nat → Vec Ideal S10x1536x128 .f32
  | 0 => fun _ => (0 : EReal)
  | n + 1 => if h : n < 10 then
      addTwo ⟨n, h⟩ (prodTwo ⟨n, h⟩ (x7 m c (pt (n + 10))) (sdTab (x8 m c (pt 0))) (codeAt m c ⟨n, h⟩)) (accAt c n) else accAt c n

/-- The result of the second product, scaled, with the bias and the residual added: tile `t`, row `r`, lane `l`. -/
def outAt (c : Dev nD) (t : Fin 10) (r : Fin 1536) (l : Fin 128) : EReal :=
  resid (x3 m c (pt 19)) (x9 m c (pt 19)) (accAt m c 10) (rsTab m c) t r l

/-- The first `k` blocks of the hidden activations stand in the scratch. -/
def HidUpTo (c : Dev nD) (k : Nat) (d : Vec Ideal S10x1536x512 .f32) : Prop :=
  ∀ j : Fin 10, j.val < k → ∀ r q, d (ix3 j r q) = hidAt m c j r q

/-- What the kernel leaves in the window of the codes. -/
def Rel9 (c : Dev nD) (t : Fin cfg0.N) (X : Vec Ideal S1536x512 .fp8e4m3) : Prop :=
  ∀ k : Fin 10, t.val = k.val + 10 → X = fun y => codeAt m c k (y 0) (y 1)
/-- … of the row scales, -/
def Rel10 (c : Dev nD) (t : Fin cfg0.N) (X : Vec Ideal S1x1536 .f32) : Prop := 10 ≤ t.val → X = fun y => scaleAt m c (y 1)
/-- … of the bf16 result, -/
def Rel11 (c : Dev nD) (t : Fin cfg0.N) (X : Vec Ideal S1536x1280 .bf16) : Prop :=
  t.val = 19 → X = fun y => outAt m c (⟨(y 1).val / 128, by have := idx2_lt1 y; omega⟩ : Fin 10) (y 0) (lane (y 1).val)
/-- … and of the accumulator. -/
def Rel12 (c : Dev nD) (t : Fin cfg0.N) (X : Vec Ideal S10x1536x128 .f32) : Prop :=
  10 ≤ t.val → X = if t.val = 19 then (fun y => outAt m c (y 0) (y 1) (y 2)) else accAt m c (t.val - 9)

/-- The output windows are held to a predicate, the input windows to their blocks. -/
def marked : Fin 13 → Bool := fun w => w.val == 9 || w.val == 10 || w.val == 11 || w.val == 12

def Rel (c : Dev nD) (w : Fin cfg0.W) (t : Fin cfg0.N) : ((cfg0.win w).block.Idx → Elt Ideal (cfg0.win w).elt) → Prop :=
  match w with
  | ⟨9, _⟩ => Rel9 m c t
  | ⟨10, _⟩ => Rel10 m c t
  | ⟨11, _⟩ => Rel11 m c t
  | ⟨12, _⟩ => Rel12 m c t
  | _ => fun _ => True

/-- The invariant before point `n`. -/
def PhiS (c : Dev nD) : (n : ℕ) → n ≤ cfg0.N → sProp 𝕄
  | 0, _ => Pipeline.ΦA spec0 c
  | n + 1, _ => iprop(iprop(owns (c : Thread nD τ) scM0_0 fullShare (scTab (x5 m c (pt 0))) ∗ owns (c : Thread nD τ) scM0_1 fullShare (sdTab (x8 m c (pt 0)))
      ∗ (∃ d, owns (c : Thread nD τ) scM0_2 fullShare d) ∗ (∃ d, owns (c : Thread nD τ) scM0_3 fullShare d)
      ∗ (∃ d, ⌜HidUpTo m c (n + 1) d⌝ ∗ owns (c : Thread nD τ) scM0_4 fullShare d)
      ∗ owns (c : Thread nD τ) scM0_5 fullShare (amAt m c n)
      ∗ (∃ d, ⌜10 ≤ n → d = rsTab m c⌝ ∗ owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (h : n + 1 ≤ cfg0.N) :
    PhiS m c (n + 1) h = iprop(iprop(owns (c : Thread nD τ) scM0_0 fullShare (scTab (x5 m c (pt 0))) ∗ owns (c : Thread nD τ) scM0_1 fullShare (sdTab (x8 m c (pt 0)))
      ∗ (∃ d, owns (c : Thread nD τ) scM0_2 fullShare d) ∗ (∃ d, owns (c : Thread nD τ) scM0_3 fullShare d)
      ∗ (∃ d, ⌜HidUpTo m c (n + 1) d⌝ ∗ owns (c : Thread nD τ) scM0_4 fullShare d)
      ∗ owns (c : Thread nD τ) scM0_5 fullShare (amAt m c n)
      ∗ (∃ d, ⌜10 ≤ n → d = rsTab m c⌝ ∗ owns (c : Thread nD τ) scM0_6 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (scTab (x5 m c (pt 0))) ∗ owns (c : Thread nD τ) scM0_1 fullShare (sdTab (x8 m c (pt 0)))
      ∗ (∃ d, owns (c : Thread nD τ) scM0_2 fullShare d) ∗ (∃ d, owns (c : Thread nD τ) scM0_3 fullShare d)
      ∗ (∃ d, ⌜HidUpTo m c n d⌝ ∗ owns (c : Thread nD τ) scM0_4 fullShare d)
      ∗ owns (c : Thread nD τ) scM0_5 fullShare (amAt m c (n - 1))
      ∗ (∃ d, ⌜10 ≤ n - 1 → d = rsTab m c⌝ ∗ owns (c : Thread nD τ) scM0_6 fullShare d)) ∗ (∃ r, prngReg c r)) := by
  cases n with
  | zero => exact absurd rfl hz
  | succ n => rfl

/-- The proof data of the pipeline on core `c`. -/
def datI (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ t := PhiS m c t.val (Nat.le_of_lt_succ t.isLt)
  q _ := fullShare
  owed _ := 0

/-- The same with the outputs held to what the kernel leaves in them. -/
def rdat (c : Dev nD) : RDat τ (Elt Ideal) Unit ℕ (UR sig nD τ) ℕ cfg0 c := (datI m c).toRRel marked (Rel m c)

theorem A_eq (c : Dev nD) (w : Fin cfg0.W) : (datI m c).A w = V m c (Pipeline.arrRef spec0 w) := by
  dsimp only [datI]

theorem PhiS_castSucc (c : Dev nD) (t : Fin cfg0.N) : (datI m c).Φ t.castSucc = PhiS m c t.val (Nat.le_of_lt t.isLt) := by
  dsimp only [datI]; exact Pipeline.Dat.Φ_castSucc (PhiS m c) t

theorem after0_0 (c : Dev nD) (t : Fin cfg0.N) : (datI m c).after 0 t = x1 m c t := by dsimp only [datI, x1]
theorem before0_0 (c : Dev nD) (t : Fin cfg0.N) (d) : (datI m c).before 0 t d = x1 m c t :=
  before0_0_of m (datI m c) (A_eq m c 0) (after0_0 m c) t d
theorem after0_1 (c : Dev nD) (t : Fin cfg0.N) : (datI m c).after 1 t = x2 m c t := by dsimp only [datI, x2]
theorem before0_1 (c : Dev nD) (t : Fin cfg0.N) (d) : (datI m c).before 1 t d = x2 m c t :=
  before0_1_of m (datI m c) (A_eq m c 1) (after0_1 m c) t d
theorem after0_2 (c : Dev nD) (t : Fin cfg0.N) : (datI m c).after 2 t = x3 m c t := by dsimp only [datI, x3]
theorem before0_2 (c : Dev nD) (t : Fin cfg0.N) (d) : (datI m c).before 2 t d = x3 m c t :=
  before0_2_of m (datI m c) (A_eq m c 2) (after0_2 m c) t d
theorem after0_3 (c : Dev nD) (t : Fin cfg0.N) : (datI m c).after 3 t = x4 m c t := by dsimp only [datI, x4]
theorem before0_3 (c : Dev nD) (t : Fin cfg0.N) (d) : (datI m c).before 3 t d = x4 m c t :=
  before0_3_of m (datI m c) (A_eq m c 3) (after0_3 m c) t d
theorem after0_4 (c : Dev nD) (t : Fin cfg0.N) : (datI m c).after 4 t = x5 m c t := by dsimp only [datI, x5]
theorem before0_4 (c : Dev nD) (t : Fin cfg0.N) (d) : (datI m c).before 4 t d = x5 m c t :=
  before0_4_of m (datI m c) (A_eq m c 4) (after0_4 m c) t d
theorem after0_5 (c : Dev nD) (t : Fin cfg0.N) : (datI m c).after 5 t = x6 m c t := by dsimp only [datI, x6]
theorem before0_5 (c : Dev nD) (t : Fin cfg0.N) (d) : (datI m c).before 5 t d = x6 m c t :=
  before0_5_of m (datI m c) (A_eq m c 5) (after0_5 m c) t d
theorem after0_6 (c : Dev nD) (t : Fin cfg0.N) : (datI m c).after 6 t = x7 m c t := by dsimp only [datI, x7]
theorem before0_6 (c : Dev nD) (t : Fin cfg0.N) (d) : (datI m c).before 6 t d = x7 m c t :=
  before0_6_of m (datI m c) (A_eq m c 6) (after0_6 m c) t d
theorem after0_7 (c : Dev nD) (t : Fin cfg0.N) : (datI m c).after 7 t = x8 m c t := by dsimp only [datI, x8]
theorem before0_7 (c : Dev nD) (t : Fin cfg0.N) (d) : (datI m c).before 7 t d = x8 m c t :=
  before0_7_of m (datI m c) (A_eq m c 7) (after0_7 m c) t d
theorem after0_8 (c : Dev nD) (t : Fin cfg0.N) : (datI m c).after 8 t = x9 m c t := by dsimp only [datI, x9]
theorem before0_8 (c : Dev nD) (t : Fin cfg0.N) (d) : (datI m c).before 8 t d = x9 m c t :=
  before0_8_of m (datI m c) (A_eq m c 8) (after0_8 m c) t d

/-! ## The values of one point, of what the point before left -/

theorem ptOne_eq {t : Fin cfg0.N} (ht : t.val < 10) (hc1 : cond0_1 (grid0.coords t)) : ptOne hc1 = ⟨t.val, ht⟩ := Fin.ext (coords_val t)

theorem ptTwo_eq {t : Fin cfg0.N} (k : Fin 10) (ht : t.val = k.val + 10) (hc3 : cond0_3 (grid0.coords t)) : ptTwo hc3 = k :=
  Fin.ext (by unfold ptTwo; dsimp only; rw [coords_val t]; omega)

/-- The hidden activations of the point's block. -/
theorem hidAt_of (c : Dev nD) (t : Fin cfg0.N) (ht : t.val < 10) (hc1 : cond0_1 (grid0.coords t)) :
    hid (ptOne hc1) (x1 m c t) (x2 m c t) (x4 m c t) (x6 m c t) (scTab (x5 m c (pt 0))) = hidAt m c ⟨t.val, ht⟩ := by
  rw [ptOne_eq ht hc1]; rfl

theorem hidUpTo_fill (c : Dev nD) (n : Nat) (hn : n < 10) (d : Vec Ideal S10x1536x512 .f32) (h : HidUpTo m c n d) :
    HidUpTo m c (n + 1) (fillHid ⟨n, hn⟩ (hidAt m c ⟨n, hn⟩) d) := by
  intro j hj r q
  unfold fillHid
  by_cases e : j.val = n
  · obtain rfl : j = ⟨n, hn⟩ := Fin.ext e
    exact if_pos rfl
  · exact (if_neg e).trans (h j (by omega) r q)

theorem hidUpTo_zero (c : Dev nD) (d : Vec Ideal S10x1536x512 .f32) : HidUpTo m c 0 d := fun _ h => absurd h (Nat.not_lt_zero _)

theorem hidUpTo_more (c : Dev nD) (n : Nat) (hn : 10 ≤ n) (d : Vec Ideal S10x1536x512 .f32) (h : HidUpTo m c n d) : HidUpTo m c (n + 1) d :=
  fun j _ => h j (by have := j.isLt; omega)

theorem maxAt_succ (c : Dev nD) (n : Nat) (hn : n < 10) : fillMax (hidAt m c ⟨n, hn⟩) (maxAt m c n) = amAt m c n := by
  unfold amAt; rw [if_pos hn, maxAt, dif_pos hn]

theorem amAt_pred (c : Dev nD) (n : Nat) (hz : n ≠ 0) (hn : n ≤ 10) : amAt m c (n - 1) = maxAt m c n := by
  obtain ⟨k, rfl⟩ := Nat.exists_eq_succ_of_ne_zero hz
  exact if_pos (by omega)

theorem amAt_late (c : Dev nD) (n : Nat) (hn : 10 ≤ n) : amAt m c n = invAt m c := if_neg (by omega)

theorem codes_of (c : Dev nD) (k : Fin 10) (n : Nat) (hn : k.val < n) (d : Vec Ideal S10x1536x512 .f32) (h : HidUpTo m c n d) :
    codes k d (invAt m c) = codeAt m c k := by
  funext r q
  unfold codes codeAt
  rw [h k hn r q]

theorem accAt_succ (c : Dev nD) (t : Fin cfg0.N) (k : Fin 10) (ht : t.val = k.val + 10) :
    addTwo k (prodTwo k (x7 m c t) (sdTab (x8 m c (pt 0))) (codeAt m c k)) (accAt m c k.val) = accAt m c (k.val + 1) := by
  have e : t = pt (k.val + 10) (by have := k.isLt; omega) := Fin.ext ht
  rw [e, accAt, dif_pos k.isLt]

/-- At the first block the accumulator's old contents do not matter. -/
theorem addTwo_zero (D : Fin 1536 → Fin 1280 → EReal) (d d' : Vec Ideal S10x1536x128 .f32) (k : Fin 10) (hk : k.val = 0) : addTwo k D d = addTwo k D d' := by
  unfold addTwo; funext y; dsimp only; rw [if_pos hk, if_pos hk]

end Cert.KernelIdeal.Gen

end
-- ==== Proof.Mlp.Body.lean ====
/- The body at each grid point: from the invariant before the point to the invariant after it. -/
module

public import proofs.«01_k».proof.Proof.Mlp.Data

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Idealize.ShloMosaic.ValueIdx

variable (m : (ℓ : Loc nD τ sig) → Buf (Elt Ideal) ℓ)

local notation "𝕄" => MT nD τ sig Unit (Elt Ideal) ℕ (UR sig nD τ) ℕ

/-! ## What the body finds in the outputs that it reads or keeps -/

theorem fetch10 : ∀ t : Fin cfg0.N, (cfg0.win 10).fetch t = false := by decide +kernel
theorem fetch12 : ∀ t : Fin cfg0.N, (cfg0.win 12).fetch t = false := by decide +kernel
theorem flush10 : ∀ t : Fin cfg0.N, t.val < 19 → (cfg0.win 10).flush t = false := by decide +kernel
theorem flush12 : ∀ t : Fin cfg0.N, t.val < 19 → (cfg0.win 12).flush t = false := by decide +kernel

theorem finds10 (c : Dev nD) (t : Fin cfg0.N) (ht : 10 < t.val) (Y : Vec Ideal S1x1536 .f32) (h : (rdat m c).Finds 10 t Y) :
    Y = fun y => scaleAt m c (y 1) := by
  have hN : t.val < 20 := lt_of_lt_of_eq t.isLt (show cfg0.N = 20 from N_0)
  rcases ((rdat m c).finds_of_pos (fetch10 t) (by omega) Y).mp h with hf | hl
  · rw [flush10 _ (by dsimp only; omega)] at hf; exact absurd hf Bool.false_ne_true
  · have h' : Rel10 m c _ Y := Pipeline.Dat.toRRel_leaves (datI m c) (w := 10) rfl hl
    exact h' (by dsimp only; omega)

theorem finds12 (c : Dev nD) (t : Fin cfg0.N) (ht : 10 < t.val) (Y : Vec Ideal S10x1536x128 .f32) (h : (rdat m c).Finds 12 t Y) :
    Y = accAt m c (t.val - 10) := by
  have hN : t.val < 20 := lt_of_lt_of_eq t.isLt (show cfg0.N = 20 from N_0)
  rcases ((rdat m c).finds_of_pos (fetch12 t) (by omega) Y).mp h with hf | hl
  · rw [flush12 _ (by dsimp only; omega)] at hf; exact absurd hf Bool.false_ne_true
  · have h' : Rel12 m c _ Y := Pipeline.Dat.toRRel_leaves (datI m c) (w := 12) rfl hl
    have e := h' (by dsimp only; omega)
    dsimp only at e
    rw [if_neg (by omega), show t.val - 1 - 9 = t.val - 10 by omega] at e
    exact e

/-- The codes and the accumulator after a point of the second phase. -/
theorem acc_step (c : Dev nD) (t : Fin cfg0.N) (k : Fin 10) (ht : t.val = k.val + 10) (hc3 : cond0_3 (grid0.coords t)) (d : Vec Ideal S10x1536x512 .f32)
    (hd : HidUpTo m c t.val d) (Y : Vec Ideal S10x1536x128 .f32) (hY : k.val = 0 ∨ Y = accAt m c k.val) :
    addTwo (ptTwo hc3) (prodTwo (ptTwo hc3) (x7 m c t) (sdTab (x8 m c (pt 0))) (codes (ptTwo hc3) d (invAt m c))) Y = accAt m c (k.val + 1) := by
  rw [ptTwo_eq k ht hc3, codes_of m c k t.val (by omega) d hd, ← accAt_succ m c t k ht]
  rcases hY with h | h
  · exact addTwo_zero _ _ _ k h
  · rw [h]

theorem rel9_step (c : Dev nD) (t : Fin cfg0.N) (hc3 : cond0_3 (grid0.coords t)) (d : Vec Ideal S10x1536x512 .f32) (hd : HidUpTo m c t.val d) :
    Rel9 m c t (fun y => codes (ptTwo hc3) d (invAt m c) (y 0) (y 1)) := by
  intro k hk
  rw [ptTwo_eq k hk hc3, codes_of m c k t.val (by omega) d hd]

/-! ## The body at a point of each kind -/

/-- What the body is called with at point `t`, -/
def bodyPre (c : Dev nD) (t : Fin cfg0.N) : sProp 𝕄 :=
  iprop((datI m c).Φ t.castSucc ∗ (datI m c).owesAt () t.castSucc
    ∗ (∃ d, owns (c : Thread nD τ) (ms0_0 t) fullShare ((datI m c).before 0 t d))
    ∗ (∃ d, owns (c : Thread nD τ) (ms0_1 t) fullShare ((datI m c).before 1 t d))
    ∗ (∃ d, owns (c : Thread nD τ) (ms0_2 t) fullShare ((datI m c).before 2 t d))
    ∗ (∃ d, owns (c : Thread nD τ) (ms0_3 t) fullShare ((datI m c).before 3 t d))
    ∗ (∃ d, owns (c : Thread nD τ) (ms0_4 t) fullShare ((datI m c).before 4 t d))
    ∗ (∃ d, owns (c : Thread nD τ) (ms0_5 t) fullShare ((datI m c).before 5 t d))
    ∗ (∃ d, owns (c : Thread nD τ) (ms0_6 t) fullShare ((datI m c).before 6 t d))
    ∗ (∃ d, owns (c : Thread nD τ) (ms0_7 t) fullShare ((datI m c).before 7 t d))
    ∗ (∃ d, owns (c : Thread nD τ) (ms0_8 t) fullShare ((datI m c).before 8 t d))
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y))

/-- and what it returns. -/
def bodyPost (c : Dev nD) (t : Fin cfg0.N) : sProp 𝕄 :=
  iprop((datI m c).Φ t.succ ∗ (datI m c).owesAt () t.succ
    ∗ owns (c : Thread nD τ) (ms0_0 t) fullShare ((datI m c).after 0 t)
    ∗ owns (c : Thread nD τ) (ms0_1 t) fullShare ((datI m c).after 1 t)
    ∗ owns (c : Thread nD τ) (ms0_2 t) fullShare ((datI m c).after 2 t)
    ∗ owns (c : Thread nD τ) (ms0_3 t) fullShare ((datI m c).after 3 t)
    ∗ owns (c : Thread nD τ) (ms0_4 t) fullShare ((datI m c).after 4 t)
    ∗ owns (c : Thread nD τ) (ms0_5 t) fullShare ((datI m c).after 5 t)
    ∗ owns (c : Thread nD τ) (ms0_6 t) fullShare ((datI m c).after 6 t)
    ∗ owns (c : Thread nD τ) (ms0_7 t) fullShare ((datI m c).after 7 t)
    ∗ owns (c : Thread nD τ) (ms0_8 t) fullShare ((datI m c).after 8 t)
    ∗ (∃ X, ⌜Rel9 m c t X⌝ ∗ owns (c : Thread nD τ) (ms0_9 t) fullShare X)
    ∗ (∃ X, ⌜Rel10 m c t X⌝ ∗ owns (c : Thread nD τ) (ms0_10 t) fullShare X)
    ∗ (∃ X, ⌜Rel11 m c t X⌝ ∗ owns (c : Thread nD τ) (ms0_11 t) fullShare X)
    ∗ (∃ X, ⌜Rel12 m c t X⌝ ∗ owns (c : Thread nD τ) (ms0_12 t) fullShare X))

set_option maxHeartbeats 4000000 in
/-- The first point: the tables are filled and the first block of the first product is taken. -/
theorem sound_A (c : Dev nD) (t : Fin cfg0.N) (h : t.val = 0) :
    bodyPre m c t ⊢ wp frame (wpE (defs₀ (F := Ideal)) Variants.none c none) Set.univ (bodyAt0 t) (fun _ => bodyPost m c t) := by
  have hN : t.val < 20 := lt_of_lt_of_eq t.isLt (show cfg0.N = 20 from N_0)
  have hc0 : cond0_0 (grid0.coords t) := (hcond0_0 t).mpr (by omega)
  have hc1 : cond0_1 (grid0.coords t) := (hcond0_1 t).mpr (by omega)
  have hc2 : ¬cond0_2 (grid0.coords t) := fun h => by have := (hcond0_2 t).mp h; omega
  have hc3 : ¬cond0_3 (grid0.coords t) := fun h => by have := (hcond0_3 t).mp h; omega
  have hc4 : ¬cond0_4 (grid0.coords t) := fun h => by have := (hcond0_4 t).mp h; omega
  unfold bodyPre bodyPost bodyAt0
  simp only [before0_0, before0_1, before0_2, before0_3, before0_4, before0_5, before0_6, before0_7, before0_8,
    after0_0, after0_1, after0_2, after0_3, after0_4, after0_5, after0_6, after0_7, after0_8]
  rw [show (datI m c).owesAt () t.succ = (datI m c).owesAt () t.castSucc from rfl]
  rw [show (datI m c).Φ t.succ = PhiS m c (t.val + 1) t.isLt from rfl, PhiS_succ]
  rw [PhiS_castSucc m c t, PhiS_zero m c _ _ h, PhiA0_eq]
  have et : x5 m c t = x5 m c (pt 0) := by rw [show t = pt 0 from Fin.ext h]
  have et8 : x8 m c t = x8 m c (pt 0) := by rw [show t = pt 0 from Fin.ext h]
  have ht : t.val < 10 := by omega
  have e18 := hidAt_of m c t ht hc1
  have e19 : fillMax (hid (ptOne hc1) (x1 m c t) (x2 m c t) (x4 m c t) (x6 m c t) (scTab (x5 m c (pt 0)))) (fun _ => (0 : EReal)) = amAt m c t.val := by
    rw [e18, ← maxAt_succ m c t.val ht]
    simp only [h, maxAt]
  rw [body_A (grid0.coords t) _ _ _ _ _ _ _ _ _ _ _ _ _ _ _ _ _ _ _ _ _ _ _ _ _ _ _ _ _ _ _ _ _ _ _ _ _ _ _ _ hc0 hc1 hc2 hc3 hc4]
  rw [wp_bind]
  iintro ⟨⟨⟨⟨%e0, HS0⟩, ⟨%e1, HS1⟩, ⟨%e2, HS2⟩, ⟨%e3, HS3⟩, ⟨%e4, HS4⟩, ⟨%e5, HS5⟩, ⟨%e6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%y9, %hy9, H9⟩, ⟨%y10, %hy10, H10⟩, ⟨%y11, %hy11, H11⟩, ⟨%y12, %hy12, H12⟩⟩
  iapply stepInit c _ _ _ _ _ _ _ _ _ _ _ _ _ _ _ _ _ _ _ _ _ _ _ _ _ _ _ _ _ _ _ _ _ _ _ _ _ _ _ _ _ (x5 m c t) (x8 m c t) _ _ _
  isplitl [H4]; · iexact H4
  isplitl [H7]; · iexact H7
  isplitl [HS0]; · iexact HS0
  isplitl [HS1]; · iexact HS1
  isplitl [HS5]; · iexact HS5
  iintro ⟨H4, H7, HS0, HS1, HS5⟩
  rw [et, et8]
  iapply stepOne c _ _ _ _ _ _ _ _ _ _ _ _ _ _ _ _ _ _ _ _ _ _ _ _ _ _ _ _ _ _ _ _ _ _ _ _ _ _ _ _ _ hc1 (x1 m c t) (x2 m c t) (x4 m c t) (x6 m c t) (scTab (x5 m c (pt 0))) _ _ _
  isplitl [H0]; · iexact H0
  isplitl [H1]; · iexact H1
  isplitl [H3]; · iexact H3
  isplitl [H5]; · iexact H5
  isplitl [HS0]; · iexact HS0
  isplitl [HS2]; · iexact HS2
  isplitl [HS4]; · iexact HS4
  isplitl [HS5]; · iexact HS5
  iintro ⟨H0, H1, H3, H5, HS0, ⟨%w16, HS2⟩, HS4, HS5⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexists _; iexact HS2
      isplitl [HS3]; · iexists _; iexact HS3
      isplitl [HS4]
      · iexists _; isplitr
        swap; · iexact HS4
        ipureintro; rw [e18, ptOne_eq ht hc1]; exact hidUpTo_fill m c t.val ht _ (by rw [h]; exact hidUpTo_zero m c _)
      isplitl [HS5]
      · rw [← e19]; iexact HS5
      iexists _; isplitr
      swap; · iexact HS6
      ipureintro; exact fun hk => absurd hk (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr
    swap; · iexact H9
    ipureintro; exact fun k hk => absurd hk (by have := k.isLt; omega)
  isplitl [H10]
  · iexists _; isplitr
    swap; · iexact H10
    ipureintro; exact fun hk => absurd hk (by omega)
  isplitl [H11]
  · iexists _; isplitr
    swap; · iexact H11
    ipureintro; exact fun hk => absurd hk (by omega)
  iexists _; isplitr
  swap; · iexact H12
  ipureintro; exact fun hk => absurd hk (by omega)

set_option maxHeartbeats 4000000 in
/-- A later point of the first phase: the next block of the first product is taken. -/
theorem sound_B (c : Dev nD) (t : Fin cfg0.N) (h : 1 ≤ t.val) (h' : t.val < 10) :
    bodyPre m c t ⊢ wp frame (wpE (defs₀ (F := Ideal)) Variants.none c none) Set.univ (bodyAt0 t) (fun _ => bodyPost m c t) := by
  have hN : t.val < 20 := lt_of_lt_of_eq t.isLt (show cfg0.N = 20 from N_0)
  have hc0 : ¬cond0_0 (grid0.coords t) := fun h => by have := (hcond0_0 t).mp h; omega
  have hc1 : cond0_1 (grid0.coords t) := (hcond0_1 t).mpr (by omega)
  have hc2 : ¬cond0_2 (grid0.coords t) := fun h => by have := (hcond0_2 t).mp h; omega
  have hc3 : ¬cond0_3 (grid0.coords t) := fun h => by have := (hcond0_3 t).mp h; omega
  have hc4 : ¬cond0_4 (grid0.coords t) := fun h => by have := (hcond0_4 t).mp h; omega
  unfold bodyPre bodyPost bodyAt0
  simp only [before0_0, before0_1, before0_2, before0_3, before0_4, before0_5, before0_6, before0_7, before0_8,
    after0_0, after0_1, after0_2, after0_3, after0_4, after0_5, after0_6, after0_7, after0_8]
  rw [show (datI m c).owesAt () t.succ = (datI m c).owesAt () t.castSucc from rfl]
  rw [show (datI m c).Φ t.succ = PhiS m c (t.val + 1) t.isLt from rfl, PhiS_succ]
  rw [PhiS_castSucc m c t, PhiS_pos m c _ _ (by omega)]
  have e18 := hidAt_of m c t h' hc1
  have e19 : fillMax (hid (ptOne hc1) (x1 m c t) (x2 m c t) (x4 m c t) (x6 m c t) (scTab (x5 m c (pt 0)))) (maxAt m c t.val) = amAt m c t.val := by
    rw [e18, maxAt_succ]
  rw [amAt_pred m c t.val (by omega) (by omega)]
  rw [body_B (grid0.coords t) _ _ _ _ _ _ _ _ _ _ _ _ _ _ _ _ _ _ _ _ _ _ _ _ _ _ _ _ _ _ _ _ _ _ _ _ _ _ _ _ hc0 hc1 hc2 hc3 hc4]
  iintro ⟨⟨⟨HS0, HS1, ⟨%e2, HS2⟩, ⟨%e3, HS3⟩, ⟨%e4, %he4, HS4⟩, HS5, ⟨%e6, %he6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%y9, %hy9, H9⟩, ⟨%y10, %hy10, H10⟩, ⟨%y11, %hy11, H11⟩, ⟨%y12, %hy12, H12⟩⟩
  iapply stepOne c _ _ _ _ _ _ _ _ _ _ _ _ _ _ _ _ _ _ _ _ _ _ _ _ _ _ _ _ _ _ _ _ _ _ _ _ _ _ _ _ _ hc1 (x1 m c t) (x2 m c t) (x4 m c t) (x6 m c t) (scTab (x5 m c (pt 0))) _ _ _
  isplitl [H0]; · iexact H0
  isplitl [H1]; · iexact H1
  isplitl [H3]; · iexact H3
  isplitl [H5]; · iexact H5
  isplitl [HS0]; · iexact HS0
  isplitl [HS2]; · iexact HS2
  isplitl [HS4]; · iexact HS4
  isplitl [HS5]; · iexact HS5
  iintro ⟨H0, H1, H3, H5, HS0, ⟨%w16, HS2⟩, HS4, HS5⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexists _; iexact HS2
      isplitl [HS3]; · iexists _; iexact HS3
      isplitl [HS4]
      · iexists _; isplitr
        swap; · iexact HS4
        ipureintro; rw [e18, ptOne_eq h' hc1]; exact hidUpTo_fill m c t.val h' _ he4
      isplitl [HS5]
      · rw [← e19]; iexact HS5
      iexists _; isplitr
      swap; · iexact HS6
      ipureintro; exact fun hk => absurd hk (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr
    swap; · iexact H9
    ipureintro; exact fun k hk => absurd hk (by have := k.isLt; omega)
  isplitl [H10]
  · iexists _; isplitr
    swap; · iexact H10
    ipureintro; exact fun hk => absurd hk (by omega)
  isplitl [H11]
  · iexists _; isplitr
    swap; · iexact H11
    ipureintro; exact fun hk => absurd hk (by omega)
  iexists _; isplitr
  swap; · iexact H12
  ipureintro; exact fun hk => absurd hk (by omega)

set_option maxHeartbeats 4000000 in
/-- The first point of the second phase: the row scales are set and the first block of the second product is taken. -/
theorem sound_C (c : Dev nD) (t : Fin cfg0.N) (h : t.val = 10) :
    bodyPre m c t ⊢ wp frame (wpE (defs₀ (F := Ideal)) Variants.none c none) Set.univ (bodyAt0 t) (fun _ => bodyPost m c t) := by
  have hN : t.val < 20 := lt_of_lt_of_eq t.isLt (show cfg0.N = 20 from N_0)
  have hc0 : ¬cond0_0 (grid0.coords t) := fun h => by have := (hcond0_0 t).mp h; omega
  have hc1 : ¬cond0_1 (grid0.coords t) := fun h => by have := (hcond0_1 t).mp h; omega
  have hc2 : cond0_2 (grid0.coords t) := (hcond0_2 t).mpr (by omega)
  have hc3 : cond0_3 (grid0.coords t) := (hcond0_3 t).mpr (by omega)
  have hc4 : ¬cond0_4 (grid0.coords t) := fun h => by have := (hcond0_4 t).mp h; omega
  unfold bodyPre bodyPost bodyAt0
  simp only [before0_0, before0_1, before0_2, before0_3, before0_4, before0_5, before0_6, before0_7, before0_8,
    after0_0, after0_1, after0_2, after0_3, after0_4, after0_5, after0_6, after0_7, after0_8]
  rw [show (datI m c).owesAt () t.succ = (datI m c).owesAt () t.castSucc from rfl]
  rw [show (datI m c).Φ t.succ = PhiS m c (t.val + 1) t.isLt from rfl, PhiS_succ]
  rw [PhiS_castSucc m c t, PhiS_pos m c _ _ (by omega)]
  rw [amAt_pred m c t.val (by omega) (by omega), amAt_late m c t.val (by omega), h]
  rw [body_C (grid0.coords t) _ _ _ _ _ _ _ _ _ _ _ _ _ _ _ _ _ _ _ _ _ _ _ _ _ _ _ _ _ _ _ _ _ _ _ _ _ _ _ _ hc0 hc1 hc2 hc3 hc4]
  rw [wp_bind]
  iintro ⟨⟨⟨HS0, HS1, ⟨%e2, HS2⟩, ⟨%e3, HS3⟩, ⟨%e4, %he4, HS4⟩, HS5, ⟨%e6, %he6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%y9, %hy9, H9⟩, ⟨%y10, %hy10, H10⟩, ⟨%y11, %hy11, H11⟩, ⟨%y12, %hy12, H12⟩⟩
  iapply stepScales c _ _ _ _ _ _ _ _ _ _ _ _ _ _ _ _ _ _ _ _ _ _ _ _ _ _ _ _ _ _ _ _ _ _ _ _ _ _ _ _ _ _ (maxAt m c 10) _
  isplitl [H10]; · iexact H10
  isplitl [HS5]; · iexact HS5
  isplitl [HS6]; · iexact HS6
  iintro ⟨H10, HS5, HS6⟩
  iapply stepTwo c _ _ _ _ _ _ _ _ _ _ _ _ _ _ _ _ _ _ _ _ _ _ _ _ _ _ _ _ _ _ _ _ _ _ _ _ _ _ _ _ _ hc3 (x7 m c t) _ _ (sdTab (x8 m c (pt 0))) _ _ (invAt m c)
  isplitl [H6]; · iexact H6
  isplitl [H9]; · iexact H9
  isplitl [H12]; · iexact H12
  isplitl [HS1]; · iexact HS1
  isplitl [HS3]; · iexact HS3
  isplitl [HS4]; · iexact HS4
  isplitl [HS5]; · iexact HS5
  iintro ⟨H6, H9, H12, HS1, ⟨%w17, HS3⟩, HS4, HS5⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexists _; iexact HS2
      isplitl [HS3]; · iexists _; iexact HS3
      isplitl [HS4]
      · iexists _; isplitr
        swap; · iexact HS4
        ipureintro; rw [← h]; exact hidUpTo_more m c t.val (by omega) _ (by rw [h]; exact he4)
      isplitl [HS5]
      · skip; iexact HS5
      iexists _; isplitr
      swap; · iexact HS6
      ipureintro; exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr
    swap; · iexact H9
    ipureintro; exact rel9_step m c t hc3 e4 (by rw [h]; exact he4)
  isplitl [H10]
  · iexists _; isplitr
    swap; · iexact H10
    ipureintro; exact fun _ => rfl
  isplitl [H11]
  · iexists _; isplitr
    swap; · iexact H11
    ipureintro; exact fun hk => absurd hk (by omega)
  iexists _; isplitr
  swap; · iexact H12
  ipureintro; intro _; have e := acc_step m c t ⟨t.val - 10, by omega⟩ (by dsimp only; omega) hc3 e4 (by rw [h]; exact he4) y12 (.inl (by dsimp only; omega)); dsimp only at e; rw [e, if_neg (by omega), show t.val - 10 + 1 = t.val - 9 by omega]

set_option maxHeartbeats 4000000 in
/-- A later point of the second phase: the next block of the second product is taken. -/
theorem sound_D (c : Dev nD) (t : Fin cfg0.N) (h : 11 ≤ t.val) (h' : t.val < 19) :
    bodyPre m c t ⊢ wp frame (wpE (defs₀ (F := Ideal)) Variants.none c none) Set.univ (bodyAt0 t) (fun _ => bodyPost m c t) := by
  have hN : t.val < 20 := lt_of_lt_of_eq t.isLt (show cfg0.N = 20 from N_0)
  have hc0 : ¬cond0_0 (grid0.coords t) := fun h => by have := (hcond0_0 t).mp h; omega
  have hc1 : ¬cond0_1 (grid0.coords t) := fun h => by have := (hcond0_1 t).mp h; omega
  have hc2 : ¬cond0_2 (grid0.coords t) := fun h => by have := (hcond0_2 t).mp h; omega
  have hc3 : cond0_3 (grid0.coords t) := (hcond0_3 t).mpr (by omega)
  have hc4 : ¬cond0_4 (grid0.coords t) := fun h => by have := (hcond0_4 t).mp h; omega
  unfold bodyPre bodyPost bodyAt0
  simp only [before0_0, before0_1, before0_2, before0_3, before0_4, before0_5, before0_6, before0_7, before0_8,
    after0_0, after0_1, after0_2, after0_3, after0_4, after0_5, after0_6, after0_7, after0_8]
  rw [show (datI m c).owesAt () t.succ = (datI m c).owesAt () t.castSucc from rfl]
  rw [show (datI m c).Φ t.succ = PhiS m c (t.val + 1) t.isLt from rfl, PhiS_succ]
  rw [PhiS_castSucc m c t, PhiS_pos m c _ _ (by omega)]
  rw [amAt_late m c (t.val - 1) (by omega), amAt_late m c t.val (by omega)]
  rw [body_D (grid0.coords t) _ _ _ _ _ _ _ _ _ _ _ _ _ _ _ _ _ _ _ _ _ _ _ _ _ _ _ _ _ _ _ _ _ _ _ _ _ _ _ _ hc0 hc1 hc2 hc3 hc4]
  iintro ⟨⟨⟨HS0, HS1, ⟨%e2, HS2⟩, ⟨%e3, HS3⟩, ⟨%e4, %he4, HS4⟩, HS5, ⟨%e6, %he6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%y9, %hy9, H9⟩, ⟨%y10, %hy10, H10⟩, ⟨%y11, %hy11, H11⟩, ⟨%y12, %hy12, H12⟩⟩
  iapply stepTwo c _ _ _ _ _ _ _ _ _ _ _ _ _ _ _ _ _ _ _ _ _ _ _ _ _ _ _ _ _ _ _ _ _ _ _ _ _ _ _ _ _ hc3 (x7 m c t) _ _ (sdTab (x8 m c (pt 0))) _ _ (invAt m c)
  isplitl [H6]; · iexact H6
  isplitl [H9]; · iexact H9
  isplitl [H12]; · iexact H12
  isplitl [HS1]; · iexact HS1
  isplitl [HS3]; · iexact HS3
  isplitl [HS4]; · iexact HS4
  isplitl [HS5]; · iexact HS5
  iintro ⟨H6, H9, H12, HS1, ⟨%w17, HS3⟩, HS4, HS5⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexists _; iexact HS2
      isplitl [HS3]; · iexists _; iexact HS3
      isplitl [HS4]
      · iexists _; isplitr
        swap; · iexact HS4
        ipureintro; exact hidUpTo_more m c t.val (by omega) _ he4
      isplitl [HS5]
      · skip; iexact HS5
      iexists _; isplitr
      swap; · iexact HS6
      ipureintro; exact fun _ => he6 (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr
    swap; · iexact H9
    ipureintro; exact rel9_step m c t hc3 e4 he4
  isplitl [H10]
  · iexists _; isplitr
    swap; · iexact H10
    ipureintro; exact fun _ => finds10 m c t (by omega) _ hy10
  isplitl [H11]
  · iexists _; isplitr
    swap; · iexact H11
    ipureintro; exact fun hk => absurd hk (by omega)
  iexists _; isplitr
  swap; · iexact H12
  ipureintro; intro _; have e := acc_step m c t ⟨t.val - 10, by omega⟩ (by dsimp only; omega) hc3 e4 he4 y12 (.inr (finds12 m c t (by omega) _ hy12)); dsimp only at e; rw [e, if_neg (by omega), show t.val - 10 + 1 = t.val - 9 by omega]

set_option maxHeartbeats 4000000 in
/-- The last point: the last block of the second product is taken and the result is written. -/
theorem sound_E (c : Dev nD) (t : Fin cfg0.N) (h : t.val = 19) :
    bodyPre m c t ⊢ wp frame (wpE (defs₀ (F := Ideal)) Variants.none c none) Set.univ (bodyAt0 t) (fun _ => bodyPost m c t) := by
  have hN : t.val < 20 := lt_of_lt_of_eq t.isLt (show cfg0.N = 20 from N_0)
  have hc0 : ¬cond0_0 (grid0.coords t) := fun h => by have := (hcond0_0 t).mp h; omega
  have hc1 : ¬cond0_1 (grid0.coords t) := fun h => by have := (hcond0_1 t).mp h; omega
  have hc2 : ¬cond0_2 (grid0.coords t) := fun h => by have := (hcond0_2 t).mp h; omega
  have hc3 : cond0_3 (grid0.coords t) := (hcond0_3 t).mpr (by omega)
  have hc4 : cond0_4 (grid0.coords t) := (hcond0_4 t).mpr (by omega)
  unfold bodyPre bodyPost bodyAt0
  simp only [before0_0, before0_1, before0_2, before0_3, before0_4, before0_5, before0_6, before0_7, before0_8,
    after0_0, after0_1, after0_2, after0_3, after0_4, after0_5, after0_6, after0_7, after0_8]
  rw [show (datI m c).owesAt () t.succ = (datI m c).owesAt () t.castSucc from rfl]
  rw [show (datI m c).Φ t.succ = PhiS m c (t.val + 1) t.isLt from rfl, PhiS_succ]
  rw [PhiS_castSucc m c t, PhiS_pos m c _ _ (by omega)]
  rw [amAt_late m c (t.val - 1) (by omega), amAt_late m c t.val (by omega)]
  rw [body_E (grid0.coords t) _ _ _ _ _ _ _ _ _ _ _ _ _ _ _ _ _ _ _ _ _ _ _ _ _ _ _ _ _ _ _ _ _ _ _ _ _ _ _ _ hc0 hc1 hc2 hc3 hc4]
  rw [wp_bind]
  iintro ⟨⟨⟨HS0, HS1, ⟨%e2, HS2⟩, ⟨%e3, HS3⟩, ⟨%e4, %he4, HS4⟩, HS5, ⟨%e6, %he6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%y9, %hy9, H9⟩, ⟨%y10, %hy10, H10⟩, ⟨%y11, %hy11, H11⟩, ⟨%y12, %hy12, H12⟩⟩
  iapply stepTwo c _ _ _ _ _ _ _ _ _ _ _ _ _ _ _ _ _ _ _ _ _ _ _ _ _ _ _ _ _ _ _ _ _ _ _ _ _ _ _ _ _ hc3 (x7 m c t) _ _ (sdTab (x8 m c (pt 0))) _ _ (invAt m c)
  isplitl [H6]; · iexact H6
  isplitl [H9]; · iexact H9
  isplitl [H12]; · iexact H12
  isplitl [HS1]; · iexact HS1
  isplitl [HS3]; · iexact HS3
  isplitl [HS4]; · iexact HS4
  isplitl [HS5]; · iexact HS5
  iintro ⟨H6, H9, H12, HS1, ⟨%w17, HS3⟩, HS4, HS5⟩
  have e13 := acc_step m c t ⟨t.val - 10, by omega⟩ (by dsimp only; omega) hc3 e4 he4 y12 (.inr (finds12 m c t (by omega) _ hy12))
  dsimp only at e13
  rw [show t.val - 10 + 1 = 10 by omega] at e13
  rw [e13, he6 (by omega)]
  iapply stepFinish c _ _ _ _ _ _ _ _ _ _ _ _ _ _ _ _ _ _ _ _ _ _ _ _ _ _ _ _ _ _ _ _ _ _ _ _ _ _ _ _ _ (x3 m c t) (x9 m c t) _ (accAt m c 10) (rsTab m c)
  isplitl [H2]; · iexact H2
  isplitl [H8]; · iexact H8
  isplitl [H11]; · iexact H11
  isplitl [H12]; · iexact H12
  isplitl [HS6]; · iexact HS6
  iintro ⟨H2, H8, H11, H12, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexists _; iexact HS2
      isplitl [HS3]; · iexists _; iexact HS3
      isplitl [HS4]
      · iexists _; isplitr
        swap; · iexact HS4
        ipureintro; exact hidUpTo_more m c t.val (by omega) _ he4
      isplitl [HS5]
      · skip; iexact HS5
      iexists _; isplitr
      swap; · iexact HS6
      ipureintro; exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr
    swap; · iexact H9
    ipureintro; exact rel9_step m c t hc3 e4 he4
  isplitl [H10]
  · iexists _; isplitr
    swap; · iexact H10
    ipureintro; exact fun _ => finds10 m c t (by omega) _ hy10
  isplitl [H11]
  · iexists _; isplitr
    swap; · iexact H11
    ipureintro; intro _; rw [show t = pt 19 from Fin.ext h]; rfl
  iexists _; isplitr
  swap; · iexact H12
  ipureintro; intro _; rw [if_pos h, show t = pt 19 from Fin.ext h]; rfl

end Cert.KernelIdeal.Gen

end
-- ==== Proof.Mlp.Run.lean ====
/- The run of the idealized kernel: its frame, and what its result arrays may hold. -/
module

public import proofs.«01_k».proof.Proof.Mlp.Body

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Idealize.ShloMosaic.ValueIdx

variable (m : (ℓ : Loc nD τ sig) → Buf (Elt Ideal) ℓ) (ρ : Dev nD → PrngReg)

local notation "𝕄" => MT nD τ sig Unit (Elt Ideal) ℕ (UR sig nD τ) ℕ

theorem sound_body (c : Dev nD) (t : Fin cfg0.N) :
    bodyPre m c t ⊢ wp frame (wpE (defs₀ (F := Ideal)) Variants.none c none) Set.univ (bodyAt0 t) (fun _ => bodyPost m c t) := by
  have hN : t.val < 20 := lt_of_lt_of_eq t.isLt (show cfg0.N = 20 from N_0)
  by_cases h0 : t.val = 0
  · exact sound_A m c t h0
  by_cases h1 : t.val < 10
  · exact sound_B m c t (by omega) h1
  by_cases h2 : t.val = 10
  · exact sound_C m c t h2
  by_cases h3 : t.val < 19
  · exact sound_D m c t (by omega) h3
  · exact sound_E m c t (by omega)

theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligationRel (datI m c) (defs₀ (F := Ideal)) Variants.none () Set.univ marked (Rel m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = PhiS m c 0 (Nat.zero_le _) from rfl, PhiS_zero m c 0 _ rfl]

theorem hout (c : Dev nD) : (rdat m c).Φ (Fin.last cfg0.N) ⊢ Pipeline.ΦA spec0 c := by
  rw [show (rdat m c).Φ (Fin.last cfg0.N) = PhiS m c cfg0.N (Nat.le_refl _) from rfl, PhiS_pos m c _ _ (by have : cfg0.N = 20 := N_0; omega), PhiA0_eq]
  iintro ⟨⟨HS0, HS1, HS2, HS3, ⟨%e4, %he4, HS4⟩, HS5, ⟨%e6, %he6, HS6⟩⟩, Hg⟩
  isplitl [HS0 HS1 HS2 HS3 HS4 HS5 HS6]
  · isplitl [HS0]
    · iexists _; iexact HS0
    isplitl [HS1]
    · iexists _; iexact HS1
    isplitl [HS2]
    · iexact HS2
    isplitl [HS3]
    · iexact HS3
    isplitl [HS4]
    · iexists _; iexact HS4
    isplitl [HS5]
    · iexists _; iexact HS5
    iexists _; iexact HS6
  iexact Hg

set_option backward.isDefEq.respectTransparency.types false in
/-- The launch: every fair run ends, with the arrays as the proof data relate them and every counter at zero. -/
theorem run_main_quiescent : θ_run defs (onTc (τ := τ) (main (F := Ideal))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (rdat m c).share_full fun _ => rfl)
    (howed := fun _ _ => rfl) (V := V m) (hmain := hmain m Variants.none) (hA := A_eq m) (hin := hin m) (hout := hout m)

theorem arr_in (c : Dev nD) (w : Fin cfg0.W) (hw : (cfg0.spec w).isOut = false) {G} (h : (rdat m c).ArrAt w cfg0.N G) : G = V m c (Pipeline.arrRef spec0 w) :=
  Eq.trans (cast (congrFun ((rdat m c).ArrAt_in w hw cfg0.N) G) h) (A_eq m c w)

/-- The argument arrays end unchanged. -/
theorem unchanged_of (r : PUnit × MemSt nD τ sig (Elt Ideal)) (h : Pipeline.RDat.FramePost (cfgs 0) (rdat m) (V m) r) (c : Dev nD) :
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) :=
  ⟨(arr_in m c 0 rfl ((h c).1 0)).trans (V_main_arg0 m c),
      ((h c).2 main_arg1 (Pipeline.mem_restRefs_of main_arg1 (by decide) (by decide))).trans (V_main_arg1 m c),
      (arr_in m c 2 rfl ((h c).1 2)).trans (V_main_arg2 m c),
      (arr_in m c 3 rfl ((h c).1 3)).trans (V_main_arg3 m c),
      (arr_in m c 4 rfl ((h c).1 4)).trans (V_main_arg4 m c),
      ((h c).2 main_arg5 (Pipeline.mem_restRefs_of main_arg5 (by decide) (by decide))).trans (V_main_arg5 m c),
      (arr_in m c 6 rfl ((h c).1 6)).trans (V_main_arg6 m c),
      (arr_in m c 7 rfl ((h c).1 7)).trans (V_main_arg7 m c),
      ((h c).2 main_arg8 (Pipeline.mem_restRefs_of main_arg8 (by decide) (by decide))).trans (V_main_arg8 m c)⟩

/-- The frame of the idealized kernel. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8))
      ∧ r.2.sem = fun _ => 0) :=
  (θ_run defs _ _).mono (fun r h => ⟨unchanged_of m r h.1, h.2⟩) (run_main_quiescent m ρ)

end Cert.KernelIdeal.Gen

end
-- ==== Proof.Plain.Blocks.lean ====
/- The body of the MLP kernel cut into its five conditional blocks, and the memrefs and conditions of a grid point. -/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, e0]
    word_cmp
   : ∀ t : Fin grid0.N, cond0_0 (grid0.coords t) ↔ t.val % 20 = 0)

/-- The condition of the body's `scf.if` 1 (`k0_h2`), from the grid coordinates (the skeleton's scalar
    chain substituted). -/
abbrev cond0_1 (i : grid0.Coords) : Prop := k0_cond2 i = 1#1
/-- It holds at the points before point 10 — decided over the grid. -/
theorem hcond0_1 : ∀ t : Fin cfg0.N, cond0_1 (grid0.coords t) ↔ t.val < 10 :=
  (by decide +kernel : ∀ t : Fin grid0.N, cond0_1 (grid0.coords t) ↔ t.val < 10)

/-- The condition of the body's `scf.if` 2 (`k0_h3`), from the grid coordinates (the skeleton's scalar
    chain substituted). -/
abbrev cond0_2 (i : grid0.Coords) : Prop := k0_cond3 i = 1#1
/-- It holds at point 10 only — by arithmetic of the point. -/
theorem hcond0_2 : ∀ t : Fin cfg0.N, cond0_2 (grid0.coords t) ↔ t.val % 20 = 10 :=
  (fun t => by
    have ht : t.val < 20 := Nat.lt_of_lt_of_eq t.isLt N_0
    have e0 : (grid0.coords t 0).val = t.val / 1 % 20 := Pipeline.Grid.coords_val t 0 (by decide) rfl
    simp only [cond0_2, k0_cond3, e0]
    word_cmp
   : ∀ t : Fin grid0.N, cond0_2 (grid0.coords t) ↔ t.val % 20 = 10)

/-- The condition of the body's `scf.if` 3 (`k0_h4`), from the grid coordinates (the skeleton's scalar
    chain substituted). -/
abbrev cond0_3 (i : grid0.Coords) : Prop := k0_cond4 i = 1#1
/-- It holds at the points from point 10 on — decided over the grid. -/
theorem hcond0_3 : ∀ t : Fin cfg0.N, cond0_3 (grid0.coords t) ↔ 10 ≤ t.val :=
  (by decide +kernel : ∀ t : Fin grid0.N, cond0_3 (grid0.coords t) ↔ 10 ≤ t.val)

/-- The condition of the body's `scf.if` 4 (`k0_h5`), from the grid coordinates (the skeleton's scalar
    chain substituted). -/
abbrev cond0_4 (i : grid0.Coords) : Prop := k0_cond5 i = 1#1
/-- It holds at the last point only — by arithmetic of the point. -/
theorem hcond0_4 : ∀ t : Fin cfg0.N, cond0_4 (grid0.coords t) ↔ t.val % 20 = 19 :=
  (fun t => by
    have ht : t.val < 20 := Nat.lt_of_lt_of_eq t.isLt N_0
    have e0 : (grid0.coords t 0).val = t.val / 1 % 20 := Pipeline.Grid.coords_val t 0 (by decide) rfl
    simp only [cond0_4, k0_cond5, e0]
    word_cmp
   : ∀ t : Fin grid0.N, cond0_4 (grid0.coords t) ↔ t.val % 20 = 19)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S40x5120 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5120 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x640 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S160x1280 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1280 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1536x512 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1536 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1536x1280 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S10x1536x128 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S5x8x5120 .f32 := Memref.whole cc0_scratch0
abbrev scM0_1 : Memref sig .tc .vmem S20x8x1280 .f32 := Memref.whole cc0_scratch1
abbrev scM0_2 : Memref sig .tc .vmem S1280x512 .bf16 := Memref.whole cc0_scratch2
abbrev scM0_3 : Memref sig .tc .vmem S512x1280 .bf16 := Memref.whole cc0_scratch3
abbrev scM0_4 : Memref sig .tc .vmem S10x1536x512 .f32 := Memref.whole cc0_scratch4
abbrev scM0_5 : Memref sig .tc .vmem S1536x128 .f32 := Memref.whole cc0_scratch5
abbrev scM0_6 : Memref sig .tc .vmem S1536x128 .f32 := Memref.whole cc0_scratch6
/-- The scratch `arg14` the kernel carries between points, as a view: what it holds is stated through it. -/
abbrev VS0_0 : View sig .tc .vmem S5x8x5120 .f32 := scM0_0.view
/-- The scratch `arg15` the kernel carries between points, as a view: what it holds is stated through it. -/
abbrev VS0_1 : View sig .tc .vmem S20x8x1280 .f32 := scM0_1.view
/-- The scratch `arg19` the kernel carries between points, as a view: what it holds is stated through it. -/
abbrev VS0_5 : View sig .tc .vmem S1536x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- At the first point: the two tables of block scales are filled and the running maxima set to zero. -/
def initBlock (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)  :
    Prog (TpuEff nD τ sig (Elt F) Λ₀ .tc) PUnit := do
  let ⟨v44, v45⟩ : Σ' (v44 : FVec F S160x1280 .f32), FVec F S8x1280 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v44 v45
  let v105 : FVec F S8x1280 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v44
  let v106 : Vec F S1x8x1280 .f32 ← Prog.lift (.load arg15 (Rect.unit (s := S20x8x1280) ![15, 0, 0] S1x8x1280.size inb_S20x8x1280_S1x8x1280_15_0_0).toLoadRect (View.loadsAt_vmem h_S1x8x1280))
  Prog.lift (.store arg15 (Rect.unit (s := S20x8x1280) ![15, 0, 0] S1x8x1280.size inb_S20x8x1280_S1x8x1280_15_0_0) (k0_pay1 v105) Finset.univ (View.stores_vmem_bits_univ h_S1x8x1280 rfl) (.inl rfl))
  let v110 : Vec F S1x8x1280 .f32 ← Prog.lift (.load arg15 (Rect.unit (s := S20x8x1280) ![16, 0, 0] S1x8x1280.size inb_S20x8x1280_S1x8x1280_16_0_0).toLoadRect (View.loadsAt_vmem h_S1x8x1280))
  Prog.lift (.store arg15 (Rect.unit (s := S20x8x1280) ![16, 0, 0] S1x8x1280.size inb_S20x8x1280_S1x8x1280_16_0_0) (k0_pay2 v44) Finset.univ (View.stores_vmem_bits_univ h_S1x8x1280 rfl) (.inl rfl))
  let v114 : Vec F S1x8x1280 .f32 ← Prog.lift (.load arg15 (Rect.unit (s := S20x8x1280) ![17, 0, 0] S1x8x1280.size inb_S20x8x1280_S1x8x1280_17_0_0).toLoadRect (View.loadsAt_vmem h_S1x8x1280))
  Prog.lift (.store arg15 (Rect.unit (s := S20x8x1280) ![17, 0, 0] S1x8x1280.size inb_S20x8x1280_S1x8x1280_17_0_0) (k0_pay3 v44) Finset.univ (View.stores_vmem_bits_univ h_S1x8x1280 rfl) (.inl rfl))
  let v118 : Vec F S1x8x1280 .f32 ← Prog.lift (.load arg15 (Rect.unit (s := S20x8x1280) ![18, 0, 0] S1x8x1280.size inb_S20x8x1280_S1x8x1280_18_0_0).toLoadRect (View.loadsAt_vmem h_S1x8x1280))
  Prog.lift (.store arg15 (Rect.unit (s := S20x8x1280) ![18, 0, 0] S1x8x1280.size inb_S20x8x1280_S1x8x1280_18_0_0) (k0_pay4 v44) Finset.univ (View.stores_vmem_bits_univ h_S1x8x1280 rfl) (.inl rfl))
  let v122 : Vec F S1x8x1280 .f32 ← Prog.lift (.load arg15 (Rect.unit (s := S20x8x1280) ![19, 0, 0] S1x8x1280.size inb_S20x8x1280_S1x8x1280_19_0_0).toLoadRect (View.loadsAt_vmem h_S1x8x1280))
  Prog.lift (.store arg15 (Rect.unit (s := S20x8x1280) ![19, 0, 0] S1x8x1280.size inb_S20x8x1280_S1x8x1280_19_0_0) (k0_pay5 v44) Finset.univ (View.stores_vmem_bits_univ h_S1x8x1280 rfl) (.inl rfl))
  let v126 : Vec F S1536x128 .f32 ← Prog.lift (.load arg19 (Rect.unit (s := S1536x128) ![0, 0] S1536x128.size inb_S1536x128_S1536x128_0_0).toLoadRect (View.loadsAt_vmem h_S1536x128))
  Prog.lift (.store arg19 (Rect.unit (s := S1536x128) ![0, 0] S1536x128.size inb_S1536x128_S1536x128_0_0) (k0_pay6 (F := F)) Finset.univ (View.stores_vmem_bits_univ h_S1536x128 rfl) (.inl rfl))
  pure ⟨⟩

/-- At the points below 10: one tile of 512 columns of the first product, the activation and the running maxima. -/
def phaseOne (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (arg0 : BitVec 32) (k0_h2 : k0_cond2 i = 1#1) :
    Prog (TpuEff nD τ sig (Elt F) Λ₀ .tc) PUnit := do
  let ⟨v2357, v2374⟩ : Σ' (v2357 : FVec F S256x128 .f32), FVec F S256x128 .f32 ← k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h2
  let v2381 : Vec F S256x128 .f32 ← Prog.lift (.load arg19 (Rect.unit (s := S1536x128) ![1280, 0] S256x128.size inb_S1536x128_S256x128_1280_0).toLoadRect (View.loadsAt_vmem h_S256x128))
  Prog.lift (.store arg19 (Rect.unit (s := S1536x128) ![1280, 0] S256x128.size inb_S1536x128_S256x128_1280_0) (k0_pay7 v2357 v2374) Finset.univ (View.stores_vmem_bits_univ h_S256x128 rfl) (.inl rfl))
  pure ⟨⟩

/-- At point 10: the row scales from the running maxima. -/
def rowScales (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)  :
    Prog (TpuEff nD τ sig (Elt F) Λ₀ .tc) PUnit := do
  let v50 : FVec F S128x1 .f32 ← k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let ⟨v79, v84⟩ : Σ' (v79 : FVec F S128x128 .f32), FVec F S128x128 .f32 ← k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v50
  k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v79 v84
  let v158 : FVec F S128x1 .f32 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let ⟨v187, v192⟩ : Σ' (v187 : FVec F S128x128 .f32), FVec F S128x128 .f32 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v158
  k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v187 v192
  let v266 : FVec F S128x1 .f32 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let ⟨v295, v300⟩ : Σ' (v295 : FVec F S128x128 .f32), FVec F S128x128 .f32 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v266
  k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v295 v300
  pure ⟨⟩

/-- At the points from 10 on: one block of 512 rows of the second product. -/
def phaseTwo (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (arg0 : BitVec 32) (k0_h4 : k0_cond4 i = 1#1) :
    Prog (TpuEff nD τ sig (Elt F) Λ₀ .tc) PUnit := do
  let ⟨v15, v2437, v2470⟩ : Σ' (v15 : BitVec 32) (v2437 : FVec F S256x1280 .f32), FVec F S256x128 .f32 ← k0_part128 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k0_h4
  let ⟨v2501, v2502⟩ : Σ' (v2501 : FVec F S256x128 .f32), BitVec 1 ← k0_part127 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v15 v2437 v2470
  let v2503 : Vec F S1x256x128 .f32 ← Prog.lift (.load arg13 (Rect.unit (s := S10x1536x128) ![7, 1280, 0] S1x256x128.size inb_S10x1536x128_S1x256x128_7_1280_0).toLoadRect (View.loadsAt_vmem h_S1x256x128))
  let v2507 : Vec F S1x256x128 .f32 ← Prog.lift (.load arg13 (Rect.unit (s := S10x1536x128) ![7, 1280, 0] S1x256x128.size inb_S10x1536x128_S1x256x128_7_1280_0).toLoadRect (View.loadsAt_vmem h_S1x256x128))
  Prog.lift (.store arg13 (Rect.unit (s := S10x1536x128) ![7, 1280, 0] S1x256x128.size inb_S10x1536x128_S1x256x128_7_1280_0) (k0_pay8 v2501 v2502 v2503) Finset.univ (View.stores_vmem_bits_univ h_S1x256x128 rfl) (.inl rfl))
  let v2512 : Vec F S1x256x128 .f32 ← Prog.lift (.load arg13 (Rect.unit (s := S10x1536x128) ![8, 1280, 0] S1x256x128.size inb_S10x1536x128_S1x256x128_8_1280_0).toLoadRect (View.loadsAt_vmem h_S1x256x128))
  let v2516 : Vec F S1x256x128 .f32 ← Prog.lift (.load arg13 (Rect.unit (s := S10x1536x128) ![8, 1280, 0] S1x256x128.size inb_S10x1536x128_S1x256x128_8_1280_0).toLoadRect (View.loadsAt_vmem h_S1x256x128))
  Prog.lift (.store arg13 (Rect.unit (s := S10x1536x128) ![8, 1280, 0] S1x256x128.size inb_S10x1536x128_S1x256x128_8_1280_0) (k0_pay9 v15 v2437 v2512) Finset.univ (View.stores_vmem_bits_univ h_S1x256x128 rfl) (.inl rfl))
  let v2521 : Vec F S1x256x128 .f32 ← Prog.lift (.load arg13 (Rect.unit (s := S10x1536x128) ![9, 1280, 0] S1x256x128.size inb_S10x1536x128_S1x256x128_9_1280_0).toLoadRect (View.loadsAt_vmem h_S1x256x128))
  let v2525 : Vec F S1x256x128 .f32 ← Prog.lift (.load arg13 (Rect.unit (s := S10x1536x128) ![9, 1280, 0] S1x256x128.size inb_S10x1536x128_S1x256x128_9_1280_0).toLoadRect (View.loadsAt_vmem h_S1x256x128))
  Prog.lift (.store arg13 (Rect.unit (s := S10x1536x128) ![9, 1280, 0] S1x256x128.size inb_S10x1536x128_S1x256x128_9_1280_0) (k0_pay10 v15 v2437 v2521) Finset.univ (View.stores_vmem_bits_univ h_S1x256x128 rfl) (.inl rfl))
  pure ⟨⟩

/-- At the last point: the row scale, the bias and the residual. -/
def finish (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)  :
    Prog (TpuEff nD τ sig (Elt F) Λ₀ .tc) PUnit := do
  let ⟨v1566, v1691⟩ : Σ' (v1566 : Vec F S128x128 .f32), FVec F S128x128 .bf16 ← k0_part185 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v1692 : Vec F S128x128 .bf16 ← Prog.lift (.load arg12 (Rect.unit (s := S1536x1280) ![1408, 1024] S128x128.size inb_S1536x1280_S128x128_1408_1024).toLoadRect (View.loadsAt_vmem h_S128x128))
  Prog.lift (.store arg12 (Rect.unit (s := S1536x1280) ![1408, 1024] S128x128.size inb_S1536x1280_S128x128_1408_1024) v1691 Finset.univ (View.stores_vmem h_S128x128 (harg12.storeExact_slice rfl _ packedbf16_S1536x1280_S128x128_1408_1024) (fun _ => rfl)) (.inl rfl))
  let v1693 : Vec F S128x128 .f32 ← Prog.lift (.load arg3 (Rect.unit (s := S1536x1280) ![1408, 1152] S128x128.size inb_S1536x1280_S128x128_1408_1152).toLoadRect (View.loadsAt_vmem h_S128x128))
  let v1694 : Vec F S1x128x128 .f32 ← Prog.lift (.load arg13 (Rect.unit (s := S10x1536x128) ![9, 1408, 0] S1x128x128.size inb_S10x1536x128_S1x128x128_9_1408_0).toLoadRect (View.loadsAt_vmem h_S1x128x128))
  let v1697 : Vec F S1x128 .f32 ← Prog.lift (.load arg9 (Rect.unit (s := S1x1280) ![0, 1152] S1x128.size inb_S1x1280_S1x128_0_1152).toLoadRect (View.loadsAt_vmem h_S1x128))
  let v1702 : Vec F S1x128x128 .f32 ← Prog.lift (.load arg13 (Rect.unit (s := S10x1536x128) ![9, 1408, 0] S1x128x128.size inb_S10x1536x128_S1x128x128_9_1408_0).toLoadRect (View.loadsAt_vmem h_S1x128x128))
  Prog.lift (.store arg13 (Rect.unit (s := S10x1536x128) ![9, 1408, 0] S1x128x128.size inb_S10x1536x128_S1x128x128_9_1408_0) (k0_pay12 v1566 v1693 v1694 v1697) Finset.univ (View.stores_vmem_bits_univ h_S1x128x128 rfl) (.inl rfl))
  let v1706 : Vec F S128x128 .bf16 ← Prog.lift (.load arg12 (Rect.unit (s := S1536x1280) ![1408, 1152] S128x128.size inb_S1536x1280_S128x128_1408_1152).toLoadRect (View.loadsAt_vmem h_S128x128))
  Prog.lift (.store arg12 (Rect.unit (s := S1536x1280) ![1408, 1152] S128x128.size inb_S1536x1280_S128x128_1408_1152) (k0_pay13 v1566 v1693 v1694 v1697) Finset.univ (View.stores_vmem h_S128x128 (harg12.storeExact_slice rfl _ packedbf16_S1536x1280_S128x128_1408_1152) (fun _ => rfl)) (.inl rfl))
  pure ⟨⟩

set_option maxHeartbeats 4000000 in
/-- The body at a point of kind A. -/
theorem body_A (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc0 : cond0_0 i) (hc1 : cond0_1 i) (hc2 : ¬cond0_2 i) (hc3 : ¬cond0_3 i) (hc4 : ¬cond0_4 i) :
    cc0_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (initBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  >>= fun _ => phaseOne i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc1) := by
  rw [cc0_mlp_eq_skeleton]
  unfold cc0_mlp_skel initBlock phaseOne
  simp only [dif_pos hc0, dif_pos hc1, dif_neg hc2, dif_neg hc3, dif_neg hc4, bind_assoc, pure_bind]

set_option maxHeartbeats 4000000 in
/-- The body at a point of kind B. -/
theorem body_B (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc0 : ¬cond0_0 i) (hc1 : cond0_1 i) (hc2 : ¬cond0_2 i) (hc3 : ¬cond0_3 i) (hc4 : ¬cond0_4 i) :
    cc0_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (phaseOne i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc1) := by
  rw [cc0_mlp_eq_skeleton]
  unfold cc0_mlp_skel phaseOne
  simp only [dif_neg hc0, dif_pos hc1, dif_neg hc2, dif_neg hc3, dif_neg hc4, bind_assoc, pure_bind]

set_option maxHeartbeats 4000000 in
/-- The body at a point of kind C. -/
theorem body_C (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc0 : ¬cond0_0 i) (hc1 : ¬cond0_1 i) (hc2 : cond0_2 i) (hc3 : cond0_3 i) (hc4 : ¬cond0_4 i) :
    cc0_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (rowScales i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  >>= fun _ => phaseTwo i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc3) := by
  rw [cc0_mlp_eq_skeleton]
  unfold cc0_mlp_skel rowScales phaseTwo
  simp only [dif_neg hc0, dif_neg hc1, dif_pos hc2, dif_pos hc3, dif_neg hc4, bind_assoc, pure_bind]

set_option maxHeartbeats 4000000 in
/-- The body at a point of kind D. -/
theorem body_D (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc0 : ¬cond0_0 i) (hc1 : ¬cond0_1 i) (hc2 : ¬cond0_2 i) (hc3 : cond0_3 i) (hc4 : ¬cond0_4 i) :
    cc0_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (phaseTwo i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc3) := by
  rw [cc0_mlp_eq_skeleton]
  unfold cc0_mlp_skel phaseTwo
  simp only [dif_neg hc0, dif_neg hc1, dif_neg hc2, dif_pos hc3, dif_neg hc4, bind_assoc, pure_bind]

set_option maxHeartbeats 4000000 in
/-- The body at a point of kind E. -/
theorem body_E (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc0 : ¬cond0_0 i) (hc1 : ¬cond0_1 i) (hc2 : ¬cond0_2 i) (hc3 : cond0_3 i) (hc4 : cond0_4 i) :
    cc0_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (phaseTwo i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc3 >>= fun _ => finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) := by
  rw [cc0_mlp_eq_skeleton]
  unfold cc0_mlp_skel phaseTwo finish
  simp only [dif_neg hc0, dif_neg hc1, dif_neg hc2, dif_pos hc3, dif_pos hc4, bind_assoc, pure_bind]

end Cert.Kernel.Gen

end
-- ==== Proof.Plain.RunInit.lean ====
/- The run of the block `initBlock` of the MLP kernel: what its stores leave, as pieces. -/
module

public import proofs.«01_k».proof.Proof.Plain.Blocks

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- From the contents `d·` of the memrefs that the block `initBlock` addresses, the block runs to the continuation; the memrefs
    it stores into end with the pieces `L·` (last first) written over what they held. -/
def runInit (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)
    (d5 : Vec F S40x5120 .i8) (d8 : Vec F S160x1280 .i8) (d14 : Vec F S5x8x5120 .f32) (d15 : Vec F S20x8x1280 .f32) (d19 : Vec F S1536x128 .f32) :
    Σ' (L14 : List (View.Piece (Elt F) S5x8x5120 .f32)), Σ' (L15 : List (View.Piece (Elt F) S20x8x1280 .f32)), { L19 : List (View.Piece (Elt F) S1536x128 .f32) //
      ∀ (E : Set ℕ) (K : PUnit → sProp 𝕄),
        iprop(owns (c : Thread nD τ) arg5 fullShare d5 ∗ owns (c : Thread nD τ) arg8 fullShare d8 ∗ owns (c : Thread nD τ) arg14 fullShare d14 ∗ owns (c : Thread nD τ) arg15 fullShare d15 ∗ owns (c : Thread nD τ) arg19 fullShare d19
            ∗ (iprop(owns (c : Thread nD τ) arg5 fullShare d5 ∗ owns (c : Thread nD τ) arg8 fullShare d8 ∗ (arg14.view.loc (c : Thread nD τ) ↦[arg14.view.set]{fullShare} arg14.view.writes (Elt F) (harg14.unread d14) L14) ∗ (arg15.view.loc (c : Thread nD τ) ↦[arg15.view.set]{fullShare} arg15.view.writes (Elt F) (harg15.unread d15) L15) ∗ (arg19.view.loc (c : Thread nD τ) ↦[arg19.view.set]{fullShare} arg19.view.writes (Elt F) (harg19.unread d19) L19)) -∗ K ⟨⟩))
          ⊢ wp frame (wpE (defs₀ (F := F)) Variants.none c none) E (initBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K } := by
  refine ⟨?_, ?_, ?_, fun E K => ?run⟩
  case run =>
    unfold initBlock
    simp only [k0_part1_eq_skeleton, k0_part2_eq_skeleton, k0_part3_eq_skeleton]
    unfold owns
    iintro ⟨⟨%f5, %hf5, H5⟩, ⟨%f8, %hf8, H8⟩, ⟨%f14, %hf14, H14⟩, ⟨%f15, %hf15, H15⟩, ⟨%f19, %hf19, H19⟩, Hk⟩
    obtain rfl := harg5.eq_unread hf5; obtain rfl := harg8.eq_unread hf8; obtain rfl := harg14.eq_unread hf14; obtain rfl := harg15.eq_unread hf15; obtain rfl := harg19.eq_unread hf19
    sl_exec
    sl_step
    iapply Hk
    isplitl [H5]
    · iexists _; isplitr; · ipureintro; exact harg5.read_unread _
      iexact H5
    isplitl [H8]
    · iexists _; isplitr; · ipureintro; exact harg8.read_unread _
      iexact H8
    isplitl [H14]; · iexact H14
    isplitl [H15]; · iexact H15
    iexact H19

end Cert.Kernel.Gen

end
-- ==== Proof.Plain.RunOne.lean ====
/- The run of the block `phaseOne` of the MLP kernel: what its stores leave, as pieces. -/
module

public import proofs.«01_k».proof.Proof.Plain.RunInit

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- From the contents `d·` of the memrefs that the block `phaseOne` addresses, the block runs to the continuation; the memrefs
    it stores into end with the pieces `L·` (last first) written over what they held. -/
def runOne (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc1 : cond0_1 i)
    (d1 : Vec F S1536x1280 .bf16) (d2 : Vec F S1536x128 .f32) (d4 : Vec F S1280x512 .i8) (d6 : Vec F S1x5120 .f32) (d14 : Vec F S5x8x5120 .f32) (d16 : Vec F S1280x512 .bf16) (d18 : Vec F S10x1536x512 .f32) (d19 : Vec F S1536x128 .f32) :
    Σ' (L16 : List (View.Piece (Elt F) S1280x512 .bf16)), Σ' (L18 : List (View.Piece (Elt F) S10x1536x512 .f32)), { L19 : List (View.Piece (Elt F) S1536x128 .f32) //
      ∀ (E : Set ℕ) (K : PUnit → sProp 𝕄),
        iprop(owns (c : Thread nD τ) arg1 fullShare d1 ∗ owns (c : Thread nD τ) arg2 fullShare d2 ∗ owns (c : Thread nD τ) arg4 fullShare d4 ∗ owns (c : Thread nD τ) arg6 fullShare d6 ∗ owns (c : Thread nD τ) arg14 fullShare d14 ∗ owns (c : Thread nD τ) arg16 fullShare d16 ∗ owns (c : Thread nD τ) arg18 fullShare d18 ∗ owns (c : Thread nD τ) arg19 fullShare d19
            ∗ (iprop(owns (c : Thread nD τ) arg1 fullShare d1 ∗ owns (c : Thread nD τ) arg2 fullShare d2 ∗ owns (c : Thread nD τ) arg4 fullShare d4 ∗ owns (c : Thread nD τ) arg6 fullShare d6 ∗ owns (c : Thread nD τ) arg14 fullShare d14 ∗ (arg16.view.loc (c : Thread nD τ) ↦[arg16.view.set]{fullShare} arg16.view.writes (Elt F) (harg16.unread d16) L16) ∗ (arg18.view.loc (c : Thread nD τ) ↦[arg18.view.set]{fullShare} arg18.view.writes (Elt F) (harg18.unread d18) L18) ∗ (arg19.view.loc (c : Thread nD τ) ↦[arg19.view.set]{fullShare} arg19.view.writes (Elt F) (harg19.unread d19) L19)) -∗ K ⟨⟩))
          ⊢ wp frame (wpE (defs₀ (F := F)) Variants.none c none) E (phaseOne i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc1) K } := by
  refine ⟨?_, ?_, ?_, fun E K => ?run⟩
  case run =>
    unfold phaseOne
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f1, %hf1, H1⟩, ⟨%f2, %hf2, H2⟩, ⟨%f4, %hf4, H4⟩, ⟨%f6, %hf6, H6⟩, ⟨%f14, %hf14, H14⟩, ⟨%f16, %hf16, H16⟩, ⟨%f18, %hf18, H18⟩, ⟨%f19, %hf19, H19⟩, Hk⟩
    obtain rfl := harg1.eq_unread hf1; obtain rfl := harg2.eq_unread hf2; obtain rfl := harg4.eq_unread hf4; obtain rfl := harg6.eq_unread hf6; obtain rfl := harg14.eq_unread hf14; obtain rfl := harg16.eq_unread hf16; obtain rfl := harg18.eq_unread hf18; obtain rfl := harg19.eq_unread hf19
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H4]
    · iexists _; isplitr; · ipureintro; exact harg4.read_unread _
      iexact H4
    isplitl [H6]
    · iexists _; isplitr; · ipureintro; exact harg6.read_unread _
      iexact H6
    isplitl [H14]
    · iexists _; isplitr; · ipureintro; exact harg14.read_unread _
      iexact H14
    isplitl [H16]; · iexact H16
    isplitl [H18]; · iexact H18
    iexact H19

end Cert.Kernel.Gen

end
-- ==== Proof.Plain.RunScales.lean ====
/- The run of the block `rowScales` of the MLP kernel: what its stores leave, as pieces. -/
module

public import proofs.«01_k».proof.Proof.Plain.RunOne

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- From the contents `d·` of the memrefs that the block `rowScales` addresses, the block runs to the continuation; the memrefs
    it stores into end with the pieces `L·` (last first) written over what they held. -/
def runScales (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)
    (d11 : Vec F S1x1536 .f32) (d19 : Vec F S1536x128 .f32) (d20 : Vec F S1536x128 .f32) :
    Σ' (L11 : List (View.Piece (Elt F) S1x1536 .f32)), Σ' (L19 : List (View.Piece (Elt F) S1536x128 .f32)), { L20 : List (View.Piece (Elt F) S1536x128 .f32) //
      ∀ (E : Set ℕ) (K : PUnit → sProp 𝕄),
        iprop(owns (c : Thread nD τ) arg11 fullShare d11 ∗ owns (c : Thread nD τ) arg19 fullShare d19 ∗ owns (c : Thread nD τ) arg20 fullShare d20
            ∗ (iprop((arg11.view.loc (c : Thread nD τ) ↦[arg11.view.set]{fullShare} arg11.view.writes (Elt F) (harg11.unread d11) L11) ∗ (arg19.view.loc (c : Thread nD τ) ↦[arg19.view.set]{fullShare} arg19.view.writes (Elt F) (harg19.unread d19) L19) ∗ (arg20.view.loc (c : Thread nD τ) ↦[arg20.view.set]{fullShare} arg20.view.writes (Elt F) (harg20.unread d20) L20)) -∗ K ⟨⟩))
          ⊢ wp frame (wpE (defs₀ (F := F)) Variants.none c none) E (rowScales i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K } := by
  refine ⟨?_, ?_, ?_, fun E K => ?run⟩
  case run =>
    unfold rowScales
    simp only [k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f11, %hf11, H11⟩, ⟨%f19, %hf19, H19⟩, ⟨%f20, %hf20, H20⟩, Hk⟩
    obtain rfl := harg11.eq_unread hf11; obtain rfl := harg19.eq_unread hf19; obtain rfl := harg20.eq_unread hf20
    sl_exec
    sl_step
    iapply Hk
    isplitl [H11]; · iexact H11
    isplitl [H19]; · iexact H19
    iexact H20

end Cert.Kernel.Gen

end
-- ==== Proof.Plain.RunTwo.lean ====
/- The run of the block `phaseTwo` of the MLP kernel: what its stores leave, as pieces. -/
module

public import proofs.«01_k».proof.Proof.Plain.RunScales

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- From the contents `d·` of the memrefs that the block `phaseTwo` addresses, the block runs to the continuation; the memrefs
    it stores into end with the pieces `L·` (last first) written over what they held. -/
def runTwo (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc3 : cond0_3 i)
    (d7 : Vec F S512x640 .i8) (d10 : Vec F S1536x512 .fp8e4m3) (d13 : Vec F S10x1536x128 .f32) (d15 : Vec F S20x8x1280 .f32) (d17 : Vec F S512x1280 .bf16) (d18 : Vec F S10x1536x512 .f32) (d19 : Vec F S1536x128 .f32) :
    Σ' (L10 : List (View.Piece (Elt F) S1536x512 .fp8e4m3)), Σ' (L13 : List (View.Piece (Elt F) S10x1536x128 .f32)), { L17 : List (View.Piece (Elt F) S512x1280 .bf16) //
      ∀ (E : Set ℕ) (K : PUnit → sProp 𝕄),
        iprop(owns (c : Thread nD τ) arg7 fullShare d7 ∗ owns (c : Thread nD τ) arg10 fullShare d10 ∗ owns (c : Thread nD τ) arg13 fullShare d13 ∗ owns (c : Thread nD τ) arg15 fullShare d15 ∗ owns (c : Thread nD τ) arg17 fullShare d17 ∗ owns (c : Thread nD τ) arg18 fullShare d18 ∗ owns (c : Thread nD τ) arg19 fullShare d19
            ∗ (iprop(owns (c : Thread nD τ) arg7 fullShare d7 ∗ (arg10.view.loc (c : Thread nD τ) ↦[arg10.view.set]{fullShare} arg10.view.writes (Elt F) (harg10.unread d10) L10) ∗ (arg13.view.loc (c : Thread nD τ) ↦[arg13.view.set]{fullShare} arg13.view.writes (Elt F) (harg13.unread d13) L13) ∗ owns (c : Thread nD τ) arg15 fullShare d15 ∗ (arg17.view.loc (c : Thread nD τ) ↦[arg17.view.set]{fullShare} arg17.view.writes (Elt F) (harg17.unread d17) L17) ∗ owns (c : Thread nD τ) arg18 fullShare d18 ∗ owns (c : Thread nD τ) arg19 fullShare d19) -∗ K ⟨⟩))
          ⊢ wp frame (wpE (defs₀ (F := F)) Variants.none c none) E (phaseTwo i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc3) K } := by
  refine ⟨?_, ?_, ?_, fun E K => ?run⟩
  case run =>
    unfold phaseTwo
    simp only [k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton]
    unfold owns
    iintro ⟨⟨%f7, %hf7, H7⟩, ⟨%f10, %hf10, H10⟩, ⟨%f13, %hf13, H13⟩, ⟨%f15, %hf15, H15⟩, ⟨%f17, %hf17, H17⟩, ⟨%f18, %hf18, H18⟩, ⟨%f19, %hf19, H19⟩, Hk⟩
    obtain rfl := harg7.eq_unread hf7; obtain rfl := harg10.eq_unread hf10; obtain rfl := harg13.eq_unread hf13; obtain rfl := harg15.eq_unread hf15; obtain rfl := harg17.eq_unread hf17; obtain rfl := harg18.eq_unread hf18; obtain rfl := harg19.eq_unread hf19
    sl_exec
    sl_step
    iapply Hk
    isplitl [H7]
    · iexists _; isplitr; · ipureintro; exact harg7.read_unread _
      iexact H7
    isplitl [H10]; · iexact H10
    isplitl [H13]; · iexact H13
    isplitl [H15]
    · iexists _; isplitr; · ipureintro; exact harg15.read_unread _
      iexact H15
    isplitl [H17]; · iexact H17
    isplitl [H18]
    · iexists _; isplitr; · ipureintro; exact harg18.read_unread _
      iexact H18
    iexists _; isplitr; · ipureintro; exact harg19.read_unread _
    iexact H19

end Cert.Kernel.Gen

end
-- ==== Proof.Plain.RunFinish.lean ====
/- The run of the block `finish` of the MLP kernel: what its stores leave, as pieces. -/
module

public import proofs.«01_k».proof.Proof.Plain.RunTwo

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- From the contents `d·` of the memrefs that the block `finish` addresses, the block runs to the continuation; the memrefs
    it stores into end with the pieces `L·` (last first) written over what they held. -/
def runFinish (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole)
    (d3 : Vec F S1536x1280 .f32) (d9 : Vec F S1x1280 .f32) (d12 : Vec F S1536x1280 .bf16) (d13 : Vec F S10x1536x128 .f32) (d20 : Vec F S1536x128 .f32) :
    Σ' (L12 : List (View.Piece (Elt F) S1536x1280 .bf16)), { L13 : List (View.Piece (Elt F) S10x1536x128 .f32) //
      ∀ (E : Set ℕ) (K : PUnit → sProp 𝕄),
        iprop(owns (c : Thread nD τ) arg3 fullShare d3 ∗ owns (c : Thread nD τ) arg9 fullShare d9 ∗ owns (c : Thread nD τ) arg12 fullShare d12 ∗ owns (c : Thread nD τ) arg13 fullShare d13 ∗ owns (c : Thread nD τ) arg20 fullShare d20
            ∗ (iprop(owns (c : Thread nD τ) arg3 fullShare d3 ∗ owns (c : Thread nD τ) arg9 fullShare d9 ∗ (arg12.view.loc (c : Thread nD τ) ↦[arg12.view.set]{fullShare} arg12.view.writes (Elt F) (harg12.unread d12) L12) ∗ (arg13.view.loc (c : Thread nD τ) ↦[arg13.view.set]{fullShare} arg13.view.writes (Elt F) (harg13.unread d13) L13) ∗ owns (c : Thread nD τ) arg20 fullShare d20) -∗ K ⟨⟩))
          ⊢ wp frame (wpE (defs₀ (F := F)) Variants.none c none) E (finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K } := by
  refine ⟨?_, ?_, fun E K => ?run⟩
  case run =>
    unfold finish
    simp only [k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton]
    unfold owns
    iintro ⟨⟨%f3, %hf3, H3⟩, ⟨%f9, %hf9, H9⟩, ⟨%f12, %hf12, H12⟩, ⟨%f13, %hf13, H13⟩, ⟨%f20, %hf20, H20⟩, Hk⟩
    obtain rfl := harg3.eq_unread hf3; obtain rfl := harg9.eq_unread hf9; obtain rfl := harg12.eq_unread hf12; obtain rfl := harg13.eq_unread hf13; obtain rfl := harg20.eq_unread hf20
    sl_exec
    sl_step
    iapply Hk
    isplitl [H3]
    · iexists _; isplitr; · ipureintro; exact harg3.read_unread _
      iexact H3
    isplitl [H9]
    · iexists _; isplitr; · ipureintro; exact harg9.read_unread _
      iexact H9
    isplitl [H12]; · iexact H12
    isplitl [H13]; · iexact H13
    iexists _; isplitr; · ipureintro; exact harg20.read_unread _
    iexact H20

end Cert.Kernel.Gen

end
-- ==== Proof.Plain.Steps.lean ====
/- Each block of the kernel's body keeps the buffers that it reads and leaves something in those it writes. -/
module

public import proofs.«01_k».proof.Proof.Plain.RunFinish

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F]

local notation "𝕄" => MT nD τ sig Unit (Elt F) ℕ (UR sig nD τ) ℕ

set_option maxHeartbeats 4000000 in
/-- The block `initBlock`. -/
theorem stepInit (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (d5 : Vec F S40x5120 .i8) (d8 : Vec F S160x1280 .i8) (d14 : Vec F S5x8x5120 .f32) (d15 : Vec F S20x8x1280 .f32) (d19 : Vec F S1536x128 .f32)
    (E : Set ℕ) (K : PUnit → sProp 𝕄) :
    iprop(owns (c : Thread nD τ) arg5 fullShare d5 ∗ owns (c : Thread nD τ) arg8 fullShare d8 ∗ owns (c : Thread nD τ) arg14 fullShare d14 ∗ owns (c : Thread nD τ) arg15 fullShare d15 ∗ owns (c : Thread nD τ) arg19 fullShare d19
        ∗ (iprop(owns (c : Thread nD τ) arg5 fullShare d5 ∗ owns (c : Thread nD τ) arg8 fullShare d8 ∗ (∃ d, owns (c : Thread nD τ) arg14 fullShare d) ∗ (∃ d, owns (c : Thread nD τ) arg15 fullShare d) ∗ (∃ d, owns (c : Thread nD τ) arg19 fullShare d)) -∗ K ⟨⟩))
      ⊢ wp frame (wpE (defs₀ (F := F)) Variants.none c none) E (initBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K := by
  iintro ⟨H5, H8, H14, H15, H19, Hk⟩
  iapply (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d5 d8 d14 d15 d19).2.2.2
  isplitl [H5]; · iexact H5
  isplitl [H8]; · iexact H8
  isplitl [H14]; · iexact H14
  isplitl [H15]; · iexact H15
  isplitl [H19]; · iexact H19
  iintro ⟨H5, H8, H14, H15, H19⟩
  iapply Hk
  isplitl [H5]
  · iexact H5
  isplitl [H8]
  · iexact H8
  isplitl [H14]
  · iexists _; unfold owns; iexists _; isplitr
    swap; · iexact H14
    ipureintro; rfl
  isplitl [H15]
  · iexists _; unfold owns; iexists _; isplitr
    swap; · iexact H15
    ipureintro; rfl
  iexists _; unfold owns; iexists _; isplitr
  swap; · iexact H19
  ipureintro; rfl

set_option maxHeartbeats 4000000 in
/-- The block `phaseOne`. -/
theorem stepOne (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc1 : cond0_1 i) (d1 : Vec F S1536x1280 .bf16) (d2 : Vec F S1536x128 .f32) (d4 : Vec F S1280x512 .i8) (d6 : Vec F S1x5120 .f32) (d14 : Vec F S5x8x5120 .f32) (d16 : Vec F S1280x512 .bf16) (d18 : Vec F S10x1536x512 .f32) (d19 : Vec F S1536x128 .f32)
    (E : Set ℕ) (K : PUnit → sProp 𝕄) :
    iprop(owns (c : Thread nD τ) arg1 fullShare d1 ∗ owns (c : Thread nD τ) arg2 fullShare d2 ∗ owns (c : Thread nD τ) arg4 fullShare d4 ∗ owns (c : Thread nD τ) arg6 fullShare d6 ∗ owns (c : Thread nD τ) arg14 fullShare d14 ∗ owns (c : Thread nD τ) arg16 fullShare d16 ∗ owns (c : Thread nD τ) arg18 fullShare d18 ∗ owns (c : Thread nD τ) arg19 fullShare d19
        ∗ (iprop(owns (c : Thread nD τ) arg1 fullShare d1 ∗ owns (c : Thread nD τ) arg2 fullShare d2 ∗ owns (c : Thread nD τ) arg4 fullShare d4 ∗ owns (c : Thread nD τ) arg6 fullShare d6 ∗ owns (c : Thread nD τ) arg14 fullShare d14 ∗ (∃ d, owns (c : Thread nD τ) arg16 fullShare d) ∗ (∃ d, owns (c : Thread nD τ) arg18 fullShare d) ∗ (∃ d, owns (c : Thread nD τ) arg19 fullShare d)) -∗ K ⟨⟩))
      ⊢ wp frame (wpE (defs₀ (F := F)) Variants.none c none) E (phaseOne i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc1) K := by
  iintro ⟨H1, H2, H4, H6, H14, H16, H18, H19, Hk⟩
  iapply (runOne c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 d1 d2 d4 d6 d14 d16 d18 d19).2.2.2
  isplitl [H1]; · iexact H1
  isplitl [H2]; · iexact H2
  isplitl [H4]; · iexact H4
  isplitl [H6]; · iexact H6
  isplitl [H14]; · iexact H14
  isplitl [H16]; · iexact H16
  isplitl [H18]; · iexact H18
  isplitl [H19]; · iexact H19
  iintro ⟨H1, H2, H4, H6, H14, H16, H18, H19⟩
  iapply Hk
  isplitl [H1]
  · iexact H1
  isplitl [H2]
  · iexact H2
  isplitl [H4]
  · iexact H4
  isplitl [H6]
  · iexact H6
  isplitl [H14]
  · iexact H14
  isplitl [H16]
  · iexists _; unfold owns; iexists _; isplitr
    swap; · iexact H16
    ipureintro; rfl
  isplitl [H18]
  · iexists _; unfold owns; iexists _; isplitr
    swap; · iexact H18
    ipureintro; rfl
  iexists _; unfold owns; iexists _; isplitr
  swap; · iexact H19
  ipureintro; rfl

set_option maxHeartbeats 4000000 in
/-- The block `rowScales`. -/
theorem stepScales (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (d11 : Vec F S1x1536 .f32) (d19 : Vec F S1536x128 .f32) (d20 : Vec F S1536x128 .f32)
    (E : Set ℕ) (K : PUnit → sProp 𝕄) :
    iprop(owns (c : Thread nD τ) arg11 fullShare d11 ∗ owns (c : Thread nD τ) arg19 fullShare d19 ∗ owns (c : Thread nD τ) arg20 fullShare d20
        ∗ (iprop((∃ d, owns (c : Thread nD τ) arg11 fullShare d) ∗ (∃ d, owns (c : Thread nD τ) arg19 fullShare d) ∗ (∃ d, owns (c : Thread nD τ) arg20 fullShare d)) -∗ K ⟨⟩))
      ⊢ wp frame (wpE (defs₀ (F := F)) Variants.none c none) E (rowScales i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K := by
  iintro ⟨H11, H19, H20, Hk⟩
  iapply (runScales c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d11 d19 d20).2.2.2
  isplitl [H11]; · iexact H11
  isplitl [H19]; · iexact H19
  isplitl [H20]; · iexact H20
  iintro ⟨H11, H19, H20⟩
  iapply Hk
  isplitl [H11]
  · iexists _; unfold owns; iexists _; isplitr
    swap; · iexact H11
    ipureintro; rfl
  isplitl [H19]
  · iexists _; unfold owns; iexists _; isplitr
    swap; · iexact H19
    ipureintro; rfl
  iexists _; unfold owns; iexists _; isplitr
  swap; · iexact H20
  ipureintro; rfl

set_option maxHeartbeats 4000000 in
/-- The block `phaseTwo`. -/
theorem stepTwo (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (hc3 : cond0_3 i) (d7 : Vec F S512x640 .i8) (d10 : Vec F S1536x512 .fp8e4m3) (d13 : Vec F S10x1536x128 .f32) (d15 : Vec F S20x8x1280 .f32) (d17 : Vec F S512x1280 .bf16) (d18 : Vec F S10x1536x512 .f32) (d19 : Vec F S1536x128 .f32)
    (E : Set ℕ) (K : PUnit → sProp 𝕄) :
    iprop(owns (c : Thread nD τ) arg7 fullShare d7 ∗ owns (c : Thread nD τ) arg10 fullShare d10 ∗ owns (c : Thread nD τ) arg13 fullShare d13 ∗ owns (c : Thread nD τ) arg15 fullShare d15 ∗ owns (c : Thread nD τ) arg17 fullShare d17 ∗ owns (c : Thread nD τ) arg18 fullShare d18 ∗ owns (c : Thread nD τ) arg19 fullShare d19
        ∗ (iprop(owns (c : Thread nD τ) arg7 fullShare d7 ∗ (∃ d, owns (c : Thread nD τ) arg10 fullShare d) ∗ (∃ d, owns (c : Thread nD τ) arg13 fullShare d) ∗ owns (c : Thread nD τ) arg15 fullShare d15 ∗ (∃ d, owns (c : Thread nD τ) arg17 fullShare d) ∗ owns (c : Thread nD τ) arg18 fullShare d18 ∗ owns (c : Thread nD τ) arg19 fullShare d19) -∗ K ⟨⟩))
      ⊢ wp frame (wpE (defs₀ (F := F)) Variants.none c none) E (phaseTwo i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0).val) hc3) K := by
  iintro ⟨H7, H10, H13, H15, H17, H18, H19, Hk⟩
  iapply (runTwo c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc3 d7 d10 d13 d15 d17 d18 d19).2.2.2
  isplitl [H7]; · iexact H7
  isplitl [H10]; · iexact H10
  isplitl [H13]; · iexact H13
  isplitl [H15]; · iexact H15
  isplitl [H17]; · iexact H17
  isplitl [H18]; · iexact H18
  isplitl [H19]; · iexact H19
  iintro ⟨H7, H10, H13, H15, H17, H18, H19⟩
  iapply Hk
  isplitl [H7]
  · iexact H7
  isplitl [H10]
  · iexists _; unfold owns; iexists _; isplitr
    swap; · iexact H10
    ipureintro; rfl
  isplitl [H13]
  · iexists _; unfold owns; iexists _; isplitr
    swap; · iexact H13
    ipureintro; rfl
  isplitl [H15]
  · iexact H15
  isplitl [H17]
  · iexists _; unfold owns; iexists _; isplitr
    swap; · iexact H17
    ipureintro; rfl
  isplitl [H18]
  · iexact H18
  iexact H19

set_option maxHeartbeats 4000000 in
/-- The block `finish`. -/
theorem stepFinish (c : Dev nD) (i : grid0.Coords) (arg1 : Memref sig .tc .vmem S1536x1280 .bf16) (harg1 : arg1.IsWhole) (arg2 : Memref sig .tc .vmem S1536x128 .f32) (harg2 : arg2.IsWhole) (arg3 : Memref sig .tc .vmem S1536x1280 .f32) (harg3 : arg3.IsWhole) (arg4 : Memref sig .tc .vmem S1280x512 .i8) (harg4 : arg4.IsWhole) (arg5 : Memref sig .tc .vmem S40x5120 .i8) (harg5 : arg5.IsWhole) (arg6 : Memref sig .tc .vmem S1x5120 .f32) (harg6 : arg6.IsWhole) (arg7 : Memref sig .tc .vmem S512x640 .i8) (harg7 : arg7.IsWhole) (arg8 : Memref sig .tc .vmem S160x1280 .i8) (harg8 : arg8.IsWhole) (arg9 : Memref sig .tc .vmem S1x1280 .f32) (harg9 : arg9.IsWhole) (arg10 : Memref sig .tc .vmem S1536x512 .fp8e4m3) (harg10 : arg10.IsWhole) (arg11 : Memref sig .tc .vmem S1x1536 .f32) (harg11 : arg11.IsWhole) (arg12 : Memref sig .tc .vmem S1536x1280 .bf16) (harg12 : arg12.IsWhole) (arg13 : Memref sig .tc .vmem S10x1536x128 .f32) (harg13 : arg13.IsWhole) (arg14 : Memref sig .tc .vmem S5x8x5120 .f32) (harg14 : arg14.IsWhole) (arg15 : Memref sig .tc .vmem S20x8x1280 .f32) (harg15 : arg15.IsWhole) (arg16 : Memref sig .tc .vmem S1280x512 .bf16) (harg16 : arg16.IsWhole) (arg17 : Memref sig .tc .vmem S512x1280 .bf16) (harg17 : arg17.IsWhole) (arg18 : Memref sig .tc .vmem S10x1536x512 .f32) (harg18 : arg18.IsWhole) (arg19 : Memref sig .tc .vmem S1536x128 .f32) (harg19 : arg19.IsWhole) (arg20 : Memref sig .tc .vmem S1536x128 .f32) (harg20 : arg20.IsWhole) (d3 : Vec F S1536x1280 .f32) (d9 : Vec F S1x1280 .f32) (d12 : Vec F S1536x1280 .bf16) (d13 : Vec F S10x1536x128 .f32) (d20 : Vec F S1536x128 .f32)
    (E : Set ℕ) (K : PUnit → sProp 𝕄) :
    iprop(owns (c : Thread nD τ) arg3 fullShare d3 ∗ owns (c : Thread nD τ) arg9 fullShare d9 ∗ owns (c : Thread nD τ) arg12 fullShare d12 ∗ owns (c : Thread nD τ) arg13 fullShare d13 ∗ owns (c : Thread nD τ) arg20 fullShare d20
        ∗ (iprop(owns (c : Thread nD τ) arg3 fullShare d3 ∗ owns (c : Thread nD τ) arg9 fullShare d9 ∗ (∃ d, owns (c : Thread nD τ) arg12 fullShare d) ∗ (∃ d, owns (c : Thread nD τ) arg13 fullShare d) ∗ owns (c : Thread nD τ) arg20 fullShare d20) -∗ K ⟨⟩))
      ⊢ wp frame (wpE (defs₀ (F := F)) Variants.none c none) E (finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K := by
  iintro ⟨H3, H9, H12, H13, H20, Hk⟩
  iapply (runFinish c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 d3 d9 d12 d13 d20).2.2
  isplitl [H3]; · iexact H3
  isplitl [H9]; · iexact H9
  isplitl [H12]; · iexact H12
  isplitl [H13]; · iexact H13
  isplitl [H20]; · iexact H20
  iintro ⟨H3, H9, H12, H13, H20⟩
  iapply Hk
  isplitl [H3]
  · iexact H3
  isplitl [H9]
  · iexact H9
  isplitl [H12]
  · iexists _; unfold owns; iexists _; isplitr
    swap; · iexact H12
    ipureintro; rfl
  isplitl [H13]
  · iexists _; unfold owns; iexists _; isplitr
    swap; · iexact H13
    ipureintro; rfl
  iexact H20

end Cert.Kernel.Gen

end
-- ==== Proof.Plain.Frame.lean ====
/- The frame of the kernel: every run ends, the arguments unchanged and the counters at zero. Nothing is said of the outputs. -/
module

public import proofs.«01_k».proof.Proof.Plain.Steps

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F] (m : (ℓ : Loc nD τ sig) → Buf (Elt F) ℓ) (ρ : Dev nD → PrngReg)

local notation "𝕄" => MT nD τ sig Unit (Elt F) ℕ (UR sig nD τ) ℕ

/-- The output windows, of which nothing is named. -/
def forgets0 : Fin 13 → Bool := fun w => w.val == 9 || w.val == 10 || w.val == 11 || w.val == 12

/-- The proof data of the pipeline on core `c`: the inputs stay at their blocks; between points the scratch buffers hold anything. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dat m c).A w = V m c (Pipeline.arrRef spec0 w) := by
  dsimp only [dat]

theorem after0_0 (c : Dev nD) (t : Fin cfg0.N) : (dat m c).after 0 t = iblk m c 0 t := by dsimp only [dat]
theorem before0_0 (c : Dev nD) (t : Fin cfg0.N) (d) : (dat m c).before 0 t d = iblk m c 0 t :=
  before0_0_of m (dat m c) (A_eq m c 0) (after0_0 m c) t d
theorem after0_1 (c : Dev nD) (t : Fin cfg0.N) : (dat m c).after 1 t = iblk m c 1 t := by dsimp only [dat]
theorem before0_1 (c : Dev nD) (t : Fin cfg0.N) (d) : (dat m c).before 1 t d = iblk m c 1 t :=
  before0_1_of m (dat m c) (A_eq m c 1) (after0_1 m c) t d
theorem after0_2 (c : Dev nD) (t : Fin cfg0.N) : (dat m c).after 2 t = iblk m c 2 t := by dsimp only [dat]
theorem before0_2 (c : Dev nD) (t : Fin cfg0.N) (d) : (dat m c).before 2 t d = iblk m c 2 t :=
  before0_2_of m (dat m c) (A_eq m c 2) (after0_2 m c) t d
theorem after0_3 (c : Dev nD) (t : Fin cfg0.N) : (dat m c).after 3 t = iblk m c 3 t := by dsimp only [dat]
theorem before0_3 (c : Dev nD) (t : Fin cfg0.N) (d) : (dat m c).before 3 t d = iblk m c 3 t :=
  before0_3_of m (dat m c) (A_eq m c 3) (after0_3 m c) t d
theorem after0_4 (c : Dev nD) (t : Fin cfg0.N) : (dat m c).after 4 t = iblk m c 4 t := by dsimp only [dat]
theorem before0_4 (c : Dev nD) (t : Fin cfg0.N) (d) : (dat m c).before 4 t d = iblk m c 4 t :=
  before0_4_of m (dat m c) (A_eq m c 4) (after0_4 m c) t d
theorem after0_5 (c : Dev nD) (t : Fin cfg0.N) : (dat m c).after 5 t = iblk m c 5 t := by dsimp only [dat]
theorem before0_5 (c : Dev nD) (t : Fin cfg0.N) (d) : (dat m c).before 5 t d = iblk m c 5 t :=
  before0_5_of m (dat m c) (A_eq m c 5) (after0_5 m c) t d
theorem after0_6 (c : Dev nD) (t : Fin cfg0.N) : (dat m c).after 6 t = iblk m c 6 t := by dsimp only [dat]
theorem before0_6 (c : Dev nD) (t : Fin cfg0.N) (d) : (dat m c).before 6 t d = iblk m c 6 t :=
  before0_6_of m (dat m c) (A_eq m c 6) (after0_6 m c) t d
theorem after0_7 (c : Dev nD) (t : Fin cfg0.N) : (dat m c).after 7 t = iblk m c 7 t := by dsimp only [dat]
theorem before0_7 (c : Dev nD) (t : Fin cfg0.N) (d) : (dat m c).before 7 t d = iblk m c 7 t :=
  before0_7_of m (dat m c) (A_eq m c 7) (after0_7 m c) t d
theorem after0_8 (c : Dev nD) (t : Fin cfg0.N) : (dat m c).after 8 t = iblk m c 8 t := by dsimp only [dat]
theorem before0_8 (c : Dev nD) (t : Fin cfg0.N) (d) : (dat m c).before 8 t d = iblk m c 8 t :=
  before0_8_of m (dat m c) (A_eq m c 8) (after0_8 m c) t d

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d))
    ∗ (∃ d, owns (c : Thread nD τ) (ms0_6 t) fullShare ((dat m c).before 6 t d))
    ∗ (∃ d, owns (c : Thread nD τ) (ms0_7 t) fullShare ((dat m c).before 7 t d))
    ∗ (∃ d, owns (c : Thread nD τ) (ms0_8 t) fullShare ((dat m c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ owns (c : Thread nD τ) (ms0_4 t) fullShare ((dat m c).after 4 t)
    ∗ owns (c : Thread nD τ) (ms0_5 t) fullShare ((dat m c).after 5 t)
    ∗ owns (c : Thread nD τ) (ms0_6 t) fullShare ((dat m c).after 6 t)
    ∗ owns (c : Thread nD τ) (ms0_7 t) fullShare ((dat m c).after 7 t)
    ∗ owns (c : Thread nD τ) (ms0_8 t) fullShare ((dat m c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 4000000 in
/-- The first point. -/
theorem sound_A (c : Dev nD) (t : Fin cfg0.N) (h : t.val = 0) :
    bodyPre m c t ⊢ wp frame (wpE (defs₀ (F := F)) Variants.none c none) Set.univ (bodyAt0 t) (fun _ => bodyPost m c t) := by
  have hN : t.val < 20 := lt_of_lt_of_eq t.isLt (show cfg0.N = 20 from N_0)
  have hc0 : cond0_0 (grid0.coords t) := (hcond0_0 t).mpr (by omega)
  have hc1 : cond0_1 (grid0.coords t) := (hcond0_1 t).mpr (by omega)
  have hc2 : ¬cond0_2 (grid0.coords t) := fun h => by have := (hcond0_2 t).mp h; omega
  have hc3 : ¬cond0_3 (grid0.coords t) := fun h => by have := (hcond0_3 t).mp h; omega
  have hc4 : ¬cond0_4 (grid0.coords t) := fun h => by have := (hcond0_4 t).mp h; omega
  unfold bodyPre bodyPost bodyAt0
  simp only [before0_0, before0_1, before0_2, before0_3, before0_4, before0_5, before0_6, before0_7, before0_8,
    after0_0, after0_1, after0_2, after0_3, after0_4, after0_5, after0_6, after0_7, after0_8]
  rw [show (dat m c).owesAt () t.succ = (dat m c).owesAt () t.castSucc from rfl]
  rw [show (dat m c).Φ t.succ = Pipeline.ΦA spec0 c from rfl, show (dat m c).Φ t.castSucc = Pipeline.ΦA spec0 c from rfl, PhiA0_eq]
  rw [body_A (grid0.coords t) _ _ _ _ _ _ _ _ _ _ _ _ _ _ _ _ _ _ _ _ _ _ _ _ _ _ _ _ _ _ _ _ _ _ _ _ _ _ _ _ hc0 hc1 hc2 hc3 hc4]
  rw [wp_bind]
  iintro ⟨⟨⟨⟨%e0, HS0⟩, ⟨%e1, HS1⟩, ⟨%e2, HS2⟩, ⟨%e3, HS3⟩, ⟨%e4, HS4⟩, ⟨%e5, HS5⟩, ⟨%e6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply stepInit c _ _ _ _ _ _ _ _ _ _ _ _ _ _ _ _ _ _ _ _ _ _ _ _ _ _ _ _ _ _ _ _ _ _ _ _ _ _ _ _ _ _ _ _ _ _
  isplitl [H4]; · iexact H4
  isplitl [H7]; · iexact H7
  isplitl [HS0]; · iexact HS0
  isplitl [HS1]; · iexact HS1
  isplitl [HS5]; · iexact HS5
  iintro ⟨H4, H7, ⟨%w14, HS0⟩, ⟨%w15, HS1⟩, ⟨%w19, HS5⟩⟩
  iapply stepOne c _ _ _ _ _ _ _ _ _ _ _ _ _ _ _ _ _ _ _ _ _ _ _ _ _ _ _ _ _ _ _ _ _ _ _ _ _ _ _ _ _ hc1 _ _ _ _ _ _ _ _
  isplitl [H0]; · iexact H0
  isplitl [H1]; · iexact H1
  isplitl [H3]; · iexact H3
  isplitl [H5]; · iexact H5
  isplitl [HS0]; · iexact HS0
  isplitl [HS2]; · iexact HS2
  isplitl [HS4]; · iexact HS4
  isplitl [HS5]; · iexact HS5
  iintro ⟨H0, H1, H3, H5, HS0, ⟨%w16, HS2⟩, ⟨%w18, HS4⟩, ⟨%w19, HS5⟩⟩
  isplitl [HS0 HS1 HS2 HS3 HS4 HS5 HS6 Hg]
  · isplitl [HS0 HS1 HS2 HS3 HS4 HS5 HS6]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iexists _; iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

set_option maxHeartbeats 4000000 in
/-- A later point of the first phase. -/
theorem sound_B (c : Dev nD) (t : Fin cfg0.N) (h : 1 ≤ t.val) (h' : t.val < 10) :
    bodyPre m c t ⊢ wp frame (wpE (defs₀ (F := F)) Variants.none c none) Set.univ (bodyAt0 t) (fun _ => bodyPost m c t) := by
  have hN : t.val < 20 := lt_of_lt_of_eq t.isLt (show cfg0.N = 20 from N_0)
  have hc0 : ¬cond0_0 (grid0.coords t) := fun h => by have := (hcond0_0 t).mp h; omega
  have hc1 : cond0_1 (grid0.coords t) := (hcond0_1 t).mpr (by omega)
  have hc2 : ¬cond0_2 (grid0.coords t) := fun h => by have := (hcond0_2 t).mp h; omega
  have hc3 : ¬cond0_3 (grid0.coords t) := fun h => by have := (hcond0_3 t).mp h; omega
  have hc4 : ¬cond0_4 (grid0.coords t) := fun h => by have := (hcond0_4 t).mp h; omega
  unfold bodyPre bodyPost bodyAt0
  simp only [before0_0, before0_1, before0_2, before0_3, before0_4, before0_5, before0_6, before0_7, before0_8,
    after0_0, after0_1, after0_2, after0_3, after0_4, after0_5, after0_6, after0_7, after0_8]
  rw [show (dat m c).owesAt () t.succ = (dat m c).owesAt () t.castSucc from rfl]
  rw [show (dat m c).Φ t.succ = Pipeline.ΦA spec0 c from rfl, show (dat m c).Φ t.castSucc = Pipeline.ΦA spec0 c from rfl, PhiA0_eq]
  rw [body_B (grid0.coords t) _ _ _ _ _ _ _ _ _ _ _ _ _ _ _ _ _ _ _ _ _ _ _ _ _ _ _ _ _ _ _ _ _ _ _ _ _ _ _ _ hc0 hc1 hc2 hc3 hc4]
  iintro ⟨⟨⟨⟨%e0, HS0⟩, ⟨%e1, HS1⟩, ⟨%e2, HS2⟩, ⟨%e3, HS3⟩, ⟨%e4, HS4⟩, ⟨%e5, HS5⟩, ⟨%e6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply stepOne c _ _ _ _ _ _ _ _ _ _ _ _ _ _ _ _ _ _ _ _ _ _ _ _ _ _ _ _ _ _ _ _ _ _ _ _ _ _ _ _ _ hc1 _ _ _ _ _ _ _ _
  isplitl [H0]; · iexact H0
  isplitl [H1]; · iexact H1
  isplitl [H3]; · iexact H3
  isplitl [H5]; · iexact H5
  isplitl [HS0]; · iexact HS0
  isplitl [HS2]; · iexact HS2
  isplitl [HS4]; · iexact HS4
  isplitl [HS5]; · iexact HS5
  iintro ⟨H0, H1, H3, H5, HS0, ⟨%w16, HS2⟩, ⟨%w18, HS4⟩, ⟨%w19, HS5⟩⟩
  isplitl [HS0 HS1 HS2 HS3 HS4 HS5 HS6 Hg]
  · isplitl [HS0 HS1 HS2 HS3 HS4 HS5 HS6]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iexists _; iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

set_option maxHeartbeats 4000000 in
/-- The first point of the second phase. -/
theorem sound_C (c : Dev nD) (t : Fin cfg0.N) (h : t.val = 10) :
    bodyPre m c t ⊢ wp frame (wpE (defs₀ (F := F)) Variants.none c none) Set.univ (bodyAt0 t) (fun _ => bodyPost m c t) := by
  have hN : t.val < 20 := lt_of_lt_of_eq t.isLt (show cfg0.N = 20 from N_0)
  have hc0 : ¬cond0_0 (grid0.coords t) := fun h => by have := (hcond0_0 t).mp h; omega
  have hc1 : ¬cond0_1 (grid0.coords t) := fun h => by have := (hcond0_1 t).mp h; omega
  have hc2 : cond0_2 (grid0.coords t) := (hcond0_2 t).mpr (by omega)
  have hc3 : cond0_3 (grid0.coords t) := (hcond0_3 t).mpr (by omega)
  have hc4 : ¬cond0_4 (grid0.coords t) := fun h => by have := (hcond0_4 t).mp h; omega
  unfold bodyPre bodyPost bodyAt0
  simp only [before0_0, before0_1, before0_2, before0_3, before0_4, before0_5, before0_6, before0_7, before0_8,
    after0_0, after0_1, after0_2, after0_3, after0_4, after0_5, after0_6, after0_7, after0_8]
  rw [show (dat m c).owesAt () t.succ = (dat m c).owesAt () t.castSucc from rfl]
  rw [show (dat m c).Φ t.succ = Pipeline.ΦA spec0 c from rfl, show (dat m c).Φ t.castSucc = Pipeline.ΦA spec0 c from rfl, PhiA0_eq]
  rw [body_C (grid0.coords t) _ _ _ _ _ _ _ _ _ _ _ _ _ _ _ _ _ _ _ _ _ _ _ _ _ _ _ _ _ _ _ _ _ _ _ _ _ _ _ _ hc0 hc1 hc2 hc3 hc4]
  rw [wp_bind]
  iintro ⟨⟨⟨⟨%e0, HS0⟩, ⟨%e1, HS1⟩, ⟨%e2, HS2⟩, ⟨%e3, HS3⟩, ⟨%e4, HS4⟩, ⟨%e5, HS5⟩, ⟨%e6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply stepScales c _ _ _ _ _ _ _ _ _ _ _ _ _ _ _ _ _ _ _ _ _ _ _ _ _ _ _ _ _ _ _ _ _ _ _ _ _ _ _ _ _ _ _ _
  isplitl [H10]; · iexact H10
  isplitl [HS5]; · iexact HS5
  isplitl [HS6]; · iexact HS6
  iintro ⟨⟨%w11, H10⟩, ⟨%w19, HS5⟩, ⟨%w20, HS6⟩⟩
  iapply stepTwo c _ _ _ _ _ _ _ _ _ _ _ _ _ _ _ _ _ _ _ _ _ _ _ _ _ _ _ _ _ _ _ _ _ _ _ _ _ _ _ _ _ hc3 _ _ _ _ _ _ _
  isplitl [H6]; · iexact H6
  isplitl [H9]; · iexact H9
  isplitl [H12]; · iexact H12
  isplitl [HS1]; · iexact HS1
  isplitl [HS3]; · iexact HS3
  isplitl [HS4]; · iexact HS4
  isplitl [HS5]; · iexact HS5
  iintro ⟨H6, ⟨%w10, H9⟩, ⟨%w13, H12⟩, HS1, ⟨%w17, HS3⟩, HS4, HS5⟩
  isplitl [HS0 HS1 HS2 HS3 HS4 HS5 HS6 Hg]
  · isplitl [HS0 HS1 HS2 HS3 HS4 HS5 HS6]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iexists _; iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

set_option maxHeartbeats 4000000 in
/-- A later point of the second phase. -/
theorem sound_D (c : Dev nD) (t : Fin cfg0.N) (h : 11 ≤ t.val) (h' : t.val < 19) :
    bodyPre m c t ⊢ wp frame (wpE (defs₀ (F := F)) Variants.none c none) Set.univ (bodyAt0 t) (fun _ => bodyPost m c t) := by
  have hN : t.val < 20 := lt_of_lt_of_eq t.isLt (show cfg0.N = 20 from N_0)
  have hc0 : ¬cond0_0 (grid0.coords t) := fun h => by have := (hcond0_0 t).mp h; omega
  have hc1 : ¬cond0_1 (grid0.coords t) := fun h => by have := (hcond0_1 t).mp h; omega
  have hc2 : ¬cond0_2 (grid0.coords t) := fun h => by have := (hcond0_2 t).mp h; omega
  have hc3 : cond0_3 (grid0.coords t) := (hcond0_3 t).mpr (by omega)
  have hc4 : ¬cond0_4 (grid0.coords t) := fun h => by have := (hcond0_4 t).mp h; omega
  unfold bodyPre bodyPost bodyAt0
  simp only [before0_0, before0_1, before0_2, before0_3, before0_4, before0_5, before0_6, before0_7, before0_8,
    after0_0, after0_1, after0_2, after0_3, after0_4, after0_5, after0_6, after0_7, after0_8]
  rw [show (dat m c).owesAt () t.succ = (dat m c).owesAt () t.castSucc from rfl]
  rw [show (dat m c).Φ t.succ = Pipeline.ΦA spec0 c from rfl, show (dat m c).Φ t.castSucc = Pipeline.ΦA spec0 c from rfl, PhiA0_eq]
  rw [body_D (grid0.coords t) _ _ _ _ _ _ _ _ _ _ _ _ _ _ _ _ _ _ _ _ _ _ _ _ _ _ _ _ _ _ _ _ _ _ _ _ _ _ _ _ hc0 hc1 hc2 hc3 hc4]
  iintro ⟨⟨⟨⟨%e0, HS0⟩, ⟨%e1, HS1⟩, ⟨%e2, HS2⟩, ⟨%e3, HS3⟩, ⟨%e4, HS4⟩, ⟨%e5, HS5⟩, ⟨%e6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply stepTwo c _ _ _ _ _ _ _ _ _ _ _ _ _ _ _ _ _ _ _ _ _ _ _ _ _ _ _ _ _ _ _ _ _ _ _ _ _ _ _ _ _ hc3 _ _ _ _ _ _ _
  isplitl [H6]; · iexact H6
  isplitl [H9]; · iexact H9
  isplitl [H12]; · iexact H12
  isplitl [HS1]; · iexact HS1
  isplitl [HS3]; · iexact HS3
  isplitl [HS4]; · iexact HS4
  isplitl [HS5]; · iexact HS5
  iintro ⟨H6, ⟨%w10, H9⟩, ⟨%w13, H12⟩, HS1, ⟨%w17, HS3⟩, HS4, HS5⟩
  isplitl [HS0 HS1 HS2 HS3 HS4 HS5 HS6 Hg]
  · isplitl [HS0 HS1 HS2 HS3 HS4 HS5 HS6]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iexists _; iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

set_option maxHeartbeats 4000000 in
/-- The last point. -/
theorem sound_E (c : Dev nD) (t : Fin cfg0.N) (h : t.val = 19) :
    bodyPre m c t ⊢ wp frame (wpE (defs₀ (F := F)) Variants.none c none) Set.univ (bodyAt0 t) (fun _ => bodyPost m c t) := by
  have hN : t.val < 20 := lt_of_lt_of_eq t.isLt (show cfg0.N = 20 from N_0)
  have hc0 : ¬cond0_0 (grid0.coords t) := fun h => by have := (hcond0_0 t).mp h; omega
  have hc1 : ¬cond0_1 (grid0.coords t) := fun h => by have := (hcond0_1 t).mp h; omega
  have hc2 : ¬cond0_2 (grid0.coords t) := fun h => by have := (hcond0_2 t).mp h; omega
  have hc3 : cond0_3 (grid0.coords t) := (hcond0_3 t).mpr (by omega)
  have hc4 : cond0_4 (grid0.coords t) := (hcond0_4 t).mpr (by omega)
  unfold bodyPre bodyPost bodyAt0
  simp only [before0_0, before0_1, before0_2, before0_3, before0_4, before0_5, before0_6, before0_7, before0_8,
    after0_0, after0_1, after0_2, after0_3, after0_4, after0_5, after0_6, after0_7, after0_8]
  rw [show (dat m c).owesAt () t.succ = (dat m c).owesAt () t.castSucc from rfl]
  rw [show (dat m c).Φ t.succ = Pipeline.ΦA spec0 c from rfl, show (dat m c).Φ t.castSucc = Pipeline.ΦA spec0 c from rfl, PhiA0_eq]
  rw [body_E (grid0.coords t) _ _ _ _ _ _ _ _ _ _ _ _ _ _ _ _ _ _ _ _ _ _ _ _ _ _ _ _ _ _ _ _ _ _ _ _ _ _ _ _ hc0 hc1 hc2 hc3 hc4]
  rw [wp_bind]
  iintro ⟨⟨⟨⟨%e0, HS0⟩, ⟨%e1, HS1⟩, ⟨%e2, HS2⟩, ⟨%e3, HS3⟩, ⟨%e4, HS4⟩, ⟨%e5, HS5⟩, ⟨%e6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply stepTwo c _ _ _ _ _ _ _ _ _ _ _ _ _ _ _ _ _ _ _ _ _ _ _ _ _ _ _ _ _ _ _ _ _ _ _ _ _ _ _ _ _ hc3 _ _ _ _ _ _ _
  isplitl [H6]; · iexact H6
  isplitl [H9]; · iexact H9
  isplitl [H12]; · iexact H12
  isplitl [HS1]; · iexact HS1
  isplitl [HS3]; · iexact HS3
  isplitl [HS4]; · iexact HS4
  isplitl [HS5]; · iexact HS5
  iintro ⟨H6, ⟨%w10, H9⟩, ⟨%w13, H12⟩, HS1, ⟨%w17, HS3⟩, HS4, HS5⟩
  iapply stepFinish c _ _ _ _ _ _ _ _ _ _ _ _ _ _ _ _ _ _ _ _ _ _ _ _ _ _ _ _ _ _ _ _ _ _ _ _ _ _ _ _ _ _ _ _ _ _
  isplitl [H2]; · iexact H2
  isplitl [H8]; · iexact H8
  isplitl [H11]; · iexact H11
  isplitl [H12]; · iexact H12
  isplitl [HS6]; · iexact HS6
  iintro ⟨H2, H8, ⟨%w12, H11⟩, ⟨%w13, H12⟩, HS6⟩
  isplitl [HS0 HS1 HS2 HS3 HS4 HS5 HS6 Hg]
  · isplitl [HS0 HS1 HS2 HS3 HS4 HS5 HS6]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iexists _; iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

theorem sound_body (c : Dev nD) (t : Fin cfg0.N) :
    bodyPre m c t ⊢ wp frame (wpE (defs₀ (F := F)) Variants.none c none) Set.univ (bodyAt0 t) (fun _ => bodyPost m c t) := by
  have hN : t.val < 20 := lt_of_lt_of_eq t.isLt (show cfg0.N = 20 from N_0)
  by_cases h0 : t.val = 0
  · exact sound_A m c t h0
  by_cases h1 : t.val < 10
  · exact sound_B m c t (by omega) h1
  by_cases h2 : t.val = 10
  · exact sound_C m c t h2
  by_cases h3 : t.val < 19
  · exact sound_D m c t (by omega) h3
  · exact sound_E m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dat m c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every fair run ends, with every input array as it was and every counter at zero. -/
theorem run_main_quiescent : θ_run defs (onTc (τ := τ) (main (F := F))) (s₀ m ρ)
    (fun r => Pipeline.RDat.FramePost (cfgs 0) (fun c => (dat m c).toRForget forgets0) (V m) r ∧ r.2.sem = fun _ => 0) :=
  Pipeline.θ_run_frame_track_forget (Q' := _) cfgs (fun _ => dat m) (0 : Fin 1) launch0 defs₀ Variants.none forgets0 m ρ main
    (hbody := fun c => (body_obligation m c).loose) (hshare := fun c => (dat m c).share_full fun _ => rfl)
    (howed := fun _ _ => rfl) (V := V m) (hmain := hmain m Variants.none) (hA := A_eq m) (hin := fun _ => .rfl) (hout := fun _ => .rfl)

theorem arr_in (c : Dev nD) (w : Fin cfg0.W) (hw : (cfg0.spec w).isOut = false) {G} (h : ((dat m c).toRForget forgets0).ArrAt w cfg0.N G) :
    G = V m c (Pipeline.arrRef spec0 w) :=
  Eq.trans (cast (congrFun (((dat m c).toRForget forgets0).ArrAt_in w hw cfg0.N) G) h) (A_eq m c w)

/-- The frame of the kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8))
      ∧ r.2.sem = fun _ => 0) :=
  (θ_run defs _ _).mono (fun r h => ⟨fun c => ⟨(arr_in m c 0 rfl ((h.1 c).1 0)).trans (V_main_arg0 m c),
      ((h.1 c).2 main_arg1 (Pipeline.mem_restRefs_of main_arg1 (by decide) (by decide))).trans (V_main_arg1 m c),
      (arr_in m c 2 rfl ((h.1 c).1 2)).trans (V_main_arg2 m c),
      (arr_in m c 3 rfl ((h.1 c).1 3)).trans (V_main_arg3 m c),
      (arr_in m c 4 rfl ((h.1 c).1 4)).trans (V_main_arg4 m c),
      ((h.1 c).2 main_arg5 (Pipeline.mem_restRefs_of main_arg5 (by decide) (by decide))).trans (V_main_arg5 m c),
      (arr_in m c 6 rfl ((h.1 c).1 6)).trans (V_main_arg6 m c),
      (arr_in m c 7 rfl ((h.1 c).1 7)).trans (V_main_arg7 m c),
      ((h.1 c).2 main_arg8 (Pipeline.mem_restRefs_of main_arg8 (by decide) (by decide))).trans (V_main_arg8 m c)⟩, h.2⟩) (run_main_quiescent m ρ)

end Cert.Kernel.Gen

end
-- ==== Proof.Value.Spec.lean ====
/- The layer as functions of its nine arguments: what both programs are shown to compute. -/
module

public import Idealize.ShloMosaic.Lib.ValueIdx
public import Idealize.ShloMosaic.Lib.IdealHost

@[expose] public section

noncomputable section

namespace Cert.Value

open Idealize.ShloMosaic

/-- A four-bit e2m1 code as a number: three bits of magnitude, one of sign. -/
def e2m1 (n : BitVec 32) : EReal :=
  let b := fun k : BitVec 32 => IntOp.cmpi .ne (IntOp.andi n k) 0#32
  let mag := Scalar.select (b 4#32)
    (Scalar.select (b 2#32) (Scalar.select (b 1#32) (Ideal.ofBits .f32 0x40C00000#32) (Ideal.ofBits .f32 0x40800000#32))
      (Scalar.select (b 1#32) (Ideal.ofBits .f32 0x40400000#32) (Ideal.ofBits .f32 0x40000000#32)))
    (Scalar.select (b 2#32) (Scalar.select (b 1#32) (Ideal.ofBits .f32 0x3FC00000#32) (Ideal.ofBits .f32 0x3F800000#32))
      (Scalar.select (b 1#32) (Ideal.ofBits .f32 0x3F000000#32) (Ideal.ofBits .f32 0x00000000#32)))
  Scalar.select (b 8#32) (Ideal.ofBits .f32 0x00000000#32 - mag) mag

/-- The low or the high code of a byte. -/
def half (hi : Bool) (b : BitVec 8) : BitVec 32 := if hi then IntOp.shrsi .vector (b.setWidth 32) 4#32 else IntOp.andi (b.setWidth 32) 15#32

/-- A block scale: two to the power of the byte less 127. -/
def pow2 (b : BitVec 8) : EReal := Ideal.exp2 (FloatOps.sitofp (F := Ideal) (w := 32) .f32 (IntOp.subi (b.setWidth 32) 127#32))

/-- The activation. -/
def act (u : EReal) : EReal :=
  Ideal.ofBits .f32 0x3F000000#32 * u * (Ideal.ofBits .f32 0x3F800000#32 + Ideal.erf (u * Ideal.ofBits .f32 0x3F3504F3#32))

/-- A row's scale from its largest magnitude. -/
def scaleOf (a : EReal) : EReal :=
  Scalar.select (FloatOps.cmpf (F := Ideal) (φ := .f32) .oeq a (Ideal.ofBits .f32 0x00000000#32)) (Ideal.ofBits .f32 0x3F800000#32)
    (Ideal.div a (Ideal.ofBits .f32 0x43E00000#32))

/-- A value clipped to the range of the codes. -/
def clip (x : EReal) : EReal := min (Ideal.ofBits .f32 0x43E00000#32) (max (Ideal.ofBits .f32 0xC3E00000#32) x)

/-- The nine arguments. -/
structure Args where
  a : Fin 1536 → Fin 1280 → EReal
  rs : Fin 1536 → EReal
  h1 : Fin 1536 → Fin 1280 → EReal
  c1 : Fin 1280 → Fin 2560 → BitVec 8
  s1 : Fin 40 → Fin 5120 → BitVec 8
  b1 : Fin 5120 → EReal
  c2 : Fin 5120 → Fin 640 → BitVec 8
  s2 : Fin 160 → Fin 1280 → BitVec 8
  b2 : Fin 1280 → EReal

/-- What is asked of them: finite rows, scales and bias, and block scales that are powers of two of the f32 range. -/
structure Args.Tame (x : Args) : Prop where
  a : ∀ r k, x.a r k ≠ ⊥ ∧ x.a r k ≠ ⊤
  rs : ∀ r, x.rs r ≠ ⊥ ∧ x.rs r ≠ ⊤
  b1 : ∀ n, x.b1 n ≠ ⊥ ∧ x.b1 n ≠ ⊤
  s1 : ∀ k n, 1 ≤ (x.s1 k n).toNat ∧ (x.s1 k n).toNat ≤ 254
  s2 : ∀ k n, 1 ≤ (x.s2 k n).toNat ∧ (x.s2 k n).toNat ≤ 254

variable (x : Args)

/-- The first product's weights: the codes of columns 2560 on are the high halves of the bytes. -/
def w1 (k : Fin 1280) (n : Fin 5120) : EReal :=
  e2m1 (half (decide (2560 ≤ n.val)) (x.c1 k (⟨n.val % 2560, Nat.mod_lt _ (by decide)⟩ : Fin 2560))) * pow2 (x.s1 (⟨k.val / 32, by omega⟩ : Fin 40) n)

/-- The second product's weights. -/
def w2 (k : Fin 5120) (n : Fin 1280) : EReal :=
  e2m1 (half (decide (640 ≤ n.val)) (x.c2 k (⟨n.val % 640, Nat.mod_lt _ (by decide)⟩ : Fin 640))) * pow2 (x.s2 (⟨k.val / 32, by omega⟩ : Fin 160) n)

/-- The hidden activations. -/
def hidden (r : Fin 1536) (n : Fin 5120) : EReal := act ((∑ k, x.a r k * w1 x k n) * x.rs r + x.b1 n)

/-- A row's largest magnitude. -/
def top (r : Fin 1536) : EReal :=
  (Finset.univ : Finset (Fin 5120)).fold max (Ideal.ofBits .f32 0xFF800000#32) fun n => max (hidden x r n) (-hidden x r n)

/-- A row's scale. -/
def scale (r : Fin 1536) : EReal := scaleOf (top x r)

/-- The codes. -/
def code (r : Fin 1536) (n : Fin 5120) : EReal := clip (Ideal.div (hidden x r n) (scale x r))

/-- The layer's output with the residual added. -/
def out (r : Fin 1536) (n : Fin 1280) : EReal := x.h1 r n + ((∑ q, code x r q * w2 x q n) * scale x r + x.b2 n)

end Cert.Value

end
-- ==== Proof.Value.RefPay.lean ====
/- What the reference's one block leaves in each output, as the layer's functions of the arguments. -/
module

public import proofs.«01_k».proof.Proof.Value.Spec
public import proofs.«01_k».proof.Proof.Gen.ReferenceIdeal.Value
public import Idealize.ShloMosaic.Lib.ValueLayout
public import Idealize.ShloMosaic.Lib.ValueLayoutCasts
public import Idealize.ShloMosaic.Lib.Pipeline.ValueKit
public import Idealize.ShloMosaic.PureOps.Ideal.Laws

@[expose] public section

set_option maxRecDepth 16384

noncomputable section

namespace Cert.Value.Ref

open Idealize.ShloMosaic hiding ix2 ix3
open Idealize.ShloMosaic.ValueIdx Cert.ReferenceIdeal Cert.ReferenceIdeal.Gen Cert.Value

/-! ## A weight table times its block scales -/

theorem scaled_apply {G N M K : Nat} (hK : K = 32 * G) (off : Nat) (V : (⟨2, ![K, N]⟩ : Shape).Idx → EReal) (S : (⟨2, ![G, M]⟩ : Shape).Idx → EReal)
    (h1 : (⟨2, ![K, N]⟩ : Shape).ShapeCasts ⟨3, ![G, 32, N]⟩) (h2 : (⟨2, ![G, M]⟩ : Shape).Slices ![0, off] ⟨2, ![G, N]⟩)
    (h3 : (⟨2, ![G, N]⟩ : Shape).ShapeCasts ⟨3, ![G, 1, N]⟩) (h4 : (⟨3, ![G, 1, N]⟩ : Shape).Broadcasts ⟨3, ![G, 32, N]⟩)
    (h5 : (⟨3, ![G, 32, N]⟩ : Shape).ShapeCasts ⟨2, ![K, N]⟩) (k : Fin K) (n : Fin N) (ho : off + n.val < M) :
    shapeCast ⟨2, ![K, N]⟩ (fun i => shapeCast ⟨3, ![G, 32, N]⟩ V h1 i
      * broadcastTo ⟨3, ![G, 32, N]⟩ (shapeCast ⟨3, ![G, 1, N]⟩ (extractStridedSlice ⟨2, ![G, N]⟩ ![0, off] S h2) h3) h4 i) h5 (ix2 k n)
      = V (ix2 k n) * S (ix2 (⟨k.val / 32, by omega⟩ : Fin G) (⟨off + n.val, ho⟩ : Fin M)) := by
  have hk : k.val / 32 * 32 + k.val % 32 = k.val := by omega
  rw [shapeCast_apply _ h5 (ix2 k n) (ix3 (⟨k.val / 32, by omega⟩ : Fin G) (⟨k.val % 32, by omega⟩ : Fin 32) n) (by
    rw [Shape.rowMajor_val_three, Shape.rowMajor_val_two]
    show (k.val / 32 * 32 + k.val % 32) * N + n.val = k.val * N + n.val
    rw [hk])]
  refine congrArg₂ (· * ·) ?_ ?_
  · refine shapeCast_apply V h1 _ _ ?_
    rw [Shape.rowMajor_val_three, Shape.rowMajor_val_two]
    show k.val * N + n.val = (k.val / 32 * 32 + k.val % 32) * N + n.val
    rw [hk]
  · refine (broadcastTo_apply _ h4 _ (ix3 (⟨k.val / 32, by omega⟩ : Fin G) (0 : Fin 1) n) fun a => ?_).trans ?_
    · match a with
      | ⟨0, _⟩ => show k.val / 32 = if G = 1 then 0 else k.val / 32; split <;> omega
      | ⟨1, _⟩ => rfl
      | ⟨2, _⟩ => show n.val = if N = 1 then 0 else n.val; have := n.isLt; split <;> omega
    refine (shapeCast_apply _ h3 _ (ix2 (⟨k.val / 32, by omega⟩ : Fin G) n) ?_).trans ?_
    · rw [Shape.rowMajor_val_three, Shape.rowMajor_val_two]
      show k.val / 32 * N + n.val = (k.val / 32 * 1 + 0) * N + n.val
      rw [Nat.mul_one, Nat.add_zero]
    refine extractStridedSlice_apply _ _ _ _ _ fun a => ?_
    match a with
    | ⟨0, _⟩ => show k.val / 32 = 0 + k.val / 32; omega
    | ⟨1, _⟩ => rfl

/-- The codes of one half of the bytes, as numbers. -/
def codes {s : Shape} (hi : Bool) (C : IVec s 8) : s.Idx → EReal := fun y => e2m1 (half hi (C y))

/-- The scales as numbers. -/
def pows {s : Shape} (S : IVec s 8) : s.Idx → EReal := fun y => pow2 (S y)

variable (X0 : Vec Ideal S1536x1280 .bf16) (X1 : Vec Ideal S1536x1 .f32) (X2 : Vec Ideal S1536x1280 .f32) (X3 : Vec Ideal S1280x2560 .i8) (X4 : Vec Ideal S40x5120 .i8)
  (X5 : Vec Ideal S1x5120 .f32) (X6 : Vec Ideal S5120x640 .i8) (X7 : Vec Ideal S160x1280 .i8) (X8 : Vec Ideal S1x1280 .f32)

/-- The first product's weights of one half of the columns. -/
def wa (hi : Bool) (off : Nat) (h : S40x5120.Slices ![0, off] S40x2560) : FVec Ideal S1280x2560 .bf16 :=
  shapeCast S1280x2560 (mulf (F := Ideal) (φ := .bf16) (shapeCast S40x32x2560 (codes hi X3) shapeCasts_S1280x2560_S40x32x2560)
    (broadcastTo S40x32x2560 (shapeCast S40x1x2560 (extractStridedSlice S40x2560 ![0, off] (pows X4) h) shapeCasts_S40x2560_S40x1x2560) broadcasts_S40x1x2560_S40x32x2560))
    shapeCasts_S40x32x2560_S1280x2560

/-- … and the second's. -/
def wb (hi : Bool) (off : Nat) (h : S160x1280.Slices ![0, off] S160x640) : FVec Ideal S5120x640 .bf16 :=
  shapeCast S5120x640 (mulf (F := Ideal) (φ := .bf16) (shapeCast S160x32x640 (codes hi X6) shapeCasts_S5120x640_S160x32x640)
    (broadcastTo S160x32x640 (shapeCast S160x1x640 (extractStridedSlice S160x640 ![0, off] (pows X7) h) shapeCasts_S160x640_S160x1x640) broadcasts_S160x1x640_S160x32x640))
    shapeCasts_S160x32x640_S5120x640

/-- The first product, scaled, with the bias added. -/
def pre : FVec Ideal S1536x5120 .f32 :=
  addf (F := Ideal) (φ := .f32) (concatenate S1536x5120 1
    [⟨S1536x2560, mulf (F := Ideal) (φ := .f32) (matmul (F := Ideal) (φ₁ := .bf16) (φ₂ := .bf16) dot_S1536x1280_S1280x2560_S1536x2560_1_0_0_1_n_n none X0 (wa X3 X4 false 0 slices_S40x5120_o0_0_S40x2560) (constant S1536x2560 .f32 0x00000000#32))
        (broadcastTo S1536x2560 (shapeCast S1536x1 X1 shapeCasts_S1536x1_S1536x1) broadcasts_S1536x1_S1536x2560)⟩,
     ⟨S1536x2560, mulf (F := Ideal) (φ := .f32) (matmul (F := Ideal) (φ₁ := .bf16) (φ₂ := .bf16) dot_S1536x1280_S1280x2560_S1536x2560_1_0_0_1_n_n none X0 (wa X3 X4 true 2560 slices_S40x5120_o0_2560_S40x2560) (constant S1536x2560 .f32 0x00000000#32))
        (broadcastTo S1536x2560 (shapeCast S1536x1 X1 shapeCasts_S1536x1_S1536x1) broadcasts_S1536x1_S1536x2560)⟩] concatenates_S1536x2560_S1536x2560_S1536x5120_d1)
    (broadcastTo S1536x5120 (shapeCast S1x5120 X5 shapeCasts_S1x5120_S1x5120) broadcasts_S1x5120_S1536x5120)

theorem ld0 (X : Vec Ideal S1536x1280 .bf16) : View.ld X r0_0 = X := View.ld_unit_lit _ _ (by decide)
theorem ld0' (X : Vec Ideal S1536x1280 .f32) : View.ld X r0_0 = X := View.ld_unit_lit _ _ (by decide)
theorem ld1 : View.ld X1 r0_1 = X1 := View.ld_unit_lit _ _ (by decide)
theorem ld2 : View.ld X3 r0_2 = X3 := View.ld_unit_lit _ _ (by decide)
theorem ld3 : View.ld X4 r0_3 = X4 := View.ld_unit_lit _ _ (by decide)
theorem ld4 : View.ld X5 r0_4 = X5 := View.ld_unit_lit _ _ (by decide)
theorem ld5 : View.ld X6 r0_5 = X6 := View.ld_unit_lit _ _ (by decide)
theorem ld6 : View.ld X7 r0_6 = X7 := View.ld_unit_lit _ _ (by decide)
theorem ld7 : View.ld X8 r0_7 = X8 := View.ld_unit_lit _ _ (by decide)

theorem hid_eq : k0_pay52 (F := Ideal) X0 X1 X2 X3 X4 X5 X6 X7 X8 = fun y => act (pre X0 X1 X3 X4 X5 y) := by
  unfold k0_pay52 k0_pay51 k0_pay50 k0_pay49 k0_pay48 k0_pay47 k0_pay46 k0_pay45 k0_pay44 k0_pay43
  rw [ld0, ld1, ld2, ld3, ld4]
  rfl

/-- Each row's largest absolute value, as the block holds it. -/
def tops : FVec Ideal S1536x1 .f32 :=
  shapeCast S1536x1 (multiReduction (F := Ideal) .maximumf [1] S1536 (absf (F := Ideal) (φ := .f32) fun y => act (pre X0 X1 X3 X4 X5 y)) 0xFF800000#32 reduces_S1536x5120_S1536 (.inl rfl) rfl) shapeCasts_S1536_S1536x1

/-- Each row's scale. -/
def scales : FVec Ideal S1536x1 .f32 := fun y => scaleOf (tops X0 X1 X3 X4 X5 y)

/-- The codes of the hidden layer. -/
def quants : FVec Ideal S1536x5120 .bf16 := fun y =>
  clip (Ideal.div (act (pre X0 X1 X3 X4 X5 y)) (broadcastTo S1536x5120 (scales X0 X1 X3 X4 X5) broadcasts_S1536x1_S1536x5120 y))

theorem tops_eq : k0_pay19 (F := Ideal) X0 (k0_pay43 X0 X1 X2 X3 X4 X5 X6 X7 X8) (k0_pay44 X0 X1 X2 X3 X4 X5 X6 X7 X8) (k0_pay46 X0 X1 X2 X3 X4 X5 X6 X7 X8)
    (k0_pay47 X0 X1 X2 X3 X4 X5 X6 X7 X8) (k0_pay48 X0 X1 X2 X3 X4 X5 X6 X7 X8) (k0_pay49 X0 X1 X2 X3 X4 X5 X6 X7 X8) (k0_pay50 X0 X1 X2 X3 X4 X5 X6 X7 X8)
    (k0_pay51 X0 X1 X2 X3 X4 X5 X6 X7 X8) (Scalar.ofBits .f32 0x3FC00000#32) X5 = tops X0 X1 X3 X4 X5 := by
  have h := hid_eq X0 X1 X2 X3 X4 X5 X6 X7 X8
  unfold k0_pay52 at h
  rw [ld0, ld4] at h
  unfold k0_pay19 tops
  rw [h]

end Cert.Value.Ref

end
-- ==== Proof.Value.RefScale.lean ====
/- The reference's scale and its code, by coordinates. -/
module

public import proofs.«01_k».proof.Proof.Value.Spec
public import proofs.«01_k».proof.Proof.Gen.ReferenceIdeal.Value
public import Idealize.ShloMosaic.Lib.ValueLayout
public import Idealize.ShloMosaic.Lib.ValueLayoutCasts
public import Idealize.ShloMosaic.Lib.Pipeline.ValueKit
public import Idealize.ShloMosaic.PureOps.Ideal.Laws

@[expose] public section

set_option maxRecDepth 16384

noncomputable section

namespace Cert.Value.Ref

open Idealize.ShloMosaic hiding ix2 ix3
open Idealize.ShloMosaic.ValueIdx Cert.ReferenceIdeal Cert.ReferenceIdeal.Gen Cert.Value

theorem ofBits_eq (b : BitVec 32) : (Scalar.ofBits .f32 b : Ideal .f32) = Ideal.ofBits .f32 b := rfl

theorem scale_pay (T : FVec Ideal S1536x1 .f32) :
    k0_pay22 (F := Ideal) (cmpf (F := Ideal) (φ := .f32) .oeq T (broadcast S1536x1 (Scalar.ofBits .f32 0x00000000#32))) (divf (F := Ideal) (φ := .f32) T (broadcast S1536x1 (Scalar.ofBits .f32 0x43E00000#32)))
      (Scalar.ofBits .f32 0x3F800000#32) = fun y => scaleOf (T y) := by
  unfold k0_pay22 scaleOf
  simp only [ofBits_eq]
  generalize Ideal.ofBits .f32 0x00000000#32 = a
  generalize Ideal.ofBits .f32 0x43E00000#32 = b
  generalize Ideal.ofBits .f32 0x3F800000#32 = d
  rfl

theorem quant_pay (P : FVec Ideal S1536x5120 .f32) (u : IVec S1536x1 1) (v : FVec Ideal S1536x1 .f32) (w : Ideal .f32) :
    k0_pay23 (F := Ideal) P u v w = fun y => clip (Ideal.div (P y) (broadcastTo S1536x5120 (k0_pay22 u v w) broadcasts_S1536x1_S1536x5120 y)) := by
  unfold k0_pay23 clip
  generalize k0_pay22 u v w = S
  simp only [ofBits_eq]
  generalize Ideal.ofBits .f32 0xC3E00000#32 = a
  generalize Ideal.ofBits .f32 0x43E00000#32 = b
  rfl

end Cert.Value.Ref

end
-- ==== Proof.Value.RefOut.lean ====
/- The reference's scales, codes and outputs, as the layer's functions of the arguments. -/
module

public import proofs.«01_k».proof.Proof.Value.RefPay
public import proofs.«01_k».proof.Proof.Value.RefScale
public import proofs.«01_k».proof.Proof.Gen.ReferenceIdeal.Value
public import Idealize.ShloMosaic.Lib.ValueLayout
public import Idealize.ShloMosaic.Lib.ValueLayoutCasts
public import Idealize.ShloMosaic.Lib.Pipeline.ValueKit
public import Idealize.ShloMosaic.PureOps.Ideal.Laws

@[expose] public section

set_option maxRecDepth 16384

noncomputable section

namespace Cert.Value.Ref

open Idealize.ShloMosaic hiding ix2 ix3
open Idealize.ShloMosaic.ValueIdx Cert.ReferenceIdeal Cert.ReferenceIdeal.Gen Cert.Value

variable (X0 : Vec Ideal S1536x1280 .bf16) (X1 : Vec Ideal S1536x1 .f32) (X2 : Vec Ideal S1536x1280 .f32) (X3 : Vec Ideal S1280x2560 .i8) (X4 : Vec Ideal S40x5120 .i8)
  (X5 : Vec Ideal S1x5120 .f32) (X6 : Vec Ideal S5120x640 .i8) (X7 : Vec Ideal S160x1280 .i8) (X8 : Vec Ideal S1x1280 .f32)

theorem scales_eq : k0_pay55 (F := Ideal) X0 X1 X2 X3 X4 X5 X6 X7 X8 = scales X0 X1 X3 X4 X5 := by
  unfold k0_pay55 k0_pay54 k0_pay53 k0_pay21 k0_pay20
  rw [ld0, ld4, tops_eq]
  exact scale_pay _

theorem quants_eq : k0_pay23 (F := Ideal) (k0_pay52 X0 X1 X2 X3 X4 X5 X6 X7 X8) (k0_pay53 X0 X1 X2 X3 X4 X5 X6 X7 X8) (k0_pay54 X0 X1 X2 X3 X4 X5 X6 X7 X8)
    (Scalar.ofBits .f32 0x3F800000#32) = quants X0 X1 X3 X4 X5 := by
  have h := scales_eq X0 X1 X2 X3 X4 X5 X6 X7 X8
  unfold k0_pay55 at h
  unfold k0_pay23
  rw [hid_eq]
  exact (quant_pay _ _ _ _ ).trans (by rw [h]; rfl)

/-- The second product, scaled, with the bias and the residual added. -/
def res : FVec Ideal S1536x1280 .f32 :=
  addf (F := Ideal) (φ := .f32) X2 (addf (F := Ideal) (φ := .f32) (concatenate S1536x1280 1
    [⟨S1536x640, mulf (F := Ideal) (φ := .f32) (matmul (F := Ideal) (φ₁ := .bf16) (φ₂ := .bf16) dot_S1536x5120_S5120x640_S1536x640_1_0_0_1_n_n none (quants X0 X1 X3 X4 X5) (wb X6 X7 false 0 slices_S160x1280_o0_0_S160x640) (constant S1536x640 .f32 0x00000000#32))
        (broadcastTo S1536x640 (scales X0 X1 X3 X4 X5) broadcasts_S1536x1_S1536x640)⟩,
     ⟨S1536x640, mulf (F := Ideal) (φ := .f32) (matmul (F := Ideal) (φ₁ := .bf16) (φ₂ := .bf16) dot_S1536x5120_S5120x640_S1536x640_1_0_0_1_n_n none (quants X0 X1 X3 X4 X5) (wb X6 X7 true 640 slices_S160x1280_o0_640_S160x640) (constant S1536x640 .f32 0x00000000#32))
        (broadcastTo S1536x640 (scales X0 X1 X3 X4 X5) broadcasts_S1536x1_S1536x640)⟩] concatenates_S1536x640_S1536x640_S1536x1280_d1)
    (broadcastTo S1536x1280 (shapeCast S1x1280 X8 shapeCasts_S1x1280_S1x1280) broadcasts_S1x1280_S1536x1280))

theorem res_eq : k0_pay40 (F := Ideal) (k0_pay55 X0 X1 X2 X3 X4 X5 X6 X7 X8) (k0_pay56 X0 X1 X2 X3 X4 X5 X6 X7 X8) (k0_pay57 X0 X1 X2 X3 X4 X5 X6 X7 X8) (k0_pay59 X0 X1 X2 X3 X4 X5 X6 X7 X8)
    (k0_pay60 X0 X1 X2 X3 X4 X5 X6 X7 X8) (k0_pay61 X0 X1 X2 X3 X4 X5 X6 X7 X8) (k0_pay62 X0 X1 X2 X3 X4 X5 X6 X7 X8) (k0_pay63 X0 X1 X2 X3 X4 X5 X6 X7 X8) (k0_pay64 X0 X1 X2 X3 X4 X5 X6 X7 X8)
    (Scalar.ofBits .f32 0x40400000#32) (Scalar.ofBits .f32 0x40000000#32) X2 X8 = res X0 X1 X2 X3 X4 X5 X6 X7 X8 := by
  have h := quants_eq X0 X1 X2 X3 X4 X5 X6 X7 X8
  rw [scales_eq]
  unfold k0_pay56 k0_pay24
  rw [h]
  unfold k0_pay64 k0_pay63 k0_pay62 k0_pay61 k0_pay60 k0_pay59 k0_pay58 k0_pay57
  rw [ld5, ld6]
  rfl

/-! ## The outputs, by coordinates -/

theorem out9_eq : out0_9 (F := Ideal) X0 X1 X2 X3 X4 X5 X6 X7 X8 = quants X0 X1 X3 X4 X5 := by
  unfold out0_9
  rw [quants_eq]
  exact View.canon_cons_unit_lit _ _ _ (by decide)

theorem out10_apply (r : Fin 1536) : out0_10 (F := Ideal) X0 X1 X2 X3 X4 X5 X6 X7 X8 (ix2 (0 : Fin 1) r) = scales X0 X1 X3 X4 X5 (ix2 r (0 : Fin 1)) := by
  unfold out0_10
  rw [scales_eq, show View.canon [(⟨r0_9, k0_pay41 (scales X0 X1 X3 X4 X5)⟩ : View.Piece (Elt Ideal) S1x1536 .f32)] = k0_pay41 (scales X0 X1 X3 X4 X5) from
    View.canon_cons_unit_lit _ _ _ (by decide)]
  generalize scales X0 X1 X3 X4 X5 = S
  unfold k0_pay41
  exact transpose_ix2_apply S transposes_S1536x1_p1_0_S1x1536 (0 : Fin 1) r

theorem out11_eq : out0_11 (F := Ideal) X0 X1 X2 X3 X4 X5 X6 X7 X8 = res X0 X1 X2 X3 X4 X5 X6 X7 X8 := by
  unfold out0_11 k0_pay42
  rw [ld0', ld7, res_eq]
  exact View.canon_cons_unit_lit _ _ _ (by decide)

theorem out12_apply (t : Fin 10) (r : Fin 1536) (l : Fin 128) : out0_12 (F := Ideal) X0 X1 X2 X3 X4 X5 X6 X7 X8 (ix3 t r l)
    = res X0 X1 X2 X3 X4 X5 X6 X7 X8 (ix2 r (⟨128 * t.val + l.val, by omega⟩ : Fin 1280)) := by
  unfold out0_12
  rw [ld0', ld7, res_eq, show View.canon [(⟨r0_10, k0_pay1 (res X0 X1 X2 X3 X4 X5 X6 X7 X8)⟩ : View.Piece (Elt Ideal) S10x1536x128 .f32)] = k0_pay1 (res X0 X1 X2 X3 X4 X5 X6 X7 X8) from
    View.canon_cons_unit_lit _ _ _ (by decide)]
  refine (transpose_apply _ _ _ _ (ix3 r t l) fun c => ?_).trans (shapeCast_apply _ _ _ _ ?_)
  · match c with
    | ⟨0, _⟩ => rfl
    | ⟨1, _⟩ => rfl
    | ⟨2, _⟩ => rfl
  · rw [Shape.rowMajor_val_three, Shape.rowMajor_val_two]
    show r.val * 1280 + (128 * t.val + l.val) = (r.val * 10 + t.val) * 128 + l.val
    omega

end Cert.Value.Ref

end
-- ==== Proof.Value.RefVal.lean ====
/- The reference's outputs, as the layer's functions of the arguments. -/
module

public import proofs.«01_k».proof.Proof.Value.RefOut
public import Idealize.ShloMosaic.Lib.MatmulPlain

@[expose] public section

set_option maxRecDepth 16384

noncomputable section

namespace Cert.Value.Ref

open Idealize.ShloMosaic hiding ix1 ix2 ix3
open Idealize.ShloMosaic.ValueIdx Cert.ReferenceIdeal Cert.ReferenceIdeal.Gen Cert.Value

variable {X0 : Vec Ideal S1536x1280 .bf16} {X1 : Vec Ideal S1536x1 .f32} {X2 : Vec Ideal S1536x1280 .f32} {X3 : Vec Ideal S1280x2560 .i8} {X4 : Vec Ideal S40x5120 .i8}
  {X5 : Vec Ideal S1x5120 .f32} {X6 : Vec Ideal S5120x640 .i8} {X7 : Vec Ideal S160x1280 .i8} {X8 : Vec Ideal S1x1280 .f32} {x : Args}

/-- The blocks hold the arguments `x`. -/
structure Holds (X0 : Vec Ideal S1536x1280 .bf16) (X1 : Vec Ideal S1536x1 .f32) (X2 : Vec Ideal S1536x1280 .f32) (X3 : Vec Ideal S1280x2560 .i8) (X4 : Vec Ideal S40x5120 .i8)
    (X5 : Vec Ideal S1x5120 .f32) (X6 : Vec Ideal S5120x640 .i8) (X7 : Vec Ideal S160x1280 .i8) (X8 : Vec Ideal S1x1280 .f32) (x : Args) : Prop where
  a : ∀ r k, X0 (ix2 r k) = x.a r k
  rs : ∀ r, X1 (ix2 r (0 : Fin 1)) = x.rs r
  h1 : ∀ r l, X2 (ix2 r l) = x.h1 r l
  c1 : ∀ k n, X3 (ix2 k n) = x.c1 k n
  s1 : ∀ k n, X4 (ix2 k n) = x.s1 k n
  b1 : ∀ n, X5 (ix2 (0 : Fin 1) n) = x.b1 n
  c2 : ∀ q n, X6 (ix2 q n) = x.c2 q n
  s2 : ∀ k n, X7 (ix2 k n) = x.s2 k n
  b2 : ∀ n, X8 (ix2 (0 : Fin 1) n) = x.b2 n

/-- A column laid along the rows. -/
theorem col_apply {R N : Nat} (V : (⟨2, ![R, 1]⟩ : Shape).Idx → EReal) (h : (⟨2, ![R, 1]⟩ : Shape).Broadcasts ⟨2, ![R, N]⟩) (r : Fin R) (n : Fin N) :
    broadcastTo ⟨2, ![R, N]⟩ V h (ix2 r n) = V (ix2 r (0 : Fin 1)) :=
  broadcastTo_apply _ h _ _ fun a => by
    match a with
    | ⟨0, _⟩ => show r.val = if R = 1 then 0 else r.val; split <;> omega
    | ⟨1, _⟩ => rfl

/-- Two halves set side by side. -/
theorem cat_apply {R A N : Nat} (hN : N = A + A) (V W : (⟨2, ![R, A]⟩ : Shape).Idx → EReal)
    (h : Shape.Concatenates [(⟨2, ![R, A]⟩ : Shape), ⟨2, ![R, A]⟩] ⟨2, ![R, N]⟩ 1) (r : Fin R) (n : Fin N) :
    concatenate (⟨2, ![R, N]⟩ : Shape) 1 [⟨(⟨2, ![R, A]⟩ : Shape), V⟩, ⟨(⟨2, ![R, A]⟩ : Shape), W⟩] h (ix2 r n)
      = if hn : n.val < A then V (ix2 r (⟨n.val, hn⟩ : Fin A)) else W (ix2 r (⟨n.val - A, by omega⟩ : Fin A)) := by
  split
  · rename_i hn
    refine concatenate_pair_apply_left (s₁ := (⟨2, ![R, A]⟩ : Shape)) (s₂ := (⟨2, ![R, A]⟩ : Shape)) (t := (⟨2, ![R, N]⟩ : Shape)) 1 V W h (ix2 r n) rfl (ix2 r (⟨n.val, hn⟩ : Fin A)) fun b => ?_
    match b with
    | ⟨0, _⟩ => rfl
    | ⟨1, _⟩ => rfl
  · rename_i hn
    refine concatenate_pair_apply_right (s₁ := (⟨2, ![R, A]⟩ : Shape)) (s₂ := (⟨2, ![R, A]⟩ : Shape)) (t := (⟨2, ![R, N]⟩ : Shape)) 1 V W h (ix2 r n) rfl rfl (ix2 r (⟨n.val - A, by omega⟩ : Fin A)) (fun b hb => ?_) ?_
    · match b with
      | ⟨0, _⟩ => rfl
      | ⟨1, _⟩ => exact absurd rfl hb
    · show n.val - A + A = n.val
      omega

theorem dot1 (A : FVec Ideal S1536x1280 .bf16) (W : FVec Ideal S1280x2560 .bf16) (S : FVec Ideal S1536x1 .f32) (r : Fin 1536) (n : Fin 2560) :
    mulf (F := Ideal) (φ := .f32) (matmul (F := Ideal) (φ₁ := .bf16) (φ₂ := .bf16) dot_S1536x1280_S1280x2560_S1536x2560_1_0_0_1_n_n none A W (constant S1536x2560 .f32 0x00000000#32))
        (broadcastTo S1536x2560 S broadcasts_S1536x1_S1536x2560) (ix2 r n)
      = (∑ k : Fin 1280, A (ix2 r k) * W (ix2 k n)) * S (ix2 r (0 : Fin 1)) := by
  refine congrArg₂ (· * ·) ?_ (col_apply (R := 1536) (N := 2560) _ _ r n)
  refine (Ideal.matmul_plain_apply (M := 1536) (K := 1280) (N := 2560) none _ _ _ _ _).trans ?_
  rw [show (constant S1536x2560 .f32 0x00000000#32 : FVec Ideal S1536x2560 .f32) (ix2 r n) = (0 : EReal) from Ideal.ofBits_zero_f32, zero_add]

theorem dot2 (A : FVec Ideal S1536x5120 .bf16) (W : FVec Ideal S5120x640 .bf16) (S : FVec Ideal S1536x1 .f32) (r : Fin 1536) (n : Fin 640) :
    mulf (F := Ideal) (φ := .f32) (matmul (F := Ideal) (φ₁ := .bf16) (φ₂ := .bf16) dot_S1536x5120_S5120x640_S1536x640_1_0_0_1_n_n none A W (constant S1536x640 .f32 0x00000000#32))
        (broadcastTo S1536x640 S broadcasts_S1536x1_S1536x640) (ix2 r n)
      = (∑ k : Fin 5120, A (ix2 r k) * W (ix2 k n)) * S (ix2 r (0 : Fin 1)) := by
  refine congrArg₂ (· * ·) ?_ (col_apply (R := 1536) (N := 640) _ _ r n)
  refine (Ideal.matmul_plain_apply (M := 1536) (K := 5120) (N := 640) none _ _ _ _ _).trans ?_
  rw [show (constant S1536x640 .f32 0x00000000#32 : FVec Ideal S1536x640 .f32) (ix2 r n) = (0 : EReal) from Ideal.ofBits_zero_f32, zero_add]

variable (H : Holds X0 X1 X2 X3 X4 X5 X6 X7 X8 x)
include H

theorem wa_apply (hi : Bool) (off : Nat) (h : S40x5120.Slices ![0, off] S40x2560) (k : Fin 1280) (n : Fin 2560) (N : Fin 5120) (hN : N.val = off + n.val) (hm : N.val % 2560 = n.val)
    (hd : hi = decide (2560 ≤ N.val)) : wa X3 X4 hi off h (ix2 k n) = w1 x k N := by
  refine (scaled_apply (G := 40) (N := 2560) (M := 5120) (K := 1280) (by rfl) off (codes hi X3) (pows X4) _ _ _ _ _ k n (by omega)).trans ?_
  unfold w1
  rw [← hd]
  refine congrArg₂ (· * ·) ?_ ?_
  · show e2m1 (half hi (X3 (ix2 k n))) = _
    rw [H.c1]
    exact congrArg (fun z => e2m1 (half hi (x.c1 k z))) (Fin.ext hm.symm)
  · show pow2 (X4 _) = _
    rw [H.s1]
    exact congrArg (fun z => pow2 (x.s1 _ z)) (Fin.ext hN.symm)

theorem wb_apply (hi : Bool) (off : Nat) (h : S160x1280.Slices ![0, off] S160x640) (k : Fin 5120) (n : Fin 640) (N : Fin 1280) (hN : N.val = off + n.val) (hm : N.val % 640 = n.val)
    (hd : hi = decide (640 ≤ N.val)) : wb X6 X7 hi off h (ix2 k n) = w2 x k N := by
  refine (scaled_apply (G := 160) (N := 640) (M := 1280) (K := 5120) (by rfl) off (codes hi X6) (pows X7) _ _ _ _ _ k n (by omega)).trans ?_
  unfold w2
  rw [← hd]
  refine congrArg₂ (· * ·) ?_ ?_
  · show e2m1 (half hi (X6 (ix2 k n))) = _
    rw [H.c2]
    exact congrArg (fun z => e2m1 (half hi (x.c2 k z))) (Fin.ext hm.symm)
  · show pow2 (X7 _) = _
    rw [H.s2]
    exact congrArg (fun z => pow2 (x.s2 _ z)) (Fin.ext hN.symm)

theorem pre_apply (r : Fin 1536) (n : Fin 5120) : pre X0 X1 X3 X4 X5 (ix2 r n) = (∑ k : Fin 1280, x.a r k * w1 x k n) * x.rs r + x.b1 n := by
  have hl := fun (k : Fin 1280) (q : Fin 2560) (hq : q.val = n.val) => wa_apply H false 0 slices_S40x5120_o0_0_S40x2560 k q n (by omega) (by omega) (decide_eq_false (by omega)).symm
  have hh := fun (k : Fin 1280) (q : Fin 2560) (hq : q.val + 2560 = n.val) => wa_apply H true 2560 slices_S40x5120_o0_2560_S40x2560 k q n (by omega) (by omega) (decide_eq_true (by omega)).symm
  unfold pre
  rw [shapeCast_self, shapeCast_self]
  generalize wa X3 X4 false 0 slices_S40x5120_o0_0_S40x2560 = WL at hl ⊢
  generalize wa X3 X4 true 2560 slices_S40x5120_o0_2560_S40x2560 = WH at hh ⊢
  refine congrArg₂ (· + ·) ((cat_apply (R := 1536) (A := 2560) (N := 5120) rfl _ _ _ r n).trans ?_) ((broadcastTo_1b_ab_apply (a := 1536) (b := 5120) _ _ r n).trans (H.b1 n))
  split
  · refine (dot1 _ _ _ r _).trans ?_
    rw [H.rs]
    exact congrArg (· * _) (Finset.sum_congr rfl fun k _ => by rw [H.a, hl k _ rfl])
  · rename_i hn
    refine (dot1 _ _ _ r _).trans ?_
    rw [H.rs]
    exact congrArg (· * _) (Finset.sum_congr rfl fun k _ => by rw [H.a, hh k _ (by show n.val - 2560 + 2560 = n.val; omega)])

theorem act_apply (r : Fin 1536) (n : Fin 5120) : act (pre X0 X1 X3 X4 X5 (ix2 r n)) = hidden x r n := by
  rw [pre_apply H]
  rfl

theorem tops_apply (r : Fin 1536) : tops X0 X1 X3 X4 X5 (ix2 r (0 : Fin 1)) = top x r := by
  have ha := fun n => act_apply H r n
  unfold tops top
  generalize pre X0 X1 X3 X4 X5 = P at ha ⊢
  rw [shapeCast_a_a1_apply]
  refine (Ideal.multiReduction_maximumf_single _ _ reduces_S1536x5120_S1536 _ _ _).trans ?_
  refine congrArg (fun f => Finset.fold max _ f Finset.univ) (funext fun n => ?_)
  refine Eq.trans ?_ (congrArg (fun u => max u (-u)) (ha n))
  refine congrArg (fun y => max (act (P y)) (-act (P y))) ?_
  funext a
  match a with
  | ⟨0, _⟩ => rfl
  | ⟨1, _⟩ => rfl

theorem scales_apply (r : Fin 1536) : scales X0 X1 X3 X4 X5 (ix2 r (0 : Fin 1)) = scale x r := by
  unfold scales scale
  rw [tops_apply H]

theorem quants_apply (r : Fin 1536) (n : Fin 5120) : quants X0 X1 X3 X4 X5 (ix2 r n) = code x r n := by
  have hs := scales_apply H r
  have ha := act_apply H r n
  unfold quants code
  generalize scales X0 X1 X3 X4 X5 = S at hs ⊢
  generalize pre X0 X1 X3 X4 X5 = P at ha ⊢
  rw [ha, col_apply (R := 1536) (N := 5120), hs]

theorem res_apply (r : Fin 1536) (n : Fin 1280) : res X0 X1 X2 X3 X4 X5 X6 X7 X8 (ix2 r n) = out x r n := by
  have hl := fun (k : Fin 5120) (q : Fin 640) (hq : q.val = n.val) => wb_apply H false 0 slices_S160x1280_o0_0_S160x640 k q n (by omega) (by omega) (decide_eq_false (by omega)).symm
  have hh := fun (k : Fin 5120) (q : Fin 640) (hq : q.val + 640 = n.val) => wb_apply H true 640 slices_S160x1280_o0_640_S160x640 k q n (by omega) (by omega) (decide_eq_true (by omega)).symm
  have hq := fun k => quants_apply H r k
  have hs := scales_apply H r
  unfold res out
  rw [shapeCast_self]
  generalize wb X6 X7 false 0 slices_S160x1280_o0_0_S160x640 = WL at hl ⊢
  generalize wb X6 X7 true 640 slices_S160x1280_o0_640_S160x640 = WH at hh ⊢
  generalize quants X0 X1 X3 X4 X5 = Q at hq ⊢
  generalize scales X0 X1 X3 X4 X5 = S at hs ⊢
  refine congrArg₂ (· + ·) (H.h1 r n) (congrArg₂ (· + ·) ((cat_apply (R := 1536) (A := 640) (N := 1280) rfl _ _ _ r n).trans ?_) ((broadcastTo_1b_ab_apply (a := 1536) (b := 1280) _ _ r n).trans (H.b2 n)))
  split
  · refine (dot2 _ _ _ r _).trans ?_
    rw [hs]
    exact congrArg (· * _) (Finset.sum_congr rfl fun k _ => by rw [hq, hl k _ rfl])
  · rename_i hn
    refine (dot2 _ _ _ r _).trans ?_
    rw [hs]
    exact congrArg (· * _) (Finset.sum_congr rfl fun k _ => by rw [hq, hh k _ (by show n.val - 640 + 640 = n.val; omega)])

end Cert.Value.Ref

end
-- ==== Proof.Value.Math.lean ====
/- The kernel's arithmetic against the layer's: the codes, the block scales, the activation, the row scales. -/
module

public import proofs.«01_k».proof.Proof.Value.Spec
public import proofs.«01_k».proof.Proof.Mlp.Data

@[expose] public section

noncomputable section

namespace Cert.Value

open Idealize.ShloMosaic Cert.KernelIdeal.Gen

/-- The e4m3 pattern of a code: its sign bit, and its other bits at the top of the fraction and the bottom of the exponent. -/
def pat (n : BitVec 4) : BitVec 8 := ((n.setWidth 8 &&& 8#8) <<< 4) ||| ((n.setWidth 8 &&& 7#8) <<< 2)

theorem nib_lo : ∀ b : BitVec 8, nib false b = pat (b.extractLsb' 0 4) := by decide +kernel
theorem nib_hi : ∀ b : BitVec 8, nib true b = pat (b.extractLsb' 4 4) := by decide +kernel
theorem half_lo : ∀ b : BitVec 8, half false b = (b.extractLsb' 0 4).setWidth 32 := by decide +kernel
theorem half_hi : ∀ b : BitVec 8, half true b = (b.extractLsb' 4 4).setWidth 32 := by decide +kernel

theorem pat_val (n : BitVec 4) : Ideal.ofBits .fp8e4m3 (pat n) * Ideal.ofBits .bf16 0x4280#16 = e2m1 (n.setWidth 32) := by
  have h64 : Ideal.ofBits .bf16 0x4280#16 = ((64 : ℝ) : EReal) := by
    simp [Ideal.ofBits, Ideal.ieee, -EReal.coe_mul]; norm_num
  rw [h64]
  obtain ⟨i, rfl⟩ : ∃ i : Fin 16, n = BitVec.ofFin i := ⟨n.toFin, rfl⟩
  fin_cases i <;>
  · simp [pat, e2m1, Scalar.select, IntOp.cmpi, IntOp.andi, Ideal.ofBits, Ideal.ieee, Ideal.e4m3fn, ← EReal.coe_mul, -EReal.coe_mul]
    try (first | (rw [← EReal.coe_mul]; norm_num; done) | norm_num)

theorem nibVal_eq (hi : Bool) (b : BitVec 8) : nibVal hi b = e2m1 (half hi b) := by
  unfold nibVal
  cases hi
  · rw [nib_lo, half_lo, pat_val]
  · rw [nib_hi, half_hi, pat_val]

/-! ## Block scales -/

theorem scale_sign : ∀ b : BitVec 8, (IntOp.shli .vector (b.setWidth 32) 23#32).extractLsb' (8 + 23) 1 = 0#1 := by decide +kernel
theorem scale_exp : ∀ b : BitVec 8, (IntOp.shli .vector (b.setWidth 32) 23#32).extractLsb' 23 8 = b := by decide +kernel
theorem scale_frac : ∀ b : BitVec 8, (IntOp.shli .vector (b.setWidth 32) 23#32).extractLsb' 0 23 = 0#23 := by decide +kernel
theorem scale_int : ∀ b : BitVec 8, (IntOp.subi (b.setWidth 32) 127#32).toInt = (b.toNat : ℤ) - 127 := by decide +kernel

theorem pow2_eq (b : BitVec 8) : pow2 b = (((2 : ℝ) ^ ((b.toNat : ℤ) - 127) : ℝ) : EReal) := by
  have e : pow2 b = ((Real.rpow 2 (((IntOp.subi (b.setWidth 32) 127#32).toInt : ℤ) : ℝ) : ℝ) : EReal) := rfl
  rw [e, scale_int]
  exact congrArg _ (Real.rpow_intCast 2 _)

theorem scaleVal_eq (b : BitVec 8) (h1 : 1 ≤ b.toNat) (h2 : b.toNat ≤ 254) : scaleVal b = pow2 b := by
  rw [pow2_eq]
  unfold scaleVal
  show Ideal.ieee 8 23 _ = _
  unfold Ideal.ieee
  simp only [scale_sign, scale_exp, scale_frac]
  rw [if_neg (by norm_num; omega), if_neg (by omega)]
  refine congrArg _ ?_
  have e : ((b.toNat : ℤ) - (2 ^ (8 - 1) - 1) - 23 : ℤ) = ((b.toNat : ℤ) - 127) + (-23) := by norm_num; ring
  simp only [Nat.cast_ofNat]
  rw [e, zpow_add₀ (by norm_num)]
  norm_num
  ring

/-! ## Real values -/

/-- A value that is a real number. -/
def IsR (x : EReal) : Prop := ∃ r : ℝ, x = r

theorem isR_of {x : EReal} (h : x ≠ ⊥ ∧ x ≠ ⊤) : IsR x := ⟨x.toReal, (EReal.coe_toReal h.2 h.1).symm⟩
theorem IsR.mul {x y : EReal} : IsR x → IsR y → IsR (x * y) := by
  rintro ⟨a, rfl⟩ ⟨b, rfl⟩; exact ⟨a * b, by rw [EReal.coe_mul]⟩
theorem IsR.add {x y : EReal} : IsR x → IsR y → IsR (x + y) := by
  rintro ⟨a, rfl⟩ ⟨b, rfl⟩; exact ⟨a + b, by rw [EReal.coe_add]⟩
theorem IsR.sub {x y : EReal} : IsR x → IsR y → IsR (x - y) := by
  rintro ⟨a, rfl⟩ ⟨b, rfl⟩; exact ⟨a - b, by rw [EReal.coe_sub]⟩
theorem IsR.select {p : BitVec 1} {x y : EReal} (hx : IsR x) (hy : IsR y) : IsR (Scalar.select p x y) := by
  unfold Scalar.select; split <;> assumption
theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

theorem half_bits : Ideal.ofBits .f32 0x3F000000#32 = ((1 / 2 : ℝ) : EReal) := by
  simp [Ideal.ofBits, Ideal.ieee, -EReal.coe_mul]; norm_num
theorem max_bits : Ideal.ofBits .f32 0x43E00000#32 = ((448 : ℝ) : EReal) := by
  simp [Ideal.ofBits, Ideal.ieee, -EReal.coe_mul]; norm_num
theorem inf_bits : Ideal.ofBits .f32 0x7F800000#32 = ⊤ := by simp [Ideal.ofBits, Ideal.ieee]
theorem neg_inf_bits : Ideal.ofBits .f32 0xFF800000#32 = ⊥ := by simp [Ideal.ofBits, Ideal.ieee]

theorem e2m1_isR (n : BitVec 32) : IsR (e2m1 n) := by
  have h : ∀ b ∈ [0x40C00000#32, 0x40800000#32, 0x40400000#32, 0x40000000#32, 0x3FC00000#32, 0x3F800000#32, 0x3F000000#32, 0x00000000#32], IsR (Ideal.ofBits .f32 b) := by
    intro b hb
    refine isR_of ?_
    simp only [List.mem_cons, List.not_mem_nil, or_false] at hb
    rcases hb with rfl | rfl | rfl | rfl | rfl | rfl | rfl | rfl <;> constructor <;> simp [Ideal.ofBits, Ideal.ieee, -EReal.coe_mul]
  have mag : ∀ p q r : BitVec 1, IsR (Scalar.select p
    (Scalar.select q (Scalar.select r (Ideal.ofBits .f32 0x40C00000#32) (Ideal.ofBits .f32 0x40800000#32))
      (Scalar.select r (Ideal.ofBits .f32 0x40400000#32) (Ideal.ofBits .f32 0x40000000#32)))
    (Scalar.select q (Scalar.select r (Ideal.ofBits .f32 0x3FC00000#32) (Ideal.ofBits .f32 0x3F800000#32))
      (Scalar.select r (Ideal.ofBits .f32 0x3F000000#32) (Ideal.ofBits .f32 0x00000000#32)))) := fun p q r =>
    .select (.select (.select (h _ (by simp)) (h _ (by simp))) (.select (h _ (by simp)) (h _ (by simp))))
      (.select (.select (h _ (by simp)) (h _ (by simp))) (.select (h _ (by simp)) (h _ (by simp))))
  exact .select (.sub (h _ (by simp)) (mag _ _ _)) (mag _ _ _)

theorem erf_isR {x : EReal} (h : IsR x) : IsR (Ideal.erf x) := by obtain ⟨a, rfl⟩ := h; exact ⟨_, rfl⟩

theorem root_isR : IsR (Ideal.ofBits .f32 0x3F3504F3#32) := isR_of (by constructor <;> simp [Ideal.ofBits, Ideal.ieee, -EReal.coe_mul])

theorem act_isR {u : EReal} (h : IsR u) : IsR (act u) :=
  IsR.mul (IsR.mul ⟨_, half_bits⟩ h) (IsR.add ⟨1, by rw [Ideal.ofBits_one_f32]; rfl⟩ (erf_isR (h.mul root_isR)))

theorem gelu_eq {u : EReal} (h : IsR u) : gelu u = act u := by
  obtain ⟨e, he⟩ := erf_isR (h.mul root_isR)
  obtain ⟨a, rfl⟩ := h
  show Ideal.ofBits .f32 0x3F000000#32 * _ + Ideal.ofBits .f32 0x3F000000#32 * _ * Ideal.erf (_ * Ideal.ofBits .f32 0x3F3504F3#32) = _
  unfold act
  rw [he, half_bits, Ideal.ofBits_one_f32, ← EReal.coe_one, ← EReal.coe_add, ← EReal.coe_mul, ← EReal.coe_mul, ← EReal.coe_mul, ← EReal.coe_add]
  exact congrArg _ (by ring)

theorem rowScale_eq (a : EReal) : rowScale a = scaleOf a := by
  have e : Named.named (F := Ideal) (φ := .f32) Cert.KernelIdeal.κ "inv_f8_max" 0x3B124925#32 = ((1 / 448 : ℝ) : EReal) := rfl
  unfold rowScale scaleOf
  rw [max_bits, Ideal.div_coe (by norm_num), e]

theorem scaleOf_ne_zero (a : EReal) : scaleOf a ≠ 0 := by
  unfold scaleOf Scalar.select
  rw [max_bits, Ideal.div_coe (by norm_num), Ideal.ofBits_one_f32, Ideal.ofBits_zero_f32]
  split
  · exact one_ne_zero
  · rename_i h
    refine mul_ne_zero (fun ha => h ?_) ?_
    · rw [ha]; show BitVec.ofBool (decide ((0 : EReal) = 0)) = 1#1; simp
    · exact_mod_cast (by norm_num : (1 / 448 : ℝ) ≠ 0)

theorem abs_nonneg (g : EReal) : 0 ≤ max g (-g) := by
  rcases le_total 0 g with h | h
  · exact le_max_of_le_left h
  · exact le_max_of_le_right (by rw [← EReal.neg_le_neg_iff, neg_neg, neg_zero]; exact h)

/-! ## The weights, the scales and the activation of finite arguments -/

variable {x : Args}

theorem w1_isR (k : Fin 1280) (n : Fin 5120) : IsR (w1 x k n) := (e2m1_isR _).mul ⟨_, pow2_eq _⟩

theorem pre_isR (h : x.Tame) (r : Fin 1536) (n : Fin 5120) : IsR ((∑ k, x.a r k * w1 x k n) * x.rs r + x.b1 n) :=
  ((IsR.sum _ _ fun k => (isR_of (h.a r k)).mul (w1_isR k n)).mul (isR_of (h.rs r))).add (isR_of (h.b1 n))

end Cert.Value

end
-- ==== Proof.Value.Layer.lean ====
/- What the kernel's blocks hold, against the layer's functions of the arguments. -/
module

public import proofs.«01_k».proof.Proof.Value.Math

@[expose] public section

noncomputable section

namespace Cert.Value

open Idealize.ShloMosaic Idealize.ShloMosaic.ValueIdx Cert.KernelIdeal Cert.KernelIdeal.Gen

/-- A column of the 5120, by its block of 512 and its place there. -/
abbrev colOf (j : Fin 10) (q : Fin 512) : Fin 5120 := ⟨512 * j.val + q.val, by omega⟩

/-- The kernel's input blocks are those of the arguments `x`. -/
structure Blocks (m : (ℓ : Loc nD τ sig) → Buf (Elt Ideal) ℓ) (c : Dev nD) (x : Args) : Prop where
  e1 : ∀ t r k, x1 m c t (ix2 r k) = x.a r k
  e2 : ∀ t r l, x2 m c t (ix2 r l) = x.rs r
  e3 : ∀ t r l, x3 m c t (ix2 r l) = x.h1 r l
  e4 : ∀ (j : Fin 10) k (q : Fin 512), x4 m c (pt j.val) (ix2 k q) = x.c1 k (⟨512 * (j.val % 5) + q.val, by omega⟩ : Fin 2560)
  e5 : ∀ t k n, x5 m c t (ix2 k n) = x.s1 k n
  e6 : ∀ t n, x6 m c t (ix2 (0 : Fin 1) n) = x.b1 n
  e7 : ∀ (k : Fin 10) (q : Fin 512) n, x7 m c (pt (k.val + 10)) (ix2 q n) = x.c2 (colOf k q) n
  e8 : ∀ t k n, x8 m c t (ix2 k n) = x.s2 k n
  e9 : ∀ t n, x9 m c t (ix2 (0 : Fin 1) n) = x.b2 n

variable {m : (ℓ : Loc nD τ sig) → Buf (Elt Ideal) ℓ} {c : Dev nD} {x : Args} (B : Blocks m c x) (T : x.Tame)
include B T

theorem wOne_eq (j : Fin 10) (k : Fin 1280) (q : Fin 512) :
    wOne j (x4 m c (pt j.val)) (scTab (x5 m c (pt 0))) (ix2 k q) = w1 x k (colOf j q) := by
  show nibVal (decide (5 ≤ j.val)) (x4 m c (pt j.val) (ix2 k q)) * scaleVal (x5 m c (pt 0) (ix2 (⟨8 * (k.val / 256) + k.val % 256 / 32, _⟩ : Fin 40) (colOf j q))) = _
  rw [B.e4, B.e5, nibVal_eq, scaleVal_eq _ (T.s1 _ _).1 (T.s1 _ _).2]
  unfold w1
  have hd : decide (5 ≤ j.val) = decide (2560 ≤ (colOf j q).val) := decide_eq_decide.2 (by show _ ↔ 2560 ≤ 512 * j.val + q.val; omega)
  rw [hd]
  have ha : (⟨512 * (j.val % 5) + q.val, by omega⟩ : Fin 2560) = ⟨(colOf j q).val % 2560, Nat.mod_lt _ (by decide)⟩ :=
    Fin.ext (by show 512 * (j.val % 5) + q.val = (512 * j.val + q.val) % 2560; omega)
  have hb : (⟨8 * (k.val / 256) + k.val % 256 / 32, by omega⟩ : Fin 40) = ⟨k.val / 32, by omega⟩ :=
    Fin.ext (by show 8 * (k.val / 256) + k.val % 256 / 32 = k.val / 32; omega)
  exact congrArg₂ (· * ·) (congrArg (fun z => e2m1 (half _ (x.c1 k z))) ha) (congrArg (fun z => pow2 (x.s1 z _)) hb)

theorem hidAt_eq (j : Fin 10) (r : Fin 1536) (q : Fin 512) : hidAt m c j r q = hidden x r (colOf j q) := by
  unfold hidAt hid hidden
  rw [← gelu_eq (pre_isR T r (colOf j q)), B.e2, B.e6]
  congr 3
  exact Finset.sum_congr rfl fun k _ => by rw [B.e1, wOne_eq B T]

theorem maxAt_le (n : Nat) (hn : n ≤ 10) (r : Fin 1536) (l : Fin 128) (b : EReal) : maxAt m c n (ix2 r l) ≤ b ↔
    0 ≤ b ∧ ∀ j : Fin 10, j.val < n → ∀ t : Fin 4,
      max (hidden x r (colOf j (⟨128 * t.val + l.val, by omega⟩ : Fin 512))) (-hidden x r (colOf j (⟨128 * t.val + l.val, by omega⟩ : Fin 512))) ≤ b := by
  induction n with
  | zero => exact ⟨fun h => ⟨h, fun j hj => absurd hj (Nat.not_lt_zero _)⟩, fun h => h.1⟩
  | succ n ih =>
    rw [maxAt, dif_pos (by omega : n < 10)]
    have e : ∀ t : Fin 4, hidAt m c ⟨n, by omega⟩ r (⟨128 * t.val + l.val, by omega⟩ : Fin 512)
        = hidden x r (colOf ⟨n, by omega⟩ (⟨128 * t.val + l.val, by omega⟩ : Fin 512)) := fun t => hidAt_eq B T _ _ _
    show max (max (max (max (maxAt m c n (ix2 r l)) (max (hidAt m c ⟨n, _⟩ r (⟨128 * (0 : Fin 4).val + l.val, _⟩ : Fin 512)) (-hidAt m c ⟨n, _⟩ r (⟨128 * (0 : Fin 4).val + l.val, _⟩ : Fin 512))))
      (max (hidAt m c ⟨n, _⟩ r (⟨128 * (1 : Fin 4).val + l.val, _⟩ : Fin 512)) (-hidAt m c ⟨n, _⟩ r (⟨128 * (1 : Fin 4).val + l.val, _⟩ : Fin 512))))
      (max (hidAt m c ⟨n, _⟩ r (⟨128 * (2 : Fin 4).val + l.val, _⟩ : Fin 512)) (-hidAt m c ⟨n, _⟩ r (⟨128 * (2 : Fin 4).val + l.val, _⟩ : Fin 512))))
      (max (hidAt m c ⟨n, _⟩ r (⟨128 * (3 : Fin 4).val + l.val, _⟩ : Fin 512)) (-hidAt m c ⟨n, _⟩ r (⟨128 * (3 : Fin 4).val + l.val, _⟩ : Fin 512))) ≤ b ↔ _
    rw [e 0, e 1, e 2, e 3]
    simp only [max_le_iff (a := max (max (max _ _) _) _), max_le_iff (a := max (max _ _) _), max_le_iff (a := max _ _), max_le_iff (a := maxAt m c n _), ih (by omega)]
    constructor
    · rintro ⟨⟨⟨⟨⟨h0, hj⟩, a0⟩, a1⟩, a2⟩, a3⟩
      refine ⟨h0, fun j hjn t => ?_⟩
      by_cases hlt : j.val < n
      · exact hj j hlt t
      · have hjn' : j = ⟨n, by omega⟩ := Fin.ext (by show j.val = n; omega)
        rw [hjn']
        match t with
        | 0 => exact a0
        | 1 => exact a1
        | 2 => exact a2
        | 3 => exact a3
    · rintro ⟨h0, hj⟩
      have a := fun t => hj ⟨n, by omega⟩ (Nat.lt_succ_self n) t
      exact ⟨⟨⟨⟨⟨h0, fun j hlt t => hj j (Nat.lt_succ_of_lt hlt) t⟩, a 0⟩, a 1⟩, a 2⟩, a 3⟩

theorem top_eq (r : Fin 1536) : rowTop (fun l => maxAt m c 10 (ix2 r l)) = top x r := by
  refine eq_of_forall_ge_iff fun b => ?_
  unfold rowTop top
  rw [Finset.fold_max_le, Finset.fold_max_le]
  refine and_congr_right fun _ => ⟨fun h n _ => ?_, fun h l _ => ?_⟩
  · have := ((maxAt_le B T 10 le_rfl r (⟨n.val % 128, by omega⟩ : Fin 128) b).1 (h _ (Finset.mem_univ _))).2 (⟨n.val / 512, by omega⟩ : Fin 10) (by show n.val / 512 < 10; omega)
      (⟨n.val % 512 / 128, by omega⟩ : Fin 4)
    have e : colOf (⟨n.val / 512, by omega⟩ : Fin 10) (⟨128 * (n.val % 512 / 128) + n.val % 128, by omega⟩ : Fin 512) = n :=
      Fin.ext (by show 512 * (n.val / 512) + (128 * (n.val % 512 / 128) + n.val % 128) = n.val; omega)
    rw [← e]; exact this
  · exact (maxAt_le B T 10 le_rfl r l b).2 ⟨(abs_nonneg _).trans (h 0 (Finset.mem_univ _)), fun j _ t => h _ (Finset.mem_univ _)⟩

theorem scaleAt_eq (r : Fin 1536) : scaleAt m c r = scale x r := by
  unfold scaleAt scales scale
  rw [rowScale_eq, top_eq B T]

theorem codeAt_eq (k : Fin 10) (r : Fin 1536) (q : Fin 512) : codeAt m c k r q = code x r (colOf k q) := by
  have e : hidden x r (colOf k q) * Ideal.div (Ideal.ofBits .f32 0x3F800000#32) (scale x r) = Ideal.div (hidden x r (colOf k q)) (scale x r) := by
    rw [Ideal.ofBits_one_f32]; exact Ideal.mul_one_div (scaleOf_ne_zero _)
  unfold codeAt code
  rw [hidAt_eq B T, ← e]
  show clip8 (_ * Ideal.div (Ideal.ofBits .f32 0x3F800000#32) (scaleAt m c r)) = _
  rw [scaleAt_eq B T]
  rfl

theorem wTwo_eq (k : Fin 10) (q : Fin 512) (n : Fin 1280) :
    wTwo k (x7 m c (pt (k.val + 10))) (sdTab (x8 m c (pt 0))) (ix2 q n) = w2 x (colOf k q) n := by
  show nibVal (decide (640 ≤ n.val)) (x7 m c (pt (k.val + 10)) (ix2 q (⟨n.val % 640, _⟩ : Fin 640)))
    * scaleVal (x8 m c (pt 0) (ix2 (⟨8 * (2 * k.val + q.val / 256) + q.val % 256 / 32, _⟩ : Fin 160) n)) = _
  rw [B.e7, B.e8, nibVal_eq, scaleVal_eq _ (T.s2 _ _).1 (T.s2 _ _).2]
  unfold w2
  have hb : (⟨8 * (2 * k.val + q.val / 256) + q.val % 256 / 32, by omega⟩ : Fin 160) = ⟨(colOf k q).val / 32, by omega⟩ :=
    Fin.ext (by show 8 * (2 * k.val + q.val / 256) + q.val % 256 / 32 = (512 * k.val + q.val) / 32; omega)
  exact congrArg (fun z => _ * pow2 (x.s2 z n)) hb

/-- The second product over the columns of one block. -/
def part (x : Args) (r : Fin 1536) (n : Fin 1280) (k : Fin 10) : EReal := ∑ q : Fin 512, code x r (colOf k q) * w2 x (colOf k q) n

theorem accAt_eq (n : Nat) (hn : n < 10) (t : Fin 10) (r : Fin 1536) (l : Fin 128) :
    accAt m c (n + 1) (ix3 t r l) = ∑ k ∈ Finset.univ.filter (fun k : Fin 10 => k.val < n + 1), part x r (⟨128 * t.val + l.val, by omega⟩ : Fin 1280) k := by
  have step : ∀ k : Fin 10, prodTwo k (x7 m c (pt (k.val + 10))) (sdTab (x8 m c (pt 0))) (codeAt m c k) r (⟨128 * t.val + l.val, by omega⟩ : Fin 1280)
      = part x r (⟨128 * t.val + l.val, by omega⟩ : Fin 1280) k := fun k =>
    Finset.sum_congr rfl fun q _ => by rw [codeAt_eq B T, wTwo_eq B T]
  have split : ∀ n (hn : n < 10), Finset.univ.filter (fun k : Fin 10 => k.val < n + 1) = insert ⟨n, hn⟩ (Finset.univ.filter fun k : Fin 10 => k.val < n) := by
    intro n hn
    ext k
    simp only [Finset.mem_filter, Finset.mem_univ, true_and, Finset.mem_insert, Fin.ext_iff]
    omega
  have hnot : ∀ n (hn : n < 10), (⟨n, hn⟩ : Fin 10) ∉ Finset.univ.filter fun k : Fin 10 => k.val < n := by
    intro n hn; simp
  induction n with
  | zero =>
    rw [accAt, dif_pos hn, split 0 hn, Finset.sum_insert (hnot 0 hn)]
    have e : (Finset.univ.filter fun k : Fin 10 => k.val < 0) = ∅ := by simp
    rw [e, Finset.sum_empty, add_zero]
    exact step ⟨0, hn⟩
  | succ n ih =>
    rw [accAt, dif_pos hn, split (n + 1) hn, Finset.sum_insert (hnot _ hn), ← ih (by omega) step, add_comm (part _ _ _ _)]
    exact congrArg (accAt m c (n + 1) (ix3 t r l) + ·) (step ⟨n + 1, hn⟩)

omit B T in
/-- A sum over the 5120 columns is the sum of the sums over the blocks. -/
theorem sum_cols (f : Fin 5120 → EReal) : ∑ n, f n = ∑ k : Fin 10, ∑ q : Fin 512, f (colOf k q) := by
  rw [← Fintype.sum_prod_type' (f := fun k q => f (colOf k q))]
  refine (Fintype.sum_equiv (⟨fun p => colOf p.1 p.2, fun n => ((⟨n.val / 512, by omega⟩ : Fin 10), (⟨n.val % 512, by omega⟩ : Fin 512)), ?_, ?_⟩ : Fin 10 × Fin 512 ≃ Fin 5120) _ _ fun p => rfl).symm
  · rintro ⟨k, q⟩
    exact Prod.ext (Fin.ext (by show (512 * k.val + q.val) / 512 = k.val; omega)) (Fin.ext (by show (512 * k.val + q.val) % 512 = q.val; omega))
  · intro n; exact Fin.ext (by show 512 * (n.val / 512) + n.val % 512 = n.val; omega)

theorem outAt_eq (t : Fin 10) (r : Fin 1536) (l : Fin 128) : outAt m c t r l = out x r (⟨128 * t.val + l.val, by omega⟩ : Fin 1280) := by
  unfold outAt resid out
  rw [B.e3, B.e9, accAt_eq B T 9 (by omega), sum_cols]
  have e : (Finset.univ.filter fun k : Fin 10 => k.val < 9 + 1) = Finset.univ := Finset.filter_true_of_mem fun k _ => k.isLt
  rw [e]
  show _ + (_ * scaleAt m c r + _) = _
  rw [scaleAt_eq B T]
  rfl

end Cert.Value

end
-- ==== Proof.Value.KArgs.lean ====
/- The idealized kernel's input blocks, as the arguments. -/
module

public import proofs.«01_k».proof.Proof.Value.Layer
public import proofs.«01_k».proof.Proof.Mlp.Run
public import Idealize.ShloMosaic.Lib.Pipeline.ValueKit

@[expose] public section

set_option maxRecDepth 16384

noncomputable section

namespace Cert.Value

open Idealize.ShloMosaic hiding ix1 ix2 ix3
open Idealize.ShloMosaic.ValueIdx Idealize.ShloMosaic.TcCoe Cert.KernelIdeal Cert.KernelIdeal.Gen

/-- The layer's arguments, from the argument arrays. -/
def mkArgs (A0 : (⟨2, ![1536, 1280]⟩ : Shape).Idx → EReal) (A1 : (⟨1, ![1536]⟩ : Shape).Idx → EReal) (A2 : (⟨2, ![1536, 1280]⟩ : Shape).Idx → EReal)
    (A3 : (⟨2, ![1280, 2560]⟩ : Shape).Idx → BitVec 8) (A4 : (⟨2, ![40, 5120]⟩ : Shape).Idx → BitVec 8) (A5 : (⟨1, ![5120]⟩ : Shape).Idx → EReal)
    (A6 : (⟨2, ![5120, 640]⟩ : Shape).Idx → BitVec 8) (A7 : (⟨2, ![160, 1280]⟩ : Shape).Idx → BitVec 8) (A8 : (⟨1, ![1280]⟩ : Shape).Idx → EReal) : Args where
  a r k := A0 (ix2 r k)
  rs r := A1 (ix1 r)
  h1 r l := A2 (ix2 r l)
  c1 k n := A3 (ix2 k n)
  s1 k n := A4 (ix2 k n)
  b1 n := A5 (ix1 n)
  c2 q n := A6 (ix2 q n)
  s2 k n := A7 (ix2 k n)
  b2 n := A8 (ix1 n)

variable (m : (ℓ : Loc nD τ sig) → Buf (Elt Ideal) ℓ) (c : Dev nD)

/-- The arguments of the idealized kernel. -/
def kargs : Args := mkArgs (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) (m ((c : Thread nD τ).loc main_arg8))

theorem idx_zero : ∀ t : Fin grid0.N, (win0_0.index t = ![0, 0] ∧ win0_1.index t = ![0, 0] ∧ win0_2.index t = ![0, 0]) ∧ (win0_4.index t = ![0, 0] ∧ win0_5.index t = ![0, 0])
    ∧ win0_7.index t = ![0, 0] ∧ win0_8.index t = ![0, 0] := by decide +kernel

theorem idx3 : ∀ j : Fin 10, win0_3.index (pt j.val : Fin grid0.N) = ![0, j.val % 5] := by decide +kernel

theorem idx6 : ∀ k : Fin 10, win0_6.index (pt (k.val + 10) : Fin grid0.N) = ![k.val, 0] := by decide +kernel

theorem e1 (t) (r : Fin 1536) (k : Fin 1280) : x1 m c t (ix2 r k) = (kargs m c).a r k := by
  show iblk m c 0 t (ix2 r k) = m ((c : Thread nD τ).loc main_arg0) (ix2 r k)
  blk_ext [iblk, V, (idx_zero t).1.1]

theorem e2 (t) (r : Fin 1536) (l : Fin 128) : x2 m c t (ix2 r l) = (kargs m c).rs r := by
  show iblk m c 1 t (ix2 r l) = m ((c : Thread nD τ).loc main_arg1) (ix1 r)
  blk_simp [iblk, (idx_zero t).1.2.1]
  entry_read
  pointwise
  blk_ext [iblk, V, (idx_zero t).1.2.1]

theorem e3 (t) (r : Fin 1536) (k : Fin 1280) : x3 m c t (ix2 r k) = (kargs m c).h1 r k := by
  show iblk m c 2 t (ix2 r k) = m ((c : Thread nD τ).loc main_arg2) (ix2 r k)
  blk_ext [iblk, V, (idx_zero t).1.2.2]

theorem e4 (j : Fin 10) (k : Fin 1280) (q : Fin 512) : x4 m c (pt j.val) (ix2 k q) = (kargs m c).c1 k (⟨512 * (j.val % 5) + q.val, by omega⟩ : Fin 2560) := by
  show iblk m c 3 (pt j.val) (ix2 k q) = m ((c : Thread nD τ).loc main_arg3) (ix2 k (⟨512 * (j.val % 5) + q.val, by omega⟩ : Fin 2560))
  blk_ext [iblk, V, idx3 j]
  show j.val % 5 * 512 + q.val = 512 * (j.val % 5) + q.val
  omega

theorem e5 (t) (k : Fin 40) (n : Fin 5120) : x5 m c t (ix2 k n) = (kargs m c).s1 k n := by
  show iblk m c 4 t (ix2 k n) = m ((c : Thread nD τ).loc main_arg4) (ix2 k n)
  blk_ext [iblk, V, (idx_zero t).2.1.1]

theorem e6 (t) (n : Fin 5120) : x6 m c t (ix2 (0 : Fin 1) n) = (kargs m c).b1 n := by
  show iblk m c 5 t (ix2 (0 : Fin 1) n) = m ((c : Thread nD τ).loc main_arg5) (ix1 n)
  blk_simp [iblk, (idx_zero t).2.1.2]
  entry_read
  pointwise
  blk_ext [iblk, V, (idx_zero t).2.1.2]

theorem e7 (k : Fin 10) (q : Fin 512) (n : Fin 640) : x7 m c (pt (k.val + 10)) (ix2 q n) = (kargs m c).c2 (colOf k q) n := by
  show iblk m c 6 (pt (k.val + 10)) (ix2 q n) = m ((c : Thread nD τ).loc main_arg6) (ix2 (colOf k q) n)
  blk_ext [iblk, V, idx6 k]
  show k.val * 512 + q.val = 512 * k.val + q.val
  omega

theorem e8 (t) (k : Fin 160) (n : Fin 1280) : x8 m c t (ix2 k n) = (kargs m c).s2 k n := by
  show iblk m c 7 t (ix2 k n) = m ((c : Thread nD τ).loc main_arg7) (ix2 k n)
  blk_ext [iblk, V, (idx_zero t).2.2.1]

theorem e9 (t) (n : Fin 1280) : x9 m c t (ix2 (0 : Fin 1) n) = (kargs m c).b2 n := by
  show iblk m c 8 t (ix2 (0 : Fin 1) n) = m ((c : Thread nD τ).loc main_arg8) (ix1 n)
  blk_simp [iblk, (idx_zero t).2.2.2]
  entry_read
  pointwise
  blk_ext [iblk, V, (idx_zero t).2.2.2]

theorem blocks : Blocks m c (kargs m c) := ⟨e1 m c, e2 m c, e3 m c, e4 m c, e5 m c, e6 m c, e7 m c, e8 m c, e9 m c⟩

end Cert.Value

end
-- ==== Proof.Value.KOut.lean ====
/- The idealized kernel's output arrays, as the layer's functions of the arguments. -/
module

public import proofs.«01_k».proof.Proof.Value.KArgs
public import Idealize.ShloMosaic.Lib.Pipeline.ArrRel
public import Idealize.ShloMosaic.Lib.Pipeline.DatRel

@[expose] public section

set_option maxRecDepth 16384

noncomputable section

namespace Cert.Value

open Idealize.ShloMosaic hiding ix1 ix2 ix3
open Idealize.ShloMosaic.ValueIdx Idealize.ShloMosaic.TcCoe Cert.KernelIdeal Cert.KernelIdeal.Gen
open Idealize.ShloMosaic.Pipeline (Dat RDat)

/-- The four results, of the arguments. -/
def G0 (x : Args) : (⟨2, ![1536, 5120]⟩ : Shape).Idx → EReal := fun y => code x (y 0) (y 1)
def G1 (x : Args) : (⟨2, ![1, 1536]⟩ : Shape).Idx → EReal := fun y => scale x (y 1)
def G2 (x : Args) : (⟨2, ![1536, 1280]⟩ : Shape).Idx → EReal := fun y => out x (y 0) (y 1)
def G3 (x : Args) : (⟨3, ![10, 1536, 128]⟩ : Shape).Idx → EReal := fun y =>
  out x (y 1) (⟨128 * (y 0).val + (y 2).val, by have h0 : (y 0).val < 10 := (y 0).isLt; have h2 : (y 2).val < 128 := (y 2).isLt; omega⟩ : Fin 1280)

variable (m : (ℓ : Loc nD τ sig) → Buf (Elt Ideal) ℓ) (c : Dev nD) (T : (kargs m c).Tame)
  (after : (w' : Fin cfg0.W) → Fin cfg0.N → (cfg0.win w').block.Idx → Elt Ideal (cfg0.win w').elt)
  (hL : ∀ (w : Fin cfg0.W) (u : Fin cfg0.N), (cfg0.win w).flush u = true → (rdat m c).Leaves w u (after w u))

theorem flush9 : ∀ t : Fin grid0.N, win0_9.flush t = true → 10 ≤ t.val := by decide +kernel

theorem idx9 : ∀ t : Fin grid0.N, 10 ≤ t.val → win0_9.index t = ![0, t.val - 10] := by decide +kernel

include T hL

theorem arr9 : ((rdat m c).withAfter after).arrAt 9 cfg0.N = G0 (kargs m c) := by
  refine ((rdat m c).withAfter after).arrAt_eq_of_covers 9 _ (by decide +kernel) fun t hf y => ?_
  have h10 := flush9 t hf
  have ht : t.val < 20 := t.isLt
  obtain ⟨k, hk⟩ : ∃ k : Fin 10, t.val = k.val + 10 := ⟨⟨t.val - 10, by omega⟩, by show t.val = t.val - 10 + 10; omega⟩
  have hX : Rel9 m c t (after 9 t) := Dat.toRRel_leaves _ (by rfl) (hL 9 _ hf)
  rw [RDat.withAfter_after, hX k hk]
  show codeAt m c k (y 0) (y 1) = code (kargs m c) _ _
  refine (codeAt_eq (blocks m c) T k (y 0) (y 1)).trans ?_
  refine congrArg₂ (code (kargs m c)) (Fin.ext ?_) (Fin.ext ?_)
  · blk_simp [idx9 t h10]
  · blk_simp [idx9 t h10]
    show 512 * k.val + (y 1).val = (t.val - 10) * 512 + (y 1).val
    omega

theorem arr10 : ((rdat m c).withAfter after).arrAt 10 cfg0.N = G1 (kargs m c) := by
  refine ((rdat m c).withAfter after).arrAt_eq_of_after_last 10 (pt 19) (by decide +kernel) _ fun j => ?_
  have hX : Rel10 m c (pt 19) (after 10 (pt 19)) := Dat.toRRel_leaves _ (by rfl) (hL 10 _ (by decide +kernel))
  blk_simp
  rw [RDat.withAfter_after, hX (by decide)]
  exact scaleAt_eq (blocks m c) T (j 1)

theorem arr11 : ((rdat m c).withAfter after).arrAt 11 cfg0.N = G2 (kargs m c) := by
  refine ((rdat m c).withAfter after).arrAt_eq_of_after_last 11 (pt 19) (by decide +kernel) _ fun j => ?_
  have hX : Rel11 m c (pt 19) (after 11 (pt 19)) := Dat.toRRel_leaves _ (by rfl) (hL 11 _ (by decide +kernel))
  blk_simp
  rw [RDat.withAfter_after, hX (by decide)]
  have hj : (j 1).val < 1280 := (j 1).isLt
  refine (outAt_eq (blocks m c) T (⟨(j 1).val / 128, by omega⟩ : Fin 10) (j 0) (lane (j 1).val)).trans ?_
  refine congrArg (out (kargs m c) (j 0)) (Fin.ext ?_)
  show 128 * ((j 1).val / 128) + (j 1).val % 128 = (j 1).val
  omega

theorem arr12 : ((rdat m c).withAfter after).arrAt 12 cfg0.N = G3 (kargs m c) := by
  refine ((rdat m c).withAfter after).arrAt_eq_of_after_last 12 (pt 19) (by decide +kernel) _ fun j => ?_
  have hX : Rel12 m c (pt 19) (after 12 (pt 19)) := Dat.toRRel_leaves _ (by rfl) (hL 12 _ (by decide +kernel))
  blk_simp
  rw [RDat.withAfter_after, hX (by decide)]
  rw [if_pos (by rfl)]
  exact outAt_eq (blocks m c) T (j 0) (j 1) (j 2)

end Cert.Value

end
-- ==== Proof.Value.RefRun.lean ====
/- The reference's output arrays, as the layer's functions of the arguments. -/
module

public import proofs.«01_k».proof.Proof.Value.RefVal
public import proofs.«01_k».proof.Proof.Value.KOut

@[expose] public section

set_option maxRecDepth 16384

noncomputable section

namespace Cert.Value.Ref

open Idealize.ShloMosaic hiding ix1 ix2 ix3
open Idealize.ShloMosaic.ValueIdx Idealize.ShloMosaic.TcCoe Cert.ReferenceIdeal Cert.ReferenceIdeal.Gen Cert.Value
open Idealize.ShloMosaic.Pipeline (Dat RDat)

variable (m : (ℓ : Loc nD τ sig) → Buf (Elt Ideal) ℓ) (c : Dev nD)

/-- The arguments of the reference. -/
def rargs : Args := mkArgs (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) (m ((c : Thread nD τ).loc main_arg8))

theorem idx_zero : ∀ t : Fin grid0.N, (win0_0.index t = ![0, 0] ∧ win0_1.index t = ![0, 0] ∧ win0_2.index t = ![0, 0]) ∧ (win0_3.index t = ![0, 0] ∧ win0_4.index t = ![0, 0] ∧ win0_5.index t = ![0, 0])
    ∧ win0_6.index t = ![0, 0] ∧ win0_7.index t = ![0, 0] ∧ win0_8.index t = ![0, 0] := by decide +kernel

theorem e1 (t : Fin cfg0.N) (r : Fin 1536) (k : Fin 1280) : iblk m c 0 t (ix2 r k) = (rargs m c).a r k := by
  show iblk m c 0 t (ix2 r k) = m ((c : Thread nD τ).loc main_arg0) (ix2 r k)
  blk_ext [iblk, V, (idx_zero t).1.1]

theorem e2 (t : Fin cfg0.N) (r : Fin 1536) : iblk m c 1 t (ix2 r (0 : Fin 1)) = (rargs m c).rs r := by
  show iblk m c 1 t (ix2 r (0 : Fin 1)) = m ((c : Thread nD τ).loc main_arg1) (ix1 r)
  blk_simp [iblk, (idx_zero t).1.2.1]
  entry_read
  pointwise
  blk_ext [iblk, V, (idx_zero t).1.2.1]

theorem e3 (t : Fin cfg0.N) (r : Fin 1536) (k : Fin 1280) : iblk m c 2 t (ix2 r k) = (rargs m c).h1 r k := by
  show iblk m c 2 t (ix2 r k) = m ((c : Thread nD τ).loc main_arg2) (ix2 r k)
  blk_ext [iblk, V, (idx_zero t).1.2.2]

theorem e4 (t : Fin cfg0.N) (k : Fin 1280) (n : Fin 2560) : iblk m c 3 t (ix2 k n) = (rargs m c).c1 k n := by
  show iblk m c 3 t (ix2 k n) = m ((c : Thread nD τ).loc main_arg3) (ix2 k n)
  blk_ext [iblk, V, (idx_zero t).2.1.1]

theorem e5 (t : Fin cfg0.N) (k : Fin 40) (n : Fin 5120) : iblk m c 4 t (ix2 k n) = (rargs m c).s1 k n := by
  show iblk m c 4 t (ix2 k n) = m ((c : Thread nD τ).loc main_arg4) (ix2 k n)
  blk_ext [iblk, V, (idx_zero t).2.1.2.1]

theorem e6 (t : Fin cfg0.N) (n : Fin 5120) : iblk m c 5 t (ix2 (0 : Fin 1) n) = (rargs m c).b1 n := by
  show iblk m c 5 t (ix2 (0 : Fin 1) n) = m ((c : Thread nD τ).loc main_arg5) (ix1 n)
  blk_simp [iblk, (idx_zero t).2.1.2.2]
  entry_read
  pointwise
  blk_ext [iblk, V, (idx_zero t).2.1.2.2]

theorem e7 (t : Fin cfg0.N) (q : Fin 5120) (n : Fin 640) : iblk m c 6 t (ix2 q n) = (rargs m c).c2 q n := by
  show iblk m c 6 t (ix2 q n) = m ((c : Thread nD τ).loc main_arg6) (ix2 q n)
  blk_ext [iblk, V, (idx_zero t).2.2.1]

theorem e8 (t : Fin cfg0.N) (k : Fin 160) (n : Fin 1280) : iblk m c 7 t (ix2 k n) = (rargs m c).s2 k n := by
  show iblk m c 7 t (ix2 k n) = m ((c : Thread nD τ).loc main_arg7) (ix2 k n)
  blk_ext [iblk, V, (idx_zero t).2.2.2.1]

theorem e9 (t : Fin cfg0.N) (n : Fin 1280) : iblk m c 8 t (ix2 (0 : Fin 1) n) = (rargs m c).b2 n := by
  show iblk m c 8 t (ix2 (0 : Fin 1) n) = m ((c : Thread nD τ).loc main_arg8) (ix1 n)
  blk_simp [iblk, (idx_zero t).2.2.2.2]
  entry_read
  pointwise
  blk_ext [iblk, V, (idx_zero t).2.2.2.2]

/-- The one point. -/
abbrev p0 : Fin cfg0.N := ⟨0, by decide +kernel⟩

theorem holds : Holds (iblk m c 0 p0) (iblk m c 1 p0) (iblk m c 2 p0) (iblk m c 3 p0) (iblk m c 4 p0) (iblk m c 5 p0) (iblk m c 6 p0) (iblk m c 7 p0) (iblk m c 8 p0) (rargs m c) :=
  ⟨e1 m c p0, e2 m c p0, e3 m c p0, e4 m c p0, e5 m c p0, e6 m c p0, e7 m c p0, e8 m c p0, e9 m c p0⟩

theorem arr9 : (dats m 0 c).arrAt 9 cfg0.N = G0 (rargs m c) := by
  refine (dats m 0 c).arrAt_eq_of_after_last 9 p0 (by decide +kernel) _ fun j => ?_
  blk_simp
  rw [after0_9, out9_eq]
  obtain ⟨r, n, rfl⟩ : ∃ (r : Fin 1536) (n : Fin 5120), j = ix2 r n := ⟨j 0, j 1, ValueIdx.eq_ix2 j⟩
  exact quants_apply (holds m c) r n

theorem arr10 : (dats m 0 c).arrAt 10 cfg0.N = G1 (rargs m c) := by
  refine (dats m 0 c).arrAt_eq_of_after_last 10 p0 (by decide +kernel) _ fun j => ?_
  blk_simp
  rw [after0_10]
  obtain ⟨r, n, rfl⟩ : ∃ (r : Fin 1) (n : Fin 1536), j = ix2 r n := ⟨j 0, j 1, ValueIdx.eq_ix2 j⟩
  obtain rfl : r = 0 := Subsingleton.elim _ _
  exact (out10_apply _ _ _ _ _ _ _ _ _ n).trans (scales_apply (holds m c) n)

theorem arr11 : (dats m 0 c).arrAt 11 cfg0.N = G2 (rargs m c) := by
  refine (dats m 0 c).arrAt_eq_of_after_last 11 p0 (by decide +kernel) _ fun j => ?_
  blk_simp
  rw [after0_11, out11_eq]
  obtain ⟨r, n, rfl⟩ : ∃ (r : Fin 1536) (n : Fin 1280), j = ix2 r n := ⟨j 0, j 1, ValueIdx.eq_ix2 j⟩
  exact res_apply (holds m c) r n

theorem arr12 : (dats m 0 c).arrAt 12 cfg0.N = G3 (rargs m c) := by
  refine (dats m 0 c).arrAt_eq_of_after_last 12 p0 (by decide +kernel) _ fun j => ?_
  blk_simp
  rw [after0_12]
  obtain ⟨t, r, l, rfl⟩ : ∃ (t : Fin 10) (r : Fin 1536) (l : Fin 128), j = ix3 t r l := ⟨j 0, j 1, j 2, ValueIdx.eq_ix3 j⟩
  exact (out12_apply _ _ _ _ _ _ _ _ _ t r l).trans (res_apply (holds m c) r _)

end Cert.Value.Ref

end
-- ==== Proof.Value.Pre.lean ====
/- What the precondition says of the arguments. -/
module

public import proofs.«01_k».proof.Proof.Value.KArgs
public import proofs.«01_k».proof.Proof.Gen.Pre_tame
public import Idealize.ShloMosaic.Lib.ReduceAll
public import Idealize.ShloMosaic.Lib.StableHlo.Predicate

@[expose] public section

set_option maxRecDepth 16384

noncomputable section

namespace Cert.Value

open Idealize.ShloMosaic hiding ix1 ix2 ix3
open Idealize.ShloMosaic.ValueIdx Cert.Value

theorem and_left {a b : BitVec 1} (h : IntOp.andi a b = 1#1) : a = 1#1 := by
  revert a b; decide
theorem and_right {a b : BitVec 1} (h : IntOp.andi a b = 1#1) : b = 1#1 := by
  revert a b; decide

/-- A bound below infinity, decoded. -/
theorem finite_of {u : EReal} (h : FloatOps.cmpf (F := Ideal) (φ := .f32) .olt (max u (-u)) (Ideal.ofBits .f32 0x7F800000#32) = 1#1) : u ≠ ⊥ ∧ u ≠ ⊤ := by
  rw [inf_bits] at h
  have h' : BitVec.ofBool (decide (max u (-u) < (⊤ : EReal))) = 1#1 := h
  have hlt : max u (-u) < (⊤ : EReal) := by
    by_contra hc
    rw [decide_eq_false hc] at h'
    exact absurd h' (by decide)
  constructor
  · rintro rfl
    rw [EReal.neg_bot] at hlt
    exact absurd (lt_of_le_of_lt (le_max_right _ _) hlt) (lt_irrefl _)
  · rintro rfl
    exact absurd (lt_of_le_of_lt (le_max_left _ _) hlt) (lt_irrefl _)

/-- A code's bounds, decoded. -/
theorem range_of {b : BitVec 8} (h1 : IntOp.cmpi .sge (b.setWidth 32) 1#32 = 1#1) (h2 : IntOp.cmpi .sle (b.setWidth 32) 254#32 = 1#1) : 1 ≤ b.toNat ∧ b.toNat ≤ 254 := by
  revert b; decide

theorem tame_of (A0 : FVec Ideal Pre_tame.S1536x1280 .bf16) (A1 : FVec Ideal Pre_tame.S1536 .f32) (A2 : FVec Ideal Pre_tame.S1536x1280 .f32) (A3 : IVec Pre_tame.S1280x2560 8) (A4 : IVec Pre_tame.S40x5120 8)
    (A5 : FVec Ideal Pre_tame.S5120 .f32) (A6 : IVec Pre_tame.S5120x640 8) (A7 : IVec Pre_tame.S160x1280 8) (A8 : FVec Ideal Pre_tame.S1280 .f32)
    [Pre_tame.Facts] (h : Pre_tame.fn (F := Ideal) A0 A1 A2 A3 A4 A5 A6 A7 A8 = fun _ => 1#1) : (mkArgs A0 A1 A2 A3 A4 A5 A6 A7 A8).Tame := by
  have h := congrFun h (fun a => a.elim0)
  unfold Pre_tame.fn Pre_tame.fn_part1 at h
  have hs2 := and_right h
  have h := and_left h
  have hs1 := and_right h
  have h := and_left h
  have hb := and_right h
  have h := and_left h
  have hr := and_right h
  have ha := and_left h
  constructor
  · intro r k
    have := Host.reduce_andi_all _ _ _ _ _ ha (ix2 r k)
    exact finite_of this
  · intro r
    exact finite_of (Host.reduce_andi_all _ _ _ _ _ hr (ix1 r))
  · intro n
    exact finite_of (Host.reduce_andi_all _ _ _ _ _ hb (ix1 n))
  · intro k n
    have := Host.reduce_andi_all _ _ _ _ _ hs1 (ix2 k n)
    exact range_of (and_left this) (and_right this)
  · intro k n
    have := Host.reduce_andi_all _ _ _ _ _ hs2 (ix2 k n)
    exact range_of (and_left this) (and_right this)

end Cert.Value

end
-- ==== Proof.Value.Pair.lean ====
/- The two programs give the same results. -/
module

public import proofs.«01_k».proof.Defs
public import proofs.«01_k».proof.Proof.Value.RefRun
public import proofs.«01_k».proof.Proof.Value.Pre

@[expose] public section

noncomputable section

namespace Cert.Value

open Idealize.ShloMosaic hiding ix1 ix2 ix3
open Idealize.ShloMosaic.TcCoe Idealize.SL.Sem

/-- The results of the idealized kernel, of any memory its precondition admits. -/
theorem kernel_results (m : (ℓ : Loc Cert.KernelIdeal.nD Cert.KernelIdeal.τ Cert.KernelIdeal.sig) → Buf (Elt Ideal) ℓ) (T : ∀ c, (kargs m c).Tame)
    (r : PUnit × MemSt Cert.KernelIdeal.nD Cert.KernelIdeal.τ Cert.KernelIdeal.sig (Elt Ideal))
    (h : Pipeline.RDat.FramePost (Cert.KernelIdeal.cfgs 0) (Cert.KernelIdeal.Gen.rdat m) (Cert.KernelIdeal.Gen.V m) r) (c : Dev Cert.KernelIdeal.nD) :
    r.2.mem ((c.tc : Thread Cert.KernelIdeal.nD Cert.KernelIdeal.τ).loc Cert.KernelIdeal.main_v4_0) = G0 (kargs m c)
      ∧ r.2.mem ((c.tc : Thread Cert.KernelIdeal.nD Cert.KernelIdeal.τ).loc Cert.KernelIdeal.main_v4_1) = G1 (kargs m c)
      ∧ r.2.mem ((c.tc : Thread Cert.KernelIdeal.nD Cert.KernelIdeal.τ).loc Cert.KernelIdeal.main_v4_2) = G2 (kargs m c)
      ∧ r.2.mem ((c.tc : Thread Cert.KernelIdeal.nD Cert.KernelIdeal.τ).loc Cert.KernelIdeal.main_v4_3) = G3 (kargs m c) := by
  obtain ⟨after, hL, hA⟩ := h.exists_exact c
  exact ⟨(hA 9).trans (arr9 m c (T c) after hL), (hA 10).trans (arr10 m c (T c) after hL), (hA 11).trans (arr11 m c (T c) after hL), (hA 12).trans (arr12 m c (T c) after hL)⟩

theorem algebraic : @Cert.algebraic_KernelIdeal_ReferenceIdeal_pre_tame Cert.KernelIdeal.Gen.facts Cert.ReferenceIdeal.Gen.facts Cert.Pre_tame.Gen.facts := by
  intro m g m' g' hpre hagree
  have T : ∀ c, (kargs m c).Tame := fun c => tame_of _ _ _ _ _ _ _ _ _ (hpre c)
  have hargs : ∀ c, Ref.rargs m' c = kargs m c := fun c => by
    obtain ⟨h0, h1, h2, h3, h4, h5, h6, h7, h8⟩ := hagree c
    unfold Ref.rargs kargs
    rw [h0, h1, h2, h3, h4, h5, h6, h7, h8]
  refine ⟨fun c => G0 (kargs m c), fun c => G1 (kargs m c), fun c => G2 (kargs m c), fun c => G3 (kargs m c), ?_, ?_⟩
  · refine (θ_run Cert.KernelIdeal.defs _ _).mono (fun r h c => ?_) (Cert.KernelIdeal.Gen.run_main_quiescent m g)
    obtain ⟨r0, r1, r2, r3⟩ := kernel_results m T r h.1 c
    exact ⟨r0, r1, r2, r3, Cert.KernelIdeal.Gen.unchanged_of m r h.1 c⟩
  · refine (θ_run Cert.ReferenceIdeal.defs _ _).mono (fun r h c => ?_) (Cert.ReferenceIdeal.Value.run_blocks m' g')
    obtain ⟨r0, r1, r2, r3, hrest⟩ := h c
    exact ⟨r0.trans ((Ref.arr9 m' c).trans (congrArg G0 (hargs c))), r1.trans ((Ref.arr10 m' c).trans (congrArg G1 (hargs c))),
      r2.trans ((Ref.arr11 m' c).trans (congrArg G2 (hargs c))), r3.trans ((Ref.arr12 m' c).trans (congrArg G3 (hargs c))), hrest⟩

end Cert.Value

end
-- ==== Proof.Oproj.RefBlocks.lean ====
/- The output product reference: its frame run with each output array named. -/
module

public import proofs.«01_k».proof.Proof.Gen.OprojReferenceIdeal.Frame
public import Idealize.ShloMosaic.Lib.Pipeline.Value

@[expose] public section

noncomputable section

namespace Cert.OprojReferenceIdeal.Value

open Cert.OprojReferenceIdeal Cert.OprojReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v3_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v3_3) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v3_4) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v3_5) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v3_6) = (dats m 0 c).arrAt 13 cfg0.N :=
  (h c).1 13

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 7 cfg0.N
      ∧ r.2.mem ((c : Thread nD τ).loc main_v3_1) = (dats m 0 c).arrAt 8 cfg0.N
      ∧ r.2.mem ((c : Thread nD τ).loc main_v3_2) = (dats m 0 c).arrAt 9 cfg0.N
      ∧ r.2.mem ((c : Thread nD τ).loc main_v3_3) = (dats m 0 c).arrAt 10 cfg0.N
      ∧ r.2.mem ((c : Thread nD τ).loc main_v3_4) = (dats m 0 c).arrAt 11 cfg0.N
      ∧ r.2.mem ((c : Thread nD τ).loc main_v3_5) = (dats m 0 c).arrAt 12 cfg0.N
      ∧ r.2.mem ((c : Thread nD τ).loc main_v3_6) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      post11 m r h c,
      post12 m r h c,
      post13 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.OprojReferenceIdeal.Value
-- ==== Proof.Oproj.Spec.lean ====
/- The output product's call as functions of its seven arguments, and the equations that relate the two programs' row functions. -/
module

public import proofs.«01_k».proof.Proof.Value.Math
public import proofs.«01_k».proof.Proof.Value.RefVal

@[expose] public section

noncomputable section

namespace Cert.OutProj

open Idealize.ShloMosaic hiding ix1 ix2 ix3
open Idealize.ShloMosaic.ValueIdx Cert.Value

/-- The seven arguments. -/
structure Args where
  at' : Fin 10 → Fin 1536 → Fin 128 → EReal
  x : Fin 1536 → Fin 1280 → EReal
  c : Fin 1280 → Fin 640 → BitVec 8
  s : Fin 40 → Fin 1280 → BitVec 8
  b : Fin 1280 → EReal
  g : Fin 1280 → EReal
  b2 : Fin 1280 → EReal

/-- What is asked of them: block scales that are powers of two of the f32 range. -/
structure Args.Tame (x : Args) : Prop where
  s : ∀ k n, 1 ≤ (x.s k n).toNat ∧ (x.s k n).toNat ≤ 254

/-- A row's largest magnitude. -/
def top (f : Fin 1280 → EReal) : EReal := (Finset.univ : Finset (Fin 1280)).fold max (Ideal.ofBits .f32 0xFF800000#32) fun n => max (f n) (-f n)

/-- A row's scale and codes. -/
def rscale (f : Fin 1280 → EReal) : EReal := scaleOf (top f)
def rcode (f : Fin 1280 → EReal) (n : Fin 1280) : EReal := clip (Ideal.div (f n) (rscale f))

/-- A row's mean, its deviations, and their spread. -/
def mean (f : Fin 1280 → EReal) : EReal := Ideal.div (∑ n, f n) (Ideal.ofBits .f32 0x44A00000#32)
def dev (f : Fin 1280 → EReal) (n : Fin 1280) : EReal := f n - mean f
def root (f : Fin 1280 → EReal) : EReal := Ideal.sqrt (mean (fun n => dev f n * dev f n) + Ideal.ofBits .f32 0x3727C5AC#32)

/-- A row's layer norm. -/
def norm (f g b : Fin 1280 → EReal) (n : Fin 1280) : EReal := Ideal.div (dev f n) (root f) * g n + b n

variable (x : Args)

/-- The attention's rows. -/
def attn (r : Fin 1536) (n : Fin 1280) : EReal := x.at' (⟨n.val / 128, by omega⟩ : Fin 10) r (⟨n.val % 128, Nat.mod_lt _ (by decide)⟩ : Fin 128)

/-- The weights: the codes of columns 640 on are the high halves of the bytes. -/
def w (k : Fin 1280) (n : Fin 1280) : EReal :=
  e2m1 (half (decide (640 ≤ n.val)) (x.c k (⟨n.val % 640, Nat.mod_lt _ (by decide)⟩ : Fin 640))) * pow2 (x.s (⟨k.val / 32, by omega⟩ : Fin 40) n)

/-- h1, and its layer norm. -/
def h1 (r : Fin 1536) (n : Fin 1280) : EReal := x.x r n + ((∑ k, rcode (attn x r) k * w x k n) * rscale (attn x r) + x.b n)
def ln (r : Fin 1536) (n : Fin 1280) : EReal := norm (h1 x r) x.g x.b2 n

/-- The seven results. -/
def G0 : (⟨2, ![1536, 1280]⟩ : Shape).Idx → EReal := fun y => rcode (attn x (y 0)) (y 1)
def G1 : (⟨2, ![1, 1536]⟩ : Shape).Idx → EReal := fun y => rscale (attn x (y 1))
def G2 : (⟨2, ![1536, 1280]⟩ : Shape).Idx → EReal := fun y => h1 x (y 0) (y 1)
def G3 : (⟨2, ![1536, 1280]⟩ : Shape).Idx → EReal := fun y => rcode (ln x (y 0)) (y 1)
def G4 : (⟨2, ![1, 1536]⟩ : Shape).Idx → EReal := fun y => rscale (ln x (y 1))
def G6 : (⟨2, ![1536, 128]⟩ : Shape).Idx → EReal := fun y => rscale (ln x (y 0))

/-! ## The equations -/

/-- Times the inverse is the quotient, off zero. -/
theorem mul_inv_div {s v : EReal} (h : s ≠ 0) : v * Ideal.div (Ideal.ofBits .f32 0x3F800000#32) s = Ideal.div v s := by
  rw [Ideal.ofBits_one_f32]; exact Ideal.mul_one_div h

/-- The quantiser as the kernel has it. -/
theorem kcode_eq (f : Fin 1280 → EReal) (n : Fin 1280) :
    clip (f n * Ideal.div (Ideal.ofBits .f32 0x3F800000#32) (rscale f)) = rcode f n := by
  rw [mul_inv_div (show rscale f ≠ 0 from scaleOf_ne_zero _)]; rfl

theorem sq_nonneg' (d : EReal) : 0 ≤ d * d := by
  rcases le_total 0 d with h | h
  · exact mul_nonneg h h
  · have := EReal.mul_nonneg_iff (a := d) (b := d)
    exact this.2 (Or.inr ⟨h, h⟩)

theorem count_bits : Ideal.ofBits .f32 0x44A00000#32 = ((1280 : ℝ) : EReal) := by
  simp [Ideal.ofBits, Ideal.ieee, -EReal.coe_mul]; norm_num

theorem eps_pos : ∃ e : ℝ, 0 < e ∧ Ideal.ofBits .f32 0x3727C5AC#32 = ((e : ℝ) : EReal) := by
  refine ⟨(2606508 + 8388608 : ℝ) * (2 : ℝ) ^ (-40 : ℤ), by positivity, ?_⟩
  simp [Ideal.ofBits, Ideal.ieee, -EReal.coe_mul]
  norm_num

theorem sqrt_ne_zero {u : EReal} (h : 0 < u) : Ideal.sqrt u ≠ 0 := by
  induction u with
  | bot => exact absurd h (by simp)
  | top => show (⊤ : EReal) ≠ 0; exact EReal.top_ne_zero
  | coe r =>
    have hr : 0 < r := EReal.coe_pos.1 h
    show (if r < 0 then (⊥ : EReal) else (Real.sqrt r : EReal)) ≠ 0
    rw [if_neg (not_lt.2 hr.le)]
    exact fun e => (Real.sqrt_pos.2 hr).ne' (EReal.coe_eq_zero.1 e)

theorem root_ne_zero (f : Fin 1280 → EReal) : root f ≠ 0 := by
  unfold root
  refine sqrt_ne_zero ?_
  obtain ⟨e, he, hb⟩ := eps_pos
  rw [hb]
  refine lt_of_lt_of_le (EReal.coe_pos.2 he) ?_
  have hm : 0 ≤ mean fun n => dev f n * dev f n := by
    unfold mean
    rw [count_bits, Ideal.div_coe (by norm_num)]
    exact mul_nonneg (Finset.sum_nonneg fun n _ => sq_nonneg' _) (EReal.coe_nonneg.2 (by norm_num))
  calc ((e : ℝ) : EReal) = 0 + e := (zero_add _).symm
    _ ≤ _ := add_le_add_left hm _

/-- The layer norm as the kernel has it. -/
theorem knorm_eq (f g b : Fin 1280 → EReal) (n : Fin 1280) :
    dev f n * Ideal.div (Ideal.ofBits .f32 0x3F800000#32) (root f) * g n + b n = norm f g b n := by
  rw [mul_inv_div (root_ne_zero _)]; rfl

/-! ## Row functions of blocks -/

/-- The largest magnitudes of a block's rows. -/
theorem top_apply {R : Nat} (P : (⟨2, ![R, 1280]⟩ : Shape).Idx → EReal) (h1 : (⟨2, ![R, 1280]⟩ : Shape).Reduces [1] ⟨1, ![R]⟩)
    (h2 : (⟨1, ![R]⟩ : Shape).ShapeCasts ⟨2, ![R, 1]⟩) (r : Fin R) :
    shapeCast (⟨2, ![R, 1]⟩ : Shape) (multiReduction (F := Ideal) (φ := .f32) .maximumf [1] (⟨1, ![R]⟩ : Shape) (absf (F := Ideal) (φ := .f32) P) 0xFF800000#32 h1 (.inl rfl) rfl) h2 (ix2 r (0 : Fin 1))
      = top fun n => P (ix2 r n) := by
  rw [shapeCast_a_a1_apply]
  refine (Ideal.multiReduction_maximumf_single _ _ h1 _ _ _).trans ?_
  unfold top
  refine congrArg (fun f => Finset.fold max _ f Finset.univ) (funext fun n => ?_)
  refine congrArg (fun y => max (P y) (-P y)) ?_
  funext a
  match a with
  | ⟨0, _⟩ => rfl
  | ⟨1, _⟩ => rfl

/-- The sums of a block's rows. -/
theorem sum_apply {R : Nat} (P : (⟨2, ![R, 1280]⟩ : Shape).Idx → EReal) (h1 : (⟨2, ![R, 1280]⟩ : Shape).Reduces [1] ⟨1, ![R]⟩)
    (h2 : (⟨1, ![R]⟩ : Shape).ShapeCasts ⟨2, ![R, 1]⟩) (r : Fin R) :
    shapeCast (⟨2, ![R, 1]⟩ : Shape) (multiReduction (F := Ideal) (φ := .f32) .add [1] (⟨1, ![R]⟩ : Shape) P 0x00000000#32 h1 (.inl rfl) rfl) h2 (ix2 r (0 : Fin 1))
      = ∑ n, P (ix2 r n) := by
  rw [shapeCast_a_a1_apply]
  refine (Ideal.multiReduction_add_single _ _ h1 _ _ _).trans ?_
  refine Finset.sum_congr rfl fun n _ => congrArg P ?_
  funext a
  match a with
  | ⟨0, _⟩ => rfl
  | ⟨1, _⟩ => rfl

end Cert.OutProj

end
-- ==== Proof.Oproj.Rows.lean ====
/- The row quantiser and the layer norm of a block of rows, as the two programs write them. -/
module

public import proofs.«01_k».proof.Proof.Oproj.Spec

@[expose] public section

noncomputable section

namespace Cert.OutProj

open Idealize.ShloMosaic hiding ix1 ix2 ix3
open Idealize.ShloMosaic.ValueIdx Cert.Value Cert.Value.Ref

/-- A column broadcast along the rows. -/
def wide {R N : Nat} (S : (⟨2, ![R, 1]⟩ : Shape).Idx → EReal) (h : (⟨2, ![R, 1]⟩ : Shape).Broadcasts ⟨2, ![R, N]⟩) : (⟨2, ![R, N]⟩ : Shape).Idx → EReal :=
  broadcastTo ⟨2, ![R, N]⟩ S h

/-- The scale of a column of largest magnitudes, by division … -/
theorem scale_div {s : Shape} (T : FVec Ideal s .f32) :
    select (cmpf (F := Ideal) (φ := .f32) .oeq T (broadcast s (Scalar.ofBits .f32 0x00000000#32))) (broadcast s (Scalar.ofBits (F := Ideal) .f32 0x3F800000#32))
      (divf (F := Ideal) (φ := .f32) T (broadcast s (Scalar.ofBits .f32 0x43E00000#32))) = fun y => scaleOf (T y) := by
  unfold scaleOf
  simp only [ofBits_eq]
  generalize Ideal.ofBits .f32 0x00000000#32 = a
  generalize Ideal.ofBits .f32 0x43E00000#32 = b
  generalize Ideal.ofBits .f32 0x3F800000#32 = d
  rfl

/-- … and by the inverse of the bound. -/
theorem scale_mul {s : Shape} (T : FVec Ideal s .f32) (k : Ideal .f32) (hk : k = ((1 / 448 : ℝ) : EReal)) :
    select (cmpf (F := Ideal) (φ := .f32) .oeq T (broadcast s (Scalar.ofBits .f32 0x00000000#32))) (broadcast s (Scalar.ofBits (F := Ideal) .f32 0x3F800000#32))
      (mulf (F := Ideal) (φ := .f32) T (broadcast s k)) = fun y => scaleOf (T y) := by
  subst hk
  unfold scaleOf
  have e : ∀ a : EReal, Ideal.div a (Ideal.ofBits .f32 0x43E00000#32) = a * ((1 / 448 : ℝ) : EReal) := fun a => by
    rw [max_bits, Ideal.div_coe (by norm_num)]
  simp only [ofBits_eq, e]
  generalize Ideal.ofBits .f32 0x00000000#32 = a
  generalize Ideal.ofBits .f32 0x3F800000#32 = d
  rfl

/-- The quotient clipped … -/
theorem quant_div {s : Shape} (P D : FVec Ideal s .f32) (h) :
    truncf (F := Ideal) (φ := .f32) .fp8e4m3 (minimumf (broadcast s (Scalar.ofBits .f32 0x43E00000#32)) (maximumf (broadcast s (Scalar.ofBits .f32 0xC3E00000#32)) (divf (F := Ideal) (φ := .f32) P D))) h
      = fun y => clip (Ideal.div (P y) (D y)) := by
  unfold clip
  simp only [ofBits_eq]
  generalize Ideal.ofBits .f32 0xC3E00000#32 = a
  generalize Ideal.ofBits .f32 0x43E00000#32 = b
  rfl

/-- … and the product. -/
theorem quant_mul {s : Shape} (P D : FVec Ideal s .f32) (h) :
    truncf (F := Ideal) (φ := .f32) .fp8e4m3 (minimumf (broadcast s (Scalar.ofBits .f32 0x43E00000#32)) (maximumf (broadcast s (Scalar.ofBits .f32 0xC3E00000#32)) (mulf (F := Ideal) (φ := .f32) P D))) h
      = fun y => clip (P y * D y) := by
  unfold clip
  simp only [ofBits_eq]
  generalize Ideal.ofBits .f32 0xC3E00000#32 = a
  generalize Ideal.ofBits .f32 0x43E00000#32 = b
  rfl

variable {R : Nat} (P : FVec Ideal (⟨2, ![R, 1280]⟩ : Shape) .f32) (h1 : (⟨2, ![R, 1280]⟩ : Shape).Reduces [1] ⟨1, ![R]⟩)
    (h2 : (⟨1, ![R]⟩ : Shape).ShapeCasts ⟨2, ![R, 1]⟩) (h3 : (⟨2, ![R, 1]⟩ : Shape).Broadcasts ⟨2, ![R, 1280]⟩)

/-- The means of a block's rows. -/
def means : FVec Ideal (⟨2, ![R, 1]⟩ : Shape) .f32 :=
  divf (F := Ideal) (φ := .f32) (shapeCast (⟨2, ![R, 1]⟩ : Shape) (multiReduction (F := Ideal) (φ := .f32) .add [1] (⟨1, ![R]⟩ : Shape) P 0x00000000#32 h1 (.inl rfl) rfl) h2)
    (broadcast (⟨2, ![R, 1]⟩ : Shape) (Scalar.ofBits .f32 0x44A00000#32))

theorem means_apply (r : Fin R) : means P h1 h2 (ix2 r (0 : Fin 1)) = mean fun n => P (ix2 r n) := by
  have e := sum_apply P h1 h2 r
  unfold means mean
  rw [← e]
  rfl

/-- Their deviations. -/
def devs : FVec Ideal (⟨2, ![R, 1280]⟩ : Shape) .f32 := subf (F := Ideal) (φ := .f32) P (broadcastTo (⟨2, ![R, 1280]⟩ : Shape) (means P h1 h2) h3)

theorem devs_apply (r : Fin R) (n : Fin 1280) : devs P h1 h2 h3 (ix2 r n) = dev (fun n => P (ix2 r n)) n := by
  unfold dev
  rw [← means_apply P h1 h2 r]
  unfold devs
  exact congrArg (P (ix2 r n) - ·) (col_apply (R := R) (N := 1280) _ h3 r n)

/-- The roots of their spreads. -/
def roots : FVec Ideal (⟨2, ![R, 1]⟩ : Shape) .f32 :=
  sqrt (F := Ideal) (φ := .f32) (addf (F := Ideal) (φ := .f32) (means (mulf (F := Ideal) (φ := .f32) (devs P h1 h2 h3) (devs P h1 h2 h3)) h1 h2) (broadcast (⟨2, ![R, 1]⟩ : Shape) (Scalar.ofBits .f32 0x3727C5AC#32)))

theorem roots_apply (r : Fin R) : roots P h1 h2 h3 (ix2 r (0 : Fin 1)) = root fun n => P (ix2 r n) := by
  have e := means_apply (mulf (F := Ideal) (φ := .f32) (devs P h1 h2 h3) (devs P h1 h2 h3)) h1 h2 r
  have e' : (fun n => mulf (F := Ideal) (φ := .f32) (devs P h1 h2 h3) (devs P h1 h2 h3) (ix2 r n)) = fun n => dev (fun n => P (ix2 r n)) n * dev (fun n => P (ix2 r n)) n :=
    funext fun n => by rw [← devs_apply P h1 h2 h3 r n]; rfl
  rw [e'] at e
  unfold root
  rw [← e]
  rfl

variable (h4 : (⟨2, ![1, 1280]⟩ : Shape).Broadcasts ⟨2, ![R, 1280]⟩) (h5 : (⟨2, ![1, 1280]⟩ : Shape).ShapeCasts ⟨2, ![1, 1280]⟩) (g b : FVec Ideal (⟨2, ![1, 1280]⟩ : Shape) .f32)

/-- The layer norm by division … -/
theorem norm_div (r : Fin R) (n : Fin 1280) :
    addf (F := Ideal) (φ := .f32) (mulf (F := Ideal) (φ := .f32) (divf (F := Ideal) (φ := .f32) (devs P h1 h2 h3) (broadcastTo (⟨2, ![R, 1280]⟩ : Shape) (roots P h1 h2 h3) h3))
        (broadcastTo (⟨2, ![R, 1280]⟩ : Shape) (shapeCast (⟨2, ![1, 1280]⟩ : Shape) g h5) h4)) (broadcastTo (⟨2, ![R, 1280]⟩ : Shape) (shapeCast (⟨2, ![1, 1280]⟩ : Shape) b h5) h4) (ix2 r n)
      = norm (fun n => P (ix2 r n)) (fun n => g (ix2 (0 : Fin 1) n)) (fun n => b (ix2 (0 : Fin 1) n)) n := by
  rw [shapeCast_self, shapeCast_self]
  refine congrArg₂ (· + ·) (congrArg₂ (· * ·) (congrArg₂ Ideal.div (devs_apply P h1 h2 h3 r n) ?_) ?_) ?_
  · exact (col_apply (R := R) (N := 1280) _ h3 r n).trans (roots_apply P h1 h2 h3 r)
  · exact broadcastTo_1b_ab_apply (a := R) (b := 1280) _ _ r n
  · exact broadcastTo_1b_ab_apply (a := R) (b := 1280) _ _ r n

/-- … and by the inverse. -/
theorem norm_mul (r : Fin R) (n : Fin 1280) :
    addf (F := Ideal) (φ := .f32) (mulf (F := Ideal) (φ := .f32) (mulf (F := Ideal) (φ := .f32) (devs P h1 h2 h3)
          (broadcastTo (⟨2, ![R, 1280]⟩ : Shape) (divf (F := Ideal) (φ := .f32) (broadcast (⟨2, ![R, 1]⟩ : Shape) (Scalar.ofBits .f32 0x3F800000#32)) (roots P h1 h2 h3)) h3))
        (broadcastTo (⟨2, ![R, 1280]⟩ : Shape) (shapeCast (⟨2, ![1, 1280]⟩ : Shape) g h5) h4)) (broadcastTo (⟨2, ![R, 1280]⟩ : Shape) (shapeCast (⟨2, ![1, 1280]⟩ : Shape) b h5) h4) (ix2 r n)
      = norm (fun n => P (ix2 r n)) (fun n => g (ix2 (0 : Fin 1) n)) (fun n => b (ix2 (0 : Fin 1) n)) n := by
  rw [shapeCast_self, shapeCast_self, ← knorm_eq]
  refine congrArg₂ (· + ·) (congrArg₂ (· * ·) (congrArg₂ (· * ·) (devs_apply P h1 h2 h3 r n) ?_) ?_) ?_
  · refine (col_apply (R := R) (N := 1280) _ h3 r n).trans ?_
    rw [← roots_apply P h1 h2 h3 r]
    rfl
  · exact broadcastTo_1b_ab_apply (a := R) (b := 1280) _ _ r n
  · exact broadcastTo_1b_ab_apply (a := R) (b := 1280) _ _ r n

end Cert.OutProj

end
-- ==== Proof.Oproj.KBody.lean ====
/- What the output product's kernel computes of a block of 256 rows, by coordinates. -/
module

public import proofs.«01_k».proof.Proof.Oproj.Rows
public import proofs.«01_k».proof.Proof.Mlp.ScalesVal
public import proofs.«01_k».proof.Proof.Gen.OprojIdeal.Frame

@[expose] public section

set_option maxRecDepth 16384

noncomputable section

namespace Cert.OutProj

open Idealize.ShloMosaic hiding ix1 ix2 ix3
open Idealize.ShloMosaic.ValueIdx Cert.OprojIdeal Cert.OprojIdeal.Gen Cert.Value
open Cert.Value.Ref (col_apply)
open Cert.KernelIdeal.Gen (cmpi_eq_ne cmpi_eq_self sel_zero sel_one)

theorem inv_named : Named.named (F := Ideal) (φ := .f32) Cert.OprojIdeal.κ "inv_f8_max" 0x3B124925#32 = ((1 / 448 : ℝ) : EReal) := rfl

/-- The ten tiles side by side. -/
theorem rows_apply (T : Fin 10 → Vec Ideal S1x256x128 .f32) (r : Fin 256) (n : Fin 1280) :
    k0_pay415 (F := Ideal) (T 0) (T 1) (T 2) (T 3) (T 4) (T 5) (T 6) (T 7) (T 8) (T 9) (ix2 r n)
      = T (⟨n.val / 128, by omega⟩ : Fin 10) (ix3 (0 : Fin 1) r (⟨n.val % 128, Nat.mod_lt _ (by decide)⟩ : Fin 128)) := by
  unfold k0_pay415
  obtain ⟨q, hq⟩ : ∃ q : Fin 10, q.val = n.val / 128 := ⟨⟨n.val / 128, by omega⟩, rfl⟩
  have hq' : (⟨n.val / 128, by omega⟩ : Fin 10) = q := Fin.ext hq.symm
  rw [hq']
  refine (concatenate_apply_piece (t := S256x1280) 1 _ _ (ix2 r n) q.val (by exact q.isLt) S256x128 (shapeCast S256x128 (T q) shapeCasts_S1x256x128_S256x128) (by fin_cases q <;> rfl) rfl (128 * q.val)
    (by fin_cases q <;> rfl) (ix2 r (⟨n.val % 128, Nat.mod_lt _ (by decide)⟩ : Fin 128)) ?_ ?_).trans ?_
  · intro b hb
    match b with
    | ⟨0, _⟩ => rfl
    | ⟨1, _⟩ => exact absurd rfl hb
  · show 128 * q.val + n.val % 128 = n.val; omega
  · exact shapeCast_1ab_ab_apply _ _ _ _

/-- A block's row scales. -/
theorem bScale (V : FVec Ideal S256x1280 .f32) (r : Fin 256) : k0_pay417 (F := Ideal) (absf V) (ix2 r (0 : Fin 1)) = rscale fun n => V (ix2 r n) := by
  have e := top_apply (R := 256) V reduces_S256x1280_S256 shapeCasts_S256_S256x1 r
  unfold k0_pay417 rscale
  rw [← e]
  exact congrFun (scale_mul _ _ inv_named) _

theorem bScale2 (V : FVec Ideal S256x1280 .f32) (r : Fin 256) : k0_pay425 (F := Ideal) (absf V) (ix2 r (0 : Fin 1)) = rscale fun n => V (ix2 r n) := by
  have e := top_apply (R := 256) V reduces_S256x1280_S256 shapeCasts_S256_S256x1 r
  unfold k0_pay425 rscale
  rw [← e]
  exact congrFun (scale_mul _ _ inv_named) _

/-- Their inverses along the rows. -/
theorem inv_apply (S : FVec Ideal S256x1 .f32) (r : Fin 256) (n : Fin 1280) :
    broadcastTo S256x1280 (divf (F := Ideal) (φ := .f32) (broadcast S256x1 (Scalar.ofBits .f32 0x3F800000#32)) S) broadcasts_S256x1_S256x1280 (ix2 r n)
      = Ideal.div (Ideal.ofBits .f32 0x3F800000#32) (S (ix2 r (0 : Fin 1))) :=
  col_apply (R := 256) (N := 1280) _ _ r n

/-- A block's codes. -/
theorem bCode (V : FVec Ideal S256x1280 .f32) (r : Fin 256) (n : Fin 1280) : k0_pay418 (F := Ideal) V (absf V) (ix2 r n) = rcode (fun n => V (ix2 r n)) n := by
  have e := bScale V r
  rw [← kcode_eq, ← e]
  unfold k0_pay418
  generalize k0_pay417 (F := Ideal) (absf V) = S
  refine (congrFun (quant_mul V _ _) (ix2 r n)).trans ?_
  exact congrArg (fun d => clip (V (ix2 r n) * d)) (inv_apply S r n)

theorem bCode2 (V : FVec Ideal S256x1280 .f32) (r : Fin 256) (n : Fin 1280) : k0_pay426 (F := Ideal) V (absf V) (ix2 r n) = rcode (fun n => V (ix2 r n)) n := by
  have e := bScale2 V r
  rw [← kcode_eq, ← e]
  unfold k0_pay426
  generalize k0_pay425 (F := Ideal) (absf V) = S
  refine (congrFun (quant_mul V _ _) (ix2 r n)).trans ?_
  exact congrArg (fun d => clip (V (ix2 r n) * d)) (inv_apply S r n)

/-- A column laid out as a row, by summing the columns of a diagonal matrix. -/
theorem diag_apply (S : FVec Ideal S128x1 .f32) (l : Fin 128) :
    shapeCast S1x128 (multiReduction (F := Ideal) (φ := .f32) .add [0] S128 (select (cmpi .eq (iota .tc S128x128 32 [0] iota_S128x128_d0_w32) (iota .tc S128x128 32 [1] iota_S128x128_d1_w32))
        (broadcastTo S128x128 (shapeCast S128x1 S shapeCasts_S128x1_S128x1) broadcasts_S128x1_S128x128) (broadcast S128x128 (Scalar.ofBits (F := Ideal) .f32 0x00000000#32))) 0x00000000#32 reduces_S128x128_S128 (.inl rfl) rfl)
        shapeCasts_S128_S1x128 (ix2 (0 : Fin 1) l) = S (ix2 l (0 : Fin 1)) := by
  rw [shapeCast_self]
  refine (shapeCast_a_1a_apply _ _ _ _).trans ?_
  refine (Ideal.multiReduction_add_single _ _ reduces_S128x128_S128 _ _ _).trans ?_
  refine (Finset.sum_eq_single (l : Fin 128) ?_ ?_).trans ?_
  · intro k _ hk
    have : (reduces_S128x128_S128).lift (ix1 l) k = ix2 (k : Fin 128) l := by
      funext a; match a with | ⟨0, _⟩ => rfl | ⟨1, _⟩ => rfl
    rw [this]
    have hne : ¬ (BitVec.ofNat 32 (0 * 128 + (k : Fin 128).val) = BitVec.ofNat 32 (0 * 128 + l.val)) := by
      intro h
      have h' := congrArg BitVec.toNat h
      simp only [BitVec.toNat_ofNat] at h'
      have := l.isLt; have hk' : (k : Fin 128).val < 128 := k.isLt
      exact hk (Fin.ext (by omega))
    show Scalar.select (Scalar.cmpi .eq (BitVec.ofNat 32 (0 * 128 + (k : Fin 128).val)) (BitVec.ofNat 32 (0 * 128 + l.val))) _ _ = _
    rw [cmpi_eq_ne _ _ hne, sel_zero]
    exact Ideal.ofBits_zero_f32
  · intro h; exact absurd (Finset.mem_univ _) h
  · have : (reduces_S128x128_S128).lift (ix1 l) l = ix2 (l : Fin 128) l := by
      funext a; match a with | ⟨0, _⟩ => rfl | ⟨1, _⟩ => rfl
    rw [this]
    show Scalar.select (Scalar.cmpi .eq (BitVec.ofNat 32 (0 * 128 + l.val)) (BitVec.ofNat 32 (0 * 128 + l.val))) _ _ = _
    rw [cmpi_eq_self, sel_one]
    exact col_apply (R := 128) (N := 128) S _ l l

theorem cut_lo (S : FVec Ideal S256x1 .f32) (l : Fin 128) : extractStridedSlice S128x1 ![0, 0] S slices_S256x1_o0_0_S128x1 (ix2 l (0 : Fin 1)) = S (ix2 (⟨l.val, by omega⟩ : Fin 256) (0 : Fin 1)) :=
  extractStridedSlice_apply _ _ _ _ _ fun a => by
    match a with
    | ⟨0, _⟩ => show l.val = 0 + l.val; omega
    | ⟨1, _⟩ => rfl
theorem cut_hi (S : FVec Ideal S256x1 .f32) (l : Fin 128) : extractStridedSlice S128x1 ![128, 0] S slices_S256x1_o128_0_S128x1 (ix2 l (0 : Fin 1)) = S (ix2 (⟨128 + l.val, by omega⟩ : Fin 256) (0 : Fin 1)) :=
  extractStridedSlice_apply _ _ _ _ _ fun a => by
    match a with
    | ⟨0, _⟩ => rfl
    | ⟨1, _⟩ => rfl

theorem row419 (V : FVec Ideal S256x1280 .f32) (l : Fin 128) : k0_pay419 (F := Ideal) (absf V) (ix2 (0 : Fin 1) l) = rscale fun n => V (ix2 (⟨l.val, by omega⟩ : Fin 256) n) := by
  rw [← bScale V]
  unfold k0_pay419
  exact (diag_apply _ l).trans (cut_lo _ l)
theorem row420 (V : FVec Ideal S256x1280 .f32) (l : Fin 128) : k0_pay420 (F := Ideal) (absf V) (ix2 (0 : Fin 1) l) = rscale fun n => V (ix2 (⟨128 + l.val, by omega⟩ : Fin 256) n) := by
  rw [← bScale V]
  unfold k0_pay420
  exact (diag_apply _ l).trans (cut_hi _ l)
theorem row429 (V : FVec Ideal S256x1280 .f32) (l : Fin 128) : k0_pay429 (F := Ideal) (absf V) (ix2 (0 : Fin 1) l) = rscale fun n => V (ix2 (⟨l.val, by omega⟩ : Fin 256) n) := by
  rw [← bScale2 V]
  unfold k0_pay429
  exact (diag_apply _ l).trans (cut_lo _ l)
theorem row430 (V : FVec Ideal S256x1280 .f32) (l : Fin 128) : k0_pay1 (F := Ideal) (k0_pay430 (absf V)) k0_pay431 (ix2 (0 : Fin 1) l) = rscale fun n => V (ix2 (⟨128 + l.val, by omega⟩ : Fin 256) n) := by
  rw [← bScale2 V]
  unfold k0_pay1 k0_pay430 k0_pay431
  exact (diag_apply _ l).trans (cut_hi _ l)

/-- The scales along 128 lanes. -/
theorem bWide (V : FVec Ideal S256x1280 .f32) (r : Fin 256) (n : Fin 128) : k0_pay428 (F := Ideal) (absf V) (ix2 r n) = rscale fun n => V (ix2 r n) := by
  rw [← bScale2 V]
  unfold k0_pay428
  rw [shapeCast_self]
  exact col_apply (R := 256) (N := 128) _ _ r n

section
variable (V : FVec Ideal S256x1280 .f32) (W : Vec Ideal S1280x1280 .bf16) (X : Vec Ideal S256x1280 .bf16) (b g b2 : Vec Ideal S1x1280 .f32)

/-- h1 of a block's rows. -/
theorem bH1_apply (r : Fin 256) (n : Fin 1280) : k0_pay422 (F := Ideal) (k0_pay417 (absf V)) (k0_pay421 V (absf V)) W X b (ix2 r n)
    = X (ix2 r n) + ((∑ k : Fin 1280, rcode (fun n => V (ix2 r n)) k * W (ix2 k n)) * rscale (fun n => V (ix2 r n)) + b (ix2 (0 : Fin 1) n)) := by
  have hq : ∀ k, k0_pay421 (F := Ideal) V (absf V) (ix2 r k) = rcode (fun n => V (ix2 r n)) k := bCode V r
  have hs := bScale V r
  unfold k0_pay422
  rw [shapeCast_self]
  generalize k0_pay421 (F := Ideal) V (absf V) = Q at hq ⊢
  generalize k0_pay417 (F := Ideal) (absf V) = S at hs ⊢
  refine congrArg₂ (· + ·) rfl (congrArg₂ (· + ·) (congrArg₂ (· * ·) ?_ ?_) (broadcastTo_1b_ab_apply (a := 256) (b := 1280) _ _ r n))
  · refine (Ideal.matmul_plain_apply (M := 256) (K := 1280) (N := 1280) none _ _ _ _ _).trans ?_
    rw [show (constant S256x1280 .f32 0x00000000#32 : FVec Ideal S256x1280 .f32) (ix2 r n) = (0 : EReal) from Ideal.ofBits_zero_f32, zero_add]
    exact Finset.sum_congr rfl fun k _ => by rw [hq]
  · exact (col_apply (R := 256) (N := 1280) S _ r n).trans hs

/-- Their layer norm. -/
theorem bLn_apply (r : Fin 256) (n : Fin 1280) : k0_pay423 (F := Ideal) (k0_pay417 (absf V)) (k0_pay421 V (absf V)) W X b g b2 (ix2 r n)
    = norm (fun n => k0_pay422 (F := Ideal) (k0_pay417 (absf V)) (k0_pay421 V (absf V)) W X b (ix2 r n)) (fun n => g (ix2 (0 : Fin 1) n)) (fun n => b2 (ix2 (0 : Fin 1) n)) n := by
  unfold k0_pay423
  generalize k0_pay422 (F := Ideal) (k0_pay417 (absf V)) (k0_pay421 V (absf V)) W X b = P
  exact norm_mul (R := 256) P reduces_S256x1280_S256 shapeCasts_S256_S256x1 broadcasts_S256x1_S256x1280 broadcasts_S1x1280_S256x1280 shapeCasts_S1x1280_S1x1280 g b2 r n
end

end Cert.OutProj

end
-- ==== Proof.Oproj.KTab.lean ====
/- The weights that the first point of the output product decodes. -/
module

public import proofs.«01_k».proof.Proof.Mlp.TwoVal
public import proofs.«01_k».proof.Proof.Gen.OprojIdeal.Frame

@[expose] public section

set_option maxRecDepth 16384

noncomputable section

namespace Cert.OprojIdeal.Gen

open Idealize.ShloMosaic Idealize.ShloMosaic.TcCoe Idealize.ShloMosaic.Tactic
open Idealize.SL.Sem
open Idealize.ShloMosaic.ValueIdx
open Cert.KernelIdeal.Gen (tile tile_apply decBits decBits_apply wordTwo wordTwo_bit colTwo colTwo_le nibVal scaleVal readCov_family read_family shBy)

theorem wInb (hi : Bool) (t : Fin 5) (kb : Fin 5) : ∀ a, (![256 * kb.val, colTwo hi t] : Fin 2 → Nat) a + S256x128.size a ≤ S1280x1280.size a := by
  revert hi t kb; decide
theorem cInb (t : Fin 5) (kb : Fin 5) : ∀ a, (![256 * kb.val, 128 * t.val] : Fin 2 → Nat) a + S256x128.size a ≤ S1280x640.size a := by
  revert t kb; decide
theorem sInb (hi : Bool) (t : Fin 5) (kb : Fin 5) (q : Fin 8) : ∀ a, (![kb.val, q.val, colTwo hi t] : Fin 3 → Nat) a + S1x1x128.size a ≤ S5x8x1280.size a := by
  have := t.isLt; have := kb.isLt; have := q.isLt
  intro a
  match a with
  | ⟨0, _⟩ => show kb.val + 1 ≤ 5; omega
  | ⟨1, _⟩ => show q.val + 1 ≤ 8; omega
  | ⟨2, _⟩ => exact colTwo_le hi t
theorem tOff (kb : Fin 5) : ∀ a, (![kb.val, 0, 0] : Fin 3 → Nat) a + S1x8x1280.size a ≤ S5x8x1280.size a := by revert kb; decide
theorem tSl (kb : Fin 5) : S40x1280.Slices ![8 * kb.val, 0] S8x1280 := by revert kb; decide

section
variable {F : FTy → Type} [FloatOps F] [Named F]

/-- The store of eight rows of the block scales. -/
def tPiece (arg4 : Memref sig .tc .vmem S40x1280 .i8) (harg4 : arg4.IsWhole) (x3 : Vec F S40x1280 .i8) (kb : Fin 5) (_ : Fin 1) : View.Piece (Elt F) S5x8x1280 .f32 :=
  ⟨Rect.unit (s := S5x8x1280) ![kb.val, 0, 0] S1x8x1280.size (tOff kb),
    shapeCast S1x8x1280 (extractStridedSlice S8x1280 ![8 * kb.val, 0] (k0_pay2 (View.readAt (Elt F) arg4.view
      (Rect.unit (s := S40x1280) ![0, 0] S40x1280.size inb_S40x1280_S40x1280_0_0).toLoadRect (harg4.unread x3))) (tSl kb)) shapeCasts_S8x1280_S1x8x1280⟩

/-- All of them, the last first. -/
def tList (arg4 : Memref sig .tc .vmem S40x1280 .i8) (harg4 : arg4.IsWhole) (x3 : Vec F S40x1280 .i8) : List (View.Piece (Elt F) S5x8x1280 .f32) :=
  ([4, 3, 2, 1, 0] : List (Fin 5)).flatMap fun kb => ([0] : List (Fin 1)).map fun z => tPiece arg4 harg4 x3 kb z

/-- The store of a tile of the weights. -/
def wPiece (arg3 : Memref sig .tc .vmem S1280x640 .i8) (harg3 : arg3.IsWhole) (arg4 : Memref sig .tc .vmem S40x1280 .i8) (harg4 : arg4.IsWhole)
    (arg15 : Memref sig .tc .vmem S5x8x1280 .f32) (x2 : Vec F S1280x640 .i8) (x3 : Vec F S40x1280 .i8) (p : Fin 5 × Bool) (kb : Fin 5) : View.Piece (Elt F) S1280x1280 .bf16 :=
  ⟨Rect.unit (s := S1280x1280) ![256 * kb.val, colTwo p.2 p.1] S256x128.size (wInb p.2 p.1 kb),
   tile (decBits (wordTwo p.2 (bitcast S64x128 32 (View.readAt (Elt F) arg3.view
      (Rect.unit (s := S1280x640) ![256 * kb.val, 128 * p.1.val] S256x128.size (cInb p.1 kb)).toLoadRect (harg3.unread x2))
      bitcasts_S256x128_w8_S64x128_w32)))
    fun q => View.readCov arg15.view (tList arg4 harg4 x3)
      (Rect.unit (s := S5x8x1280) ![kb.val, q.val, colTwo p.2 p.1] S1x1x128.size (sInb p.2 p.1 kb q)).toLoadRect⟩

/-- All of them, the last first. -/
def wList (arg3 : Memref sig .tc .vmem S1280x640 .i8) (harg3 : arg3.IsWhole) (arg4 : Memref sig .tc .vmem S40x1280 .i8) (harg4 : arg4.IsWhole)
    (arg15 : Memref sig .tc .vmem S5x8x1280 .f32) (x2 : Vec F S1280x640 .i8) (x3 : Vec F S40x1280 .i8) : List (View.Piece (Elt F) S1280x1280 .bf16) :=
  ([(4, true), (4, false), (3, true), (3, false), (2, true), (2, false), (1, true), (1, false), (0, true), (0, false)] : List (Fin 5 × Bool)).flatMap
      fun p => ([4, 3, 2, 1, 0] : List (Fin 5)).map fun kb => wPiece arg3 harg3 arg4 harg4 arg15 x2 x3 p kb
end

/-! ## Their values -/

/-- The block scales as numbers, eight rows to a block of 256. -/
def tabV (x3 : Vec Ideal S40x1280 .i8) : Vec Ideal S5x8x1280 .f32 := fun y =>
  scaleVal (x3 (ix2 (⟨8 * (y 0).val + (y 1).val, by have h0 : (y 0).val < 5 := (y 0).isLt; have h1 : (y 1).val < 8 := (y 1).isLt; omega⟩ : Fin 40) (y 2)))

/-- The weights. -/
def wV (x2 : Vec Ideal S1280x640 .i8) (x3 : Vec Ideal S40x1280 .i8) : FVec Ideal S1280x1280 .bf16 := fun y =>
  nibVal (decide (640 ≤ (y 1).val)) (x2 (ix2 (y 0) (⟨(y 1).val % 640, Nat.mod_lt _ (by decide)⟩ : Fin 640)))
    * tabV x3 (ix3 (⟨(y 0).val / 256, by have h0 : (y 0).val < 1280 := (y 0).isLt; omega⟩ : Fin 5) (⟨(y 0).val % 256 / 32, by omega⟩ : Fin 8) (y 1))

theorem readAt_un {sp : Space} {s : Shape} {e : EltTy} {a : Memref sig .tc sp s e} (h : a.IsWhole) (r : Rect s) (d : Vec Ideal s e) :
    View.readAt (Elt Ideal) a.view r.toLoadRect (h.unread d) = View.ld d r := by
  show View.ld _ r = _
  rw [h.read_unread]

theorem tPiece_eq (arg4 : Memref sig .tc .vmem S40x1280 .i8) (harg4 : arg4.IsWhole) (x3 : Vec Ideal S40x1280 .i8) (kb : Fin 5) (z : Fin 1) (x) :
    (tPiece (F := Ideal) arg4 harg4 x3 kb z).2 x = tabV x3 ((tPiece (F := Ideal) arg4 harg4 x3 kb z).1.emb x) := by
  obtain ⟨u, r, l, rfl⟩ : ∃ (u : Fin 1) (r : Fin 8) (l : Fin 1280), x = ix3 u r l := ⟨x 0, x 1, x 2, eq_ix3 x⟩
  have hk := kb.isLt; have hr := r.isLt
  unfold tPiece
  dsimp only
  rw [shapeCast_ab_1ab_apply, readAt_un harg4, View.ld_unit_zero (by funext a; match a with | ⟨0, _⟩ => rfl | ⟨1, _⟩ => rfl)]
  rw [extractStridedSlice_apply _ _ _ _ (ix2 (⟨8 * kb.val + r.val, by omega⟩ : Fin 40) l) (by
    intro a; match a with | ⟨0, _⟩ => rfl | ⟨1, _⟩ => exact (Nat.zero_add _).symm)]
  unfold tabV
  refine congrArg (fun q => scaleVal (x3 q)) (congrArg₂ ix2 (Fin.ext ?_) (Fin.ext ?_))
  · show 8 * kb.val + r.val = 8 * (kb.val + 1 * u.val) + (0 + 1 * r.val); omega
  · show l.val = 0 + 1 * l.val; omega

theorem tab_read (arg4 : Memref sig .tc .vmem S40x1280 .i8) (harg4 : arg4.IsWhole) (x3 : Vec Ideal S40x1280 .i8) (arg15 : Memref sig .tc .vmem S5x8x1280 .f32) (r : Rect S5x8x1280) :
    View.readCov arg15.view (tList (F := Ideal) arg4 harg4 x3) r.toLoadRect = View.ld (tabV x3) r := by
  have hm : ∀ t : Fin 5, t ∈ ([4, 3, 2, 1, 0] : List (Fin 5)) := by decide
  have hc : ∀ y, ∃ p ∈ tList (F := Ideal) arg4 harg4 x3, y ∈ p.1.set := fun y => by
    have h1 : (y 1).val < 8 := (y 1).isLt
    have h2 : (y 2).val < 1280 := (y 2).isLt
    refine ⟨tPiece arg4 harg4 x3 (y 0) 0, List.mem_flatMap.mpr ⟨y 0, hm _, List.mem_map.mpr ⟨0, by decide, rfl⟩⟩, ?_⟩
    show y ∈ (Rect.unit (s := S5x8x1280) ![(y 0).val, 0, 0] S1x8x1280.size (tOff (y 0))).set
    refine Rect.mem_set_unit.mpr fun a => ?_
    match a with
    | ⟨0, _⟩ => show (y 0).val ≤ (y 0).val ∧ (y 0).val < (y 0).val + 1; omega
    | ⟨1, _⟩ => show 0 ≤ (y 1).val ∧ (y 1).val < 0 + 8; omega
    | ⟨2, _⟩ => show 0 ≤ (y 2).val ∧ (y 2).val < 0 + 1280; omega
  rw [View.readCov_eq_canon_ld _ _ _ hc]
  refine congrArg (fun X => View.ld X r) (funext fun y => View.canon_apply_of_pieces (tabV x3) _ ?_ y (hc y))
  intro p hp
  obtain ⟨a, ha, hp⟩ := List.mem_flatMap.mp hp
  obtain ⟨b, hb, rfl⟩ := List.mem_map.mp hp
  exact tPiece_eq arg4 harg4 x3 a b

section
variable (arg3 : Memref sig .tc .vmem S1280x640 .i8) (harg3 : arg3.IsWhole) (arg4 : Memref sig .tc .vmem S40x1280 .i8) (harg4 : arg4.IsWhole)
    (arg15 : Memref sig .tc .vmem S5x8x1280 .f32) (x2 : Vec Ideal S1280x640 .i8) (x3 : Vec Ideal S40x1280 .i8)

theorem wPiece_eq (p : Fin 5 × Bool) (kb : Fin 5) (x) : (wPiece (F := Ideal) arg3 harg3 arg4 harg4 arg15 x2 x3 p kb).2 x
    = wV x2 x3 ((wPiece (F := Ideal) arg3 harg3 arg4 harg4 arg15 x2 x3 p kb).1.emb x) := by
  obtain ⟨t, hi⟩ := p
  obtain ⟨r, l, rfl⟩ : ∃ (r : Fin 256) (l : Fin 128), x = ix2 r l := ⟨x 0, x 1, eq_ix2 x⟩
  have hr := r.isLt; have hl := l.isLt; have ht := t.isLt; have hk := kb.isLt
  unfold wPiece
  dsimp only
  refine (tile_apply _ _ r l).trans ?_
  rw [decBits_apply hi _ _ (wordTwo_bit hi _) r l]
  rw [readAt_un harg3, tab_read]
  unfold wV
  have hcol : colTwo hi t = 128 * t.val + if hi then 640 else 0 := by cases hi <;> simp [colTwo]; omega
  refine congrArg₂ (· * ·) ?_ ?_
  · refine congrArg₂ nibVal ?_ ?_
    · show hi = decide (640 ≤ colTwo hi t + 1 * l.val)
      rw [hcol]; cases hi
      · simp; omega
      · simp; omega
    · refine View.ld_unit_apply_of _ _ _ _ _ _ fun a => ?_
      match a with
      | ⟨0, _⟩ => show 256 * kb.val + 1 * r.val = 256 * kb.val + r.val; omega
      | ⟨1, _⟩ =>
        show (colTwo hi t + 1 * l.val) % 640 = 128 * t.val + l.val
        rw [hcol]; cases hi
        · simp; omega
        · simp; omega
  · refine View.ld_unit_apply_of _ _ _ _ _ _ fun a => ?_
    match a with
    | ⟨0, _⟩ => show (256 * kb.val + 1 * r.val) / 256 = kb.val + 0; omega
    | ⟨1, _⟩ => show (256 * kb.val + 1 * r.val) % 256 / 32 = r.val / 32 + 0; omega
    | ⟨2, _⟩ => show colTwo hi t + 1 * l.val = colTwo hi t + l.val; omega

theorem w_cover (y : S1280x1280.Idx) :
    ∃ p ∈ ([(4, true), (4, false), (3, true), (3, false), (2, true), (2, false), (1, true), (1, false), (0, true), (0, false)] : List (Fin 5 × Bool)),
      ∃ kb ∈ ([4, 3, 2, 1, 0] : List (Fin 5)), y ∈ (wPiece (F := Ideal) arg3 harg3 arg4 harg4 arg15 x2 x3 p kb).1.set := by
  have h0 : (y 0).val < 1280 := (y 0).isLt
  have h1 : (y 1).val < 1280 := (y 1).isLt
  have hm : ∀ p : Fin 5 × Bool, p ∈ ([(4, true), (4, false), (3, true), (3, false), (2, true), (2, false), (1, true), (1, false), (0, true), (0, false)] : List (Fin 5 × Bool)) := by decide
  have hk : ∀ t : Fin 5, t ∈ ([4, 3, 2, 1, 0] : List (Fin 5)) := by decide
  refine ⟨(⟨(y 1).val % 640 / 128, by omega⟩, decide (640 ≤ (y 1).val)), hm _, ⟨(y 0).val / 256, by omega⟩, hk _, ?_⟩
  show y ∈ (Rect.unit (s := S1280x1280) ![256 * ((y 0).val / 256), colTwo (decide (640 ≤ (y 1).val)) ⟨(y 1).val % 640 / 128, by omega⟩] S256x128.size
    (wInb _ _ ⟨(y 0).val / 256, by omega⟩)).set
  refine Rect.mem_set_unit.mpr fun a => ?_
  match a with
  | ⟨0, _⟩ => show 256 * ((y 0).val / 256) ≤ (y 0).val ∧ (y 0).val < 256 * ((y 0).val / 256) + 256; omega
  | ⟨1, _⟩ =>
    show colTwo (decide (640 ≤ (y 1).val)) ⟨(y 1).val % 640 / 128, _⟩ ≤ (y 1).val ∧ (y 1).val < colTwo (decide (640 ≤ (y 1).val)) ⟨(y 1).val % 640 / 128, _⟩ + 128
    by_cases h : 640 ≤ (y 1).val
    · simp only [colTwo, h, decide_true, cond_true]; omega
    · simp only [colTwo, h, decide_false, cond_false]; omega

/-- The weights as the same point reads them. -/
theorem w_read (arg16 : Memref sig .tc .vmem S1280x1280 .bf16) (off : Fin 2 → Nat) (h0 : off = fun _ => 0) (inb) :
    View.readCov arg16.view (wList (F := Ideal) arg3 harg3 arg4 harg4 arg15 x2 x3) (Rect.unit (s := S1280x1280) off S1280x1280.size inb).toLoadRect = wV x2 x3 :=
  readCov_family arg16.view _ _ _ _ (wPiece_eq arg3 harg3 arg4 harg4 arg15 x2 x3) off h0 inb (w_cover arg3 harg3 arg4 harg4 arg15 x2 x3)

/-- The weights as the next points find them. -/
theorem w_state (v : View sig .tc .vmem S1280x1280 .bf16) (f0 : v.ty.Contents (Elt Ideal)) :
    v.read (Elt Ideal) (v.writes (Elt Ideal) f0 (wList (F := Ideal) arg3 harg3 arg4 harg4 arg15 x2 x3)) = wV x2 x3 :=
  funext fun y => read_family v f0 _ _ _ _ (wPiece_eq arg3 harg3 arg4 harg4 arg15 x2 x3) y (w_cover arg3 harg3 arg4 harg4 arg15 x2 x3 y)
end

end Cert.OprojIdeal.Gen

end
-- ==== Proof.Oproj.KList.lean ====
/- The stores of the output product's kernel, named. -/
module

public import proofs.«01_k».proof.Proof.Oproj.KTab

@[expose] public section

set_option maxRecDepth 16384

noncomputable section

namespace Cert.OprojIdeal.Gen

open Idealize.ShloMosaic Idealize.ShloMosaic.TcCoe Idealize.ShloMosaic.Tactic
open Idealize.SL.Sem
open Idealize.ShloMosaic.ValueIdx

theorem aInb (t : Fin 10) : ∀ a, (![t.val, 0, 0] : Fin 3 → Nat) a + S1x256x128.size a ≤ S10x256x128.size a := by revert t; decide

section
variable {F : FTy → Type} [FloatOps F] [Named F]

/-- A tile of the attention output as the body reads it. -/
def aTile (arg1 : Memref sig .tc .vmem S10x256x128 .f32) (harg1 : arg1.IsWhole) (x0 : Vec F S10x256x128 .f32) (t : Fin 10) : Vec F S1x256x128 .f32 :=
  View.readAt (Elt F) arg1.view (Rect.unit (s := S10x256x128) ![t.val, 0, 0] S1x256x128.size (aInb t)).toLoadRect (harg1.unread x0)

/-- The ten tiles side by side. -/
def aRows (T : Fin 10 → Vec F S1x256x128 .f32) : FVec F S256x1280 .f32 := k0_pay415 (T 0) (T 1) (T 2) (T 3) (T 4) (T 5) (T 6) (T 7) (T 8) (T 9)

/-- h1 of a block's rows. -/
def bH1 (V : FVec F S256x1280 .f32) (W : Vec F S1280x1280 .bf16) (X : Vec F S256x1280 .bf16) (b : Vec F S1x1280 .f32) : FVec F S256x1280 .f32 :=
  k0_pay422 (k0_pay417 (absf V)) (k0_pay421 V (absf V)) W X b

/-- Its layer norm. -/
def bLn (V : FVec F S256x1280 .f32) (W : Vec F S1280x1280 .bf16) (X : Vec F S256x1280 .bf16) (b g b2 : Vec F S1x1280 .f32) : FVec F S256x1280 .f32 :=
  k0_pay423 (k0_pay417 (absf V)) (k0_pay421 V (absf V)) W X b g b2

/-- The stores into the seven outputs. -/
def st7 (V : FVec F S256x1280 .f32) : List (View.Piece (Elt F) S256x1280 .fp8e4m3) :=
  [⟨Rect.unit (s := S256x1280) ![0, 0] S256x1280.size inb_S256x1280_S256x1280_0_0, k0_pay418 V (absf V)⟩]
def st8 (V : FVec F S256x1280 .f32) : List (View.Piece (Elt F) S1x256 .f32) :=
  [⟨Rect.unit (s := S1x256) ![0, 128] S1x128.size inb_S1x256_S1x128_0_128, k0_pay420 (absf V)⟩, ⟨Rect.unit (s := S1x256) ![0, 0] S1x128.size inb_S1x256_S1x128_0_0, k0_pay419 (absf V)⟩]
def st9 (P : FVec F S256x1280 .f32) : List (View.Piece (Elt F) S256x1280 .f32) :=
  [⟨Rect.unit (s := S256x1280) ![0, 0] S256x1280.size inb_S256x1280_S256x1280_0_0, P⟩]
def st10 (N : FVec F S256x1280 .f32) : List (View.Piece (Elt F) S256x1280 .fp8e4m3) :=
  [⟨Rect.unit (s := S256x1280) ![0, 0] S256x1280.size inb_S256x1280_S256x1280_0_0, k0_pay426 N (absf N)⟩]
def st11 (N : FVec F S256x1280 .f32) : List (View.Piece (Elt F) S1x256 .f32) :=
  [⟨Rect.unit (s := S1x256) ![0, 128] S1x128.size inb_S1x256_S1x128_0_128, k0_pay1 (k0_pay430 (absf N)) k0_pay431⟩, ⟨Rect.unit (s := S1x256) ![0, 0] S1x128.size inb_S1x256_S1x128_0_0, k0_pay429 (absf N)⟩]
def st12 (N : FVec F S256x1280 .f32) : List (View.Piece (Elt F) S256x1280 .bf16) :=
  [⟨Rect.unit (s := S256x1280) ![0, 0] S256x1280.size inb_S256x1280_S256x1280_0_0, k0_pay427 N (absf N)⟩]
def st13 (N : FVec F S256x1280 .f32) : List (View.Piece (Elt F) S256x128 .f32) :=
  [⟨Rect.unit (s := S256x128) ![0, 0] S256x128.size inb_S256x128_S256x128_0_0, k0_pay428 (absf N)⟩]

/-- A whole operand as the body reads it. -/
def rW (arg16 : Memref sig .tc .vmem S1280x1280 .bf16) (L : List (View.Piece (Elt F) S1280x1280 .bf16)) : Vec F S1280x1280 .bf16 :=
  View.readCov arg16.view L (Rect.unit (s := S1280x1280) ![0, 0] S1280x1280.size inb_S1280x1280_S1280x1280_0_0).toLoadRect
def rW' (arg16 : Memref sig .tc .vmem S1280x1280 .bf16) (harg16 : arg16.IsWhole) (xs1 : Vec F S1280x1280 .bf16) : Vec F S1280x1280 .bf16 :=
  View.readAt (Elt F) arg16.view (Rect.unit (s := S1280x1280) ![0, 0] S1280x1280.size inb_S1280x1280_S1280x1280_0_0).toLoadRect (harg16.unread xs1)
def rX (arg2 : Memref sig .tc .vmem S256x1280 .bf16) (harg2 : arg2.IsWhole) (x1 : Vec F S256x1280 .bf16) : Vec F S256x1280 .bf16 :=
  View.readAt (Elt F) arg2.view (Rect.unit (s := S256x1280) ![0, 0] S256x1280.size inb_S256x1280_S256x1280_0_0).toLoadRect (harg2.unread x1)
def rB (arg : Memref sig .tc .vmem S1x1280 .f32) (harg : arg.IsWhole) (x : Vec F S1x1280 .f32) : Vec F S1x1280 .f32 :=
  View.readAt (Elt F) arg.view (Rect.unit (s := S1x1280) ![0, 0] S1x1280.size inb_S1x1280_S1x1280_0_0).toLoadRect (harg.unread x)

section
variable (c : Dev nD) (i : grid0.Coords) (arg1 : Memref sig .tc .vmem S10x256x128 .f32) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S256x1280 .fp8e4m3) (harg8 : arg8.IsWhole) (arg9 : Memref sig .tc .vmem S1x256 .f32) (harg9 : arg9.IsWhole) (arg10 : Memref sig .tc .vmem S256x1280 .f32) (harg10 : arg10.IsWhole) (arg11 : Memref sig .tc .vmem S256x1280 .fp8e4m3) (harg11 : arg11.IsWhole) (arg12 : Memref sig .tc .vmem S1x256 .f32) (harg12 : arg12.IsWhole) (arg13 : Memref sig .tc .vmem S256x1280 .bf16) (harg13 : arg13.IsWhole) (arg14 : Memref sig .tc .vmem S256x128 .f32) (harg14 : arg14.IsWhole) (arg15 : Memref sig .tc .vmem S5x8x1280 .f32) (harg15 : arg15.IsWhole) (arg16 : Memref sig .tc .vmem S1280x1280 .bf16) (harg16 : arg16.IsWhole) (hc0 : cond0_0 i)     (x0 : Vec F S10x256x128 .f32) (x1 : Vec F S256x1280 .bf16) (x2 : Vec F S1280x640 .i8) (x3 : Vec F S40x1280 .i8) (x4 : Vec F S1x1280 .f32) (x5 : Vec F S1x1280 .f32) (x6 : Vec F S1x1280 .f32)

theorem listA_7 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1 = st7 (aRows (aTile arg1 harg1 x0)) := rfl
theorem listA_8 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.1 = st8 (aRows (aTile arg1 harg1 x0)) := rfl
theorem listA_9 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.2.1 = st9 (bH1 (aRows (aTile arg1 harg1 x0)) (rW arg16 (wList arg3 harg3 arg4 harg4 arg15 x2 x3)) (rX arg2 harg2 x1) (rB arg5 harg5 x4)) := rfl
theorem listA_10 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.2.2.1 = st10 (bLn (aRows (aTile arg1 harg1 x0)) (rW arg16 (wList arg3 harg3 arg4 harg4 arg15 x2 x3)) (rX arg2 harg2 x1) (rB arg5 harg5 x4) (rB arg6 harg6 x5) (rB arg7 harg7 x6)) := rfl
theorem listA_11 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.2.2.2.1 = st11 (bLn (aRows (aTile arg1 harg1 x0)) (rW arg16 (wList arg3 harg3 arg4 harg4 arg15 x2 x3)) (rX arg2 harg2 x1) (rB arg5 harg5 x4) (rB arg6 harg6 x5) (rB arg7 harg7 x6)) := rfl
theorem listA_12 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.2.2.2.2.1 = st12 (bLn (aRows (aTile arg1 harg1 x0)) (rW arg16 (wList arg3 harg3 arg4 harg4 arg15 x2 x3)) (rX arg2 harg2 x1) (rB arg5 harg5 x4) (rB arg6 harg6 x5) (rB arg7 harg7 x6)) := rfl
theorem listA_13 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.2.2.2.2.2.1 = st13 (bLn (aRows (aTile arg1 harg1 x0)) (rW arg16 (wList arg3 harg3 arg4 harg4 arg15 x2 x3)) (rX arg2 harg2 x1) (rB arg5 harg5 x4) (rB arg6 harg6 x5) (rB arg7 harg7 x6)) := rfl
theorem listA_W : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.2.2.2.2.2.2.1 = wList arg3 harg3 arg4 harg4 arg15 x2 x3 := rfl
end

section
variable (c : Dev nD) (i : grid0.Coords) (arg1 : Memref sig .tc .vmem S10x256x128 .f32) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .i8) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S256x1280 .fp8e4m3) (harg8 : arg8.IsWhole) (arg9 : Memref sig .tc .vmem S1x256 .f32) (harg9 : arg9.IsWhole) (arg10 : Memref sig .tc .vmem S256x1280 .f32) (harg10 : arg10.IsWhole) (arg11 : Memref sig .tc .vmem S256x1280 .fp8e4m3) (harg11 : arg11.IsWhole) (arg12 : Memref sig .tc .vmem S1x256 .f32) (harg12 : arg12.IsWhole) (arg13 : Memref sig .tc .vmem S256x1280 .bf16) (harg13 : arg13.IsWhole) (arg14 : Memref sig .tc .vmem S256x128 .f32) (harg14 : arg14.IsWhole) (arg15 : Memref sig .tc .vmem S5x8x1280 .f32) (harg15 : arg15.IsWhole) (arg16 : Memref sig .tc .vmem S1280x1280 .bf16) (harg16 : arg16.IsWhole) (hc0 : ¬cond0_0 i)     (x0 : Vec F S10x256x128 .f32) (x1 : Vec F S256x1280 .bf16) (x2 : Vec F S1280x640 .i8) (x3 : Vec F S40x1280 .i8) (x4 : Vec F S1x1280 .f32) (x5 : Vec F S1x1280 .f32) (x6 : Vec F S1x1280 .f32) (xs1 : Vec F S1280x1280 .bf16)

theorem listB_7 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs1).1 = st7 (aRows (aTile arg1 harg1 x0)) := rfl
theorem listB_8 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs1).2.1 = st8 (aRows (aTile arg1 harg1 x0)) := rfl
theorem listB_9 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs1).2.2.1 = st9 (bH1 (aRows (aTile arg1 harg1 x0)) (rW' arg16 harg16 xs1) (rX arg2 harg2 x1) (rB arg5 harg5 x4)) := rfl
theorem listB_10 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs1).2.2.2.1 = st10 (bLn (aRows (aTile arg1 harg1 x0)) (rW' arg16 harg16 xs1) (rX arg2 harg2 x1) (rB arg5 harg5 x4) (rB arg6 harg6 x5) (rB arg7 harg7 x6)) := rfl
theorem listB_11 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs1).2.2.2.2.1 = st11 (bLn (aRows (aTile arg1 harg1 x0)) (rW' arg16 harg16 xs1) (rX arg2 harg2 x1) (rB arg5 harg5 x4) (rB arg6 harg6 x5) (rB arg7 harg7 x6)) := rfl
theorem listB_12 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs1).2.2.2.2.2.1 = st12 (bLn (aRows (aTile arg1 harg1 x0)) (rW' arg16 harg16 xs1) (rX arg2 harg2 x1) (rB arg5 harg5 x4) (rB arg6 harg6 x5) (rB arg7 harg7 x6)) := rfl
theorem listB_13 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs1).2.2.2.2.2.2.1 = st13 (bLn (aRows (aTile arg1 harg1 x0)) (rW' arg16 harg16 xs1) (rX arg2 harg2 x1) (rB arg5 harg5 x4) (rB arg6 harg6 x5) (rB arg7 harg7 x6)) := rfl
end

end

end Cert.OprojIdeal.Gen

end
-- ==== Proof.Oproj.KOut.lean ====
/- What the output product's kernel leaves in its outputs for a block of 256 rows. -/
module

public import proofs.«01_k».proof.Proof.Oproj.KBody
public import proofs.«01_k».proof.Proof.Oproj.KList

@[expose] public section

set_option maxRecDepth 16384

noncomputable section

namespace Cert.OutProj

open Idealize.ShloMosaic hiding ix1 ix2 ix3
open Idealize.ShloMosaic.ValueIdx Cert.OprojIdeal Cert.OprojIdeal.Gen Cert.Value

/-- A block holds the rows `R` of the arguments. -/
structure Blk (x : Args) (R : Fin 256 → Fin 1536) (V : FVec Ideal S256x1280 .f32) (W : Vec Ideal S1280x1280 .bf16) (X : Vec Ideal S256x1280 .bf16) (B G B2 : Vec Ideal S1x1280 .f32) : Prop where
  v : ∀ r n, V (ix2 r n) = attn x (R r) n
  wt : ∀ k n, W (ix2 k n) = w x k n
  xr : ∀ r n, X (ix2 r n) = x.x (R r) n
  b : ∀ n, B (ix2 (0 : Fin 1) n) = x.b n
  g : ∀ n, G (ix2 (0 : Fin 1) n) = x.g n
  b2 : ∀ n, B2 (ix2 (0 : Fin 1) n) = x.b2 n

section
variable {κ : Idealize.ShloMosaic.Kind} {sp : Idealize.ShloMosaic.Space} {e : EltTy}

/-- A store over a whole block. -/
theorem read_whole {N : Nat} (v : View sig κ sp (⟨2, ![256, N]⟩ : Shape) e) (f : v.ty.Contents (Elt Ideal)) (inb) (P : Vec Ideal (⟨2, ![256, N]⟩ : Shape) e) (r : Fin 256) (n : Fin N) :
    v.read (Elt Ideal) (v.writes (Elt Ideal) f [(⟨Rect.unit (s := (⟨2, ![256, N]⟩ : Shape)) ![0, 0] (⟨2, ![256, N]⟩ : Shape).size inb, P⟩ : View.Piece (Elt Ideal) (⟨2, ![256, N]⟩ : Shape) e)]) (ix2 r n) = P (ix2 r n) := by
  have he : ∀ x, (Rect.unit (s := (⟨2, ![256, N]⟩ : Shape)) ![0, 0] (⟨2, ![256, N]⟩ : Shape).size inb).emb x = x := by
    intro x
    funext a
    match a with
    | ⟨0, _⟩ => exact Fin.ext (by show 0 + 1 * (x 0).val = (x 0).val; omega)
    | ⟨1, _⟩ => exact Fin.ext (by show 0 + 1 * (x 1).val = (x 1).val; omega)
  refine View.read_writes_apply_of_pieces v f P _ ?_ (ix2 r n) ?_
  · intro p hp x
    obtain rfl := List.mem_singleton.mp hp
    exact congrArg P (he x).symm
  · refine ⟨_, List.mem_cons_self, ?_⟩
    show ix2 r n ∈ (Rect.unit (s := (⟨2, ![256, N]⟩ : Shape)) ![0, 0] (⟨2, ![256, N]⟩ : Shape).size inb).set
    refine Rect.mem_set_unit.mpr fun a => ?_
    match a with
    | ⟨0, _⟩ => show 0 ≤ r.val ∧ r.val < 0 + 256; have := r.isLt; omega
    | ⟨1, _⟩ => show 0 ≤ n.val ∧ n.val < 0 + N; have := n.isLt; omega

/-- Two stores of 128 lanes each. -/
theorem read_halves (v : View sig κ sp S1x256 e) (f : v.ty.Contents (Elt Ideal)) (P Q : Vec Ideal S1x128 e) (G : Fin 256 → Elt Ideal e)
    (hP : ∀ l : Fin 128, P (ix2 (0 : Fin 1) l) = G ⟨128 + l.val, by omega⟩) (hQ : ∀ l : Fin 128, Q (ix2 (0 : Fin 1) l) = G ⟨l.val, by omega⟩) (r : Fin 256) :
    v.read (Elt Ideal) (v.writes (Elt Ideal) f [(⟨Rect.unit (s := S1x256) ![0, 128] S1x128.size inb_S1x256_S1x128_0_128, P⟩ : View.Piece (Elt Ideal) S1x256 e),
      ⟨Rect.unit (s := S1x256) ![0, 0] S1x128.size inb_S1x256_S1x128_0_0, Q⟩]) (ix2 (0 : Fin 1) r) = G r := by
  refine View.read_writes_apply_of_pieces v f (fun y => G (y 1)) _ ?_ (ix2 (0 : Fin 1) r) ?_
  · intro p hp x
    rcases List.mem_cons.mp hp with rfl | hp
    · obtain ⟨a, l, rfl⟩ : ∃ (a : Fin 1) (l : Fin 128), x = ix2 a l := ⟨x 0, x 1, ValueIdx.eq_ix2 x⟩
      obtain rfl : a = 0 := Subsingleton.elim _ _
      refine (hP l).trans (congrArg G (Fin.ext ?_))
      show 128 + l.val = 128 + 1 * l.val; omega
    · obtain rfl := List.mem_singleton.mp hp
      obtain ⟨a, l, rfl⟩ : ∃ (a : Fin 1) (l : Fin 128), x = ix2 a l := ⟨x 0, x 1, ValueIdx.eq_ix2 x⟩
      obtain rfl : a = 0 := Subsingleton.elim _ _
      refine (hQ l).trans (congrArg G (Fin.ext ?_))
      show l.val = 0 + 1 * l.val; omega
  · have hr := r.isLt
    by_cases h : r.val < 128
    · refine ⟨_, List.mem_cons_of_mem _ List.mem_cons_self, ?_⟩
      show ix2 (0 : Fin 1) r ∈ (Rect.unit (s := S1x256) ![0, 0] S1x128.size inb_S1x256_S1x128_0_0).set
      refine Rect.mem_set_unit.mpr fun a => ?_
      match a with
      | ⟨0, _⟩ => show 0 ≤ 0 ∧ 0 < 0 + 1; omega
      | ⟨1, _⟩ => show 0 ≤ r.val ∧ r.val < 0 + 128; omega
    · refine ⟨_, List.mem_cons_self, ?_⟩
      show ix2 (0 : Fin 1) r ∈ (Rect.unit (s := S1x256) ![0, 128] S1x128.size inb_S1x256_S1x128_0_128).set
      refine Rect.mem_set_unit.mpr fun a => ?_
      match a with
      | ⟨0, _⟩ => show 0 ≤ 0 ∧ 0 < 0 + 1; omega
      | ⟨1, _⟩ => show 128 ≤ r.val ∧ r.val < 128 + 128; omega
end

section
variable {x : Args} {R : Fin 256 → Fin 1536} {V : FVec Ideal S256x1280 .f32} {W : Vec Ideal S1280x1280 .bf16} {X : Vec Ideal S256x1280 .bf16} {B G B2 : Vec Ideal S1x1280 .f32}
  (H : Blk x R V W X B G B2)
include H

theorem v_eq (r : Fin 256) : (fun n => V (ix2 r n)) = attn x (R r) := funext (H.v r)

theorem h1_eq (r : Fin 256) (n : Fin 1280) : bH1 V W X B (ix2 r n) = h1 x (R r) n := by
  refine (bH1_apply V W X B r n).trans ?_
  rw [v_eq H]
  unfold h1
  rw [H.xr, H.b]
  refine congrArg₂ (· + ·) rfl (congrArg₂ (· + ·) (congrArg₂ (· * ·) (Finset.sum_congr rfl fun k _ => ?_) rfl) rfl)
  rw [H.wt]

theorem ln_eq (r : Fin 256) (n : Fin 1280) : bLn V W X B G B2 (ix2 r n) = ln x (R r) n := by
  refine (bLn_apply V W X B G B2 r n).trans ?_
  rw [show (fun n => k0_pay422 (F := Ideal) (k0_pay417 (absf V)) (k0_pay421 V (absf V)) W X B (ix2 r n)) = h1 x (R r) from funext (h1_eq H r),
    show (fun n => G (ix2 (0 : Fin 1) n)) = x.g from funext H.g, show (fun n => B2 (ix2 (0 : Fin 1) n)) = x.b2 from funext H.b2]
  rfl

theorem ln_row (r : Fin 256) : (fun n => bLn V W X B G B2 (ix2 r n)) = ln x (R r) := funext (ln_eq H r)

variable {κ : Idealize.ShloMosaic.Kind} {sp : Idealize.ShloMosaic.Space}

theorem read7 (v : View sig κ sp S256x1280 .fp8e4m3) (f : v.ty.Contents (Elt Ideal)) (r : Fin 256) (n : Fin 1280) :
    v.read (Elt Ideal) (v.writes (Elt Ideal) f (st7 V)) (ix2 r n) = rcode (attn x (R r)) n :=
  (read_whole (N := 1280) v f _ _ r n).trans ((bCode V r n).trans (by rw [v_eq H]))

theorem read8 (v : View sig κ sp S1x256 .f32) (f : v.ty.Contents (Elt Ideal)) (r : Fin 256) :
    v.read (Elt Ideal) (v.writes (Elt Ideal) f (st8 V)) (ix2 (0 : Fin 1) r) = rscale (attn x (R r)) :=
  read_halves v f _ _ (fun r => rscale (attn x (R r))) (fun l => (row420 V l).trans (by rw [v_eq H])) (fun l => (row419 V l).trans (by rw [v_eq H])) r

theorem read9 (v : View sig κ sp S256x1280 .f32) (f : v.ty.Contents (Elt Ideal)) (r : Fin 256) (n : Fin 1280) :
    v.read (Elt Ideal) (v.writes (Elt Ideal) f (st9 (bH1 V W X B))) (ix2 r n) = h1 x (R r) n :=
  (read_whole (N := 1280) v f _ _ r n).trans (h1_eq H r n)

theorem read10 (v : View sig κ sp S256x1280 .fp8e4m3) (f : v.ty.Contents (Elt Ideal)) (r : Fin 256) (n : Fin 1280) :
    v.read (Elt Ideal) (v.writes (Elt Ideal) f (st10 (bLn V W X B G B2))) (ix2 r n) = rcode (ln x (R r)) n :=
  (read_whole (N := 1280) v f _ _ r n).trans ((bCode2 _ r n).trans (by rw [ln_row H]))

theorem read11 (v : View sig κ sp S1x256 .f32) (f : v.ty.Contents (Elt Ideal)) (r : Fin 256) :
    v.read (Elt Ideal) (v.writes (Elt Ideal) f (st11 (bLn V W X B G B2))) (ix2 (0 : Fin 1) r) = rscale (ln x (R r)) :=
  read_halves v f _ _ (fun r => rscale (ln x (R r))) (fun l => (row430 _ l).trans (by rw [ln_row H])) (fun l => (row429 _ l).trans (by rw [ln_row H])) r

theorem read12 (v : View sig κ sp S256x1280 .bf16) (f : v.ty.Contents (Elt Ideal)) (r : Fin 256) (n : Fin 1280) :
    v.read (Elt Ideal) (v.writes (Elt Ideal) f (st12 (bLn V W X B G B2))) (ix2 r n) = rcode (ln x (R r)) n :=
  (read_whole (N := 1280) v f _ _ r n).trans ((bCode2 _ r n).trans (by rw [ln_row H]))

theorem read13 (v : View sig κ sp S256x128 .f32) (f : v.ty.Contents (Elt Ideal)) (r : Fin 256) (n : Fin 128) :
    v.read (Elt Ideal) (v.writes (Elt Ideal) f (st13 (bLn V W X B G B2))) (ix2 r n) = rscale (ln x (R r)) :=
  (read_whole (N := 128) v f _ _ r n).trans ((bWide _ r n).trans (by rw [ln_row H]))
end

end Cert.OutProj

end
-- ==== Proof.Oproj.RefVal.lean ====
/- The output product reference's results, by coordinates. -/
module

public import proofs.«01_k».proof.Proof.Oproj.Rows
public import proofs.«01_k».proof.Proof.Oproj.RefBlocks
public import Idealize.ShloMosaic.Lib.Pipeline.ValueKit

@[expose] public section

set_option maxRecDepth 16384

noncomputable section

namespace Cert.OutProj.Ref

open Idealize.ShloMosaic hiding ix1 ix2 ix3
open Idealize.ShloMosaic.ValueIdx Cert.OprojReferenceIdeal Cert.OprojReferenceIdeal.Gen Cert.Value
open Cert.Value.Ref (codes pows scaled_apply col_apply cat_apply ofBits_eq)

variable (X0 : Vec Ideal S10x1536x128 .f32) (X1 : Vec Ideal S1536x1280 .bf16) (X2 : Vec Ideal S1280x640 .i8) (X3 : Vec Ideal S40x1280 .i8)
  (X4 X5 X6 : Vec Ideal S1x1280 .f32)

/-- The blocks are those of the arguments `x`. -/
structure Holds (x : Args) : Prop where
  at' : ∀ t r l, X0 (ix3 t r l) = x.at' t r l
  xr : ∀ r n, X1 (ix2 r n) = x.x r n
  c : ∀ k n, X2 (ix2 k n) = x.c k n
  s : ∀ k n, X3 (ix2 k n) = x.s k n
  b : ∀ n, X4 (ix2 (0 : Fin 1) n) = x.b n
  g : ∀ n, X5 (ix2 (0 : Fin 1) n) = x.g n
  b2 : ∀ n, X6 (ix2 (0 : Fin 1) n) = x.b2 n

theorem ld0 : View.ld X0 r0_0 = X0 := View.ld_unit_lit _ _ (by decide)
theorem ld1 : View.ld X2 r0_1 = X2 := View.ld_unit_lit _ _ (by decide)
theorem ld2 : View.ld X3 r0_2 = X3 := View.ld_unit_lit _ _ (by decide)
theorem ld3 : View.ld X1 r0_3 = X1 := View.ld_unit_lit _ _ (by decide)
theorem ld4 (X : Vec Ideal S1x1280 .f32) : View.ld X r0_4 = X := View.ld_unit_lit _ _ (by decide)

/-- The weights of one half of the columns. -/
def wb (hi : Bool) (off : Nat) (h : S40x1280.Slices ![0, off] S40x640) : FVec Ideal S1280x640 .bf16 :=
  shapeCast S1280x640 (mulf (F := Ideal) (φ := .bf16) (shapeCast S40x32x640 (codes hi X2) shapeCasts_S1280x640_S40x32x640)
    (broadcastTo S40x32x640 (shapeCast S40x1x640 (extractStridedSlice S40x640 ![0, off] (pows X3) h) shapeCasts_S40x640_S40x1x640) broadcasts_S40x1x640_S40x32x640))
    shapeCasts_S40x32x640_S1280x640

/-- The product, scaled. -/
def prod (S : FVec Ideal S1536x1 .f32) (Q : FVec Ideal S1536x1280 .bf16) (WL WH : FVec Ideal S1280x640 .bf16) : FVec Ideal S1536x1280 .f32 :=
  concatenate S1536x1280 1
    [⟨S1536x640, mulf (F := Ideal) (φ := .f32) (matmul (F := Ideal) (φ₁ := .bf16) (φ₂ := .bf16) dot_S1536x1280_S1280x640_S1536x640_1_0_0_1_n_n none Q WL (constant S1536x640 .f32 0x00000000#32))
        (broadcastTo S1536x640 S broadcasts_S1536x1_S1536x640)⟩,
     ⟨S1536x640, mulf (F := Ideal) (φ := .f32) (matmul (F := Ideal) (φ₁ := .bf16) (φ₂ := .bf16) dot_S1536x1280_S1280x640_S1536x640_1_0_0_1_n_n none Q WH (constant S1536x640 .f32 0x00000000#32))
        (broadcastTo S1536x640 S broadcasts_S1536x1_S1536x640)⟩] concatenates_S1536x640_S1536x640_S1536x1280_d1

theorem prod_eq (S : FVec Ideal S1536x1 .f32) (Q : FVec Ideal S1536x1280 .bf16) :
    k0_pay21 (F := Ideal) S Q (k0_pay9 X3) (k0_pay15 (k0_pay9 X3) (k0_pay11 X2) (k0_pay12 X2) (k0_pay13 X2) k0_pay14) (k0_pay16 (k0_pay10 X2)) (k0_pay17 (k0_pay10 X2)) (k0_pay18 (k0_pay10 X2)) k0_pay19
      = prod S Q (wb X2 X3 false 0 slices_S40x1280_o0_0_S40x640) (wb X2 X3 true 640 slices_S40x1280_o0_640_S40x640) := rfl

theorem tiles_apply (r : Fin 1536) (n : Fin 1280) :
    k0_pay5 (F := Ideal) X0 (ix2 r n) = X0 (ix3 (⟨n.val / 128, by omega⟩ : Fin 10) r (⟨n.val % 128, Nat.mod_lt _ (by decide)⟩ : Fin 128)) := by
  unfold k0_pay5
  refine (shapeCast_apply _ _ _ (ix3 r (⟨n.val / 128, by omega⟩ : Fin 10) (⟨n.val % 128, Nat.mod_lt _ (by decide)⟩ : Fin 128)) ?_).trans ?_
  · rw [Shape.rowMajor_val_three, Shape.rowMajor_val_two]
    show (r.val * 10 + n.val / 128) * 128 + n.val % 128 = r.val * 1280 + n.val
    omega
  · refine transpose_apply _ _ _ _ _ fun c => ?_
    match c with
    | ⟨0, _⟩ => rfl
    | ⟨1, _⟩ => rfl
    | ⟨2, _⟩ => rfl

theorem scale_apply (r : Fin 1536) : k0_pay6 (F := Ideal) X0 (ix2 r (0 : Fin 1)) = rscale fun n => k0_pay5 (F := Ideal) X0 (ix2 r n) := by
  have e := top_apply (R := 1536) (k0_pay5 (F := Ideal) X0) reduces_S1536x1280_S1536 shapeCasts_S1536_S1536x1 r
  unfold k0_pay6 rscale
  rw [← e]
  generalize k0_pay5 (F := Ideal) X0 = P
  exact congrFun (scale_div _) _

theorem code_apply (r : Fin 1536) (n : Fin 1280) : k0_pay7 (F := Ideal) X0 (ix2 r n) = rcode (fun n => k0_pay5 (F := Ideal) X0 (ix2 r n)) n := by
  have e := scale_apply X0 r
  unfold k0_pay7 rcode
  rw [← e]
  generalize k0_pay6 (F := Ideal) X0 = S
  generalize k0_pay5 (F := Ideal) X0 = P
  refine (congrFun (quant_div P (broadcastTo S1536x1280 S broadcasts_S1536x1_S1536x1280) _) (ix2 r n)).trans ?_
  exact congrArg (fun d => clip (Ideal.div (P (ix2 r n)) d)) (col_apply (R := 1536) (N := 1280) S _ r n)

theorem dot (A : FVec Ideal S1536x1280 .bf16) (W : FVec Ideal S1280x640 .bf16) (S : FVec Ideal S1536x1 .f32) (r : Fin 1536) (n : Fin 640) :
    mulf (F := Ideal) (φ := .f32) (matmul (F := Ideal) (φ₁ := .bf16) (φ₂ := .bf16) dot_S1536x1280_S1280x640_S1536x640_1_0_0_1_n_n none A W (constant S1536x640 .f32 0x00000000#32))
        (broadcastTo S1536x640 S broadcasts_S1536x1_S1536x640) (ix2 r n)
      = (∑ k : Fin 1280, A (ix2 r k) * W (ix2 k n)) * S (ix2 r (0 : Fin 1)) := by
  refine congrArg₂ (· * ·) ?_ (col_apply (R := 1536) (N := 640) _ _ r n)
  refine (Ideal.matmul_plain_apply (M := 1536) (K := 1280) (N := 640) none _ _ _ _ _).trans ?_
  rw [show (constant S1536x640 .f32 0x00000000#32 : FVec Ideal S1536x640 .f32) (ix2 r n) = (0 : EReal) from Ideal.ofBits_zero_f32, zero_add]

section
variable (A B : FVec Ideal S1536x1280 .f32)

/-- The layer norm of the sum, its scale and its codes. -/
theorem ln_apply (r : Fin 1536) (n : Fin 1280) : k0_pay23 (F := Ideal) A B X4 X5 X6 (ix2 r n)
    = norm (fun n => k0_pay22 (F := Ideal) A B X4 (ix2 r n)) (fun n => X5 (ix2 (0 : Fin 1) n)) (fun n => X6 (ix2 (0 : Fin 1) n)) n := by
  unfold k0_pay23
  generalize k0_pay22 (F := Ideal) A B X4 = P
  exact norm_div (R := 1536) P reduces_S1536x1280_S1536 shapeCasts_S1536_S1536x1 broadcasts_S1536x1_S1536x1280 broadcasts_S1x1280_S1536x1280 shapeCasts_S1x1280_S1x1280 X5 X6 r n

theorem lnScale_apply (r : Fin 1536) : k0_pay24 (F := Ideal) A B X4 X5 X6 (ix2 r (0 : Fin 1)) = rscale fun n => k0_pay23 (F := Ideal) A B X4 X5 X6 (ix2 r n) := by
  have e := top_apply (R := 1536) (k0_pay23 (F := Ideal) A B X4 X5 X6) reduces_S1536x1280_S1536 shapeCasts_S1536_S1536x1 r
  unfold k0_pay24 rscale
  rw [← e]
  generalize k0_pay23 (F := Ideal) A B X4 X5 X6 = P
  exact congrFun (scale_div _) _

theorem lnCode_apply (r : Fin 1536) (n : Fin 1280) : k0_pay25 (F := Ideal) A B X4 X5 X6 (ix2 r n) = rcode (fun n => k0_pay23 (F := Ideal) A B X4 X5 X6 (ix2 r n)) n := by
  have e := lnScale_apply X4 X5 X6 A B r
  unfold k0_pay25 rcode
  rw [← e]
  generalize k0_pay24 (F := Ideal) A B X4 X5 X6 = S
  generalize k0_pay23 (F := Ideal) A B X4 X5 X6 = P
  refine (congrFun (quant_div P (broadcastTo S1536x1280 S broadcasts_S1536x1_S1536x1280) _) (ix2 r n)).trans ?_
  exact congrArg (fun d => clip (Ideal.div (P (ix2 r n)) d)) (col_apply (R := 1536) (N := 1280) S _ r n)
end

variable {X0 X1 X2 X3 X4 X5 X6} {x : Args} (H : Holds X0 X1 X2 X3 X4 X5 X6 x)
include H

theorem attn_eq (r : Fin 1536) : (fun n => k0_pay5 (F := Ideal) X0 (ix2 r n)) = attn x r := funext fun n => by
  rw [tiles_apply, H.at']; rfl

theorem wb_apply (hi : Bool) (off : Nat) (h : S40x1280.Slices ![0, off] S40x640) (k : Fin 1280) (n : Fin 640) (N : Fin 1280) (hN : N.val = off + n.val) (hm : N.val % 640 = n.val)
    (hd : hi = decide (640 ≤ N.val)) : wb X2 X3 hi off h (ix2 k n) = w x k N := by
  refine (scaled_apply (G := 40) (N := 640) (M := 1280) (K := 1280) (by rfl) off (codes hi X2) (pows X3) _ _ _ _ _ k n (by omega)).trans ?_
  unfold w
  rw [← hd]
  refine congrArg₂ (· * ·) ?_ ?_
  · show e2m1 (half hi (X2 (ix2 k n))) = _
    rw [H.c]
    exact congrArg (fun z => e2m1 (half hi (x.c k z))) (Fin.ext hm.symm)
  · show pow2 (X3 _) = _
    rw [H.s]
    exact congrArg (fun z => pow2 (x.s _ z)) (Fin.ext hN.symm)

theorem h1_apply (r : Fin 1536) (n : Fin 1280) :
    k0_pay22 (F := Ideal) (k0_pay20 X1) (prod (k0_pay6 X0) (k0_pay8 X0) (wb X2 X3 false 0 slices_S40x1280_o0_0_S40x640) (wb X2 X3 true 640 slices_S40x1280_o0_640_S40x640)) X4 (ix2 r n)
      = h1 x r n := by
  have hl := fun (k : Fin 1280) (q : Fin 640) (hq : q.val = n.val) => wb_apply H false 0 slices_S40x1280_o0_0_S40x640 k q n (by omega) (by omega) (decide_eq_false (by omega)).symm
  have hh := fun (k : Fin 1280) (q : Fin 640) (hq : q.val + 640 = n.val) => wb_apply H true 640 slices_S40x1280_o0_640_S40x640 k q n (by omega) (by omega) (decide_eq_true (by omega)).symm
  have hq : ∀ k, k0_pay8 (F := Ideal) X0 (ix2 r k) = rcode (attn x r) k := fun k => by
    rw [← attn_eq H r]; exact code_apply X0 r k
  have hs : k0_pay6 (F := Ideal) X0 (ix2 r (0 : Fin 1)) = rscale (attn x r) := by rw [← attn_eq H r]; exact scale_apply X0 r
  unfold h1 k0_pay22 k0_pay20 prod
  rw [shapeCast_self]
  generalize wb X2 X3 false 0 slices_S40x1280_o0_0_S40x640 = WL at hl ⊢
  generalize wb X2 X3 true 640 slices_S40x1280_o0_640_S40x640 = WH at hh ⊢
  generalize k0_pay8 (F := Ideal) X0 = Q at hq ⊢
  generalize k0_pay6 (F := Ideal) X0 = S at hs ⊢
  refine congrArg₂ (· + ·) (H.xr r n) (congrArg₂ (· + ·) ((cat_apply (R := 1536) (A := 640) (N := 1280) rfl _ _ _ r n).trans ?_) ((broadcastTo_1b_ab_apply (a := 1536) (b := 1280) _ _ r n).trans (H.b n)))
  split
  · refine (dot _ _ _ r _).trans ?_
    rw [hs]
    exact congrArg (· * _) (Finset.sum_congr rfl fun k _ => by rw [hq, hl k _ rfl])
  · rename_i hn
    refine (dot _ _ _ r _).trans ?_
    rw [hs]
    exact congrArg (· * _) (Finset.sum_congr rfl fun k _ => by rw [hq, hh k _ (by show n.val - 640 + 640 = n.val; omega)])

omit H in
theorem pay30_eq : k0_pay30 (F := Ideal) X0 X1 X2 X3 X4 X5 X6
    = prod (k0_pay6 X0) (k0_pay8 X0) (wb X2 X3 false 0 slices_S40x1280_o0_0_S40x640) (wb X2 X3 true 640 slices_S40x1280_o0_640_S40x640) := by
  unfold k0_pay30 k0_pay26 k0_pay27 k0_pay28
  rw [ld0, ld1, ld2]
  exact prod_eq X2 X3 _ _

omit H in
theorem pay29_eq : k0_pay29 (F := Ideal) X0 X1 X2 X3 X4 X5 X6 = k0_pay20 X1 := by
  unfold k0_pay29
  rw [ld3]

theorem lnRow (r : Fin 1536) :
    (fun n => k0_pay23 (F := Ideal) (k0_pay20 X1) (prod (k0_pay6 X0) (k0_pay8 X0) (wb X2 X3 false 0 slices_S40x1280_o0_0_S40x640) (wb X2 X3 true 640 slices_S40x1280_o0_640_S40x640)) X4 X5 X6 (ix2 r n))
      = ln x r := by
  funext n
  rw [ln_apply]
  unfold ln
  rw [show (fun n => k0_pay22 (F := Ideal) (k0_pay20 X1) (prod (k0_pay6 X0) (k0_pay8 X0) (wb X2 X3 false 0 slices_S40x1280_o0_0_S40x640) (wb X2 X3 true 640 slices_S40x1280_o0_640_S40x640)) X4 (ix2 r n)) = h1 x r
    from funext fun n => h1_apply H r n]
  exact congrArg₂ (fun g b => norm (h1 x r) g b n) (funext H.g) (funext H.b2)

theorem lnScale (r : Fin 1536) : k0_pay31 (F := Ideal) X0 X1 X2 X3 X4 X5 X6 (ix2 r (0 : Fin 1)) = rscale (ln x r) := by
  unfold k0_pay31
  rw [pay29_eq, pay30_eq, ld4, ld4, ld4, lnScale_apply, lnRow H]

theorem lnCode (r : Fin 1536) (n : Fin 1280) : k0_pay32 (F := Ideal) X0 X1 X2 X3 X4 X5 X6 (ix2 r n) = rcode (ln x r) n := by
  unfold k0_pay32
  rw [pay29_eq, pay30_eq, ld4, ld4, ld4, lnCode_apply, lnRow H]

/-! ## The outputs, by coordinates -/

theorem out7 (r : Fin 1536) (n : Fin 1280) : out0_7 (F := Ideal) X0 X1 X2 X3 X4 X5 X6 (ix2 r n) = rcode (attn x r) n := by
  unfold out0_7
  rw [ld0, show View.canon [(⟨r0_3, k0_pay7 X0⟩ : View.Piece (Elt Ideal) S1536x1280 .fp8e4m3)] = k0_pay7 X0 from View.canon_cons_unit_lit _ _ _ (by decide),
    code_apply, attn_eq H]

theorem out8 (r : Fin 1536) : out0_8 (F := Ideal) X0 X1 X2 X3 X4 X5 X6 (ix2 (0 : Fin 1) r) = rscale (attn x r) := by
  unfold out0_8 k0_pay26
  rw [ld0, show View.canon [(⟨r0_5, k0_pay1 (k0_pay6 X0)⟩ : View.Piece (Elt Ideal) S1x1536 .f32)] = k0_pay1 (k0_pay6 X0) from View.canon_cons_unit_lit _ _ _ (by decide)]
  rw [← attn_eq H, ← scale_apply]
  generalize k0_pay6 (F := Ideal) X0 = S
  exact transpose_ix2_apply S transposes_S1536x1_p1_0_S1x1536 (0 : Fin 1) r

theorem out9 (r : Fin 1536) (n : Fin 1280) : out0_9 (F := Ideal) X0 X1 X2 X3 X4 X5 X6 (ix2 r n) = h1 x r n := by
  unfold out0_9
  rw [pay29_eq, pay30_eq, ld4, ← h1_apply H r n]
  exact congrFun (View.canon_cons_unit_lit _ _ _ (by decide)) _

theorem out10 (r : Fin 1536) (n : Fin 1280) : out0_10 (F := Ideal) X0 X1 X2 X3 X4 X5 X6 (ix2 r n) = rcode (ln x r) n := by
  unfold out0_10
  rw [← lnCode H r n]
  exact congrFun (View.canon_cons_unit_lit _ _ _ (by decide)) _

theorem out11 (r : Fin 1536) : out0_11 (F := Ideal) X0 X1 X2 X3 X4 X5 X6 (ix2 (0 : Fin 1) r) = rscale (ln x r) := by
  unfold out0_11
  rw [← lnScale H r]
  generalize k0_pay31 (F := Ideal) X0 X1 X2 X3 X4 X5 X6 = S
  refine (congrFun (View.canon_cons_unit_lit _ _ _ (by decide)) _).trans ?_
  exact transpose_ix2_apply S transposes_S1536x1_p1_0_S1x1536 (0 : Fin 1) r

theorem out12 (r : Fin 1536) (n : Fin 1280) : out0_12 (F := Ideal) X0 X1 X2 X3 X4 X5 X6 (ix2 r n) = rcode (ln x r) n := by
  unfold out0_12
  rw [← lnCode H r n]
  exact congrFun (View.canon_cons_unit_lit _ _ _ (by decide)) _

theorem out13 (r : Fin 1536) (n : Fin 128) : out0_13 (F := Ideal) X0 X1 X2 X3 X4 X5 X6 (ix2 r n) = rscale (ln x r) := by
  unfold out0_13
  rw [← lnScale H r]
  generalize k0_pay31 (F := Ideal) X0 X1 X2 X3 X4 X5 X6 = S
  refine (congrFun (View.canon_cons_unit_lit _ _ _ (by decide)) _).trans ?_
  unfold k0_pay4
  rw [shapeCast_self]
  exact col_apply (R := 1536) (N := 128) S _ r n

end Cert.OutProj.Ref

end
-- ==== Proof.Oproj.RefRun.lean ====
/- The output product reference's arrays, as functions of the arguments. -/
module

public import proofs.«01_k».proof.Proof.Oproj.RefVal

@[expose] public section

set_option maxRecDepth 16384

noncomputable section

namespace Cert.OutProj

open Idealize.ShloMosaic.ValueIdx

/-- The arguments, from the argument arrays. -/
def mkArgs (A0 : (⟨3, ![10, 1536, 128]⟩ : Idealize.ShloMosaic.Shape).Idx → EReal) (A1 : (⟨2, ![1536, 1280]⟩ : Idealize.ShloMosaic.Shape).Idx → EReal)
    (A2 : (⟨2, ![1280, 640]⟩ : Idealize.ShloMosaic.Shape).Idx → BitVec 8) (A3 : (⟨2, ![40, 1280]⟩ : Idealize.ShloMosaic.Shape).Idx → BitVec 8)
    (A4 A5 A6 : (⟨1, ![1280]⟩ : Idealize.ShloMosaic.Shape).Idx → EReal) : Args where
  at' t r l := A0 (ix3 t r l)
  x r n := A1 (ix2 r n)
  c k n := A2 (ix2 k n)
  s k n := A3 (ix2 k n)
  b n := A4 (ix1 n)
  g n := A5 (ix1 n)
  b2 n := A6 (ix1 n)

end Cert.OutProj

namespace Cert.OutProj.Ref

open Idealize.ShloMosaic hiding ix1 ix2 ix3
open Idealize.ShloMosaic.ValueIdx Idealize.ShloMosaic.TcCoe Cert.OprojReferenceIdeal Cert.OprojReferenceIdeal.Gen

variable (m : (ℓ : Loc nD τ sig) → Buf (Elt Ideal) ℓ) (c : Dev nD)

/-- The arguments of the reference. -/
def rargs : Args := mkArgs (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))

theorem idx_zero : ∀ t : Fin grid0.N, (win0_0.index t = ![0, 0, 0] ∧ win0_1.index t = ![0, 0] ∧ win0_2.index t = ![0, 0]) ∧ win0_3.index t = ![0, 0] ∧ win0_4.index t = ![0, 0] ∧ win0_5.index t = ![0, 0]
    ∧ win0_6.index t = ![0, 0] := by decide +kernel

theorem e0 (t : Fin cfg0.N) (q : Fin 10) (r : Fin 1536) (l : Fin 128) : iblk m c 0 t (ix3 q r l) = (rargs m c).at' q r l := by
  show iblk m c 0 t (ix3 q r l) = m ((c : Thread nD τ).loc main_arg0) (ix3 q r l)
  blk_ext [iblk, V, (idx_zero t).1.1]

theorem e1 (t : Fin cfg0.N) (r : Fin 1536) (k : Fin 1280) : iblk m c 1 t (ix2 r k) = (rargs m c).x r k := by
  show iblk m c 1 t (ix2 r k) = m ((c : Thread nD τ).loc main_arg1) (ix2 r k)
  blk_ext [iblk, V, (idx_zero t).1.2.1]

theorem e2 (t : Fin cfg0.N) (k : Fin 1280) (n : Fin 640) : iblk m c 2 t (ix2 k n) = (rargs m c).c k n := by
  show iblk m c 2 t (ix2 k n) = m ((c : Thread nD τ).loc main_arg2) (ix2 k n)
  blk_ext [iblk, V, (idx_zero t).1.2.2]

theorem e3 (t : Fin cfg0.N) (k : Fin 40) (n : Fin 1280) : iblk m c 3 t (ix2 k n) = (rargs m c).s k n := by
  show iblk m c 3 t (ix2 k n) = m ((c : Thread nD τ).loc main_arg3) (ix2 k n)
  blk_ext [iblk, V, (idx_zero t).2.1]

theorem e4 (t : Fin cfg0.N) (n : Fin 1280) : iblk m c 4 t (ix2 (0 : Fin 1) n) = (rargs m c).b n := by
  show iblk m c 4 t (ix2 (0 : Fin 1) n) = m ((c : Thread nD τ).loc main_arg4) (ix1 n)
  blk_simp [iblk, (idx_zero t).2.2.1]
  entry_read
  pointwise
  blk_ext [iblk, V, (idx_zero t).2.2.1]

theorem e5 (t : Fin cfg0.N) (n : Fin 1280) : iblk m c 5 t (ix2 (0 : Fin 1) n) = (rargs m c).g n := by
  show iblk m c 5 t (ix2 (0 : Fin 1) n) = m ((c : Thread nD τ).loc main_arg5) (ix1 n)
  blk_simp [iblk, (idx_zero t).2.2.2.1]
  entry_read
  pointwise
  blk_ext [iblk, V, (idx_zero t).2.2.2.1]

theorem e6 (t : Fin cfg0.N) (n : Fin 1280) : iblk m c 6 t (ix2 (0 : Fin 1) n) = (rargs m c).b2 n := by
  show iblk m c 6 t (ix2 (0 : Fin 1) n) = m ((c : Thread nD τ).loc main_arg6) (ix1 n)
  blk_simp [iblk, (idx_zero t).2.2.2.2]
  entry_read
  pointwise
  blk_ext [iblk, V, (idx_zero t).2.2.2.2]

/-- The one point. -/
abbrev p0 : Fin cfg0.N := ⟨0, by decide +kernel⟩

theorem holds : Holds (iblk m c 0 p0) (iblk m c 1 p0) (iblk m c 2 p0) (iblk m c 3 p0) (iblk m c 4 p0) (iblk m c 5 p0) (iblk m c 6 p0) (rargs m c) :=
  ⟨e0 m c p0, e1 m c p0, e2 m c p0, e3 m c p0, e4 m c p0, e5 m c p0, e6 m c p0⟩

theorem arr7 : (dats m 0 c).arrAt 7 cfg0.N = G0 (rargs m c) := by
  refine (dats m 0 c).arrAt_eq_of_after_last 7 p0 (by decide +kernel) _ fun j => ?_
  blk_simp
  rw [after0_7]
  obtain ⟨r, n, rfl⟩ : ∃ (r : Fin 1536) (n : Fin 1280), j = ix2 r n := ⟨j 0, j 1, ValueIdx.eq_ix2 j⟩
  exact out7 (holds m c) r n

theorem arr8 : (dats m 0 c).arrAt 8 cfg0.N = G1 (rargs m c) := by
  refine (dats m 0 c).arrAt_eq_of_after_last 8 p0 (by decide +kernel) _ fun j => ?_
  blk_simp
  rw [after0_8]
  obtain ⟨r, n, rfl⟩ : ∃ (r : Fin 1) (n : Fin 1536), j = ix2 r n := ⟨j 0, j 1, ValueIdx.eq_ix2 j⟩
  obtain rfl : r = 0 := Subsingleton.elim _ _
  exact out8 (holds m c) n

theorem arr9 : (dats m 0 c).arrAt 9 cfg0.N = G2 (rargs m c) := by
  refine (dats m 0 c).arrAt_eq_of_after_last 9 p0 (by decide +kernel) _ fun j => ?_
  blk_simp
  rw [after0_9]
  obtain ⟨r, n, rfl⟩ : ∃ (r : Fin 1536) (n : Fin 1280), j = ix2 r n := ⟨j 0, j 1, ValueIdx.eq_ix2 j⟩
  exact out9 (holds m c) r n

theorem arr10 : (dats m 0 c).arrAt 10 cfg0.N = G3 (rargs m c) := by
  refine (dats m 0 c).arrAt_eq_of_after_last 10 p0 (by decide +kernel) _ fun j => ?_
  blk_simp
  rw [after0_10]
  obtain ⟨r, n, rfl⟩ : ∃ (r : Fin 1536) (n : Fin 1280), j = ix2 r n := ⟨j 0, j 1, ValueIdx.eq_ix2 j⟩
  exact out10 (holds m c) r n

theorem arr11 : (dats m 0 c).arrAt 11 cfg0.N = G4 (rargs m c) := by
  refine (dats m 0 c).arrAt_eq_of_after_last 11 p0 (by decide +kernel) _ fun j => ?_
  blk_simp
  rw [after0_11]
  obtain ⟨r, n, rfl⟩ : ∃ (r : Fin 1) (n : Fin 1536), j = ix2 r n := ⟨j 0, j 1, ValueIdx.eq_ix2 j⟩
  obtain rfl : r = 0 := Subsingleton.elim _ _
  exact out11 (holds m c) n

theorem arr12 : (dats m 0 c).arrAt 12 cfg0.N = G3 (rargs m c) := by
  refine (dats m 0 c).arrAt_eq_of_after_last 12 p0 (by decide +kernel) _ fun j => ?_
  blk_simp
  rw [after0_12]
  obtain ⟨r, n, rfl⟩ : ∃ (r : Fin 1536) (n : Fin 1280), j = ix2 r n := ⟨j 0, j 1, ValueIdx.eq_ix2 j⟩
  exact out12 (holds m c) r n

theorem arr13 : (dats m 0 c).arrAt 13 cfg0.N = G6 (rargs m c) := by
  refine (dats m 0 c).arrAt_eq_of_after_last 13 p0 (by decide +kernel) _ fun j => ?_
  blk_simp
  rw [after0_13]
  obtain ⟨r, n, rfl⟩ : ∃ (r : Fin 1536) (n : Fin 128), j = ix2 r n := ⟨j 0, j 1, ValueIdx.eq_ix2 j⟩
  exact out13 (holds m c) r n

end Cert.OutProj.Ref

end
-- ==== Proof.Oproj.KArr.lean ====
/- The output product kernel's arrays, as functions of the arguments. -/
module

public import proofs.«01_k».proof.Proof.Oproj.KOut
public import proofs.«01_k».proof.Proof.Oproj.RefRun
public import Idealize.ShloMosaic.Lib.Pipeline.ValueKit

@[expose] public section

set_option maxRecDepth 16384

noncomputable section

namespace Cert.OutProj

open Idealize.ShloMosaic hiding ix1 ix2 ix3
open Idealize.ShloMosaic.ValueIdx Idealize.ShloMosaic.TcCoe Cert.OprojIdeal Cert.OprojIdeal.Gen Cert.Value

variable (m : (ℓ : Loc nD τ sig) → Buf (Elt Ideal) ℓ) (c : Dev nD)

/-- The arguments of the idealized kernel. -/
def kargs : Args := mkArgs (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))

theorem points : cfg0.N = 6 := by decide +kernel

/-- The rows of a point's block. -/
def row (t : Fin cfg0.N) (r : Fin 256) : Fin 1536 := ⟨256 * t.val + r.val, by have := t.isLt; have := points; omega⟩

theorem idx_row : ∀ t : Fin grid0.N, win0_0.index t = ![0, t.val, 0] ∧ win0_1.index t = ![t.val, 0] := by decide +kernel
theorem idx_zero : ∀ t : Fin grid0.N, (win0_2.index t = ![0, 0] ∧ win0_3.index t = ![0, 0]) ∧ win0_4.index t = ![0, 0] ∧ win0_5.index t = ![0, 0] ∧ win0_6.index t = ![0, 0] := by decide +kernel

theorem e0 (t : Fin cfg0.N) (q : Fin 10) (r : Fin 256) (l : Fin 128) : iblk m c 0 t (ix3 q r l) = (kargs m c).at' q (row t r) l := by
  show iblk m c 0 t (ix3 q r l) = m ((c : Thread nD τ).loc main_arg0) (ix3 q (row t r) l)
  blk_ext [iblk, V, (idx_row t).1]
  show t.val * 256 + r.val = 256 * t.val + r.val
  omega

theorem e1 (t : Fin cfg0.N) (r : Fin 256) (k : Fin 1280) : iblk m c 1 t (ix2 r k) = (kargs m c).x (row t r) k := by
  show iblk m c 1 t (ix2 r k) = m ((c : Thread nD τ).loc main_arg1) (ix2 (row t r) k)
  blk_ext [iblk, V, (idx_row t).2]
  show t.val * 256 + r.val = 256 * t.val + r.val
  omega

theorem e2 (t : Fin cfg0.N) (k : Fin 1280) (n : Fin 640) : iblk m c 2 t (ix2 k n) = (kargs m c).c k n := by
  show iblk m c 2 t (ix2 k n) = m ((c : Thread nD τ).loc main_arg2) (ix2 k n)
  blk_ext [iblk, V, (idx_zero t).1.1]

theorem e3 (t : Fin cfg0.N) (k : Fin 40) (n : Fin 1280) : iblk m c 3 t (ix2 k n) = (kargs m c).s k n := by
  show iblk m c 3 t (ix2 k n) = m ((c : Thread nD τ).loc main_arg3) (ix2 k n)
  blk_ext [iblk, V, (idx_zero t).1.2]

theorem e4 (t : Fin cfg0.N) (n : Fin 1280) : iblk m c 4 t (ix2 (0 : Fin 1) n) = (kargs m c).b n := by
  show iblk m c 4 t (ix2 (0 : Fin 1) n) = m ((c : Thread nD τ).loc main_arg4) (ix1 n)
  blk_simp [iblk, (idx_zero t).2.1]
  entry_read
  pointwise
  blk_ext [iblk, V, (idx_zero t).2.1]

theorem e5 (t : Fin cfg0.N) (n : Fin 1280) : iblk m c 5 t (ix2 (0 : Fin 1) n) = (kargs m c).g n := by
  show iblk m c 5 t (ix2 (0 : Fin 1) n) = m ((c : Thread nD τ).loc main_arg5) (ix1 n)
  blk_simp [iblk, (idx_zero t).2.2.1]
  entry_read
  pointwise
  blk_ext [iblk, V, (idx_zero t).2.2.1]

theorem e6 (t : Fin cfg0.N) (n : Fin 1280) : iblk m c 6 t (ix2 (0 : Fin 1) n) = (kargs m c).b2 n := by
  show iblk m c 6 t (ix2 (0 : Fin 1) n) = m ((c : Thread nD τ).loc main_arg6) (ix1 n)
  blk_simp [iblk, (idx_zero t).2.2.2]
  entry_read
  pointwise
  blk_ext [iblk, V, (idx_zero t).2.2.2]

theorem idx7 : ∀ t : Fin grid0.N, win0_7.index t = ![t.val, 0] := by decide +kernel
theorem idx8 : ∀ t : Fin grid0.N, win0_8.index t = ![0, t.val] := by decide +kernel
theorem idx9 : ∀ t : Fin grid0.N, win0_9.index t = ![t.val, 0] := by decide +kernel
theorem idx10 : ∀ t : Fin grid0.N, win0_10.index t = ![t.val, 0] := by decide +kernel
theorem idx11 : ∀ t : Fin grid0.N, win0_11.index t = ![0, t.val] := by decide +kernel
theorem idx12 : ∀ t : Fin grid0.N, win0_12.index t = ![t.val, 0] := by decide +kernel
theorem idx13 : ∀ t : Fin grid0.N, win0_13.index t = ![t.val, 0] := by decide +kernel

/-- The decoded weights are the layer's. -/
theorem wV_eq (x : Args) (T : x.Tame) (x2 : Vec Ideal S1280x640 .i8) (x3 : Vec Ideal S40x1280 .i8) (h2 : ∀ k n, x2 (ix2 k n) = x.c k n) (h3 : ∀ k n, x3 (ix2 k n) = x.s k n)
    (k n : Fin 1280) : wV x2 x3 (ix2 k n) = w x k n := by
  have hk := k.isLt
  show Cert.KernelIdeal.Gen.nibVal (decide (640 ≤ n.val)) (x2 (ix2 k (⟨n.val % 640, Nat.mod_lt _ (by decide)⟩ : Fin 640))) * Cert.KernelIdeal.Gen.scaleVal (x3 (ix2 (⟨8 * (k.val / 256) + k.val % 256 / 32, by omega⟩ : Fin 40) n)) = _
  rw [h2, h3, nibVal_eq, scaleVal_eq _ (T.s _ _).1 (T.s _ _).2]
  unfold w
  rw [show (⟨8 * (k.val / 256) + k.val % 256 / 32, by omega⟩ : Fin 40) = ⟨k.val / 32, by omega⟩ from Fin.ext (by show 8 * (k.val / 256) + k.val % 256 / 32 = k.val / 32; omega)]

/-- The operands of a point's body. -/
abbrev pV (t : Fin cfg0.N) : FVec Ideal S256x1280 .f32 := aRows (aTile (ms0_0 t) (hs0_0 t) (iblk m c 0 t))
abbrev pX (t : Fin cfg0.N) : Vec Ideal S256x1280 .bf16 := rX (ms0_1 t) (hs0_1 t) (iblk m c 1 t)
abbrev pB (t : Fin cfg0.N) : Vec Ideal S1x1280 .f32 := rB (ms0_4 t) (hs0_4 t) (iblk m c 4 t)
abbrev pG (t : Fin cfg0.N) : Vec Ideal S1x1280 .f32 := rB (ms0_5 t) (hs0_5 t) (iblk m c 5 t)
abbrev pB2 (t : Fin cfg0.N) : Vec Ideal S1x1280 .f32 := rB (ms0_6 t) (hs0_6 t) (iblk m c 6 t)

theorem pV_eq (t : Fin cfg0.N) (r : Fin 256) (n : Fin 1280) : pV m c t (ix2 r n) = attn (kargs m c) (row t r) n := by
  refine (rows_apply _ r n).trans ?_
  unfold aTile attn
  rw [readAt_un (hs0_0 t), ← e0 m c t]
  refine View.ld_unit_apply_of _ _ _ _ _ _ fun a => ?_
  match a with
  | ⟨0, _⟩ => show n.val / 128 = n.val / 128 + 0; omega
  | ⟨1, _⟩ => show r.val = 0 + r.val; omega
  | ⟨2, _⟩ => show n.val % 128 = 0 + n.val % 128; omega

theorem rB_eq (arg : Memref sig .tc .vmem S1x1280 .f32) (harg : arg.IsWhole) (x : Vec Ideal S1x1280 .f32) : rB arg harg x = x := by
  unfold rB
  rw [readAt_un harg]
  exact View.ld_unit_lit _ _ (by decide)

theorem pX_eq (t : Fin cfg0.N) : pX m c t = iblk m c 1 t := by
  show rX (ms0_1 t) (hs0_1 t) (iblk m c 1 t) = _
  unfold rX
  rw [readAt_un (hs0_1 t)]
  exact View.ld_unit_lit _ _ (by decide)

theorem blk_of (t : Fin cfg0.N) (W : Vec Ideal S1280x1280 .bf16) (hW : ∀ k n, W (ix2 k n) = w (kargs m c) k n) :
    Blk (kargs m c) (row t) (pV m c t) W (pX m c t) (pB m c t) (pG m c t) (pB2 m c t) where
  v := pV_eq m c t
  wt := hW
  xr r n := (congrFun (pX_eq m c t) _).trans (e1 m c t r n)
  b n := (congrFun (rB_eq _ _ _) _).trans (e4 m c t n)
  g n := (congrFun (rB_eq _ _ _) _).trans (e5 m c t n)
  b2 n := (congrFun (rB_eq _ _ _) _).trans (e6 m c t n)

/-- The weights in the scratch buffer, after any point. -/
theorem wAt (T : (kargs m c).Tame) : ∀ (n : Nat) (hn : n < cfg0.N) (k l : Fin 1280), (outsAt0 m c n hn).2.2.2.2.2.2.2 (ix2 k l) = w (kargs m c) k l
  | 0, hn, k, l => by
    rw [outsAt0_A m c ⟨0, hn⟩ rfl]
    dsimp only
    unfold sout0_A_1
    rw [listA_W, w_state]
    exact wV_eq _ T _ _ (e2 m c _) (e3 m c _) k l
  | n + 1, hn, k, l => by
    have h := points
    rw [outsAt0_B m c ⟨n + 1, hn⟩ (by show ¬ (n + 1) % 6 = 0; omega)]
    exact wAt T n (Nat.lt_of_succ_lt hn) k l

variable (T : (kargs m c).Tame)
include T

theorem HA (t : Fin cfg0.N) : Blk (kargs m c) (row t) (pV m c t) (rW scM0_1 (wList (ms0_2 t) (hs0_2 t) (ms0_3 t) (hs0_3 t) scM0_0 (iblk m c 2 t) (iblk m c 3 t)))
    (pX m c t) (pB m c t) (pG m c t) (pB2 m c t) :=
  blk_of m c t _ fun k n => by
    unfold rW
    rw [w_read _ _ _ _ _ _ _ _ _ (by funext a; match a with | ⟨0, _⟩ => rfl | ⟨1, _⟩ => rfl)]
    exact wV_eq _ T _ _ (e2 m c t) (e3 m c t) k n

theorem HB (t : Fin cfg0.N) : Blk (kargs m c) (row t) (pV m c t) (rW' scM0_1 (Memref.isWhole_whole _) (outsAt0 m c (t.val - 1) (Nat.lt_of_le_of_lt (Nat.sub_le _ _) t.isLt)).2.2.2.2.2.2.2)
    (pX m c t) (pB m c t) (pG m c t) (pB2 m c t) :=
  blk_of m c t _ fun k n => by
    refine Eq.trans ?_ (wAt m c T (t.val - 1) (Nat.lt_of_le_of_lt (Nat.sub_le _ _) t.isLt) k n)
    unfold rW'
    rw [readAt_un (Memref.isWhole_whole _)]
    generalize (outsAt0 m c (t.val - 1) (Nat.lt_of_le_of_lt (Nat.sub_le _ _) t.isLt)).2.2.2.2.2.2.2 = Y
    exact congrFun (View.ld_unit_lit _ _ (by decide)) _

theorem at7 (t : Fin cfg0.N) (r : Fin 256) (n : Fin 1280) : (outsAt0 m c t.val t.isLt).1 (ix2 r n) = rcode (attn (kargs m c) (row t r)) n := by
  by_cases h0 : t.val % 6 = 0
  · rw [outsAt0_A m c t h0]
    dsimp only
    unfold out0_A_7
    rw [listA_7]
    exact read7 (HA m c T t) _ _ r n
  · rw [outsAt0_B m c t h0]
    dsimp only
    unfold out0_B_7
    rw [listB_7]
    exact read7 (HB m c T t) _ _ r n

theorem at8 (t : Fin cfg0.N) (r : Fin 256) : (outsAt0 m c t.val t.isLt).2.1 (ix2 (0 : Fin 1) r) = rscale (attn (kargs m c) (row t r)) := by
  by_cases h0 : t.val % 6 = 0
  · rw [outsAt0_A m c t h0]
    dsimp only
    unfold out0_A_8
    rw [listA_8]
    exact read8 (HA m c T t) _ _ r
  · rw [outsAt0_B m c t h0]
    dsimp only
    unfold out0_B_8
    rw [listB_8]
    exact read8 (HB m c T t) _ _ r

theorem at9 (t : Fin cfg0.N) (r : Fin 256) (n : Fin 1280) : (outsAt0 m c t.val t.isLt).2.2.1 (ix2 r n) = h1 (kargs m c) (row t r) n := by
  by_cases h0 : t.val % 6 = 0
  · rw [outsAt0_A m c t h0]
    dsimp only
    unfold out0_A_9
    rw [listA_9]
    exact read9 (HA m c T t) _ _ r n
  · rw [outsAt0_B m c t h0]
    dsimp only
    unfold out0_B_9
    rw [listB_9]
    exact read9 (HB m c T t) _ _ r n

theorem at10 (t : Fin cfg0.N) (r : Fin 256) (n : Fin 1280) : (outsAt0 m c t.val t.isLt).2.2.2.1 (ix2 r n) = rcode (ln (kargs m c) (row t r)) n := by
  by_cases h0 : t.val % 6 = 0
  · rw [outsAt0_A m c t h0]
    dsimp only
    unfold out0_A_10
    rw [listA_10]
    exact read10 (HA m c T t) _ _ r n
  · rw [outsAt0_B m c t h0]
    dsimp only
    unfold out0_B_10
    rw [listB_10]
    exact read10 (HB m c T t) _ _ r n

theorem at11 (t : Fin cfg0.N) (r : Fin 256) : (outsAt0 m c t.val t.isLt).2.2.2.2.1 (ix2 (0 : Fin 1) r) = rscale (ln (kargs m c) (row t r)) := by
  by_cases h0 : t.val % 6 = 0
  · rw [outsAt0_A m c t h0]
    dsimp only
    unfold out0_A_11
    rw [listA_11]
    exact read11 (HA m c T t) _ _ r
  · rw [outsAt0_B m c t h0]
    dsimp only
    unfold out0_B_11
    rw [listB_11]
    exact read11 (HB m c T t) _ _ r

theorem at12 (t : Fin cfg0.N) (r : Fin 256) (n : Fin 1280) : (outsAt0 m c t.val t.isLt).2.2.2.2.2.1 (ix2 r n) = rcode (ln (kargs m c) (row t r)) n := by
  by_cases h0 : t.val % 6 = 0
  · rw [outsAt0_A m c t h0]
    dsimp only
    unfold out0_A_12
    rw [listA_12]
    exact read12 (HA m c T t) _ _ r n
  · rw [outsAt0_B m c t h0]
    dsimp only
    unfold out0_B_12
    rw [listB_12]
    exact read12 (HB m c T t) _ _ r n

theorem at13 (t : Fin cfg0.N) (r : Fin 256) (n : Fin 128) : (outsAt0 m c t.val t.isLt).2.2.2.2.2.2.1 (ix2 r n) = rscale (ln (kargs m c) (row t r)) := by
  by_cases h0 : t.val % 6 = 0
  · rw [outsAt0_A m c t h0]
    dsimp only
    unfold out0_A_13
    rw [listA_13]
    exact read13 (HA m c T t) _ _ r n
  · rw [outsAt0_B m c t h0]
    dsimp only
    unfold out0_B_13
    rw [listB_13]
    exact read13 (HB m c T t) _ _ r n

theorem arr7 : (dats m 0 c).arrAt 7 cfg0.N = G0 (kargs m c) := by
  refine (dats m 0 c).arrAt_eq_of_covers 7 _ (by decide +kernel) fun t hf y => ?_
  rw [after0_7]
  obtain ⟨r, n, rfl⟩ : ∃ (r : Fin 256) (n : Fin 1280), y = ix2 r n := ⟨y 0, y 1, ValueIdx.eq_ix2 y⟩
  refine (at7 m c T t r n).trans ?_
  refine congrArg₂ (fun R n => rcode (attn (kargs m c) R) n) (Fin.ext ?_) (Fin.ext ?_)
  · blk_simp [idx7 t]
    show 256 * t.val + r.val = t.val * 256 + r.val
    omega
  · blk_simp [idx7 t]

theorem arr8 : (dats m 0 c).arrAt 8 cfg0.N = G1 (kargs m c) := by
  refine (dats m 0 c).arrAt_eq_of_covers 8 _ (by decide +kernel) fun t hf y => ?_
  rw [after0_8]
  obtain ⟨a, r, rfl⟩ : ∃ (a : Fin 1) (r : Fin 256), y = ix2 a r := ⟨y 0, y 1, ValueIdx.eq_ix2 y⟩
  obtain rfl : a = 0 := Subsingleton.elim _ _
  refine (at8 m c T t r).trans ?_
  refine congrArg rscale (congrArg (attn (kargs m c)) (Fin.ext ?_))
  blk_simp [idx8 t]
  show 256 * t.val + r.val = t.val * 256 + r.val
  omega

theorem arr9 : (dats m 0 c).arrAt 9 cfg0.N = G2 (kargs m c) := by
  refine (dats m 0 c).arrAt_eq_of_covers 9 _ (by decide +kernel) fun t hf y => ?_
  rw [after0_9]
  obtain ⟨r, n, rfl⟩ : ∃ (r : Fin 256) (n : Fin 1280), y = ix2 r n := ⟨y 0, y 1, ValueIdx.eq_ix2 y⟩
  refine (at9 m c T t r n).trans ?_
  refine congrArg₂ (h1 (kargs m c)) (Fin.ext ?_) (Fin.ext ?_)
  · blk_simp [idx9 t]
    show 256 * t.val + r.val = t.val * 256 + r.val
    omega
  · blk_simp [idx9 t]

theorem arr10 : (dats m 0 c).arrAt 10 cfg0.N = G3 (kargs m c) := by
  refine (dats m 0 c).arrAt_eq_of_covers 10 _ (by decide +kernel) fun t hf y => ?_
  rw [after0_10]
  obtain ⟨r, n, rfl⟩ : ∃ (r : Fin 256) (n : Fin 1280), y = ix2 r n := ⟨y 0, y 1, ValueIdx.eq_ix2 y⟩
  refine (at10 m c T t r n).trans ?_
  refine congrArg₂ (fun R n => rcode (ln (kargs m c) R) n) (Fin.ext ?_) (Fin.ext ?_)
  · blk_simp [idx10 t]
    show 256 * t.val + r.val = t.val * 256 + r.val
    omega
  · blk_simp [idx10 t]

theorem arr11 : (dats m 0 c).arrAt 11 cfg0.N = G4 (kargs m c) := by
  refine (dats m 0 c).arrAt_eq_of_covers 11 _ (by decide +kernel) fun t hf y => ?_
  rw [after0_11]
  obtain ⟨a, r, rfl⟩ : ∃ (a : Fin 1) (r : Fin 256), y = ix2 a r := ⟨y 0, y 1, ValueIdx.eq_ix2 y⟩
  obtain rfl : a = 0 := Subsingleton.elim _ _
  refine (at11 m c T t r).trans ?_
  refine congrArg rscale (congrArg (ln (kargs m c)) (Fin.ext ?_))
  blk_simp [idx11 t]
  show 256 * t.val + r.val = t.val * 256 + r.val
  omega

theorem arr12 : (dats m 0 c).arrAt 12 cfg0.N = G3 (kargs m c) := by
  refine (dats m 0 c).arrAt_eq_of_covers 12 _ (by decide +kernel) fun t hf y => ?_
  rw [after0_12]
  obtain ⟨r, n, rfl⟩ : ∃ (r : Fin 256) (n : Fin 1280), y = ix2 r n := ⟨y 0, y 1, ValueIdx.eq_ix2 y⟩
  refine (at12 m c T t r n).trans ?_
  refine congrArg₂ (fun R n => rcode (ln (kargs m c) R) n) (Fin.ext ?_) (Fin.ext ?_)
  · blk_simp [idx12 t]
    show 256 * t.val + r.val = t.val * 256 + r.val
    omega
  · blk_simp [idx12 t]

theorem arr13 : (dats m 0 c).arrAt 13 cfg0.N = G6 (kargs m c) := by
  refine (dats m 0 c).arrAt_eq_of_covers 13 _ (by decide +kernel) fun t hf y => ?_
  rw [after0_13]
  obtain ⟨r, n, rfl⟩ : ∃ (r : Fin 256) (n : Fin 128), y = ix2 r n := ⟨y 0, y 1, ValueIdx.eq_ix2 y⟩
  refine (at13 m c T t r n).trans ?_
  refine congrArg rscale (congrArg (ln (kargs m c)) (Fin.ext ?_))
  blk_simp [idx13 t]
  show 256 * t.val + r.val = t.val * 256 + r.val
  omega

end Cert.OutProj

end
-- ==== Proof.Oproj.Pre.lean ====
/- What the output product's precondition says of the arguments. -/
module

public import proofs.«01_k».proof.Proof.Oproj.RefRun
public import proofs.«01_k».proof.Proof.Value.Pre
public import proofs.«01_k».proof.Proof.Gen.Pre_in_range

@[expose] public section

set_option maxRecDepth 16384

noncomputable section

namespace Cert.OutProj

open Idealize.ShloMosaic hiding ix1 ix2 ix3
open Idealize.ShloMosaic.ValueIdx Cert.Value

theorem tame_of (A0 : FVec Ideal Pre_in_range.S10x1536x128 .f32) (A1 : FVec Ideal Pre_in_range.S1536x1280 .bf16) (A2 : IVec Pre_in_range.S1280x640 8) (A3 : IVec Pre_in_range.S40x1280 8)
    (A4 A5 A6 : FVec Ideal Pre_in_range.S1280 .f32)
    [Pre_in_range.Facts] (h : Pre_in_range.fn (F := Ideal) A0 A1 A2 A3 A4 A5 A6 = fun _ => 1#1) : (mkArgs A0 A1 A2 A3 A4 A5 A6).Tame := by
  have h := congrFun h (fun a => a.elim0)
  unfold Pre_in_range.fn at h
  constructor
  intro k n
  have := Host.reduce_andi_all _ _ _ _ _ h (ix2 k n)
  exact range_of (and_left this) (and_right this)

end Cert.OutProj

end
-- ==== Proof.Oproj.Pair.lean ====
/- The two programs of the output product give the same results. -/
module

public import proofs.«01_k».proof.Defs
public import proofs.«01_k».proof.Proof.Oproj.RefBlocks
public import proofs.«01_k».proof.Proof.Oproj.KArr
public import proofs.«01_k».proof.Proof.Oproj.Pre
public import proofs.«01_k».proof.Proof.Gen.OprojIdeal.Value

@[expose] public section

noncomputable section

namespace Cert.OutProj

open Idealize.ShloMosaic hiding ix1 ix2 ix3
open Idealize.ShloMosaic.TcCoe Idealize.SL.Sem

theorem algebraic : @Cert.algebraic_OprojIdeal_OprojReferenceIdeal_pre_in_range Cert.OprojIdeal.Gen.facts Cert.OprojReferenceIdeal.Gen.facts Cert.Pre_in_range.Gen.facts := by
  intro m g m' g' hpre hagree
  have T : ∀ c, (kargs m c).Tame := fun c => tame_of _ _ _ _ _ _ _ (hpre c)
  have hargs : ∀ c, Ref.rargs m' c = kargs m c := fun c => by
    obtain ⟨h0, h1, h2, h3, h4, h5, h6⟩ := hagree c
    unfold Ref.rargs kargs
    rw [h0, h1, h2, h3, h4, h5, h6]
  refine ⟨fun c => G0 (kargs m c), fun c => G1 (kargs m c), fun c => G2 (kargs m c), fun c => G3 (kargs m c), fun c => G4 (kargs m c), fun c => G3 (kargs m c), fun c => G6 (kargs m c), ?_, ?_⟩
  · refine (θ_run Cert.OprojIdeal.defs _ _).mono (fun r h c => ?_) (Cert.OprojIdeal.Value.run_blocks m g)
    obtain ⟨r0, r1, r2, r3, r4, r5, r6, hrest⟩ := h c
    exact ⟨r0.trans (arr7 m c (T c)), r1.trans (arr8 m c (T c)), r2.trans (arr9 m c (T c)), r3.trans (arr10 m c (T c)), r4.trans (arr11 m c (T c)), r5.trans (arr12 m c (T c)), r6.trans (arr13 m c (T c)), hrest⟩
  · refine (θ_run Cert.OprojReferenceIdeal.defs _ _).mono (fun r h c => ?_) (Cert.OprojReferenceIdeal.Value.run_blocks m' g')
    obtain ⟨r0, r1, r2, r3, r4, r5, r6, hrest⟩ := h c
    exact ⟨r0.trans ((Ref.arr7 m' c).trans (congrArg G0 (hargs c))), r1.trans ((Ref.arr8 m' c).trans (congrArg G1 (hargs c))), r2.trans ((Ref.arr9 m' c).trans (congrArg G2 (hargs c))),
      r3.trans ((Ref.arr10 m' c).trans (congrArg G3 (hargs c))), r4.trans ((Ref.arr11 m' c).trans (congrArg G4 (hargs c))), r5.trans ((Ref.arr12 m' c).trans (congrArg G3 (hargs c))),
      r6.trans ((Ref.arr13 m' c).trans (congrArg G6 (hargs c))), hrest⟩

end Cert.OutProj

end
-- ==== Proof.lean ====
/- The proof of the claims of proof/Defs.lean: the frames of the three programs, what the idealization preserves, and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_tame
public import proofs.«01_k».proof.Proof.Gen.ReferenceIdeal.Value
public import proofs.«01_k».proof.Proof.Mlp.Run
public import proofs.«01_k».proof.Proof.Plain.Frame
public import proofs.«01_k».proof.Proof.Gen.Oproj
public import proofs.«01_k».proof.Proof.Gen.Oproj.Frame
public import proofs.«01_k».proof.Proof.Gen.OprojIdeal
public import proofs.«01_k».proof.Proof.Gen.OprojIdeal.Frame
public import proofs.«01_k».proof.Proof.Gen.OprojIdeal.Value
public import proofs.«01_k».proof.Proof.Gen.OprojReferenceIdeal
public import proofs.«01_k».proof.Proof.Gen.OprojReferenceIdeal.Frame
public import proofs.«01_k».proof.Proof.Gen.Pre_in_range
public import proofs.«01_k».proof.Proof.Value.Pair
public import proofs.«01_k».proof.Proof.Oproj.Pair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Oproj.Gen.facts, Cert.OprojIdeal.Gen.facts, Cert.OprojReferenceIdeal.Gen.facts,
  Cert.Pre_tame.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  fun m ρ _ => Cert.Oproj.Gen.frame m ρ, fun m ρ _ => Cert.OprojIdeal.Gen.frame m ρ, fun m ρ _ => Cert.OprojIdeal.Gen.frame m ρ,
  fun m ρ _ => Cert.OprojReferenceIdeal.Gen.frame m ρ, fun m ρ _ => Cert.OprojReferenceIdeal.Gen.frame m ρ,
  IdealRules.named_const.statement Cert.KernelIdeal.κ "inv_f8_max" .f32 0x3B124925#32 ((1 / 448 : ℝ) : EReal) rfl,
  Cert.Value.algebraic,
  IdealRules.named_const.statement Cert.OprojIdeal.κ "inv_f8_max" .f32 0x3B124925#32 ((1 / 448 : ℝ) : EReal) rfl,
  Cert.OutProj.algebraic⟩

end Cert.Proof

end
